-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8)
      ∧ r.2.mem ((c.tc : Thread Cert.Kernel14.nD Cert.Kernel14.τ).loc Cert.Kernel14.main_arg9) = m ((c.tc : Thread Cert.Kernel14.nD Cert.Kernel14.τ).loc Cert.Kernel14.main_arg9)
      ∧ r.2.mem ((c.tc : Thread Cert.Kernel14.nD Cert.Kernel14.τ).loc Cert.Kernel14.main_arg10) = m ((c.tc : Thread Cert.Kernel14.nD Cert.Kernel14.τ).loc Cert.Kernel14.main_arg10)
      ∧ r.2.mem ((c.tc : Thread Cert.Kernel14.nD Cert.Kernel14.τ).loc Cert.Kernel14.main_arg11) = m ((c.tc : Thread Cert.Kernel14.nD Cert.Kernel14.τ).loc Cert.Kernel14.main_arg11)
      ∧ r.2.mem ((c.tc : Thread Cert.Kernel14.nD Cert.Kernel14.τ).loc Cert.Kernel14.main_arg12) = m ((c.tc : Thread Cert.Kernel14.nD Cert.Kernel14.τ).loc Cert.Kernel14.main_arg12)
      ∧ r.2.mem ((c.tc : Thread Cert.Kernel14.nD Cert.Kernel14.τ).loc Cert.Kernel14.main_arg13) = m ((c.tc : Thread Cert.Kernel14.nD Cert.Kernel14.τ).loc Cert.Kernel14.main_arg13)
      ∧ r.2.mem ((c.tc : Thread Cert.Kernel14.nD Cert.Kernel14.τ).loc Cert.Kernel14.main_arg14) = m ((c.tc : Thread Cert.Kernel14.nD Cert.Kernel14.τ).loc Cert.Kernel14.main_arg14)
      ∧ r.2.mem ((c.tc : Thread Cert.Kernel14.nD Cert.Kernel14.τ).loc Cert.Kernel14.main_arg15) = m ((c.tc : Thread Cert.Kernel14.nD Cert.Kernel14.τ).loc Cert.Kernel14.main_arg15)
      ∧ r.2.mem ((c.tc : Thread Cert.Kernel14.nD Cert.Kernel14.τ).loc Cert.Kernel14.main_arg16) = m ((c.tc : Thread Cert.Kernel14.nD Cert.Kernel14.τ).loc Cert.Kernel14.main_arg16)
      ∧ r.2.mem ((c.tc : Thread Cert.Kernel14.nD Cert.Kernel14.τ).loc Cert.Kernel14.main_arg17) = m ((c.tc : Thread Cert.Kernel14.nD Cert.Kernel14.τ).loc Cert.Kernel14.main_arg17)
      ∧ r.2.mem ((c.tc : Thread Cert.Kernel14.nD Cert.Kernel14.τ).loc Cert.Kernel14.main_arg18) = m ((c.tc : Thread Cert.Kernel14.nD Cert.Kernel14.τ).loc Cert.Kernel14.main_arg18)
      ∧ r.2.mem ((c.tc : Thread Cert.Kernel14.nD Cert.Kernel14.τ).loc Cert.Kernel14.main_arg19) = m ((c.tc : Thread Cert.Kernel14.nD Cert.Kernel14.τ).loc Cert.Kernel14.main_arg19)
      ∧ r.2.mem ((c.tc : Thread Cert.Kernel14.nD Cert.Kernel14.τ).loc Cert.Kernel14.main_arg20) = m ((c.tc : Thread Cert.Kernel14.nD Cert.Kernel14.τ).loc Cert.Kernel14.main_arg20)
      ∧ r.2.mem ((c.tc : Thread Cert.Kernel14.nD Cert.Kernel14.τ).loc Cert.Kernel14.main_arg21) = m ((c.tc : Thread Cert.Kernel14.nD Cert.Kernel14.τ).loc Cert.Kernel14.main_arg21)
      ∧ r.2.mem ((c.tc : Thread Cert.Kernel14.nD Cert.Kernel14.τ).loc Cert.Kernel14.main_arg22) = m ((c.tc : Thread Cert.Kernel14.nD Cert.Kernel14.τ).loc Cert.Kernel14.main_arg22)
      ∧ r.2.mem ((c.tc : Thread Cert.Kernel14.nD Cert.Kernel14.τ).loc Cert.Kernel14.main_arg23) = m ((c.tc : Thread Cert.Kernel14.nD Cert.Kernel14.τ).loc Cert.Kernel14.main_arg23)
      ∧ r.2.mem ((c.tc : Thread Cert.Kernel14.nD Cert.Kernel14.τ).loc Cert.Kernel14.main_arg24) = m ((c.tc : Thread Cert.Kernel14.nD Cert.Kernel14.τ).loc Cert.Kernel14.main_arg24)
      ∧ r.2.mem ((c.tc : Thread Cert.Kernel14.nD Cert.Kernel14.τ).loc Cert.Kernel14.main_arg25) = m ((c.tc : Thread Cert.Kernel14.nD Cert.Kernel14.τ).loc Cert.Kernel14.main_arg25)
      ∧ r.2.mem ((c.tc : Thread Cert.Kernel14.nD Cert.Kernel14.τ).loc Cert.Kernel14.main_arg26) = m ((c.tc : Thread Cert.Kernel14.nD Cert.Kernel14.τ).loc Cert.Kernel14.main_arg26)
      ∧ r.2.mem ((c.tc : Thread Cert.Kernel14.nD Cert.Kernel14.τ).loc Cert.Kernel14.main_arg27) = m ((c.tc : Thread Cert.Kernel14.nD Cert.Kernel14.τ).loc Cert.Kernel14.main_arg27)
      ∧ r.2.mem ((c.tc : Thread Cert.Kernel14.nD Cert.Kernel14.τ).loc Cert.Kernel14.main_arg28) = m ((c.tc : Thread Cert.Kernel14.nD Cert.Kernel14.τ).loc Cert.Kernel14.main_arg28)
      ∧ r.2.mem ((c.tc : Thread Cert.Kernel14.nD Cert.Kernel14.τ).loc Cert.Kernel14.main_arg29) = m ((c.tc : Thread Cert.Kernel14.nD Cert.Kernel14.τ).loc Cert.Kernel14.main_arg29)
      ∧ r.2.mem ((c.tc : Thread Cert.Kernel14.nD Cert.Kernel14.τ).loc Cert.Kernel14.main_arg30) = m ((c.tc : Thread Cert.Kernel14.nD Cert.Kernel14.τ).loc Cert.Kernel14.main_arg30)
      ∧ r.2.mem ((c.tc : Thread Cert.Kernel14.nD Cert.Kernel14.τ).loc Cert.Kernel14.main_arg31) = m ((c.tc : Thread Cert.Kernel14.nD Cert.Kernel14.τ).loc Cert.Kernel14.main_arg31)
      ∧ r.2.mem ((c.tc : Thread Cert.Kernel14.nD Cert.Kernel14.τ).loc Cert.Kernel14.main_arg32) = m ((c.tc : Thread Cert.Kernel14.nD Cert.Kernel14.τ).loc Cert.Kernel14.main_arg32)
      ∧ r.2.mem ((c.tc : Thread Cert.Kernel14.nD Cert.Kernel14.τ).loc Cert.Kernel14.main_arg33) = m ((c.tc : Thread Cert.Kernel14.nD Cert.Kernel14.τ).loc Cert.Kernel14.main_arg33)
      ∧ r.2.mem ((c.tc : Thread Cert.Kernel14.nD Cert.Kernel14.τ).loc Cert.Kernel14.main_arg34) = m ((c.tc : Thread Cert.Kernel14.nD Cert.Kernel14.τ).loc Cert.Kernel14.main_arg34)
      ∧ r.2.mem ((c.tc : Thread Cert.Kernel14.nD Cert.Kernel14.τ).loc Cert.Kernel14.main_arg35) = m ((c.tc : Thread Cert.Kernel14.nD Cert.Kernel14.τ).loc Cert.Kernel14.main_arg35)
      ∧ r.2.mem ((c.tc : Thread Cert.Kernel14.nD Cert.Kernel14.τ).loc Cert.Kernel14.main_arg36) = m ((c.tc : Thread Cert.Kernel14.nD Cert.Kernel14.τ).loc Cert.Kernel14.main_arg36)
      ∧ r.2.mem ((c.tc : Thread Cert.Kernel14.nD Cert.Kernel14.τ).loc Cert.Kernel14.main_arg37) = m ((c.tc : Thread Cert.Kernel14.nD Cert.Kernel14.τ).loc Cert.Kernel14.main_arg37)
      ∧ r.2.mem ((c.tc : Thread Cert.Kernel14.nD Cert.Kernel14.τ).loc Cert.Kernel14.main_arg38) = m ((c.tc : Thread Cert.Kernel14.nD Cert.Kernel14.τ).loc Cert.Kernel14.main_arg38)
      ∧ r.2.mem ((c.tc : Thread Cert.Kernel14.nD Cert.Kernel14.τ).loc Cert.Kernel14.main_arg39) = m ((c.tc : Thread Cert.Kernel14.nD Cert.Kernel14.τ).loc Cert.Kernel14.main_arg39)
      ∧ r.2.mem ((c.tc : Thread Cert.Kernel14.nD Cert.Kernel14.τ).loc Cert.Kernel14.main_arg40) = m ((c.tc : Thread Cert.Kernel14.nD Cert.Kernel14.τ).loc Cert.Kernel14.main_arg40)
      ∧ r.2.mem ((c.tc : Thread Cert.Kernel14.nD Cert.Kernel14.τ).loc Cert.Kernel14.main_arg41) = m ((c.tc : Thread Cert.Kernel14.nD Cert.Kernel14.τ).loc Cert.Kernel14.main_arg41)
      ∧ r.2.mem ((c.tc : Thread Cert.Kernel14.nD Cert.Kernel14.τ).loc Cert.Kernel14.main_arg42) = m ((c.tc : Thread Cert.Kernel14.nD Cert.Kernel14.τ).loc Cert.Kernel14.main_arg42)
      ∧ r.2.mem ((c.tc : Thread Cert.Kernel14.nD Cert.Kernel14.τ).loc Cert.Kernel14.main_arg43) = m ((c.tc : Thread Cert.Kernel14.nD Cert.Kernel14.τ).loc Cert.Kernel14.main_arg43)
      ∧ r.2.mem ((c.tc : Thread Cert.Kernel14.nD Cert.Kernel14.τ).loc Cert.Kernel14.main_arg44) = m ((c.tc : Thread Cert.Kernel14.nD Cert.Kernel14.τ).loc Cert.Kernel14.main_arg44)
      ∧ r.2.mem ((c.tc : Thread Cert.Kernel14.nD Cert.Kernel14.τ).loc Cert.Kernel14.main_arg45) = m ((c.tc : Thread Cert.Kernel14.nD Cert.Kernel14.τ).loc Cert.Kernel14.main_arg45)
      ∧ r.2.mem ((c.tc : Thread Cert.Kernel14.nD Cert.Kernel14.τ).loc Cert.Kernel14.main_arg46) = m ((c.tc : Thread Cert.Kernel14.nD Cert.Kernel14.τ).loc Cert.Kernel14.main_arg46)
      ∧ r.2.mem ((c.tc : Thread Cert.Kernel14.nD Cert.Kernel14.τ).loc Cert.Kernel14.main_arg47) = m ((c.tc : Thread Cert.Kernel14.nD Cert.Kernel14.τ).loc Cert.Kernel14.main_arg47)
      ∧ r.2.mem ((c.tc : Thread Cert.Kernel14.nD Cert.Kernel14.τ).loc Cert.Kernel14.main_arg48) = m ((c.tc : Thread Cert.Kernel14.nD Cert.Kernel14.τ).loc Cert.Kernel14.main_arg48)
      ∧ r.2.mem ((c.tc : Thread Cert.Kernel14.nD Cert.Kernel14.τ).loc Cert.Kernel14.main_arg49) = m ((c.tc : Thread Cert.Kernel14.nD Cert.Kernel14.τ).loc Cert.Kernel14.main_arg49)
      ∧ r.2.mem ((c.tc : Thread Cert.Kernel14.nD Cert.Kernel14.τ).loc Cert.Kernel14.main_arg50) = m ((c.tc : Thread Cert.Kernel14.nD Cert.Kernel14.τ).loc Cert.Kernel14.main_arg50)
      ∧ r.2.mem ((c.tc : Thread Cert.Kernel14.nD Cert.Kernel14.τ).loc Cert.Kernel14.main_arg51) = m ((c.tc : Thread Cert.Kernel14.nD Cert.Kernel14.τ).loc Cert.Kernel14.main_arg51)
      ∧ r.2.mem ((c.tc : Thread Cert.Kernel14.nD Cert.Kernel14.τ).loc Cert.Kernel14.main_arg52) = m ((c.tc : Thread Cert.Kernel14.nD Cert.Kernel14.τ).loc Cert.Kernel14.main_arg52)
      ∧ r.2.mem ((c.tc : Thread Cert.Kernel14.nD Cert.Kernel14.τ).loc Cert.Kernel14.main_arg53) = m ((c.tc : Thread Cert.Kernel14.nD Cert.Kernel14.τ).loc Cert.Kernel14.main_arg53)
      ∧ r.2.mem ((c.tc : Thread Cert.Kernel14.nD Cert.Kernel14.τ).loc Cert.Kernel14.main_arg54) = m ((c.tc : Thread Cert.Kernel14.nD Cert.Kernel14.τ).loc Cert.Kernel14.main_arg54)
      ∧ r.2.mem ((c.tc : Thread Cert.Kernel14.nD Cert.Kernel14.τ).loc Cert.Kernel14.main_arg55) = m ((c.tc : Thread Cert.Kernel14.nD Cert.Kernel14.τ).loc Cert.Kernel14.main_arg55)
      ∧ r.2.mem ((c.tc : Thread Cert.Kernel14.nD Cert.Kernel14.τ).loc Cert.Kernel14.main_arg56) = m ((c.tc : Thread Cert.Kernel14.nD Cert.Kernel14.τ).loc Cert.Kernel14.main_arg56)
      ∧ r.2.mem ((c.tc : Thread Cert.Kernel14.nD Cert.Kernel14.τ).loc Cert.Kernel14.main_arg57) = m ((c.tc : Thread Cert.Kernel14.nD Cert.Kernel14.τ).loc Cert.Kernel14.main_arg57)
      ∧ r.2.mem ((c.tc : Thread Cert.Kernel14.nD Cert.Kernel14.τ).loc Cert.Kernel14.main_arg58) = m ((c.tc : Thread Cert.Kernel14.nD Cert.Kernel14.τ).loc Cert.Kernel14.main_arg58)
      ∧ r.2.mem ((c.tc : Thread Cert.Kernel14.nD Cert.Kernel14.τ).loc Cert.Kernel14.main_arg59) = m ((c.tc : Thread Cert.Kernel14.nD Cert.Kernel14.τ).loc Cert.Kernel14.main_arg59)
      ∧ r.2.mem ((c.tc : Thread Cert.Kernel14.nD Cert.Kernel14.τ).loc Cert.Kernel14.main_arg60) = m ((c.tc : Thread Cert.Kernel14.nD Cert.Kernel14.τ).loc Cert.Kernel14.main_arg60)
      ∧ r.2.mem ((c.tc : Thread Cert.Kernel14.nD Cert.Kernel14.τ).loc Cert.Kernel14.main_arg61) = m ((c.tc : Thread Cert.Kernel14.nD Cert.Kernel14.τ).loc Cert.Kernel14.main_arg61)
      ∧ r.2.mem ((c.tc : Thread Cert.Kernel14.nD Cert.Kernel14.τ).loc Cert.Kernel14.main_arg62) = m ((c.tc : Thread Cert.Kernel14.nD Cert.Kernel14.τ).loc Cert.Kernel14.main_arg62)
      ∧ r.2.mem ((c.tc : Thread Cert.Kernel14.nD Cert.Kernel14.τ).loc Cert.Kernel14.main_arg63) = m ((c.tc : Thread Cert.Kernel14.nD Cert.Kernel14.τ).loc Cert.Kernel14.main_arg63))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
      ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
      ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10)
      ∧ r.2.mem ((c.tc : Thread Cert.Kernel14Ideal.nD Cert.Kernel14Ideal.τ).loc Cert.Kernel14Ideal.main_arg11) = m ((c.tc : Thread Cert.Kernel14Ideal.nD Cert.Kernel14Ideal.τ).loc Cert.Kernel14Ideal.main_arg11)
      ∧ r.2.mem ((c.tc : Thread Cert.Kernel14Ideal.nD Cert.Kernel14Ideal.τ).loc Cert.Kernel14Ideal.main_arg12) = m ((c.tc : Thread Cert.Kernel14Ideal.nD Cert.Kernel14Ideal.τ).loc Cert.Kernel14Ideal.main_arg12)
      ∧ r.2.mem ((c.tc : Thread Cert.Kernel14Ideal.nD Cert.Kernel14Ideal.τ).loc Cert.Kernel14Ideal.main_arg13) = m ((c.tc : Thread Cert.Kernel14Ideal.nD Cert.Kernel14Ideal.τ).loc Cert.Kernel14Ideal.main_arg13)
      ∧ r.2.mem ((c.tc : Thread Cert.Kernel14Ideal.nD Cert.Kernel14Ideal.τ).loc Cert.Kernel14Ideal.main_arg14) = m ((c.tc : Thread Cert.Kernel14Ideal.nD Cert.Kernel14Ideal.τ).loc Cert.Kernel14Ideal.main_arg14)
      ∧ r.2.mem ((c.tc : Thread Cert.Kernel14Ideal.nD Cert.Kernel14Ideal.τ).loc Cert.Kernel14Ideal.main_arg15) = m ((c.tc : Thread Cert.Kernel14Ideal.nD Cert.Kernel14Ideal.τ).loc Cert.Kernel14Ideal.main_arg15)
      ∧ r.2.mem ((c.tc : Thread Cert.Kernel14Ideal.nD Cert.Kernel14Ideal.τ).loc Cert.Kernel14Ideal.main_arg16) = m ((c.tc : Thread Cert.Kernel14Ideal.nD Cert.Kernel14Ideal.τ).loc Cert.Kernel14Ideal.main_arg16)
      ∧ r.2.mem ((c.tc : Thread Cert.Kernel14Ideal.nD Cert.Kernel14Ideal.τ).loc Cert.Kernel14Ideal.main_arg17) = m ((c.tc : Thread Cert.Kernel14Ideal.nD Cert.Kernel14Ideal.τ).loc Cert.Kernel14Ideal.main_arg17)
      ∧ r.2.mem ((c.tc : Thread Cert.Kernel14Ideal.nD Cert.Kernel14Ideal.τ).loc Cert.Kernel14Ideal.main_arg18) = m ((c.tc : Thread Cert.Kernel14Ideal.nD Cert.Kernel14Ideal.τ).loc Cert.Kernel14Ideal.main_arg18)
      ∧ r.2.mem ((c.tc : Thread Cert.Kernel14Ideal.nD Cert.Kernel14Ideal.τ).loc Cert.Kernel14Ideal.main_arg19) = m ((c.tc : Thread Cert.Kernel14Ideal.nD Cert.Kernel14Ideal.τ).loc Cert.Kernel14Ideal.main_arg19)
      ∧ r.2.mem ((c.tc : Thread Cert.Kernel14Ideal.nD Cert.Kernel14Ideal.τ).loc Cert.Kernel14Ideal.main_arg20) = m ((c.tc : Thread Cert.Kernel14Ideal.nD Cert.Kernel14Ideal.τ).loc Cert.Kernel14Ideal.main_arg20)
      ∧ r.2.mem ((c.tc : Thread Cert.Kernel14Ideal.nD Cert.Kernel14Ideal.τ).loc Cert.Kernel14Ideal.main_arg21) = m ((c.tc : Thread Cert.Kernel14Ideal.nD Cert.Kernel14Ideal.τ).loc Cert.Kernel14Ideal.main_arg21)
      ∧ r.2.mem ((c.tc : Thread Cert.Kernel14Ideal.nD Cert.Kernel14Ideal.τ).loc Cert.Kernel14Ideal.main_arg22) = m ((c.tc : Thread Cert.Kernel14Ideal.nD Cert.Kernel14Ideal.τ).loc Cert.Kernel14Ideal.main_arg22)
      ∧ r.2.mem ((c.tc : Thread Cert.Kernel14Ideal.nD Cert.Kernel14Ideal.τ).loc Cert.Kernel14Ideal.main_arg23) = m ((c.tc : Thread Cert.Kernel14Ideal.nD Cert.Kernel14Ideal.τ).loc Cert.Kernel14Ideal.main_arg23)
      ∧ r.2.mem ((c.tc : Thread Cert.Kernel14Ideal.nD Cert.Kernel14Ideal.τ).loc Cert.Kernel14Ideal.main_arg24) = m ((c.tc : Thread Cert.Kernel14Ideal.nD Cert.Kernel14Ideal.τ).loc Cert.Kernel14Ideal.main_arg24)
      ∧ r.2.mem ((c.tc : Thread Cert.Kernel14Ideal.nD Cert.Kernel14Ideal.τ).loc Cert.Kernel14Ideal.main_arg25) = m ((c.tc : Thread Cert.Kernel14Ideal.nD Cert.Kernel14Ideal.τ).loc Cert.Kernel14Ideal.main_arg25)
      ∧ r.2.mem ((c.tc : Thread Cert.Kernel14Ideal.nD Cert.Kernel14Ideal.τ).loc Cert.Kernel14Ideal.main_arg26) = m ((c.tc : Thread Cert.Kernel14Ideal.nD Cert.Kernel14Ideal.τ).loc Cert.Kernel14Ideal.main_arg26)
      ∧ r.2.mem ((c.tc : Thread Cert.Kernel14Ideal.nD Cert.Kernel14Ideal.τ).loc Cert.Kernel14Ideal.main_arg27) = m ((c.tc : Thread Cert.Kernel14Ideal.nD Cert.Kernel14Ideal.τ).loc Cert.Kernel14Ideal.main_arg27)
      ∧ r.2.mem ((c.tc : Thread Cert.Kernel14Ideal.nD Cert.Kernel14Ideal.τ).loc Cert.Kernel14Ideal.main_arg28) = m ((c.tc : Thread Cert.Kernel14Ideal.nD Cert.Kernel14Ideal.τ).loc Cert.Kernel14Ideal.main_arg28)
      ∧ r.2.mem ((c.tc : Thread Cert.Kernel14Ideal.nD Cert.Kernel14Ideal.τ).loc Cert.Kernel14Ideal.main_arg29) = m ((c.tc : Thread Cert.Kernel14Ideal.nD Cert.Kernel14Ideal.τ).loc Cert.Kernel14Ideal.main_arg29)
      ∧ r.2.mem ((c.tc : Thread Cert.Kernel14Ideal.nD Cert.Kernel14Ideal.τ).loc Cert.Kernel14Ideal.main_arg30) = m ((c.tc : Thread Cert.Kernel14Ideal.nD Cert.Kernel14Ideal.τ).loc Cert.Kernel14Ideal.main_arg30)
      ∧ r.2.mem ((c.tc : Thread Cert.Kernel14Ideal.nD Cert.Kernel14Ideal.τ).loc Cert.Kernel14Ideal.main_arg31) = m ((c.tc : Thread Cert.Kernel14Ideal.nD Cert.Kernel14Ideal.τ).loc Cert.Kernel14Ideal.main_arg31)
      ∧ r.2.mem ((c.tc : Thread Cert.Kernel14Ideal.nD Cert.Kernel14Ideal.τ).loc Cert.Kernel14Ideal.main_arg32) = m ((c.tc : Thread Cert.Kernel14Ideal.nD Cert.Kernel14Ideal.τ).loc Cert.Kernel14Ideal.main_arg32)
      ∧ r.2.mem ((c.tc : Thread Cert.Kernel14Ideal.nD Cert.Kernel14Ideal.τ).loc Cert.Kernel14Ideal.main_arg33) = m ((c.tc : Thread Cert.Kernel14Ideal.nD Cert.Kernel14Ideal.τ).loc Cert.Kernel14Ideal.main_arg33)
      ∧ r.2.mem ((c.tc : Thread Cert.Kernel14Ideal.nD Cert.Kernel14Ideal.τ).loc Cert.Kernel14Ideal.main_arg34) = m ((c.tc : Thread Cert.Kernel14Ideal.nD Cert.Kernel14Ideal.τ).loc Cert.Kernel14Ideal.main_arg34)
      ∧ r.2.mem ((c.tc : Thread Cert.Kernel14Ideal.nD Cert.Kernel14Ideal.τ).loc Cert.Kernel14Ideal.main_arg35) = m ((c.tc : Thread Cert.Kernel14Ideal.nD Cert.Kernel14Ideal.τ).loc Cert.Kernel14Ideal.main_arg35)
      ∧ r.2.mem ((c.tc : Thread Cert.Kernel14Ideal.nD Cert.Kernel14Ideal.τ).loc Cert.Kernel14Ideal.main_arg36) = m ((c.tc : Thread Cert.Kernel14Ideal.nD Cert.Kernel14Ideal.τ).loc Cert.Kernel14Ideal.main_arg36)
      ∧ r.2.mem ((c.tc : Thread Cert.Kernel14Ideal.nD Cert.Kernel14Ideal.τ).loc Cert.Kernel14Ideal.main_arg37) = m ((c.tc : Thread Cert.Kernel14Ideal.nD Cert.Kernel14Ideal.τ).loc Cert.Kernel14Ideal.main_arg37)
      ∧ r.2.mem ((c.tc : Thread Cert.Kernel14Ideal.nD Cert.Kernel14Ideal.τ).loc Cert.Kernel14Ideal.main_arg38) = m ((c.tc : Thread Cert.Kernel14Ideal.nD Cert.Kernel14Ideal.τ).loc Cert.Kernel14Ideal.main_arg38)
      ∧ r.2.mem ((c.tc : Thread Cert.Kernel14Ideal.nD Cert.Kernel14Ideal.τ).loc Cert.Kernel14Ideal.main_arg39) = m ((c.tc : Thread Cert.Kernel14Ideal.nD Cert.Kernel14Ideal.τ).loc Cert.Kernel14Ideal.main_arg39)
      ∧ r.2.mem ((c.tc : Thread Cert.Kernel14Ideal.nD Cert.Kernel14Ideal.τ).loc Cert.Kernel14Ideal.main_arg40) = m ((c.tc : Thread Cert.Kernel14Ideal.nD Cert.Kernel14Ideal.τ).loc Cert.Kernel14Ideal.main_arg40)
      ∧ r.2.mem ((c.tc : Thread Cert.Kernel14Ideal.nD Cert.Kernel14Ideal.τ).loc Cert.Kernel14Ideal.main_arg41) = m ((c.tc : Thread Cert.Kernel14Ideal.nD Cert.Kernel14Ideal.τ).loc Cert.Kernel14Ideal.main_arg41)
      ∧ r.2.mem ((c.tc : Thread Cert.Kernel14Ideal.nD Cert.Kernel14Ideal.τ).loc Cert.Kernel14Ideal.main_arg42) = m ((c.tc : Thread Cert.Kernel14Ideal.nD Cert.Kernel14Ideal.τ).loc Cert.Kernel14Ideal.main_arg42)
      ∧ r.2.mem ((c.tc : Thread Cert.Kernel14Ideal.nD Cert.Kernel14Ideal.τ).loc Cert.Kernel14Ideal.main_arg43) = m ((c.tc : Thread Cert.Kernel14Ideal.nD Cert.Kernel14Ideal.τ).loc Cert.Kernel14Ideal.main_arg43)
      ∧ r.2.mem ((c.tc : Thread Cert.Kernel14Ideal.nD Cert.Kernel14Ideal.τ).loc Cert.Kernel14Ideal.main_arg44) = m ((c.tc : Thread Cert.Kernel14Ideal.nD Cert.Kernel14Ideal.τ).loc Cert.Kernel14Ideal.main_arg44)
      ∧ r.2.mem ((c.tc : Thread Cert.Kernel14Ideal.nD Cert.Kernel14Ideal.τ).loc Cert.Kernel14Ideal.main_arg45) = m ((c.tc : Thread Cert.Kernel14Ideal.nD Cert.Kernel14Ideal.τ).loc Cert.Kernel14Ideal.main_arg45)
      ∧ r.2.mem ((c.tc : Thread Cert.Kernel14Ideal.nD Cert.Kernel14Ideal.τ).loc Cert.Kernel14Ideal.main_arg46) = m ((c.tc : Thread Cert.Kernel14Ideal.nD Cert.Kernel14Ideal.τ).loc Cert.Kernel14Ideal.main_arg46)
      ∧ r.2.mem ((c.tc : Thread Cert.Kernel14Ideal.nD Cert.Kernel14Ideal.τ).loc Cert.Kernel14Ideal.main_arg47) = m ((c.tc : Thread Cert.Kernel14Ideal.nD Cert.Kernel14Ideal.τ).loc Cert.Kernel14Ideal.main_arg47)
      ∧ r.2.mem ((c.tc : Thread Cert.Kernel14Ideal.nD Cert.Kernel14Ideal.τ).loc Cert.Kernel14Ideal.main_arg48) = m ((c.tc : Thread Cert.Kernel14Ideal.nD Cert.Kernel14Ideal.τ).loc Cert.Kernel14Ideal.main_arg48)
      ∧ r.2.mem ((c.tc : Thread Cert.Kernel14Ideal.nD Cert.Kernel14Ideal.τ).loc Cert.Kernel14Ideal.main_arg49) = m ((c.tc : Thread Cert.Kernel14Ideal.nD Cert.Kernel14Ideal.τ).loc Cert.Kernel14Ideal.main_arg49)
      ∧ r.2.mem ((c.tc : Thread Cert.Kernel14Ideal.nD Cert.Kernel14Ideal.τ).loc Cert.Kernel14Ideal.main_arg50) = m ((c.tc : Thread Cert.Kernel14Ideal.nD Cert.Kernel14Ideal.τ).loc Cert.Kernel14Ideal.main_arg50)
      ∧ r.2.mem ((c.tc : Thread Cert.Kernel14Ideal.nD Cert.Kernel14Ideal.τ).loc Cert.Kernel14Ideal.main_arg51) = m ((c.tc : Thread Cert.Kernel14Ideal.nD Cert.Kernel14Ideal.τ).loc Cert.Kernel14Ideal.main_arg51)
      ∧ r.2.mem ((c.tc : Thread Cert.Kernel14Ideal.nD Cert.Kernel14Ideal.τ).loc Cert.Kernel14Ideal.main_arg52) = m ((c.tc : Thread Cert.Kernel14Ideal.nD Cert.Kernel14Ideal.τ).loc Cert.Kernel14Ideal.main_arg52)
      ∧ r.2.mem ((c.tc : Thread Cert.Kernel14Ideal.nD Cert.Kernel14Ideal.τ).loc Cert.Kernel14Ideal.main_arg53) = m ((c.tc : Thread Cert.Kernel14Ideal.nD Cert.Kernel14Ideal.τ).loc Cert.Kernel14Ideal.main_arg53)
      ∧ r.2.mem ((c.tc : Thread Cert.Kernel14Ideal.nD Cert.Kernel14Ideal.τ).loc Cert.Kernel14Ideal.main_arg54) = m ((c.tc : Thread Cert.Kernel14Ideal.nD Cert.Kernel14Ideal.τ).loc Cert.Kernel14Ideal.main_arg54)
      ∧ r.2.mem ((c.tc : Thread Cert.Kernel14Ideal.nD Cert.Kernel14Ideal.τ).loc Cert.Kernel14Ideal.main_arg55) = m ((c.tc : Thread Cert.Kernel14Ideal.nD Cert.Kernel14Ideal.τ).loc Cert.Kernel14Ideal.main_arg55)
      ∧ r.2.mem ((c.tc : Thread Cert.Kernel14Ideal.nD Cert.Kernel14Ideal.τ).loc Cert.Kernel14Ideal.main_arg56) = m ((c.tc : Thread Cert.Kernel14Ideal.nD Cert.Kernel14Ideal.τ).loc Cert.Kernel14Ideal.main_arg56)
      ∧ r.2.mem ((c.tc : Thread Cert.Kernel14Ideal.nD Cert.Kernel14Ideal.τ).loc Cert.Kernel14Ideal.main_arg57) = m ((c.tc : Thread Cert.Kernel14Ideal.nD Cert.Kernel14Ideal.τ).loc Cert.Kernel14Ideal.main_arg57)
      ∧ r.2.mem ((c.tc : Thread Cert.Kernel14Ideal.nD Cert.Kernel14Ideal.τ).loc Cert.Kernel14Ideal.main_arg58) = m ((c.tc : Thread Cert.Kernel14Ideal.nD Cert.Kernel14Ideal.τ).loc Cert.Kernel14Ideal.main_arg58)
      ∧ r.2.mem ((c.tc : Thread Cert.Kernel14Ideal.nD Cert.Kernel14Ideal.τ).loc Cert.Kernel14Ideal.main_arg59) = m ((c.tc : Thread Cert.Kernel14Ideal.nD Cert.Kernel14Ideal.τ).loc Cert.Kernel14Ideal.main_arg59)
      ∧ r.2.mem ((c.tc : Thread Cert.Kernel14Ideal.nD Cert.Kernel14Ideal.τ).loc Cert.Kernel14Ideal.main_arg60) = m ((c.tc : Thread Cert.Kernel14Ideal.nD Cert.Kernel14Ideal.τ).loc Cert.Kernel14Ideal.main_arg60)
      ∧ r.2.mem ((c.tc : Thread Cert.Kernel14Ideal.nD Cert.Kernel14Ideal.τ).loc Cert.Kernel14Ideal.main_arg61) = m ((c.tc : Thread Cert.Kernel14Ideal.nD Cert.Kernel14Ideal.τ).loc Cert.Kernel14Ideal.main_arg61)
      ∧ r.2.mem ((c.tc : Thread Cert.Kernel14Ideal.nD Cert.Kernel14Ideal.τ).loc Cert.Kernel14Ideal.main_arg62) = m ((c.tc : Thread Cert.Kernel14Ideal.nD Cert.Kernel14Ideal.τ).loc Cert.Kernel14Ideal.main_arg62)
      ∧ r.2.mem ((c.tc : Thread Cert.Kernel14Ideal.nD Cert.Kernel14Ideal.τ).loc Cert.Kernel14Ideal.main_arg63) = m ((c.tc : Thread Cert.Kernel14Ideal.nD Cert.Kernel14Ideal.τ).loc Cert.Kernel14Ideal.main_arg63))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8)
      ∧ r.2.mem ((c.tc : Thread Cert.Reference14Ideal.nD Cert.Reference14Ideal.τ).loc Cert.Reference14Ideal.main_arg9) = m ((c.tc : Thread Cert.Reference14Ideal.nD Cert.Reference14Ideal.τ).loc Cert.Reference14Ideal.main_arg9)
      ∧ r.2.mem ((c.tc : Thread Cert.Reference14Ideal.nD Cert.Reference14Ideal.τ).loc Cert.Reference14Ideal.main_arg10) = m ((c.tc : Thread Cert.Reference14Ideal.nD Cert.Reference14Ideal.τ).loc Cert.Reference14Ideal.main_arg10)
      ∧ r.2.mem ((c.tc : Thread Cert.Reference14Ideal.nD Cert.Reference14Ideal.τ).loc Cert.Reference14Ideal.main_arg11) = m ((c.tc : Thread Cert.Reference14Ideal.nD Cert.Reference14Ideal.τ).loc Cert.Reference14Ideal.main_arg11)
      ∧ r.2.mem ((c.tc : Thread Cert.Reference14Ideal.nD Cert.Reference14Ideal.τ).loc Cert.Reference14Ideal.main_arg12) = m ((c.tc : Thread Cert.Reference14Ideal.nD Cert.Reference14Ideal.τ).loc Cert.Reference14Ideal.main_arg12)
      ∧ r.2.mem ((c.tc : Thread Cert.Reference14Ideal.nD Cert.Reference14Ideal.τ).loc Cert.Reference14Ideal.main_arg13) = m ((c.tc : Thread Cert.Reference14Ideal.nD Cert.Reference14Ideal.τ).loc Cert.Reference14Ideal.main_arg13)
      ∧ r.2.mem ((c.tc : Thread Cert.Reference14Ideal.nD Cert.Reference14Ideal.τ).loc Cert.Reference14Ideal.main_arg14) = m ((c.tc : Thread Cert.Reference14Ideal.nD Cert.Reference14Ideal.τ).loc Cert.Reference14Ideal.main_arg14)
      ∧ r.2.mem ((c.tc : Thread Cert.Reference14Ideal.nD Cert.Reference14Ideal.τ).loc Cert.Reference14Ideal.main_arg15) = m ((c.tc : Thread Cert.Reference14Ideal.nD Cert.Reference14Ideal.τ).loc Cert.Reference14Ideal.main_arg15)
      ∧ r.2.mem ((c.tc : Thread Cert.Reference14Ideal.nD Cert.Reference14Ideal.τ).loc Cert.Reference14Ideal.main_arg16) = m ((c.tc : Thread Cert.Reference14Ideal.nD Cert.Reference14Ideal.τ).loc Cert.Reference14Ideal.main_arg16)
      ∧ r.2.mem ((c.tc : Thread Cert.Reference14Ideal.nD Cert.Reference14Ideal.τ).loc Cert.Reference14Ideal.main_arg17) = m ((c.tc : Thread Cert.Reference14Ideal.nD Cert.Reference14Ideal.τ).loc Cert.Reference14Ideal.main_arg17)
      ∧ r.2.mem ((c.tc : Thread Cert.Reference14Ideal.nD Cert.Reference14Ideal.τ).loc Cert.Reference14Ideal.main_arg18) = m ((c.tc : Thread Cert.Reference14Ideal.nD Cert.Reference14Ideal.τ).loc Cert.Reference14Ideal.main_arg18)
      ∧ r.2.mem ((c.tc : Thread Cert.Reference14Ideal.nD Cert.Reference14Ideal.τ).loc Cert.Reference14Ideal.main_arg19) = m ((c.tc : Thread Cert.Reference14Ideal.nD Cert.Reference14Ideal.τ).loc Cert.Reference14Ideal.main_arg19)
      ∧ r.2.mem ((c.tc : Thread Cert.Reference14Ideal.nD Cert.Reference14Ideal.τ).loc Cert.Reference14Ideal.main_arg20) = m ((c.tc : Thread Cert.Reference14Ideal.nD Cert.Reference14Ideal.τ).loc Cert.Reference14Ideal.main_arg20)
      ∧ r.2.mem ((c.tc : Thread Cert.Reference14Ideal.nD Cert.Reference14Ideal.τ).loc Cert.Reference14Ideal.main_arg21) = m ((c.tc : Thread Cert.Reference14Ideal.nD Cert.Reference14Ideal.τ).loc Cert.Reference14Ideal.main_arg21)
      ∧ r.2.mem ((c.tc : Thread Cert.Reference14Ideal.nD Cert.Reference14Ideal.τ).loc Cert.Reference14Ideal.main_arg22) = m ((c.tc : Thread Cert.Reference14Ideal.nD Cert.Reference14Ideal.τ).loc Cert.Reference14Ideal.main_arg22)
      ∧ r.2.mem ((c.tc : Thread Cert.Reference14Ideal.nD Cert.Reference14Ideal.τ).loc Cert.Reference14Ideal.main_arg23) = m ((c.tc : Thread Cert.Reference14Ideal.nD Cert.Reference14Ideal.τ).loc Cert.Reference14Ideal.main_arg23)
      ∧ r.2.mem ((c.tc : Thread Cert.Reference14Ideal.nD Cert.Reference14Ideal.τ).loc Cert.Reference14Ideal.main_arg24) = m ((c.tc : Thread Cert.Reference14Ideal.nD Cert.Reference14Ideal.τ).loc Cert.Reference14Ideal.main_arg24)
      ∧ r.2.mem ((c.tc : Thread Cert.Reference14Ideal.nD Cert.Reference14Ideal.τ).loc Cert.Reference14Ideal.main_arg25) = m ((c.tc : Thread Cert.Reference14Ideal.nD Cert.Reference14Ideal.τ).loc Cert.Reference14Ideal.main_arg25)
      ∧ r.2.mem ((c.tc : Thread Cert.Reference14Ideal.nD Cert.Reference14Ideal.τ).loc Cert.Reference14Ideal.main_arg26) = m ((c.tc : Thread Cert.Reference14Ideal.nD Cert.Reference14Ideal.τ).loc Cert.Reference14Ideal.main_arg26)
      ∧ r.2.mem ((c.tc : Thread Cert.Reference14Ideal.nD Cert.Reference14Ideal.τ).loc Cert.Reference14Ideal.main_arg27) = m ((c.tc : Thread Cert.Reference14Ideal.nD Cert.Reference14Ideal.τ).loc Cert.Reference14Ideal.main_arg27)
      ∧ r.2.mem ((c.tc : Thread Cert.Reference14Ideal.nD Cert.Reference14Ideal.τ).loc Cert.Reference14Ideal.main_arg28) = m ((c.tc : Thread Cert.Reference14Ideal.nD Cert.Reference14Ideal.τ).loc Cert.Reference14Ideal.main_arg28)
      ∧ r.2.mem ((c.tc : Thread Cert.Reference14Ideal.nD Cert.Reference14Ideal.τ).loc Cert.Reference14Ideal.main_arg29) = m ((c.tc : Thread Cert.Reference14Ideal.nD Cert.Reference14Ideal.τ).loc Cert.Reference14Ideal.main_arg29)
      ∧ r.2.mem ((c.tc : Thread Cert.Reference14Ideal.nD Cert.Reference14Ideal.τ).loc Cert.Reference14Ideal.main_arg30) = m ((c.tc : Thread Cert.Reference14Ideal.nD Cert.Reference14Ideal.τ).loc Cert.Reference14Ideal.main_arg30)
      ∧ r.2.mem ((c.tc : Thread Cert.Reference14Ideal.nD Cert.Reference14Ideal.τ).loc Cert.Reference14Ideal.main_arg31) = m ((c.tc : Thread Cert.Reference14Ideal.nD Cert.Reference14Ideal.τ).loc Cert.Reference14Ideal.main_arg31)
      ∧ r.2.mem ((c.tc : Thread Cert.Reference14Ideal.nD Cert.Reference14Ideal.τ).loc Cert.Reference14Ideal.main_arg32) = m ((c.tc : Thread Cert.Reference14Ideal.nD Cert.Reference14Ideal.τ).loc Cert.Reference14Ideal.main_arg32)
      ∧ r.2.mem ((c.tc : Thread Cert.Reference14Ideal.nD Cert.Reference14Ideal.τ).loc Cert.Reference14Ideal.main_arg33) = m ((c.tc : Thread Cert.Reference14Ideal.nD Cert.Reference14Ideal.τ).loc Cert.Reference14Ideal.main_arg33)
      ∧ r.2.mem ((c.tc : Thread Cert.Reference14Ideal.nD Cert.Reference14Ideal.τ).loc Cert.Reference14Ideal.main_arg34) = m ((c.tc : Thread Cert.Reference14Ideal.nD Cert.Reference14Ideal.τ).loc Cert.Reference14Ideal.main_arg34)
      ∧ r.2.mem ((c.tc : Thread Cert.Reference14Ideal.nD Cert.Reference14Ideal.τ).loc Cert.Reference14Ideal.main_arg35) = m ((c.tc : Thread Cert.Reference14Ideal.nD Cert.Reference14Ideal.τ).loc Cert.Reference14Ideal.main_arg35)
      ∧ r.2.mem ((c.tc : Thread Cert.Reference14Ideal.nD Cert.Reference14Ideal.τ).loc Cert.Reference14Ideal.main_arg36) = m ((c.tc : Thread Cert.Reference14Ideal.nD Cert.Reference14Ideal.τ).loc Cert.Reference14Ideal.main_arg36)
      ∧ r.2.mem ((c.tc : Thread Cert.Reference14Ideal.nD Cert.Reference14Ideal.τ).loc Cert.Reference14Ideal.main_arg37) = m ((c.tc : Thread Cert.Reference14Ideal.nD Cert.Reference14Ideal.τ).loc Cert.Reference14Ideal.main_arg37)
      ∧ r.2.mem ((c.tc : Thread Cert.Reference14Ideal.nD Cert.Reference14Ideal.τ).loc Cert.Reference14Ideal.main_arg38) = m ((c.tc : Thread Cert.Reference14Ideal.nD Cert.Reference14Ideal.τ).loc Cert.Reference14Ideal.main_arg38)
      ∧ r.2.mem ((c.tc : Thread Cert.Reference14Ideal.nD Cert.Reference14Ideal.τ).loc Cert.Reference14Ideal.main_arg39) = m ((c.tc : Thread Cert.Reference14Ideal.nD Cert.Reference14Ideal.τ).loc Cert.Reference14Ideal.main_arg39)
      ∧ r.2.mem ((c.tc : Thread Cert.Reference14Ideal.nD Cert.Reference14Ideal.τ).loc Cert.Reference14Ideal.main_arg40) = m ((c.tc : Thread Cert.Reference14Ideal.nD Cert.Reference14Ideal.τ).loc Cert.Reference14Ideal.main_arg40)
      ∧ r.2.mem ((c.tc : Thread Cert.Reference14Ideal.nD Cert.Reference14Ideal.τ).loc Cert.Reference14Ideal.main_arg41) = m ((c.tc : Thread Cert.Reference14Ideal.nD Cert.Reference14Ideal.τ).loc Cert.Reference14Ideal.main_arg41)
      ∧ r.2.mem ((c.tc : Thread Cert.Reference14Ideal.nD Cert.Reference14Ideal.τ).loc Cert.Reference14Ideal.main_arg42) = m ((c.tc : Thread Cert.Reference14Ideal.nD Cert.Reference14Ideal.τ).loc Cert.Reference14Ideal.main_arg42)
      ∧ r.2.mem ((c.tc : Thread Cert.Reference14Ideal.nD Cert.Reference14Ideal.τ).loc Cert.Reference14Ideal.main_arg43) = m ((c.tc : Thread Cert.Reference14Ideal.nD Cert.Reference14Ideal.τ).loc Cert.Reference14Ideal.main_arg43)
      ∧ r.2.mem ((c.tc : Thread Cert.Reference14Ideal.nD Cert.Reference14Ideal.τ).loc Cert.Reference14Ideal.main_arg44) = m ((c.tc : Thread Cert.Reference14Ideal.nD Cert.Reference14Ideal.τ).loc Cert.Reference14Ideal.main_arg44)
      ∧ r.2.mem ((c.tc : Thread Cert.Reference14Ideal.nD Cert.Reference14Ideal.τ).loc Cert.Reference14Ideal.main_arg45) = m ((c.tc : Thread Cert.Reference14Ideal.nD Cert.Reference14Ideal.τ).loc Cert.Reference14Ideal.main_arg45)
      ∧ r.2.mem ((c.tc : Thread Cert.Reference14Ideal.nD Cert.Reference14Ideal.τ).loc Cert.Reference14Ideal.main_arg46) = m ((c.tc : Thread Cert.Reference14Ideal.nD Cert.Reference14Ideal.τ).loc Cert.Reference14Ideal.main_arg46)
      ∧ r.2.mem ((c.tc : Thread Cert.Reference14Ideal.nD Cert.Reference14Ideal.τ).loc Cert.Reference14Ideal.main_arg47) = m ((c.tc : Thread Cert.Reference14Ideal.nD Cert.Reference14Ideal.τ).loc Cert.Reference14Ideal.main_arg47)
      ∧ r.2.mem ((c.tc : Thread Cert.Reference14Ideal.nD Cert.Reference14Ideal.τ).loc Cert.Reference14Ideal.main_arg48) = m ((c.tc : Thread Cert.Reference14Ideal.nD Cert.Reference14Ideal.τ).loc Cert.Reference14Ideal.main_arg48)
      ∧ r.2.mem ((c.tc : Thread Cert.Reference14Ideal.nD Cert.Reference14Ideal.τ).loc Cert.Reference14Ideal.main_arg49) = m ((c.tc : Thread Cert.Reference14Ideal.nD Cert.Reference14Ideal.τ).loc Cert.Reference14Ideal.main_arg49)
      ∧ r.2.mem ((c.tc : Thread Cert.Reference14Ideal.nD Cert.Reference14Ideal.τ).loc Cert.Reference14Ideal.main_arg50) = m ((c.tc : Thread Cert.Reference14Ideal.nD Cert.Reference14Ideal.τ).loc Cert.Reference14Ideal.main_arg50)
      ∧ r.2.mem ((c.tc : Thread Cert.Reference14Ideal.nD Cert.Reference14Ideal.τ).loc Cert.Reference14Ideal.main_arg51) = m ((c.tc : Thread Cert.Reference14Ideal.nD Cert.Reference14Ideal.τ).loc Cert.Reference14Ideal.main_arg51)
      ∧ r.2.mem ((c.tc : Thread Cert.Reference14Ideal.nD Cert.Reference14Ideal.τ).loc Cert.Reference14Ideal.main_arg52) = m ((c.tc : Thread Cert.Reference14Ideal.nD Cert.Reference14Ideal.τ).loc Cert.Reference14Ideal.main_arg52)
      ∧ r.2.mem ((c.tc : Thread Cert.Reference14Ideal.nD Cert.Reference14Ideal.τ).loc Cert.Reference14Ideal.main_arg53) = m ((c.tc : Thread Cert.Reference14Ideal.nD Cert.Reference14Ideal.τ).loc Cert.Reference14Ideal.main_arg53)
      ∧ r.2.mem ((c.tc : Thread Cert.Reference14Ideal.nD Cert.Reference14Ideal.τ).loc Cert.Reference14Ideal.main_arg54) = m ((c.tc : Thread Cert.Reference14Ideal.nD Cert.Reference14Ideal.τ).loc Cert.Reference14Ideal.main_arg54)
      ∧ r.2.mem ((c.tc : Thread Cert.Reference14Ideal.nD Cert.Reference14Ideal.τ).loc Cert.Reference14Ideal.main_arg55) = m ((c.tc : Thread Cert.Reference14Ideal.nD Cert.Reference14Ideal.τ).loc Cert.Reference14Ideal.main_arg55)
      ∧ r.2.mem ((c.tc : Thread Cert.Reference14Ideal.nD Cert.Reference14Ideal.τ).loc Cert.Reference14Ideal.main_arg56) = m ((c.tc : Thread Cert.Reference14Ideal.nD Cert.Reference14Ideal.τ).loc Cert.Reference14Ideal.main_arg56)
      ∧ r.2.mem ((c.tc : Thread Cert.Reference14Ideal.nD Cert.Reference14Ideal.τ).loc Cert.Reference14Ideal.main_arg57) = m ((c.tc : Thread Cert.Reference14Ideal.nD Cert.Reference14Ideal.τ).loc Cert.Reference14Ideal.main_arg57)
      ∧ r.2.mem ((c.tc : Thread Cert.Reference14Ideal.nD Cert.Reference14Ideal.τ).loc Cert.Reference14Ideal.main_arg58) = m ((c.tc : Thread Cert.Reference14Ideal.nD Cert.Reference14Ideal.τ).loc Cert.Reference14Ideal.main_arg58)
      ∧ r.2.mem ((c.tc : Thread Cert.Reference14Ideal.nD Cert.Reference14Ideal.τ).loc Cert.Reference14Ideal.main_arg59) = m ((c.tc : Thread Cert.Reference14Ideal.nD Cert.Reference14Ideal.τ).loc Cert.Reference14Ideal.main_arg59)
      ∧ r.2.mem ((c.tc : Thread Cert.Reference14Ideal.nD Cert.Reference14Ideal.τ).loc Cert.Reference14Ideal.main_arg60) = m ((c.tc : Thread Cert.Reference14Ideal.nD Cert.Reference14Ideal.τ).loc Cert.Reference14Ideal.main_arg60)
      ∧ r.2.mem ((c.tc : Thread Cert.Reference14Ideal.nD Cert.Reference14Ideal.τ).loc Cert.Reference14Ideal.main_arg61) = m ((c.tc : Thread Cert.Reference14Ideal.nD Cert.Reference14Ideal.τ).loc Cert.Reference14Ideal.main_arg61)
      ∧ r.2.mem ((c.tc : Thread Cert.Reference14Ideal.nD Cert.Reference14Ideal.τ).loc Cert.Reference14Ideal.main_arg62) = m ((c.tc : Thread Cert.Reference14Ideal.nD Cert.Reference14Ideal.τ).loc Cert.Reference14Ideal.main_arg62)
      ∧ r.2.mem ((c.tc : Thread Cert.Reference14Ideal.nD Cert.Reference14Ideal.τ).loc Cert.Reference14Ideal.main_arg63) = m ((c.tc : Thread Cert.Reference14Ideal.nD Cert.Reference14Ideal.τ).loc Cert.Reference14Ideal.main_arg63))
      ∧ r.2.sem = fun _ => 0)

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_v58) = v1 c
          ∧ r.2.mem ((c.tc : Thread Cert.Reference2Ideal.nD Cert.Reference2Ideal.τ).loc Cert.Reference2Ideal.main_v42) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)) (v1 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_v2) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_v28) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)) (v1 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_v1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_v8) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)) →
    ∃ (v0 : (c : Dev Cert.Kernel8Ideal.nD) → Buf (Elt Ideal) ((c.tc : Thread Cert.Kernel8Ideal.nD Cert.Kernel8Ideal.τ).loc Cert.Kernel8Ideal.main_v4)) (v1 : (c : Dev Cert.Kernel8Ideal.nD) → Buf (Elt Ideal) ((c.tc : Thread Cert.Kernel8Ideal.nD Cert.Kernel8Ideal.τ).loc Cert.Kernel8Ideal.main_v6)) (v2 : (c : Dev Cert.Kernel8Ideal.nD) → Buf (Elt Ideal) ((c.tc : Thread Cert.Kernel8Ideal.nD Cert.Kernel8Ideal.τ).loc Cert.Kernel8Ideal.main_v7_0)) (v3 : (c : Dev Cert.Kernel8Ideal.nD) → Buf (Elt Ideal) ((c.tc : Thread Cert.Kernel8Ideal.nD Cert.Kernel8Ideal.τ).loc Cert.Kernel8Ideal.main_v7_1)) (v4 : (c : Dev Cert.Kernel8Ideal.nD) → Buf (Elt Ideal) ((c.tc : Thread Cert.Kernel8Ideal.nD Cert.Kernel8Ideal.τ).loc Cert.Kernel8Ideal.main_v7_2)) (v5 : (c : Dev Cert.Kernel8Ideal.nD) → Buf (Elt Ideal) ((c.tc : Thread Cert.Kernel8Ideal.nD Cert.Kernel8Ideal.τ).loc Cert.Kernel8Ideal.main_v8)) (v6 : (c : Dev Cert.Kernel8Ideal.nD) → Buf (Elt Ideal) ((c.tc : Thread Cert.Kernel8Ideal.nD Cert.Kernel8Ideal.τ).loc Cert.Kernel8Ideal.main_v9)) (v7 : (c : Dev Cert.Kernel8Ideal.nD) → Buf (Elt Ideal) ((c.tc : Thread Cert.Kernel8Ideal.nD Cert.Kernel8Ideal.τ).loc Cert.Kernel8Ideal.main_v10)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_v6) = v1 c
          ∧ r.2.mem ((c.tc : Thread Cert.Kernel8Ideal.nD Cert.Kernel8Ideal.τ).loc Cert.Kernel8Ideal.main_v7_0) = v2 c
          ∧ r.2.mem ((c.tc : Thread Cert.Kernel8Ideal.nD Cert.Kernel8Ideal.τ).loc Cert.Kernel8Ideal.main_v7_1) = v3 c
          ∧ r.2.mem ((c.tc : Thread Cert.Kernel8Ideal.nD Cert.Kernel8Ideal.τ).loc Cert.Kernel8Ideal.main_v7_2) = v4 c
          ∧ r.2.mem ((c.tc : Thread Cert.Kernel8Ideal.nD Cert.Kernel8Ideal.τ).loc Cert.Kernel8Ideal.main_v8) = v5 c
          ∧ r.2.mem ((c.tc : Thread Cert.Kernel8Ideal.nD Cert.Kernel8Ideal.τ).loc Cert.Kernel8Ideal.main_v9) = v6 c
          ∧ r.2.mem ((c.tc : Thread Cert.Kernel8Ideal.nD Cert.Kernel8Ideal.τ).loc Cert.Kernel8Ideal.main_v10) = v7 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v34) = v0 c
          ∧ r.2.mem ((c.tc : Thread Cert.Reference8Ideal.nD Cert.Reference8Ideal.τ).loc Cert.Reference8Ideal.main_v50) = v1 c
          ∧ r.2.mem ((c.tc : Thread Cert.Reference8Ideal.nD Cert.Reference8Ideal.τ).loc Cert.Reference8Ideal.main_v52) = v2 c
          ∧ r.2.mem ((c.tc : Thread Cert.Reference8Ideal.nD Cert.Reference8Ideal.τ).loc Cert.Reference8Ideal.main_v54) = v3 c
          ∧ r.2.mem ((c.tc : Thread Cert.Reference8Ideal.nD Cert.Reference8Ideal.τ).loc Cert.Reference8Ideal.main_v56) = v4 c
          ∧ r.2.mem ((c.tc : Thread Cert.Reference8Ideal.nD Cert.Reference8Ideal.τ).loc Cert.Reference8Ideal.main_v58) = v5 c
          ∧ r.2.mem ((c.tc : Thread Cert.Reference8Ideal.nD Cert.Reference8Ideal.τ).loc Cert.Reference8Ideal.main_v60) = v6 c
          ∧ r.2.mem ((c.tc : Thread Cert.Reference8Ideal.nD Cert.Reference8Ideal.τ).loc Cert.Reference8Ideal.main_v62) = v7 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)) →
    ∃ (v0 : (c : Dev Cert.Kernel10Ideal.nD) → Buf (Elt Ideal) ((c.tc : Thread Cert.Kernel10Ideal.nD Cert.Kernel10Ideal.τ).loc Cert.Kernel10Ideal.main_v0)) (v1 : (c : Dev Cert.Kernel10Ideal.nD) → Buf (Elt Ideal) ((c.tc : Thread Cert.Kernel10Ideal.nD Cert.Kernel10Ideal.τ).loc Cert.Kernel10Ideal.main_v1)) (v2 : (c : Dev Cert.Kernel10Ideal.nD) → Buf (Elt Ideal) ((c.tc : Thread Cert.Kernel10Ideal.nD Cert.Kernel10Ideal.τ).loc Cert.Kernel10Ideal.main_v2)) (v3 : (c : Dev Cert.Kernel10Ideal.nD) → Buf (Elt Ideal) ((c.tc : Thread Cert.Kernel10Ideal.nD Cert.Kernel10Ideal.τ).loc Cert.Kernel10Ideal.main_v4)) (v4 : (c : Dev Cert.Kernel10Ideal.nD) → Buf (Elt Ideal) ((c.tc : Thread Cert.Kernel10Ideal.nD Cert.Kernel10Ideal.τ).loc Cert.Kernel10Ideal.main_v6)) (v5 : (c : Dev Cert.Kernel10Ideal.nD) → Buf (Elt Ideal) ((c.tc : Thread Cert.Kernel10Ideal.nD Cert.Kernel10Ideal.τ).loc Cert.Kernel10Ideal.main_v5)) (v6 : (c : Dev Cert.Kernel10Ideal.nD) → Buf (Elt Ideal) ((c.tc : Thread Cert.Kernel10Ideal.nD Cert.Kernel10Ideal.τ).loc Cert.Kernel10Ideal.main_v7)) (v7 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_v1) = v1 c
          ∧ r.2.mem ((c.tc : Thread Cert.Kernel10Ideal.nD Cert.Kernel10Ideal.τ).loc Cert.Kernel10Ideal.main_v2) = v2 c
          ∧ r.2.mem ((c.tc : Thread Cert.Kernel10Ideal.nD Cert.Kernel10Ideal.τ).loc Cert.Kernel10Ideal.main_v4) = v3 c
          ∧ r.2.mem ((c.tc : Thread Cert.Kernel10Ideal.nD Cert.Kernel10Ideal.τ).loc Cert.Kernel10Ideal.main_v6) = v4 c
          ∧ r.2.mem ((c.tc : Thread Cert.Kernel10Ideal.nD Cert.Kernel10Ideal.τ).loc Cert.Kernel10Ideal.main_v5) = v5 c
          ∧ r.2.mem ((c.tc : Thread Cert.Kernel10Ideal.nD Cert.Kernel10Ideal.τ).loc Cert.Kernel10Ideal.main_v7) = v6 c
          ∧ r.2.mem ((c.tc : Thread Cert.Kernel10Ideal.nD Cert.Kernel10Ideal.τ).loc Cert.Kernel10Ideal.main_v3) = v7 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_v7) = v1 c
          ∧ r.2.mem ((c.tc : Thread Cert.Reference10Ideal.nD Cert.Reference10Ideal.τ).loc Cert.Reference10Ideal.main_v13) = v2 c
          ∧ r.2.mem ((c.tc : Thread Cert.Reference10Ideal.nD Cert.Reference10Ideal.τ).loc Cert.Reference10Ideal.main_v17) = v3 c
          ∧ r.2.mem ((c.tc : Thread Cert.Reference10Ideal.nD Cert.Reference10Ideal.τ).loc Cert.Reference10Ideal.main_v21) = v4 c
          ∧ r.2.mem ((c.tc : Thread Cert.Reference10Ideal.nD Cert.Reference10Ideal.τ).loc Cert.Reference10Ideal.main_v27) = v5 c
          ∧ r.2.mem ((c.tc : Thread Cert.Reference10Ideal.nD Cert.Reference10Ideal.τ).loc Cert.Reference10Ideal.main_v29) = v6 c
          ∧ r.2.mem ((c.tc : Thread Cert.Reference10Ideal.nD Cert.Reference10Ideal.τ).loc Cert.Reference10Ideal.main_v30) = v7 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v0)) (v1 : (c : Dev Cert.Kernel12Ideal.nD) → Buf (Elt Ideal) ((c.tc : Thread Cert.Kernel12Ideal.nD Cert.Kernel12Ideal.τ).loc Cert.Kernel12Ideal.main_v1)) (v2 : (c : Dev Cert.Kernel12Ideal.nD) → Buf (Elt Ideal) ((c.tc : Thread Cert.Kernel12Ideal.nD Cert.Kernel12Ideal.τ).loc Cert.Kernel12Ideal.main_v2)) (v3 : (c : Dev Cert.Kernel12Ideal.nD) → Buf (Elt Ideal) ((c.tc : Thread Cert.Kernel12Ideal.nD Cert.Kernel12Ideal.τ).loc Cert.Kernel12Ideal.main_v3)) (v4 : (c : Dev Cert.Kernel12Ideal.nD) → Buf (Elt Ideal) ((c.tc : Thread Cert.Kernel12Ideal.nD Cert.Kernel12Ideal.τ).loc Cert.Kernel12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_v1) = v1 c
          ∧ r.2.mem ((c.tc : Thread Cert.Kernel12Ideal.nD Cert.Kernel12Ideal.τ).loc Cert.Kernel12Ideal.main_v2) = v2 c
          ∧ r.2.mem ((c.tc : Thread Cert.Kernel12Ideal.nD Cert.Kernel12Ideal.τ).loc Cert.Kernel12Ideal.main_v3) = v3 c
          ∧ r.2.mem ((c.tc : Thread Cert.Kernel12Ideal.nD Cert.Kernel12Ideal.τ).loc Cert.Kernel12Ideal.main_v4) = v4 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_v8) = v1 c
          ∧ r.2.mem ((c.tc : Thread Cert.Reference12Ideal.nD Cert.Reference12Ideal.τ).loc Cert.Reference12Ideal.main_v12) = v2 c
          ∧ r.2.mem ((c.tc : Thread Cert.Reference12Ideal.nD Cert.Reference12Ideal.τ).loc Cert.Reference12Ideal.main_v19) = v3 c
          ∧ r.2.mem ((c.tc : Thread Cert.Reference12Ideal.nD Cert.Reference12Ideal.τ).loc Cert.Reference12Ideal.main_v20) = v4 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)
      ∧ m' ((c.tc : Thread Cert.Reference14Ideal.nD Cert.Reference14Ideal.τ).loc Cert.Reference14Ideal.main_arg9) = m ((c.tc : Thread Cert.Kernel14Ideal.nD Cert.Kernel14Ideal.τ).loc Cert.Kernel14Ideal.main_arg9)
      ∧ m' ((c.tc : Thread Cert.Reference14Ideal.nD Cert.Reference14Ideal.τ).loc Cert.Reference14Ideal.main_arg10) = m ((c.tc : Thread Cert.Kernel14Ideal.nD Cert.Kernel14Ideal.τ).loc Cert.Kernel14Ideal.main_arg10)
      ∧ m' ((c.tc : Thread Cert.Reference14Ideal.nD Cert.Reference14Ideal.τ).loc Cert.Reference14Ideal.main_arg11) = m ((c.tc : Thread Cert.Kernel14Ideal.nD Cert.Kernel14Ideal.τ).loc Cert.Kernel14Ideal.main_arg11)
      ∧ m' ((c.tc : Thread Cert.Reference14Ideal.nD Cert.Reference14Ideal.τ).loc Cert.Reference14Ideal.main_arg12) = m ((c.tc : Thread Cert.Kernel14Ideal.nD Cert.Kernel14Ideal.τ).loc Cert.Kernel14Ideal.main_arg12)
      ∧ m' ((c.tc : Thread Cert.Reference14Ideal.nD Cert.Reference14Ideal.τ).loc Cert.Reference14Ideal.main_arg13) = m ((c.tc : Thread Cert.Kernel14Ideal.nD Cert.Kernel14Ideal.τ).loc Cert.Kernel14Ideal.main_arg13)
      ∧ m' ((c.tc : Thread Cert.Reference14Ideal.nD Cert.Reference14Ideal.τ).loc Cert.Reference14Ideal.main_arg14) = m ((c.tc : Thread Cert.Kernel14Ideal.nD Cert.Kernel14Ideal.τ).loc Cert.Kernel14Ideal.main_arg14)
      ∧ m' ((c.tc : Thread Cert.Reference14Ideal.nD Cert.Reference14Ideal.τ).loc Cert.Reference14Ideal.main_arg15) = m ((c.tc : Thread Cert.Kernel14Ideal.nD Cert.Kernel14Ideal.τ).loc Cert.Kernel14Ideal.main_arg15)
      ∧ m' ((c.tc : Thread Cert.Reference14Ideal.nD Cert.Reference14Ideal.τ).loc Cert.Reference14Ideal.main_arg16) = m ((c.tc : Thread Cert.Kernel14Ideal.nD Cert.Kernel14Ideal.τ).loc Cert.Kernel14Ideal.main_arg16)
      ∧ m' ((c.tc : Thread Cert.Reference14Ideal.nD Cert.Reference14Ideal.τ).loc Cert.Reference14Ideal.main_arg17) = m ((c.tc : Thread Cert.Kernel14Ideal.nD Cert.Kernel14Ideal.τ).loc Cert.Kernel14Ideal.main_arg17)
      ∧ m' ((c.tc : Thread Cert.Reference14Ideal.nD Cert.Reference14Ideal.τ).loc Cert.Reference14Ideal.main_arg18) = m ((c.tc : Thread Cert.Kernel14Ideal.nD Cert.Kernel14Ideal.τ).loc Cert.Kernel14Ideal.main_arg18)
      ∧ m' ((c.tc : Thread Cert.Reference14Ideal.nD Cert.Reference14Ideal.τ).loc Cert.Reference14Ideal.main_arg19) = m ((c.tc : Thread Cert.Kernel14Ideal.nD Cert.Kernel14Ideal.τ).loc Cert.Kernel14Ideal.main_arg19)
      ∧ m' ((c.tc : Thread Cert.Reference14Ideal.nD Cert.Reference14Ideal.τ).loc Cert.Reference14Ideal.main_arg20) = m ((c.tc : Thread Cert.Kernel14Ideal.nD Cert.Kernel14Ideal.τ).loc Cert.Kernel14Ideal.main_arg20)
      ∧ m' ((c.tc : Thread Cert.Reference14Ideal.nD Cert.Reference14Ideal.τ).loc Cert.Reference14Ideal.main_arg21) = m ((c.tc : Thread Cert.Kernel14Ideal.nD Cert.Kernel14Ideal.τ).loc Cert.Kernel14Ideal.main_arg21)
      ∧ m' ((c.tc : Thread Cert.Reference14Ideal.nD Cert.Reference14Ideal.τ).loc Cert.Reference14Ideal.main_arg22) = m ((c.tc : Thread Cert.Kernel14Ideal.nD Cert.Kernel14Ideal.τ).loc Cert.Kernel14Ideal.main_arg22)
      ∧ m' ((c.tc : Thread Cert.Reference14Ideal.nD Cert.Reference14Ideal.τ).loc Cert.Reference14Ideal.main_arg23) = m ((c.tc : Thread Cert.Kernel14Ideal.nD Cert.Kernel14Ideal.τ).loc Cert.Kernel14Ideal.main_arg23)
      ∧ m' ((c.tc : Thread Cert.Reference14Ideal.nD Cert.Reference14Ideal.τ).loc Cert.Reference14Ideal.main_arg24) = m ((c.tc : Thread Cert.Kernel14Ideal.nD Cert.Kernel14Ideal.τ).loc Cert.Kernel14Ideal.main_arg24)
      ∧ m' ((c.tc : Thread Cert.Reference14Ideal.nD Cert.Reference14Ideal.τ).loc Cert.Reference14Ideal.main_arg25) = m ((c.tc : Thread Cert.Kernel14Ideal.nD Cert.Kernel14Ideal.τ).loc Cert.Kernel14Ideal.main_arg25)
      ∧ m' ((c.tc : Thread Cert.Reference14Ideal.nD Cert.Reference14Ideal.τ).loc Cert.Reference14Ideal.main_arg26) = m ((c.tc : Thread Cert.Kernel14Ideal.nD Cert.Kernel14Ideal.τ).loc Cert.Kernel14Ideal.main_arg26)
      ∧ m' ((c.tc : Thread Cert.Reference14Ideal.nD Cert.Reference14Ideal.τ).loc Cert.Reference14Ideal.main_arg27) = m ((c.tc : Thread Cert.Kernel14Ideal.nD Cert.Kernel14Ideal.τ).loc Cert.Kernel14Ideal.main_arg27)
      ∧ m' ((c.tc : Thread Cert.Reference14Ideal.nD Cert.Reference14Ideal.τ).loc Cert.Reference14Ideal.main_arg28) = m ((c.tc : Thread Cert.Kernel14Ideal.nD Cert.Kernel14Ideal.τ).loc Cert.Kernel14Ideal.main_arg28)
      ∧ m' ((c.tc : Thread Cert.Reference14Ideal.nD Cert.Reference14Ideal.τ).loc Cert.Reference14Ideal.main_arg29) = m ((c.tc : Thread Cert.Kernel14Ideal.nD Cert.Kernel14Ideal.τ).loc Cert.Kernel14Ideal.main_arg29)
      ∧ m' ((c.tc : Thread Cert.Reference14Ideal.nD Cert.Reference14Ideal.τ).loc Cert.Reference14Ideal.main_arg30) = m ((c.tc : Thread Cert.Kernel14Ideal.nD Cert.Kernel14Ideal.τ).loc Cert.Kernel14Ideal.main_arg30)
      ∧ m' ((c.tc : Thread Cert.Reference14Ideal.nD Cert.Reference14Ideal.τ).loc Cert.Reference14Ideal.main_arg31) = m ((c.tc : Thread Cert.Kernel14Ideal.nD Cert.Kernel14Ideal.τ).loc Cert.Kernel14Ideal.main_arg31)
      ∧ m' ((c.tc : Thread Cert.Reference14Ideal.nD Cert.Reference14Ideal.τ).loc Cert.Reference14Ideal.main_arg32) = m ((c.tc : Thread Cert.Kernel14Ideal.nD Cert.Kernel14Ideal.τ).loc Cert.Kernel14Ideal.main_arg32)
      ∧ m' ((c.tc : Thread Cert.Reference14Ideal.nD Cert.Reference14Ideal.τ).loc Cert.Reference14Ideal.main_arg33) = m ((c.tc : Thread Cert.Kernel14Ideal.nD Cert.Kernel14Ideal.τ).loc Cert.Kernel14Ideal.main_arg33)
      ∧ m' ((c.tc : Thread Cert.Reference14Ideal.nD Cert.Reference14Ideal.τ).loc Cert.Reference14Ideal.main_arg34) = m ((c.tc : Thread Cert.Kernel14Ideal.nD Cert.Kernel14Ideal.τ).loc Cert.Kernel14Ideal.main_arg34)
      ∧ m' ((c.tc : Thread Cert.Reference14Ideal.nD Cert.Reference14Ideal.τ).loc Cert.Reference14Ideal.main_arg35) = m ((c.tc : Thread Cert.Kernel14Ideal.nD Cert.Kernel14Ideal.τ).loc Cert.Kernel14Ideal.main_arg35)
      ∧ m' ((c.tc : Thread Cert.Reference14Ideal.nD Cert.Reference14Ideal.τ).loc Cert.Reference14Ideal.main_arg36) = m ((c.tc : Thread Cert.Kernel14Ideal.nD Cert.Kernel14Ideal.τ).loc Cert.Kernel14Ideal.main_arg36)
      ∧ m' ((c.tc : Thread Cert.Reference14Ideal.nD Cert.Reference14Ideal.τ).loc Cert.Reference14Ideal.main_arg37) = m ((c.tc : Thread Cert.Kernel14Ideal.nD Cert.Kernel14Ideal.τ).loc Cert.Kernel14Ideal.main_arg37)
      ∧ m' ((c.tc : Thread Cert.Reference14Ideal.nD Cert.Reference14Ideal.τ).loc Cert.Reference14Ideal.main_arg38) = m ((c.tc : Thread Cert.Kernel14Ideal.nD Cert.Kernel14Ideal.τ).loc Cert.Kernel14Ideal.main_arg38)
      ∧ m' ((c.tc : Thread Cert.Reference14Ideal.nD Cert.Reference14Ideal.τ).loc Cert.Reference14Ideal.main_arg39) = m ((c.tc : Thread Cert.Kernel14Ideal.nD Cert.Kernel14Ideal.τ).loc Cert.Kernel14Ideal.main_arg39)
      ∧ m' ((c.tc : Thread Cert.Reference14Ideal.nD Cert.Reference14Ideal.τ).loc Cert.Reference14Ideal.main_arg40) = m ((c.tc : Thread Cert.Kernel14Ideal.nD Cert.Kernel14Ideal.τ).loc Cert.Kernel14Ideal.main_arg40)
      ∧ m' ((c.tc : Thread Cert.Reference14Ideal.nD Cert.Reference14Ideal.τ).loc Cert.Reference14Ideal.main_arg41) = m ((c.tc : Thread Cert.Kernel14Ideal.nD Cert.Kernel14Ideal.τ).loc Cert.Kernel14Ideal.main_arg41)
      ∧ m' ((c.tc : Thread Cert.Reference14Ideal.nD Cert.Reference14Ideal.τ).loc Cert.Reference14Ideal.main_arg42) = m ((c.tc : Thread Cert.Kernel14Ideal.nD Cert.Kernel14Ideal.τ).loc Cert.Kernel14Ideal.main_arg42)
      ∧ m' ((c.tc : Thread Cert.Reference14Ideal.nD Cert.Reference14Ideal.τ).loc Cert.Reference14Ideal.main_arg43) = m ((c.tc : Thread Cert.Kernel14Ideal.nD Cert.Kernel14Ideal.τ).loc Cert.Kernel14Ideal.main_arg43)
      ∧ m' ((c.tc : Thread Cert.Reference14Ideal.nD Cert.Reference14Ideal.τ).loc Cert.Reference14Ideal.main_arg44) = m ((c.tc : Thread Cert.Kernel14Ideal.nD Cert.Kernel14Ideal.τ).loc Cert.Kernel14Ideal.main_arg44)
      ∧ m' ((c.tc : Thread Cert.Reference14Ideal.nD Cert.Reference14Ideal.τ).loc Cert.Reference14Ideal.main_arg45) = m ((c.tc : Thread Cert.Kernel14Ideal.nD Cert.Kernel14Ideal.τ).loc Cert.Kernel14Ideal.main_arg45)
      ∧ m' ((c.tc : Thread Cert.Reference14Ideal.nD Cert.Reference14Ideal.τ).loc Cert.Reference14Ideal.main_arg46) = m ((c.tc : Thread Cert.Kernel14Ideal.nD Cert.Kernel14Ideal.τ).loc Cert.Kernel14Ideal.main_arg46)
      ∧ m' ((c.tc : Thread Cert.Reference14Ideal.nD Cert.Reference14Ideal.τ).loc Cert.Reference14Ideal.main_arg47) = m ((c.tc : Thread Cert.Kernel14Ideal.nD Cert.Kernel14Ideal.τ).loc Cert.Kernel14Ideal.main_arg47)
      ∧ m' ((c.tc : Thread Cert.Reference14Ideal.nD Cert.Reference14Ideal.τ).loc Cert.Reference14Ideal.main_arg48) = m ((c.tc : Thread Cert.Kernel14Ideal.nD Cert.Kernel14Ideal.τ).loc Cert.Kernel14Ideal.main_arg48)
      ∧ m' ((c.tc : Thread Cert.Reference14Ideal.nD Cert.Reference14Ideal.τ).loc Cert.Reference14Ideal.main_arg49) = m ((c.tc : Thread Cert.Kernel14Ideal.nD Cert.Kernel14Ideal.τ).loc Cert.Kernel14Ideal.main_arg49)
      ∧ m' ((c.tc : Thread Cert.Reference14Ideal.nD Cert.Reference14Ideal.τ).loc Cert.Reference14Ideal.main_arg50) = m ((c.tc : Thread Cert.Kernel14Ideal.nD Cert.Kernel14Ideal.τ).loc Cert.Kernel14Ideal.main_arg50)
      ∧ m' ((c.tc : Thread Cert.Reference14Ideal.nD Cert.Reference14Ideal.τ).loc Cert.Reference14Ideal.main_arg51) = m ((c.tc : Thread Cert.Kernel14Ideal.nD Cert.Kernel14Ideal.τ).loc Cert.Kernel14Ideal.main_arg51)
      ∧ m' ((c.tc : Thread Cert.Reference14Ideal.nD Cert.Reference14Ideal.τ).loc Cert.Reference14Ideal.main_arg52) = m ((c.tc : Thread Cert.Kernel14Ideal.nD Cert.Kernel14Ideal.τ).loc Cert.Kernel14Ideal.main_arg52)
      ∧ m' ((c.tc : Thread Cert.Reference14Ideal.nD Cert.Reference14Ideal.τ).loc Cert.Reference14Ideal.main_arg53) = m ((c.tc : Thread Cert.Kernel14Ideal.nD Cert.Kernel14Ideal.τ).loc Cert.Kernel14Ideal.main_arg53)
      ∧ m' ((c.tc : Thread Cert.Reference14Ideal.nD Cert.Reference14Ideal.τ).loc Cert.Reference14Ideal.main_arg54) = m ((c.tc : Thread Cert.Kernel14Ideal.nD Cert.Kernel14Ideal.τ).loc Cert.Kernel14Ideal.main_arg54)
      ∧ m' ((c.tc : Thread Cert.Reference14Ideal.nD Cert.Reference14Ideal.τ).loc Cert.Reference14Ideal.main_arg55) = m ((c.tc : Thread Cert.Kernel14Ideal.nD Cert.Kernel14Ideal.τ).loc Cert.Kernel14Ideal.main_arg55)
      ∧ m' ((c.tc : Thread Cert.Reference14Ideal.nD Cert.Reference14Ideal.τ).loc Cert.Reference14Ideal.main_arg56) = m ((c.tc : Thread Cert.Kernel14Ideal.nD Cert.Kernel14Ideal.τ).loc Cert.Kernel14Ideal.main_arg56)
      ∧ m' ((c.tc : Thread Cert.Reference14Ideal.nD Cert.Reference14Ideal.τ).loc Cert.Reference14Ideal.main_arg57) = m ((c.tc : Thread Cert.Kernel14Ideal.nD Cert.Kernel14Ideal.τ).loc Cert.Kernel14Ideal.main_arg57)
      ∧ m' ((c.tc : Thread Cert.Reference14Ideal.nD Cert.Reference14Ideal.τ).loc Cert.Reference14Ideal.main_arg58) = m ((c.tc : Thread Cert.Kernel14Ideal.nD Cert.Kernel14Ideal.τ).loc Cert.Kernel14Ideal.main_arg58)
      ∧ m' ((c.tc : Thread Cert.Reference14Ideal.nD Cert.Reference14Ideal.τ).loc Cert.Reference14Ideal.main_arg59) = m ((c.tc : Thread Cert.Kernel14Ideal.nD Cert.Kernel14Ideal.τ).loc Cert.Kernel14Ideal.main_arg59)
      ∧ m' ((c.tc : Thread Cert.Reference14Ideal.nD Cert.Reference14Ideal.τ).loc Cert.Reference14Ideal.main_arg60) = m ((c.tc : Thread Cert.Kernel14Ideal.nD Cert.Kernel14Ideal.τ).loc Cert.Kernel14Ideal.main_arg60)
      ∧ m' ((c.tc : Thread Cert.Reference14Ideal.nD Cert.Reference14Ideal.τ).loc Cert.Reference14Ideal.main_arg61) = m ((c.tc : Thread Cert.Kernel14Ideal.nD Cert.Kernel14Ideal.τ).loc Cert.Kernel14Ideal.main_arg61)
      ∧ m' ((c.tc : Thread Cert.Reference14Ideal.nD Cert.Reference14Ideal.τ).loc Cert.Reference14Ideal.main_arg62) = m ((c.tc : Thread Cert.Kernel14Ideal.nD Cert.Kernel14Ideal.τ).loc Cert.Kernel14Ideal.main_arg62)
      ∧ m' ((c.tc : Thread Cert.Reference14Ideal.nD Cert.Reference14Ideal.τ).loc Cert.Reference14Ideal.main_arg63) = m ((c.tc : Thread Cert.Kernel14Ideal.nD Cert.Kernel14Ideal.τ).loc Cert.Kernel14Ideal.main_arg63)) →
    ∃ (v0 : (c : Dev Cert.Kernel14Ideal.nD) → Buf (Elt Ideal) ((c.tc : Thread Cert.Kernel14Ideal.nD Cert.Kernel14Ideal.τ).loc Cert.Kernel14Ideal.main_v28)) (v1 : (c : Dev Cert.Kernel14Ideal.nD) → Buf (Elt Ideal) ((c.tc : Thread Cert.Kernel14Ideal.nD Cert.Kernel14Ideal.τ).loc Cert.Kernel14Ideal.main_v29)) (v2 : (c : Dev Cert.Kernel14Ideal.nD) → Buf (Elt Ideal) ((c.tc : Thread Cert.Kernel14Ideal.nD Cert.Kernel14Ideal.τ).loc Cert.Kernel14Ideal.main_v30)) (v3 : (c : Dev Cert.Kernel14Ideal.nD) → Buf (Elt Ideal) ((c.tc : Thread Cert.Kernel14Ideal.nD Cert.Kernel14Ideal.τ).loc Cert.Kernel14Ideal.main_v31)) (v4 : (c : Dev Cert.Kernel14Ideal.nD) → Buf (Elt Ideal) ((c.tc : Thread Cert.Kernel14Ideal.nD Cert.Kernel14Ideal.τ).loc Cert.Kernel14Ideal.main_v32)) (v5 : (c : Dev Cert.Kernel14Ideal.nD) → Buf (Elt Ideal) ((c.tc : Thread Cert.Kernel14Ideal.nD Cert.Kernel14Ideal.τ).loc Cert.Kernel14Ideal.main_v33)) (v6 : (c : Dev Cert.Kernel14Ideal.nD) → Buf (Elt Ideal) ((c.tc : Thread Cert.Kernel14Ideal.nD Cert.Kernel14Ideal.τ).loc Cert.Kernel14Ideal.main_v34)) (v7 : (c : Dev Cert.Kernel14Ideal.nD) → Buf (Elt Ideal) ((c.tc : Thread Cert.Kernel14Ideal.nD Cert.Kernel14Ideal.τ).loc Cert.Kernel14Ideal.main_v35)) (v8 : (c : Dev Cert.Kernel14Ideal.nD) → Buf (Elt Ideal) ((c.tc : Thread Cert.Kernel14Ideal.nD Cert.Kernel14Ideal.τ).loc Cert.Kernel14Ideal.main_v37)) (v9 : (c : Dev Cert.Kernel14Ideal.nD) → Buf (Elt Ideal) ((c.tc : Thread Cert.Kernel14Ideal.nD Cert.Kernel14Ideal.τ).loc Cert.Kernel14Ideal.main_v38)) (v10 : (c : Dev Cert.Kernel14Ideal.nD) → Buf (Elt Ideal) ((c.tc : Thread Cert.Kernel14Ideal.nD Cert.Kernel14Ideal.τ).loc Cert.Kernel14Ideal.main_v39)) (v11 : (c : Dev Cert.Kernel14Ideal.nD) → Buf (Elt Ideal) ((c.tc : Thread Cert.Kernel14Ideal.nD Cert.Kernel14Ideal.τ).loc Cert.Kernel14Ideal.main_v40)) (v12 : (c : Dev Cert.Kernel14Ideal.nD) → Buf (Elt Ideal) ((c.tc : Thread Cert.Kernel14Ideal.nD Cert.Kernel14Ideal.τ).loc Cert.Kernel14Ideal.main_v41)) (v13 : (c : Dev Cert.Kernel14Ideal.nD) → Buf (Elt Ideal) ((c.tc : Thread Cert.Kernel14Ideal.nD Cert.Kernel14Ideal.τ).loc Cert.Kernel14Ideal.main_v42)) (v14 : (c : Dev Cert.Kernel14Ideal.nD) → Buf (Elt Ideal) ((c.tc : Thread Cert.Kernel14Ideal.nD Cert.Kernel14Ideal.τ).loc Cert.Kernel14Ideal.main_v43)) (v15 : (c : Dev Cert.Kernel14Ideal.nD) → Buf (Elt Ideal) ((c.tc : Thread Cert.Kernel14Ideal.nD Cert.Kernel14Ideal.τ).loc Cert.Kernel14Ideal.main_v44)) (v16 : (c : Dev Cert.Kernel14Ideal.nD) → Buf (Elt Ideal) ((c.tc : Thread Cert.Kernel14Ideal.nD Cert.Kernel14Ideal.τ).loc Cert.Kernel14Ideal.main_v52)) (v17 : (c : Dev Cert.Kernel14Ideal.nD) → Buf (Elt Ideal) ((c.tc : Thread Cert.Kernel14Ideal.nD Cert.Kernel14Ideal.τ).loc Cert.Kernel14Ideal.main_v53)) (v18 : (c : Dev Cert.Kernel14Ideal.nD) → Buf (Elt Ideal) ((c.tc : Thread Cert.Kernel14Ideal.nD Cert.Kernel14Ideal.τ).loc Cert.Kernel14Ideal.main_v54)) (v19 : (c : Dev Cert.Kernel14Ideal.nD) → Buf (Elt Ideal) ((c.tc : Thread Cert.Kernel14Ideal.nD Cert.Kernel14Ideal.τ).loc Cert.Kernel14Ideal.main_v55)) (v20 : (c : Dev Cert.Kernel14Ideal.nD) → Buf (Elt Ideal) ((c.tc : Thread Cert.Kernel14Ideal.nD Cert.Kernel14Ideal.τ).loc Cert.Kernel14Ideal.main_v56)) (v21 : (c : Dev Cert.Kernel14Ideal.nD) → Buf (Elt Ideal) ((c.tc : Thread Cert.Kernel14Ideal.nD Cert.Kernel14Ideal.τ).loc Cert.Kernel14Ideal.main_v57)) (v22 : (c : Dev Cert.Kernel14Ideal.nD) → Buf (Elt Ideal) ((c.tc : Thread Cert.Kernel14Ideal.nD Cert.Kernel14Ideal.τ).loc Cert.Kernel14Ideal.main_v58)) (v23 : (c : Dev Cert.Kernel14Ideal.nD) → Buf (Elt Ideal) ((c.tc : Thread Cert.Kernel14Ideal.nD Cert.Kernel14Ideal.τ).loc Cert.Kernel14Ideal.main_v59)) (v24 : (c : Dev Cert.Kernel14Ideal.nD) → Buf (Elt Ideal) ((c.tc : Thread Cert.Kernel14Ideal.nD Cert.Kernel14Ideal.τ).loc Cert.Kernel14Ideal.main_v61)) (v25 : (c : Dev Cert.Kernel14Ideal.nD) → Buf (Elt Ideal) ((c.tc : Thread Cert.Kernel14Ideal.nD Cert.Kernel14Ideal.τ).loc Cert.Kernel14Ideal.main_v62)) (v26 : (c : Dev Cert.Kernel14Ideal.nD) → Buf (Elt Ideal) ((c.tc : Thread Cert.Kernel14Ideal.nD Cert.Kernel14Ideal.τ).loc Cert.Kernel14Ideal.main_v63)) (v27 : (c : Dev Cert.Kernel14Ideal.nD) → Buf (Elt Ideal) ((c.tc : Thread Cert.Kernel14Ideal.nD Cert.Kernel14Ideal.τ).loc Cert.Kernel14Ideal.main_v64)) (v28 : (c : Dev Cert.Kernel14Ideal.nD) → Buf (Elt Ideal) ((c.tc : Thread Cert.Kernel14Ideal.nD Cert.Kernel14Ideal.τ).loc Cert.Kernel14Ideal.main_v65)) (v29 : (c : Dev Cert.Kernel14Ideal.nD) → Buf (Elt Ideal) ((c.tc : Thread Cert.Kernel14Ideal.nD Cert.Kernel14Ideal.τ).loc Cert.Kernel14Ideal.main_v66)) (v30 : (c : Dev Cert.Kernel14Ideal.nD) → Buf (Elt Ideal) ((c.tc : Thread Cert.Kernel14Ideal.nD Cert.Kernel14Ideal.τ).loc Cert.Kernel14Ideal.main_v67)) (v31 : (c : Dev Cert.Kernel14Ideal.nD) → Buf (Elt Ideal) ((c.tc : Thread Cert.Kernel14Ideal.nD Cert.Kernel14Ideal.τ).loc Cert.Kernel14Ideal.main_v68)) (v32 : (c : Dev Cert.Kernel14Ideal.nD) → Buf (Elt Ideal) ((c.tc : Thread Cert.Kernel14Ideal.nD Cert.Kernel14Ideal.τ).loc Cert.Kernel14Ideal.main_v76)) (v33 : (c : Dev Cert.Kernel14Ideal.nD) → Buf (Elt Ideal) ((c.tc : Thread Cert.Kernel14Ideal.nD Cert.Kernel14Ideal.τ).loc Cert.Kernel14Ideal.main_v77)) (v34 : (c : Dev Cert.Kernel14Ideal.nD) → Buf (Elt Ideal) ((c.tc : Thread Cert.Kernel14Ideal.nD Cert.Kernel14Ideal.τ).loc Cert.Kernel14Ideal.main_v78)) (v35 : (c : Dev Cert.Kernel14Ideal.nD) → Buf (Elt Ideal) ((c.tc : Thread Cert.Kernel14Ideal.nD Cert.Kernel14Ideal.τ).loc Cert.Kernel14Ideal.main_v79)) (v36 : (c : Dev Cert.Kernel14Ideal.nD) → Buf (Elt Ideal) ((c.tc : Thread Cert.Kernel14Ideal.nD Cert.Kernel14Ideal.τ).loc Cert.Kernel14Ideal.main_v80)) (v37 : (c : Dev Cert.Kernel14Ideal.nD) → Buf (Elt Ideal) ((c.tc : Thread Cert.Kernel14Ideal.nD Cert.Kernel14Ideal.τ).loc Cert.Kernel14Ideal.main_v81)) (v38 : (c : Dev Cert.Kernel14Ideal.nD) → Buf (Elt Ideal) ((c.tc : Thread Cert.Kernel14Ideal.nD Cert.Kernel14Ideal.τ).loc Cert.Kernel14Ideal.main_v82)) (v39 : (c : Dev Cert.Kernel14Ideal.nD) → Buf (Elt Ideal) ((c.tc : Thread Cert.Kernel14Ideal.nD Cert.Kernel14Ideal.τ).loc Cert.Kernel14Ideal.main_v83)) (v40 : (c : Dev Cert.Kernel14Ideal.nD) → Buf (Elt Ideal) ((c.tc : Thread Cert.Kernel14Ideal.nD Cert.Kernel14Ideal.τ).loc Cert.Kernel14Ideal.main_v85)) (v41 : (c : Dev Cert.Kernel14Ideal.nD) → Buf (Elt Ideal) ((c.tc : Thread Cert.Kernel14Ideal.nD Cert.Kernel14Ideal.τ).loc Cert.Kernel14Ideal.main_v86)) (v42 : (c : Dev Cert.Kernel14Ideal.nD) → Buf (Elt Ideal) ((c.tc : Thread Cert.Kernel14Ideal.nD Cert.Kernel14Ideal.τ).loc Cert.Kernel14Ideal.main_v87)) (v43 : (c : Dev Cert.Kernel14Ideal.nD) → Buf (Elt Ideal) ((c.tc : Thread Cert.Kernel14Ideal.nD Cert.Kernel14Ideal.τ).loc Cert.Kernel14Ideal.main_v88)) (v44 : (c : Dev Cert.Kernel14Ideal.nD) → Buf (Elt Ideal) ((c.tc : Thread Cert.Kernel14Ideal.nD Cert.Kernel14Ideal.τ).loc Cert.Kernel14Ideal.main_v89)) (v45 : (c : Dev Cert.Kernel14Ideal.nD) → Buf (Elt Ideal) ((c.tc : Thread Cert.Kernel14Ideal.nD Cert.Kernel14Ideal.τ).loc Cert.Kernel14Ideal.main_v90)) (v46 : (c : Dev Cert.Kernel14Ideal.nD) → Buf (Elt Ideal) ((c.tc : Thread Cert.Kernel14Ideal.nD Cert.Kernel14Ideal.τ).loc Cert.Kernel14Ideal.main_v91)) (v47 : (c : Dev Cert.Kernel14Ideal.nD) → Buf (Elt Ideal) ((c.tc : Thread Cert.Kernel14Ideal.nD Cert.Kernel14Ideal.τ).loc Cert.Kernel14Ideal.main_v92)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v28) = v0 c
          ∧ r.2.mem ((c.tc : Thread Cert.Kernel14Ideal.nD Cert.Kernel14Ideal.τ).loc Cert.Kernel14Ideal.main_v29) = v1 c
          ∧ r.2.mem ((c.tc : Thread Cert.Kernel14Ideal.nD Cert.Kernel14Ideal.τ).loc Cert.Kernel14Ideal.main_v30) = v2 c
          ∧ r.2.mem ((c.tc : Thread Cert.Kernel14Ideal.nD Cert.Kernel14Ideal.τ).loc Cert.Kernel14Ideal.main_v31) = v3 c
          ∧ r.2.mem ((c.tc : Thread Cert.Kernel14Ideal.nD Cert.Kernel14Ideal.τ).loc Cert.Kernel14Ideal.main_v32) = v4 c
          ∧ r.2.mem ((c.tc : Thread Cert.Kernel14Ideal.nD Cert.Kernel14Ideal.τ).loc Cert.Kernel14Ideal.main_v33) = v5 c
          ∧ r.2.mem ((c.tc : Thread Cert.Kernel14Ideal.nD Cert.Kernel14Ideal.τ).loc Cert.Kernel14Ideal.main_v34) = v6 c
          ∧ r.2.mem ((c.tc : Thread Cert.Kernel14Ideal.nD Cert.Kernel14Ideal.τ).loc Cert.Kernel14Ideal.main_v35) = v7 c
          ∧ r.2.mem ((c.tc : Thread Cert.Kernel14Ideal.nD Cert.Kernel14Ideal.τ).loc Cert.Kernel14Ideal.main_v37) = v8 c
          ∧ r.2.mem ((c.tc : Thread Cert.Kernel14Ideal.nD Cert.Kernel14Ideal.τ).loc Cert.Kernel14Ideal.main_v38) = v9 c
          ∧ r.2.mem ((c.tc : Thread Cert.Kernel14Ideal.nD Cert.Kernel14Ideal.τ).loc Cert.Kernel14Ideal.main_v39) = v10 c
          ∧ r.2.mem ((c.tc : Thread Cert.Kernel14Ideal.nD Cert.Kernel14Ideal.τ).loc Cert.Kernel14Ideal.main_v40) = v11 c
          ∧ r.2.mem ((c.tc : Thread Cert.Kernel14Ideal.nD Cert.Kernel14Ideal.τ).loc Cert.Kernel14Ideal.main_v41) = v12 c
          ∧ r.2.mem ((c.tc : Thread Cert.Kernel14Ideal.nD Cert.Kernel14Ideal.τ).loc Cert.Kernel14Ideal.main_v42) = v13 c
          ∧ r.2.mem ((c.tc : Thread Cert.Kernel14Ideal.nD Cert.Kernel14Ideal.τ).loc Cert.Kernel14Ideal.main_v43) = v14 c
          ∧ r.2.mem ((c.tc : Thread Cert.Kernel14Ideal.nD Cert.Kernel14Ideal.τ).loc Cert.Kernel14Ideal.main_v44) = v15 c
          ∧ r.2.mem ((c.tc : Thread Cert.Kernel14Ideal.nD Cert.Kernel14Ideal.τ).loc Cert.Kernel14Ideal.main_v52) = v16 c
          ∧ r.2.mem ((c.tc : Thread Cert.Kernel14Ideal.nD Cert.Kernel14Ideal.τ).loc Cert.Kernel14Ideal.main_v53) = v17 c
          ∧ r.2.mem ((c.tc : Thread Cert.Kernel14Ideal.nD Cert.Kernel14Ideal.τ).loc Cert.Kernel14Ideal.main_v54) = v18 c
          ∧ r.2.mem ((c.tc : Thread Cert.Kernel14Ideal.nD Cert.Kernel14Ideal.τ).loc Cert.Kernel14Ideal.main_v55) = v19 c
          ∧ r.2.mem ((c.tc : Thread Cert.Kernel14Ideal.nD Cert.Kernel14Ideal.τ).loc Cert.Kernel14Ideal.main_v56) = v20 c
          ∧ r.2.mem ((c.tc : Thread Cert.Kernel14Ideal.nD Cert.Kernel14Ideal.τ).loc Cert.Kernel14Ideal.main_v57) = v21 c
          ∧ r.2.mem ((c.tc : Thread Cert.Kernel14Ideal.nD Cert.Kernel14Ideal.τ).loc Cert.Kernel14Ideal.main_v58) = v22 c
          ∧ r.2.mem ((c.tc : Thread Cert.Kernel14Ideal.nD Cert.Kernel14Ideal.τ).loc Cert.Kernel14Ideal.main_v59) = v23 c
          ∧ r.2.mem ((c.tc : Thread Cert.Kernel14Ideal.nD Cert.Kernel14Ideal.τ).loc Cert.Kernel14Ideal.main_v61) = v24 c
          ∧ r.2.mem ((c.tc : Thread Cert.Kernel14Ideal.nD Cert.Kernel14Ideal.τ).loc Cert.Kernel14Ideal.main_v62) = v25 c
          ∧ r.2.mem ((c.tc : Thread Cert.Kernel14Ideal.nD Cert.Kernel14Ideal.τ).loc Cert.Kernel14Ideal.main_v63) = v26 c
          ∧ r.2.mem ((c.tc : Thread Cert.Kernel14Ideal.nD Cert.Kernel14Ideal.τ).loc Cert.Kernel14Ideal.main_v64) = v27 c
          ∧ r.2.mem ((c.tc : Thread Cert.Kernel14Ideal.nD Cert.Kernel14Ideal.τ).loc Cert.Kernel14Ideal.main_v65) = v28 c
          ∧ r.2.mem ((c.tc : Thread Cert.Kernel14Ideal.nD Cert.Kernel14Ideal.τ).loc Cert.Kernel14Ideal.main_v66) = v29 c
          ∧ r.2.mem ((c.tc : Thread Cert.Kernel14Ideal.nD Cert.Kernel14Ideal.τ).loc Cert.Kernel14Ideal.main_v67) = v30 c
          ∧ r.2.mem ((c.tc : Thread Cert.Kernel14Ideal.nD Cert.Kernel14Ideal.τ).loc Cert.Kernel14Ideal.main_v68) = v31 c
          ∧ r.2.mem ((c.tc : Thread Cert.Kernel14Ideal.nD Cert.Kernel14Ideal.τ).loc Cert.Kernel14Ideal.main_v76) = v32 c
          ∧ r.2.mem ((c.tc : Thread Cert.Kernel14Ideal.nD Cert.Kernel14Ideal.τ).loc Cert.Kernel14Ideal.main_v77) = v33 c
          ∧ r.2.mem ((c.tc : Thread Cert.Kernel14Ideal.nD Cert.Kernel14Ideal.τ).loc Cert.Kernel14Ideal.main_v78) = v34 c
          ∧ r.2.mem ((c.tc : Thread Cert.Kernel14Ideal.nD Cert.Kernel14Ideal.τ).loc Cert.Kernel14Ideal.main_v79) = v35 c
          ∧ r.2.mem ((c.tc : Thread Cert.Kernel14Ideal.nD Cert.Kernel14Ideal.τ).loc Cert.Kernel14Ideal.main_v80) = v36 c
          ∧ r.2.mem ((c.tc : Thread Cert.Kernel14Ideal.nD Cert.Kernel14Ideal.τ).loc Cert.Kernel14Ideal.main_v81) = v37 c
          ∧ r.2.mem ((c.tc : Thread Cert.Kernel14Ideal.nD Cert.Kernel14Ideal.τ).loc Cert.Kernel14Ideal.main_v82) = v38 c
          ∧ r.2.mem ((c.tc : Thread Cert.Kernel14Ideal.nD Cert.Kernel14Ideal.τ).loc Cert.Kernel14Ideal.main_v83) = v39 c
          ∧ r.2.mem ((c.tc : Thread Cert.Kernel14Ideal.nD Cert.Kernel14Ideal.τ).loc Cert.Kernel14Ideal.main_v85) = v40 c
          ∧ r.2.mem ((c.tc : Thread Cert.Kernel14Ideal.nD Cert.Kernel14Ideal.τ).loc Cert.Kernel14Ideal.main_v86) = v41 c
          ∧ r.2.mem ((c.tc : Thread Cert.Kernel14Ideal.nD Cert.Kernel14Ideal.τ).loc Cert.Kernel14Ideal.main_v87) = v42 c
          ∧ r.2.mem ((c.tc : Thread Cert.Kernel14Ideal.nD Cert.Kernel14Ideal.τ).loc Cert.Kernel14Ideal.main_v88) = v43 c
          ∧ r.2.mem ((c.tc : Thread Cert.Kernel14Ideal.nD Cert.Kernel14Ideal.τ).loc Cert.Kernel14Ideal.main_v89) = v44 c
          ∧ r.2.mem ((c.tc : Thread Cert.Kernel14Ideal.nD Cert.Kernel14Ideal.τ).loc Cert.Kernel14Ideal.main_v90) = v45 c
          ∧ r.2.mem ((c.tc : Thread Cert.Kernel14Ideal.nD Cert.Kernel14Ideal.τ).loc Cert.Kernel14Ideal.main_v91) = v46 c
          ∧ r.2.mem ((c.tc : Thread Cert.Kernel14Ideal.nD Cert.Kernel14Ideal.τ).loc Cert.Kernel14Ideal.main_v92) = v47 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
          ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
          ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10)
          ∧ r.2.mem ((c.tc : Thread Cert.Kernel14Ideal.nD Cert.Kernel14Ideal.τ).loc Cert.Kernel14Ideal.main_arg11) = m ((c.tc : Thread Cert.Kernel14Ideal.nD Cert.Kernel14Ideal.τ).loc Cert.Kernel14Ideal.main_arg11)
          ∧ r.2.mem ((c.tc : Thread Cert.Kernel14Ideal.nD Cert.Kernel14Ideal.τ).loc Cert.Kernel14Ideal.main_arg12) = m ((c.tc : Thread Cert.Kernel14Ideal.nD Cert.Kernel14Ideal.τ).loc Cert.Kernel14Ideal.main_arg12)
          ∧ r.2.mem ((c.tc : Thread Cert.Kernel14Ideal.nD Cert.Kernel14Ideal.τ).loc Cert.Kernel14Ideal.main_arg13) = m ((c.tc : Thread Cert.Kernel14Ideal.nD Cert.Kernel14Ideal.τ).loc Cert.Kernel14Ideal.main_arg13)
          ∧ r.2.mem ((c.tc : Thread Cert.Kernel14Ideal.nD Cert.Kernel14Ideal.τ).loc Cert.Kernel14Ideal.main_arg14) = m ((c.tc : Thread Cert.Kernel14Ideal.nD Cert.Kernel14Ideal.τ).loc Cert.Kernel14Ideal.main_arg14)
          ∧ r.2.mem ((c.tc : Thread Cert.Kernel14Ideal.nD Cert.Kernel14Ideal.τ).loc Cert.Kernel14Ideal.main_arg15) = m ((c.tc : Thread Cert.Kernel14Ideal.nD Cert.Kernel14Ideal.τ).loc Cert.Kernel14Ideal.main_arg15)
          ∧ r.2.mem ((c.tc : Thread Cert.Kernel14Ideal.nD Cert.Kernel14Ideal.τ).loc Cert.Kernel14Ideal.main_arg16) = m ((c.tc : Thread Cert.Kernel14Ideal.nD Cert.Kernel14Ideal.τ).loc Cert.Kernel14Ideal.main_arg16)
          ∧ r.2.mem ((c.tc : Thread Cert.Kernel14Ideal.nD Cert.Kernel14Ideal.τ).loc Cert.Kernel14Ideal.main_arg17) = m ((c.tc : Thread Cert.Kernel14Ideal.nD Cert.Kernel14Ideal.τ).loc Cert.Kernel14Ideal.main_arg17)
          ∧ r.2.mem ((c.tc : Thread Cert.Kernel14Ideal.nD Cert.Kernel14Ideal.τ).loc Cert.Kernel14Ideal.main_arg18) = m ((c.tc : Thread Cert.Kernel14Ideal.nD Cert.Kernel14Ideal.τ).loc Cert.Kernel14Ideal.main_arg18)
          ∧ r.2.mem ((c.tc : Thread Cert.Kernel14Ideal.nD Cert.Kernel14Ideal.τ).loc Cert.Kernel14Ideal.main_arg19) = m ((c.tc : Thread Cert.Kernel14Ideal.nD Cert.Kernel14Ideal.τ).loc Cert.Kernel14Ideal.main_arg19)
          ∧ r.2.mem ((c.tc : Thread Cert.Kernel14Ideal.nD Cert.Kernel14Ideal.τ).loc Cert.Kernel14Ideal.main_arg20) = m ((c.tc : Thread Cert.Kernel14Ideal.nD Cert.Kernel14Ideal.τ).loc Cert.Kernel14Ideal.main_arg20)
          ∧ r.2.mem ((c.tc : Thread Cert.Kernel14Ideal.nD Cert.Kernel14Ideal.τ).loc Cert.Kernel14Ideal.main_arg21) = m ((c.tc : Thread Cert.Kernel14Ideal.nD Cert.Kernel14Ideal.τ).loc Cert.Kernel14Ideal.main_arg21)
          ∧ r.2.mem ((c.tc : Thread Cert.Kernel14Ideal.nD Cert.Kernel14Ideal.τ).loc Cert.Kernel14Ideal.main_arg22) = m ((c.tc : Thread Cert.Kernel14Ideal.nD Cert.Kernel14Ideal.τ).loc Cert.Kernel14Ideal.main_arg22)
          ∧ r.2.mem ((c.tc : Thread Cert.Kernel14Ideal.nD Cert.Kernel14Ideal.τ).loc Cert.Kernel14Ideal.main_arg23) = m ((c.tc : Thread Cert.Kernel14Ideal.nD Cert.Kernel14Ideal.τ).loc Cert.Kernel14Ideal.main_arg23)
          ∧ r.2.mem ((c.tc : Thread Cert.Kernel14Ideal.nD Cert.Kernel14Ideal.τ).loc Cert.Kernel14Ideal.main_arg24) = m ((c.tc : Thread Cert.Kernel14Ideal.nD Cert.Kernel14Ideal.τ).loc Cert.Kernel14Ideal.main_arg24)
          ∧ r.2.mem ((c.tc : Thread Cert.Kernel14Ideal.nD Cert.Kernel14Ideal.τ).loc Cert.Kernel14Ideal.main_arg25) = m ((c.tc : Thread Cert.Kernel14Ideal.nD Cert.Kernel14Ideal.τ).loc Cert.Kernel14Ideal.main_arg25)
          ∧ r.2.mem ((c.tc : Thread Cert.Kernel14Ideal.nD Cert.Kernel14Ideal.τ).loc Cert.Kernel14Ideal.main_arg26) = m ((c.tc : Thread Cert.Kernel14Ideal.nD Cert.Kernel14Ideal.τ).loc Cert.Kernel14Ideal.main_arg26)
          ∧ r.2.mem ((c.tc : Thread Cert.Kernel14Ideal.nD Cert.Kernel14Ideal.τ).loc Cert.Kernel14Ideal.main_arg27) = m ((c.tc : Thread Cert.Kernel14Ideal.nD Cert.Kernel14Ideal.τ).loc Cert.Kernel14Ideal.main_arg27)
          ∧ r.2.mem ((c.tc : Thread Cert.Kernel14Ideal.nD Cert.Kernel14Ideal.τ).loc Cert.Kernel14Ideal.main_arg28) = m ((c.tc : Thread Cert.Kernel14Ideal.nD Cert.Kernel14Ideal.τ).loc Cert.Kernel14Ideal.main_arg28)
          ∧ r.2.mem ((c.tc : Thread Cert.Kernel14Ideal.nD Cert.Kernel14Ideal.τ).loc Cert.Kernel14Ideal.main_arg29) = m ((c.tc : Thread Cert.Kernel14Ideal.nD Cert.Kernel14Ideal.τ).loc Cert.Kernel14Ideal.main_arg29)
          ∧ r.2.mem ((c.tc : Thread Cert.Kernel14Ideal.nD Cert.Kernel14Ideal.τ).loc Cert.Kernel14Ideal.main_arg30) = m ((c.tc : Thread Cert.Kernel14Ideal.nD Cert.Kernel14Ideal.τ).loc Cert.Kernel14Ideal.main_arg30)
          ∧ r.2.mem ((c.tc : Thread Cert.Kernel14Ideal.nD Cert.Kernel14Ideal.τ).loc Cert.Kernel14Ideal.main_arg31) = m ((c.tc : Thread Cert.Kernel14Ideal.nD Cert.Kernel14Ideal.τ).loc Cert.Kernel14Ideal.main_arg31)
          ∧ r.2.mem ((c.tc : Thread Cert.Kernel14Ideal.nD Cert.Kernel14Ideal.τ).loc Cert.Kernel14Ideal.main_arg32) = m ((c.tc : Thread Cert.Kernel14Ideal.nD Cert.Kernel14Ideal.τ).loc Cert.Kernel14Ideal.main_arg32)
          ∧ r.2.mem ((c.tc : Thread Cert.Kernel14Ideal.nD Cert.Kernel14Ideal.τ).loc Cert.Kernel14Ideal.main_arg33) = m ((c.tc : Thread Cert.Kernel14Ideal.nD Cert.Kernel14Ideal.τ).loc Cert.Kernel14Ideal.main_arg33)
          ∧ r.2.mem ((c.tc : Thread Cert.Kernel14Ideal.nD Cert.Kernel14Ideal.τ).loc Cert.Kernel14Ideal.main_arg34) = m ((c.tc : Thread Cert.Kernel14Ideal.nD Cert.Kernel14Ideal.τ).loc Cert.Kernel14Ideal.main_arg34)
          ∧ r.2.mem ((c.tc : Thread Cert.Kernel14Ideal.nD Cert.Kernel14Ideal.τ).loc Cert.Kernel14Ideal.main_arg35) = m ((c.tc : Thread Cert.Kernel14Ideal.nD Cert.Kernel14Ideal.τ).loc Cert.Kernel14Ideal.main_arg35)
          ∧ r.2.mem ((c.tc : Thread Cert.Kernel14Ideal.nD Cert.Kernel14Ideal.τ).loc Cert.Kernel14Ideal.main_arg36) = m ((c.tc : Thread Cert.Kernel14Ideal.nD Cert.Kernel14Ideal.τ).loc Cert.Kernel14Ideal.main_arg36)
          ∧ r.2.mem ((c.tc : Thread Cert.Kernel14Ideal.nD Cert.Kernel14Ideal.τ).loc Cert.Kernel14Ideal.main_arg37) = m ((c.tc : Thread Cert.Kernel14Ideal.nD Cert.Kernel14Ideal.τ).loc Cert.Kernel14Ideal.main_arg37)
          ∧ r.2.mem ((c.tc : Thread Cert.Kernel14Ideal.nD Cert.Kernel14Ideal.τ).loc Cert.Kernel14Ideal.main_arg38) = m ((c.tc : Thread Cert.Kernel14Ideal.nD Cert.Kernel14Ideal.τ).loc Cert.Kernel14Ideal.main_arg38)
          ∧ r.2.mem ((c.tc : Thread Cert.Kernel14Ideal.nD Cert.Kernel14Ideal.τ).loc Cert.Kernel14Ideal.main_arg39) = m ((c.tc : Thread Cert.Kernel14Ideal.nD Cert.Kernel14Ideal.τ).loc Cert.Kernel14Ideal.main_arg39)
          ∧ r.2.mem ((c.tc : Thread Cert.Kernel14Ideal.nD Cert.Kernel14Ideal.τ).loc Cert.Kernel14Ideal.main_arg40) = m ((c.tc : Thread Cert.Kernel14Ideal.nD Cert.Kernel14Ideal.τ).loc Cert.Kernel14Ideal.main_arg40)
          ∧ r.2.mem ((c.tc : Thread Cert.Kernel14Ideal.nD Cert.Kernel14Ideal.τ).loc Cert.Kernel14Ideal.main_arg41) = m ((c.tc : Thread Cert.Kernel14Ideal.nD Cert.Kernel14Ideal.τ).loc Cert.Kernel14Ideal.main_arg41)
          ∧ r.2.mem ((c.tc : Thread Cert.Kernel14Ideal.nD Cert.Kernel14Ideal.τ).loc Cert.Kernel14Ideal.main_arg42) = m ((c.tc : Thread Cert.Kernel14Ideal.nD Cert.Kernel14Ideal.τ).loc Cert.Kernel14Ideal.main_arg42)
          ∧ r.2.mem ((c.tc : Thread Cert.Kernel14Ideal.nD Cert.Kernel14Ideal.τ).loc Cert.Kernel14Ideal.main_arg43) = m ((c.tc : Thread Cert.Kernel14Ideal.nD Cert.Kernel14Ideal.τ).loc Cert.Kernel14Ideal.main_arg43)
          ∧ r.2.mem ((c.tc : Thread Cert.Kernel14Ideal.nD Cert.Kernel14Ideal.τ).loc Cert.Kernel14Ideal.main_arg44) = m ((c.tc : Thread Cert.Kernel14Ideal.nD Cert.Kernel14Ideal.τ).loc Cert.Kernel14Ideal.main_arg44)
          ∧ r.2.mem ((c.tc : Thread Cert.Kernel14Ideal.nD Cert.Kernel14Ideal.τ).loc Cert.Kernel14Ideal.main_arg45) = m ((c.tc : Thread Cert.Kernel14Ideal.nD Cert.Kernel14Ideal.τ).loc Cert.Kernel14Ideal.main_arg45)
          ∧ r.2.mem ((c.tc : Thread Cert.Kernel14Ideal.nD Cert.Kernel14Ideal.τ).loc Cert.Kernel14Ideal.main_arg46) = m ((c.tc : Thread Cert.Kernel14Ideal.nD Cert.Kernel14Ideal.τ).loc Cert.Kernel14Ideal.main_arg46)
          ∧ r.2.mem ((c.tc : Thread Cert.Kernel14Ideal.nD Cert.Kernel14Ideal.τ).loc Cert.Kernel14Ideal.main_arg47) = m ((c.tc : Thread Cert.Kernel14Ideal.nD Cert.Kernel14Ideal.τ).loc Cert.Kernel14Ideal.main_arg47)
          ∧ r.2.mem ((c.tc : Thread Cert.Kernel14Ideal.nD Cert.Kernel14Ideal.τ).loc Cert.Kernel14Ideal.main_arg48) = m ((c.tc : Thread Cert.Kernel14Ideal.nD Cert.Kernel14Ideal.τ).loc Cert.Kernel14Ideal.main_arg48)
          ∧ r.2.mem ((c.tc : Thread Cert.Kernel14Ideal.nD Cert.Kernel14Ideal.τ).loc Cert.Kernel14Ideal.main_arg49) = m ((c.tc : Thread Cert.Kernel14Ideal.nD Cert.Kernel14Ideal.τ).loc Cert.Kernel14Ideal.main_arg49)
          ∧ r.2.mem ((c.tc : Thread Cert.Kernel14Ideal.nD Cert.Kernel14Ideal.τ).loc Cert.Kernel14Ideal.main_arg50) = m ((c.tc : Thread Cert.Kernel14Ideal.nD Cert.Kernel14Ideal.τ).loc Cert.Kernel14Ideal.main_arg50)
          ∧ r.2.mem ((c.tc : Thread Cert.Kernel14Ideal.nD Cert.Kernel14Ideal.τ).loc Cert.Kernel14Ideal.main_arg51) = m ((c.tc : Thread Cert.Kernel14Ideal.nD Cert.Kernel14Ideal.τ).loc Cert.Kernel14Ideal.main_arg51)
          ∧ r.2.mem ((c.tc : Thread Cert.Kernel14Ideal.nD Cert.Kernel14Ideal.τ).loc Cert.Kernel14Ideal.main_arg52) = m ((c.tc : Thread Cert.Kernel14Ideal.nD Cert.Kernel14Ideal.τ).loc Cert.Kernel14Ideal.main_arg52)
          ∧ r.2.mem ((c.tc : Thread Cert.Kernel14Ideal.nD Cert.Kernel14Ideal.τ).loc Cert.Kernel14Ideal.main_arg53) = m ((c.tc : Thread Cert.Kernel14Ideal.nD Cert.Kernel14Ideal.τ).loc Cert.Kernel14Ideal.main_arg53)
          ∧ r.2.mem ((c.tc : Thread Cert.Kernel14Ideal.nD Cert.Kernel14Ideal.τ).loc Cert.Kernel14Ideal.main_arg54) = m ((c.tc : Thread Cert.Kernel14Ideal.nD Cert.Kernel14Ideal.τ).loc Cert.Kernel14Ideal.main_arg54)
          ∧ r.2.mem ((c.tc : Thread Cert.Kernel14Ideal.nD Cert.Kernel14Ideal.τ).loc Cert.Kernel14Ideal.main_arg55) = m ((c.tc : Thread Cert.Kernel14Ideal.nD Cert.Kernel14Ideal.τ).loc Cert.Kernel14Ideal.main_arg55)
          ∧ r.2.mem ((c.tc : Thread Cert.Kernel14Ideal.nD Cert.Kernel14Ideal.τ).loc Cert.Kernel14Ideal.main_arg56) = m ((c.tc : Thread Cert.Kernel14Ideal.nD Cert.Kernel14Ideal.τ).loc Cert.Kernel14Ideal.main_arg56)
          ∧ r.2.mem ((c.tc : Thread Cert.Kernel14Ideal.nD Cert.Kernel14Ideal.τ).loc Cert.Kernel14Ideal.main_arg57) = m ((c.tc : Thread Cert.Kernel14Ideal.nD Cert.Kernel14Ideal.τ).loc Cert.Kernel14Ideal.main_arg57)
          ∧ r.2.mem ((c.tc : Thread Cert.Kernel14Ideal.nD Cert.Kernel14Ideal.τ).loc Cert.Kernel14Ideal.main_arg58) = m ((c.tc : Thread Cert.Kernel14Ideal.nD Cert.Kernel14Ideal.τ).loc Cert.Kernel14Ideal.main_arg58)
          ∧ r.2.mem ((c.tc : Thread Cert.Kernel14Ideal.nD Cert.Kernel14Ideal.τ).loc Cert.Kernel14Ideal.main_arg59) = m ((c.tc : Thread Cert.Kernel14Ideal.nD Cert.Kernel14Ideal.τ).loc Cert.Kernel14Ideal.main_arg59)
          ∧ r.2.mem ((c.tc : Thread Cert.Kernel14Ideal.nD Cert.Kernel14Ideal.τ).loc Cert.Kernel14Ideal.main_arg60) = m ((c.tc : Thread Cert.Kernel14Ideal.nD Cert.Kernel14Ideal.τ).loc Cert.Kernel14Ideal.main_arg60)
          ∧ r.2.mem ((c.tc : Thread Cert.Kernel14Ideal.nD Cert.Kernel14Ideal.τ).loc Cert.Kernel14Ideal.main_arg61) = m ((c.tc : Thread Cert.Kernel14Ideal.nD Cert.Kernel14Ideal.τ).loc Cert.Kernel14Ideal.main_arg61)
          ∧ r.2.mem ((c.tc : Thread Cert.Kernel14Ideal.nD Cert.Kernel14Ideal.τ).loc Cert.Kernel14Ideal.main_arg62) = m ((c.tc : Thread Cert.Kernel14Ideal.nD Cert.Kernel14Ideal.τ).loc Cert.Kernel14Ideal.main_arg62)
          ∧ r.2.mem ((c.tc : Thread Cert.Kernel14Ideal.nD Cert.Kernel14Ideal.τ).loc Cert.Kernel14Ideal.main_arg63) = m ((c.tc : Thread Cert.Kernel14Ideal.nD Cert.Kernel14Ideal.τ).loc Cert.Kernel14Ideal.main_arg63))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v47) = v1 c
          ∧ r.2.mem ((c.tc : Thread Cert.Reference14Ideal.nD Cert.Reference14Ideal.τ).loc Cert.Reference14Ideal.main_v71) = v2 c
          ∧ r.2.mem ((c.tc : Thread Cert.Reference14Ideal.nD Cert.Reference14Ideal.τ).loc Cert.Reference14Ideal.main_v95) = v3 c
          ∧ r.2.mem ((c.tc : Thread Cert.Reference14Ideal.nD Cert.Reference14Ideal.τ).loc Cert.Reference14Ideal.main_v119) = v4 c
          ∧ r.2.mem ((c.tc : Thread Cert.Reference14Ideal.nD Cert.Reference14Ideal.τ).loc Cert.Reference14Ideal.main_v143) = v5 c
          ∧ r.2.mem ((c.tc : Thread Cert.Reference14Ideal.nD Cert.Reference14Ideal.τ).loc Cert.Reference14Ideal.main_v167) = v6 c
          ∧ r.2.mem ((c.tc : Thread Cert.Reference14Ideal.nD Cert.Reference14Ideal.τ).loc Cert.Reference14Ideal.main_v191) = v7 c
          ∧ r.2.mem ((c.tc : Thread Cert.Reference14Ideal.nD Cert.Reference14Ideal.τ).loc Cert.Reference14Ideal.main_v215) = v8 c
          ∧ r.2.mem ((c.tc : Thread Cert.Reference14Ideal.nD Cert.Reference14Ideal.τ).loc Cert.Reference14Ideal.main_v239) = v9 c
          ∧ r.2.mem ((c.tc : Thread Cert.Reference14Ideal.nD Cert.Reference14Ideal.τ).loc Cert.Reference14Ideal.main_v263) = v10 c
          ∧ r.2.mem ((c.tc : Thread Cert.Reference14Ideal.nD Cert.Reference14Ideal.τ).loc Cert.Reference14Ideal.main_v287) = v11 c
          ∧ r.2.mem ((c.tc : Thread Cert.Reference14Ideal.nD Cert.Reference14Ideal.τ).loc Cert.Reference14Ideal.main_v311) = v12 c
          ∧ r.2.mem ((c.tc : Thread Cert.Reference14Ideal.nD Cert.Reference14Ideal.τ).loc Cert.Reference14Ideal.main_v335) = v13 c
          ∧ r.2.mem ((c.tc : Thread Cert.Reference14Ideal.nD Cert.Reference14Ideal.τ).loc Cert.Reference14Ideal.main_v359) = v14 c
          ∧ r.2.mem ((c.tc : Thread Cert.Reference14Ideal.nD Cert.Reference14Ideal.τ).loc Cert.Reference14Ideal.main_v383) = v15 c
          ∧ r.2.mem ((c.tc : Thread Cert.Reference14Ideal.nD Cert.Reference14Ideal.τ).loc Cert.Reference14Ideal.main_v4) = v16 c
          ∧ r.2.mem ((c.tc : Thread Cert.Reference14Ideal.nD Cert.Reference14Ideal.τ).loc Cert.Reference14Ideal.main_v28) = v17 c
          ∧ r.2.mem ((c.tc : Thread Cert.Reference14Ideal.nD Cert.Reference14Ideal.τ).loc Cert.Reference14Ideal.main_v52) = v18 c
          ∧ r.2.mem ((c.tc : Thread Cert.Reference14Ideal.nD Cert.Reference14Ideal.τ).loc Cert.Reference14Ideal.main_v76) = v19 c
          ∧ r.2.mem ((c.tc : Thread Cert.Reference14Ideal.nD Cert.Reference14Ideal.τ).loc Cert.Reference14Ideal.main_v100) = v20 c
          ∧ r.2.mem ((c.tc : Thread Cert.Reference14Ideal.nD Cert.Reference14Ideal.τ).loc Cert.Reference14Ideal.main_v124) = v21 c
          ∧ r.2.mem ((c.tc : Thread Cert.Reference14Ideal.nD Cert.Reference14Ideal.τ).loc Cert.Reference14Ideal.main_v148) = v22 c
          ∧ r.2.mem ((c.tc : Thread Cert.Reference14Ideal.nD Cert.Reference14Ideal.τ).loc Cert.Reference14Ideal.main_v172) = v23 c
          ∧ r.2.mem ((c.tc : Thread Cert.Reference14Ideal.nD Cert.Reference14Ideal.τ).loc Cert.Reference14Ideal.main_v196) = v24 c
          ∧ r.2.mem ((c.tc : Thread Cert.Reference14Ideal.nD Cert.Reference14Ideal.τ).loc Cert.Reference14Ideal.main_v220) = v25 c
          ∧ r.2.mem ((c.tc : Thread Cert.Reference14Ideal.nD Cert.Reference14Ideal.τ).loc Cert.Reference14Ideal.main_v244) = v26 c
          ∧ r.2.mem ((c.tc : Thread Cert.Reference14Ideal.nD Cert.Reference14Ideal.τ).loc Cert.Reference14Ideal.main_v268) = v27 c
          ∧ r.2.mem ((c.tc : Thread Cert.Reference14Ideal.nD Cert.Reference14Ideal.τ).loc Cert.Reference14Ideal.main_v292) = v28 c
          ∧ r.2.mem ((c.tc : Thread Cert.Reference14Ideal.nD Cert.Reference14Ideal.τ).loc Cert.Reference14Ideal.main_v316) = v29 c
          ∧ r.2.mem ((c.tc : Thread Cert.Reference14Ideal.nD Cert.Reference14Ideal.τ).loc Cert.Reference14Ideal.main_v340) = v30 c
          ∧ r.2.mem ((c.tc : Thread Cert.Reference14Ideal.nD Cert.Reference14Ideal.τ).loc Cert.Reference14Ideal.main_v364) = v31 c
          ∧ r.2.mem ((c.tc : Thread Cert.Reference14Ideal.nD Cert.Reference14Ideal.τ).loc Cert.Reference14Ideal.main_v10) = v32 c
          ∧ r.2.mem ((c.tc : Thread Cert.Reference14Ideal.nD Cert.Reference14Ideal.τ).loc Cert.Reference14Ideal.main_v34) = v33 c
          ∧ r.2.mem ((c.tc : Thread Cert.Reference14Ideal.nD Cert.Reference14Ideal.τ).loc Cert.Reference14Ideal.main_v58) = v34 c
          ∧ r.2.mem ((c.tc : Thread Cert.Reference14Ideal.nD Cert.Reference14Ideal.τ).loc Cert.Reference14Ideal.main_v82) = v35 c
          ∧ r.2.mem ((c.tc : Thread Cert.Reference14Ideal.nD Cert.Reference14Ideal.τ).loc Cert.Reference14Ideal.main_v106) = v36 c
          ∧ r.2.mem ((c.tc : Thread Cert.Reference14Ideal.nD Cert.Reference14Ideal.τ).loc Cert.Reference14Ideal.main_v130) = v37 c
          ∧ r.2.mem ((c.tc : Thread Cert.Reference14Ideal.nD Cert.Reference14Ideal.τ).loc Cert.Reference14Ideal.main_v154) = v38 c
          ∧ r.2.mem ((c.tc : Thread Cert.Reference14Ideal.nD Cert.Reference14Ideal.τ).loc Cert.Reference14Ideal.main_v178) = v39 c
          ∧ r.2.mem ((c.tc : Thread Cert.Reference14Ideal.nD Cert.Reference14Ideal.τ).loc Cert.Reference14Ideal.main_v202) = v40 c
          ∧ r.2.mem ((c.tc : Thread Cert.Reference14Ideal.nD Cert.Reference14Ideal.τ).loc Cert.Reference14Ideal.main_v226) = v41 c
          ∧ r.2.mem ((c.tc : Thread Cert.Reference14Ideal.nD Cert.Reference14Ideal.τ).loc Cert.Reference14Ideal.main_v250) = v42 c
          ∧ r.2.mem ((c.tc : Thread Cert.Reference14Ideal.nD Cert.Reference14Ideal.τ).loc Cert.Reference14Ideal.main_v274) = v43 c
          ∧ r.2.mem ((c.tc : Thread Cert.Reference14Ideal.nD Cert.Reference14Ideal.τ).loc Cert.Reference14Ideal.main_v298) = v44 c
          ∧ r.2.mem ((c.tc : Thread Cert.Reference14Ideal.nD Cert.Reference14Ideal.τ).loc Cert.Reference14Ideal.main_v322) = v45 c
          ∧ r.2.mem ((c.tc : Thread Cert.Reference14Ideal.nD Cert.Reference14Ideal.τ).loc Cert.Reference14Ideal.main_v346) = v46 c
          ∧ r.2.mem ((c.tc : Thread Cert.Reference14Ideal.nD Cert.Reference14Ideal.τ).loc Cert.Reference14Ideal.main_v370) = v47 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8)
          ∧ r.2.mem ((c.tc : Thread Cert.Reference14Ideal.nD Cert.Reference14Ideal.τ).loc Cert.Reference14Ideal.main_arg9) = m' ((c.tc : Thread Cert.Reference14Ideal.nD Cert.Reference14Ideal.τ).loc Cert.Reference14Ideal.main_arg9)
          ∧ r.2.mem ((c.tc : Thread Cert.Reference14Ideal.nD Cert.Reference14Ideal.τ).loc Cert.Reference14Ideal.main_arg10) = m' ((c.tc : Thread Cert.Reference14Ideal.nD Cert.Reference14Ideal.τ).loc Cert.Reference14Ideal.main_arg10)
          ∧ r.2.mem ((c.tc : Thread Cert.Reference14Ideal.nD Cert.Reference14Ideal.τ).loc Cert.Reference14Ideal.main_arg11) = m' ((c.tc : Thread Cert.Reference14Ideal.nD Cert.Reference14Ideal.τ).loc Cert.Reference14Ideal.main_arg11)
          ∧ r.2.mem ((c.tc : Thread Cert.Reference14Ideal.nD Cert.Reference14Ideal.τ).loc Cert.Reference14Ideal.main_arg12) = m' ((c.tc : Thread Cert.Reference14Ideal.nD Cert.Reference14Ideal.τ).loc Cert.Reference14Ideal.main_arg12)
          ∧ r.2.mem ((c.tc : Thread Cert.Reference14Ideal.nD Cert.Reference14Ideal.τ).loc Cert.Reference14Ideal.main_arg13) = m' ((c.tc : Thread Cert.Reference14Ideal.nD Cert.Reference14Ideal.τ).loc Cert.Reference14Ideal.main_arg13)
          ∧ r.2.mem ((c.tc : Thread Cert.Reference14Ideal.nD Cert.Reference14Ideal.τ).loc Cert.Reference14Ideal.main_arg14) = m' ((c.tc : Thread Cert.Reference14Ideal.nD Cert.Reference14Ideal.τ).loc Cert.Reference14Ideal.main_arg14)
          ∧ r.2.mem ((c.tc : Thread Cert.Reference14Ideal.nD Cert.Reference14Ideal.τ).loc Cert.Reference14Ideal.main_arg15) = m' ((c.tc : Thread Cert.Reference14Ideal.nD Cert.Reference14Ideal.τ).loc Cert.Reference14Ideal.main_arg15)
          ∧ r.2.mem ((c.tc : Thread Cert.Reference14Ideal.nD Cert.Reference14Ideal.τ).loc Cert.Reference14Ideal.main_arg16) = m' ((c.tc : Thread Cert.Reference14Ideal.nD Cert.Reference14Ideal.τ).loc Cert.Reference14Ideal.main_arg16)
          ∧ r.2.mem ((c.tc : Thread Cert.Reference14Ideal.nD Cert.Reference14Ideal.τ).loc Cert.Reference14Ideal.main_arg17) = m' ((c.tc : Thread Cert.Reference14Ideal.nD Cert.Reference14Ideal.τ).loc Cert.Reference14Ideal.main_arg17)
          ∧ r.2.mem ((c.tc : Thread Cert.Reference14Ideal.nD Cert.Reference14Ideal.τ).loc Cert.Reference14Ideal.main_arg18) = m' ((c.tc : Thread Cert.Reference14Ideal.nD Cert.Reference14Ideal.τ).loc Cert.Reference14Ideal.main_arg18)
          ∧ r.2.mem ((c.tc : Thread Cert.Reference14Ideal.nD Cert.Reference14Ideal.τ).loc Cert.Reference14Ideal.main_arg19) = m' ((c.tc : Thread Cert.Reference14Ideal.nD Cert.Reference14Ideal.τ).loc Cert.Reference14Ideal.main_arg19)
          ∧ r.2.mem ((c.tc : Thread Cert.Reference14Ideal.nD Cert.Reference14Ideal.τ).loc Cert.Reference14Ideal.main_arg20) = m' ((c.tc : Thread Cert.Reference14Ideal.nD Cert.Reference14Ideal.τ).loc Cert.Reference14Ideal.main_arg20)
          ∧ r.2.mem ((c.tc : Thread Cert.Reference14Ideal.nD Cert.Reference14Ideal.τ).loc Cert.Reference14Ideal.main_arg21) = m' ((c.tc : Thread Cert.Reference14Ideal.nD Cert.Reference14Ideal.τ).loc Cert.Reference14Ideal.main_arg21)
          ∧ r.2.mem ((c.tc : Thread Cert.Reference14Ideal.nD Cert.Reference14Ideal.τ).loc Cert.Reference14Ideal.main_arg22) = m' ((c.tc : Thread Cert.Reference14Ideal.nD Cert.Reference14Ideal.τ).loc Cert.Reference14Ideal.main_arg22)
          ∧ r.2.mem ((c.tc : Thread Cert.Reference14Ideal.nD Cert.Reference14Ideal.τ).loc Cert.Reference14Ideal.main_arg23) = m' ((c.tc : Thread Cert.Reference14Ideal.nD Cert.Reference14Ideal.τ).loc Cert.Reference14Ideal.main_arg23)
          ∧ r.2.mem ((c.tc : Thread Cert.Reference14Ideal.nD Cert.Reference14Ideal.τ).loc Cert.Reference14Ideal.main_arg24) = m' ((c.tc : Thread Cert.Reference14Ideal.nD Cert.Reference14Ideal.τ).loc Cert.Reference14Ideal.main_arg24)
          ∧ r.2.mem ((c.tc : Thread Cert.Reference14Ideal.nD Cert.Reference14Ideal.τ).loc Cert.Reference14Ideal.main_arg25) = m' ((c.tc : Thread Cert.Reference14Ideal.nD Cert.Reference14Ideal.τ).loc Cert.Reference14Ideal.main_arg25)
          ∧ r.2.mem ((c.tc : Thread Cert.Reference14Ideal.nD Cert.Reference14Ideal.τ).loc Cert.Reference14Ideal.main_arg26) = m' ((c.tc : Thread Cert.Reference14Ideal.nD Cert.Reference14Ideal.τ).loc Cert.Reference14Ideal.main_arg26)
          ∧ r.2.mem ((c.tc : Thread Cert.Reference14Ideal.nD Cert.Reference14Ideal.τ).loc Cert.Reference14Ideal.main_arg27) = m' ((c.tc : Thread Cert.Reference14Ideal.nD Cert.Reference14Ideal.τ).loc Cert.Reference14Ideal.main_arg27)
          ∧ r.2.mem ((c.tc : Thread Cert.Reference14Ideal.nD Cert.Reference14Ideal.τ).loc Cert.Reference14Ideal.main_arg28) = m' ((c.tc : Thread Cert.Reference14Ideal.nD Cert.Reference14Ideal.τ).loc Cert.Reference14Ideal.main_arg28)
          ∧ r.2.mem ((c.tc : Thread Cert.Reference14Ideal.nD Cert.Reference14Ideal.τ).loc Cert.Reference14Ideal.main_arg29) = m' ((c.tc : Thread Cert.Reference14Ideal.nD Cert.Reference14Ideal.τ).loc Cert.Reference14Ideal.main_arg29)
          ∧ r.2.mem ((c.tc : Thread Cert.Reference14Ideal.nD Cert.Reference14Ideal.τ).loc Cert.Reference14Ideal.main_arg30) = m' ((c.tc : Thread Cert.Reference14Ideal.nD Cert.Reference14Ideal.τ).loc Cert.Reference14Ideal.main_arg30)
          ∧ r.2.mem ((c.tc : Thread Cert.Reference14Ideal.nD Cert.Reference14Ideal.τ).loc Cert.Reference14Ideal.main_arg31) = m' ((c.tc : Thread Cert.Reference14Ideal.nD Cert.Reference14Ideal.τ).loc Cert.Reference14Ideal.main_arg31)
          ∧ r.2.mem ((c.tc : Thread Cert.Reference14Ideal.nD Cert.Reference14Ideal.τ).loc Cert.Reference14Ideal.main_arg32) = m' ((c.tc : Thread Cert.Reference14Ideal.nD Cert.Reference14Ideal.τ).loc Cert.Reference14Ideal.main_arg32)
          ∧ r.2.mem ((c.tc : Thread Cert.Reference14Ideal.nD Cert.Reference14Ideal.τ).loc Cert.Reference14Ideal.main_arg33) = m' ((c.tc : Thread Cert.Reference14Ideal.nD Cert.Reference14Ideal.τ).loc Cert.Reference14Ideal.main_arg33)
          ∧ r.2.mem ((c.tc : Thread Cert.Reference14Ideal.nD Cert.Reference14Ideal.τ).loc Cert.Reference14Ideal.main_arg34) = m' ((c.tc : Thread Cert.Reference14Ideal.nD Cert.Reference14Ideal.τ).loc Cert.Reference14Ideal.main_arg34)
          ∧ r.2.mem ((c.tc : Thread Cert.Reference14Ideal.nD Cert.Reference14Ideal.τ).loc Cert.Reference14Ideal.main_arg35) = m' ((c.tc : Thread Cert.Reference14Ideal.nD Cert.Reference14Ideal.τ).loc Cert.Reference14Ideal.main_arg35)
          ∧ r.2.mem ((c.tc : Thread Cert.Reference14Ideal.nD Cert.Reference14Ideal.τ).loc Cert.Reference14Ideal.main_arg36) = m' ((c.tc : Thread Cert.Reference14Ideal.nD Cert.Reference14Ideal.τ).loc Cert.Reference14Ideal.main_arg36)
          ∧ r.2.mem ((c.tc : Thread Cert.Reference14Ideal.nD Cert.Reference14Ideal.τ).loc Cert.Reference14Ideal.main_arg37) = m' ((c.tc : Thread Cert.Reference14Ideal.nD Cert.Reference14Ideal.τ).loc Cert.Reference14Ideal.main_arg37)
          ∧ r.2.mem ((c.tc : Thread Cert.Reference14Ideal.nD Cert.Reference14Ideal.τ).loc Cert.Reference14Ideal.main_arg38) = m' ((c.tc : Thread Cert.Reference14Ideal.nD Cert.Reference14Ideal.τ).loc Cert.Reference14Ideal.main_arg38)
          ∧ r.2.mem ((c.tc : Thread Cert.Reference14Ideal.nD Cert.Reference14Ideal.τ).loc Cert.Reference14Ideal.main_arg39) = m' ((c.tc : Thread Cert.Reference14Ideal.nD Cert.Reference14Ideal.τ).loc Cert.Reference14Ideal.main_arg39)
          ∧ r.2.mem ((c.tc : Thread Cert.Reference14Ideal.nD Cert.Reference14Ideal.τ).loc Cert.Reference14Ideal.main_arg40) = m' ((c.tc : Thread Cert.Reference14Ideal.nD Cert.Reference14Ideal.τ).loc Cert.Reference14Ideal.main_arg40)
          ∧ r.2.mem ((c.tc : Thread Cert.Reference14Ideal.nD Cert.Reference14Ideal.τ).loc Cert.Reference14Ideal.main_arg41) = m' ((c.tc : Thread Cert.Reference14Ideal.nD Cert.Reference14Ideal.τ).loc Cert.Reference14Ideal.main_arg41)
          ∧ r.2.mem ((c.tc : Thread Cert.Reference14Ideal.nD Cert.Reference14Ideal.τ).loc Cert.Reference14Ideal.main_arg42) = m' ((c.tc : Thread Cert.Reference14Ideal.nD Cert.Reference14Ideal.τ).loc Cert.Reference14Ideal.main_arg42)
          ∧ r.2.mem ((c.tc : Thread Cert.Reference14Ideal.nD Cert.Reference14Ideal.τ).loc Cert.Reference14Ideal.main_arg43) = m' ((c.tc : Thread Cert.Reference14Ideal.nD Cert.Reference14Ideal.τ).loc Cert.Reference14Ideal.main_arg43)
          ∧ r.2.mem ((c.tc : Thread Cert.Reference14Ideal.nD Cert.Reference14Ideal.τ).loc Cert.Reference14Ideal.main_arg44) = m' ((c.tc : Thread Cert.Reference14Ideal.nD Cert.Reference14Ideal.τ).loc Cert.Reference14Ideal.main_arg44)
          ∧ r.2.mem ((c.tc : Thread Cert.Reference14Ideal.nD Cert.Reference14Ideal.τ).loc Cert.Reference14Ideal.main_arg45) = m' ((c.tc : Thread Cert.Reference14Ideal.nD Cert.Reference14Ideal.τ).loc Cert.Reference14Ideal.main_arg45)
          ∧ r.2.mem ((c.tc : Thread Cert.Reference14Ideal.nD Cert.Reference14Ideal.τ).loc Cert.Reference14Ideal.main_arg46) = m' ((c.tc : Thread Cert.Reference14Ideal.nD Cert.Reference14Ideal.τ).loc Cert.Reference14Ideal.main_arg46)
          ∧ r.2.mem ((c.tc : Thread Cert.Reference14Ideal.nD Cert.Reference14Ideal.τ).loc Cert.Reference14Ideal.main_arg47) = m' ((c.tc : Thread Cert.Reference14Ideal.nD Cert.Reference14Ideal.τ).loc Cert.Reference14Ideal.main_arg47)
          ∧ r.2.mem ((c.tc : Thread Cert.Reference14Ideal.nD Cert.Reference14Ideal.τ).loc Cert.Reference14Ideal.main_arg48) = m' ((c.tc : Thread Cert.Reference14Ideal.nD Cert.Reference14Ideal.τ).loc Cert.Reference14Ideal.main_arg48)
          ∧ r.2.mem ((c.tc : Thread Cert.Reference14Ideal.nD Cert.Reference14Ideal.τ).loc Cert.Reference14Ideal.main_arg49) = m' ((c.tc : Thread Cert.Reference14Ideal.nD Cert.Reference14Ideal.τ).loc Cert.Reference14Ideal.main_arg49)
          ∧ r.2.mem ((c.tc : Thread Cert.Reference14Ideal.nD Cert.Reference14Ideal.τ).loc Cert.Reference14Ideal.main_arg50) = m' ((c.tc : Thread Cert.Reference14Ideal.nD Cert.Reference14Ideal.τ).loc Cert.Reference14Ideal.main_arg50)
          ∧ r.2.mem ((c.tc : Thread Cert.Reference14Ideal.nD Cert.Reference14Ideal.τ).loc Cert.Reference14Ideal.main_arg51) = m' ((c.tc : Thread Cert.Reference14Ideal.nD Cert.Reference14Ideal.τ).loc Cert.Reference14Ideal.main_arg51)
          ∧ r.2.mem ((c.tc : Thread Cert.Reference14Ideal.nD Cert.Reference14Ideal.τ).loc Cert.Reference14Ideal.main_arg52) = m' ((c.tc : Thread Cert.Reference14Ideal.nD Cert.Reference14Ideal.τ).loc Cert.Reference14Ideal.main_arg52)
          ∧ r.2.mem ((c.tc : Thread Cert.Reference14Ideal.nD Cert.Reference14Ideal.τ).loc Cert.Reference14Ideal.main_arg53) = m' ((c.tc : Thread Cert.Reference14Ideal.nD Cert.Reference14Ideal.τ).loc Cert.Reference14Ideal.main_arg53)
          ∧ r.2.mem ((c.tc : Thread Cert.Reference14Ideal.nD Cert.Reference14Ideal.τ).loc Cert.Reference14Ideal.main_arg54) = m' ((c.tc : Thread Cert.Reference14Ideal.nD Cert.Reference14Ideal.τ).loc Cert.Reference14Ideal.main_arg54)
          ∧ r.2.mem ((c.tc : Thread Cert.Reference14Ideal.nD Cert.Reference14Ideal.τ).loc Cert.Reference14Ideal.main_arg55) = m' ((c.tc : Thread Cert.Reference14Ideal.nD Cert.Reference14Ideal.τ).loc Cert.Reference14Ideal.main_arg55)
          ∧ r.2.mem ((c.tc : Thread Cert.Reference14Ideal.nD Cert.Reference14Ideal.τ).loc Cert.Reference14Ideal.main_arg56) = m' ((c.tc : Thread Cert.Reference14Ideal.nD Cert.Reference14Ideal.τ).loc Cert.Reference14Ideal.main_arg56)
          ∧ r.2.mem ((c.tc : Thread Cert.Reference14Ideal.nD Cert.Reference14Ideal.τ).loc Cert.Reference14Ideal.main_arg57) = m' ((c.tc : Thread Cert.Reference14Ideal.nD Cert.Reference14Ideal.τ).loc Cert.Reference14Ideal.main_arg57)
          ∧ r.2.mem ((c.tc : Thread Cert.Reference14Ideal.nD Cert.Reference14Ideal.τ).loc Cert.Reference14Ideal.main_arg58) = m' ((c.tc : Thread Cert.Reference14Ideal.nD Cert.Reference14Ideal.τ).loc Cert.Reference14Ideal.main_arg58)
          ∧ r.2.mem ((c.tc : Thread Cert.Reference14Ideal.nD Cert.Reference14Ideal.τ).loc Cert.Reference14Ideal.main_arg59) = m' ((c.tc : Thread Cert.Reference14Ideal.nD Cert.Reference14Ideal.τ).loc Cert.Reference14Ideal.main_arg59)
          ∧ r.2.mem ((c.tc : Thread Cert.Reference14Ideal.nD Cert.Reference14Ideal.τ).loc Cert.Reference14Ideal.main_arg60) = m' ((c.tc : Thread Cert.Reference14Ideal.nD Cert.Reference14Ideal.τ).loc Cert.Reference14Ideal.main_arg60)
          ∧ r.2.mem ((c.tc : Thread Cert.Reference14Ideal.nD Cert.Reference14Ideal.τ).loc Cert.Reference14Ideal.main_arg61) = m' ((c.tc : Thread Cert.Reference14Ideal.nD Cert.Reference14Ideal.τ).loc Cert.Reference14Ideal.main_arg61)
          ∧ r.2.mem ((c.tc : Thread Cert.Reference14Ideal.nD Cert.Reference14Ideal.τ).loc Cert.Reference14Ideal.main_arg62) = m' ((c.tc : Thread Cert.Reference14Ideal.nD Cert.Reference14Ideal.τ).loc Cert.Reference14Ideal.main_arg62)
          ∧ r.2.mem ((c.tc : Thread Cert.Reference14Ideal.nD Cert.Reference14Ideal.τ).loc Cert.Reference14Ideal.main_arg63) = m' ((c.tc : Thread Cert.Reference14Ideal.nD Cert.Reference14Ideal.τ).loc Cert.Reference14Ideal.main_arg63))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite2 : Cert.Pre_finite2.Facts),
    quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite2.lean ====
abbrev S4x2048x128 : Shape := ⟨3, ![4, 2048, 128]⟩
abbrev S4x256x128 : Shape := ⟨3, ![4, 256, 128]⟩
abbrev S256x1024 : Shape := ⟨2, ![256, 1024]⟩
abbrev S2048x512 : Shape := ⟨2, ![2048, 512]⟩
abbrev S_ : Shape := ⟨0, ![]⟩

class Facts : Prop where
  bitsLt_bf16_f32 : FTy.bits .bf16 < FTy.bits .f32
  bcast_S_S4x2048x128 : S_.BroadcastsInDim S4x2048x128 (![] : Fin 0 → Fin S4x2048x128.rank)
  reducesTo_S4x2048x128_S_d0_1_2 : S4x2048x128.ReducesTo [0, 1, 2] S_
  h_S_ : 0 < S_.numel
  bcast_S_S4x256x128 : S_.BroadcastsInDim S4x256x128 (![] : Fin 0 → Fin S4x256x128.rank)
  reducesTo_S4x256x128_S_d0_1_2 : S4x256x128.ReducesTo [0, 1, 2] S_
  bcast_S_S256x1024 : S_.BroadcastsInDim S256x1024 (![] : Fin 0 → Fin S256x1024.rank)
  reducesTo_S256x1024_S_d0_1 : S256x1024.ReducesTo [0, 1] S_
  bcast_S_S2048x512 : S_.BroadcastsInDim S2048x512 (![] : Fin 0 → Fin S2048x512.rank)
  reducesTo_S2048x512_S_d0_1 : S2048x512.ReducesTo [0, 1] S_

variable [Facts]

def fn_part1 {F : FTy → Type} [FloatOps F] (main_v4 : IVec S_ 1) (main_v9 : IVec S_ 1) (main_v13 : IVec S_ 1) (main_v15 : FVec F S2048x512 .f32) (main_v16 : FVec F S2048x512 .f32) : IVec S_ 1 :=
  let main_v17 : IVec S2048x512 1 := cmpf .olt main_v15 main_v16
  let main_c_5 : IVec S_ 1 := constantI S_ 1 1#1
  let main_v18 : IVec S_ 1 := (fun x v => Host.reduce IntOp.andi x v reducesTo_S2048x512_S_d0_1 h_S_) main_v17 main_c_5
  let main_v19 : IVec S_ 1 := andi main_v4 main_v9
  let main_v20 : IVec S_ 1 := andi main_v19 main_v13
  let main_v21 : IVec S_ 1 := andi main_v20 main_v18
  main_v21

def fn {F : FTy → Type} [FloatOps F] (main_arg0 : FVec F S4x2048x128 .bf16) (main_arg1 : FVec F S4x256x128 .bf16) (main_arg2 : FVec F S256x1024 .f32) (main_arg3 : FVec F S2048x512 .bf16) : IVec S_ 1 :=
  let main_v0 : FVec F S4x2048x128 .f32 := (extf .f32 · bitsLt_bf16_f32) main_arg0
  let main_v1 : FVec F S4x2048x128 .f32 := Host.absf main_v0
  let main_cst : FVec F S_ .f32 := constant S_ .f32 0x7F800000#32
  let main_v2 : FVec F S4x2048x128 .f32 := broadcastInDim S4x2048x128 ![] bcast_S_S4x2048x128 main_cst
  let main_v3 : IVec S4x2048x128 1 := cmpf .olt main_v1 main_v2
  let main_c : IVec S_ 1 := constantI S_ 1 1#1
  let main_v4 : IVec S_ 1 := (fun x v => Host.reduce IntOp.andi x v reducesTo_S4x2048x128_S_d0_1_2 h_S_) main_v3 main_c
  let main_v5 : FVec F S4x256x128 .f32 := (extf .f32 · bitsLt_bf16_f32) main_arg1
  let main_v6 : FVec F S4x256x128 .f32 := Host.absf main_v5
  let main_cst_0 : FVec F S_ .f32 := constant S_ .f32 0x7F800000#32
  let main_v7 : FVec F S4x256x128 .f32 := broadcastInDim S4x256x128 ![] bcast_S_S4x256x128 main_cst_0
  let main_v8 : IVec S4x256x128 1 := cmpf .olt main_v6 main_v7
  let main_c_1 : IVec S_ 1 := constantI S_ 1 1#1
  let main_v9 : IVec S_ 1 := (fun x v => Host.reduce IntOp.andi x v reducesTo_S4x256x128_S_d0_1_2 h_S_) main_v8 main_c_1
  let main_v10 : FVec F S256x1024 .f32 := Host.absf main_arg2
  let main_cst_2 : FVec F S_ .f32 := constant S_ .f32 0x7F800000#32
  let main_v11 : FVec F S256x1024 .f32 := broadcastInDim S256x1024 ![] bcast_S_S256x1024 main_cst_2
  let main_v12 : IVec S256x1024 1 := cmpf .olt main_v10 main_v11
  let main_c_3 : IVec S_ 1 := constantI S_ 1 1#1
  let main_v13 : IVec S_ 1 := (fun x v => Host.reduce IntOp.andi x v reducesTo_S256x1024_S_d0_1 h_S_) main_v12 main_c_3
  let main_v14 : FVec F S2048x512 .f32 := (extf .f32 · bitsLt_bf16_f32) main_arg3
  let main_v15 : FVec F S2048x512 .f32 := Host.absf main_v14
  let main_cst_4 : FVec F S_ .f32 := constant S_ .f32 0x7F800000#32
  let main_v16 : FVec F S2048x512 .f32 := broadcastInDim S2048x512 ![] bcast_S_S2048x512 main_cst_4
  fn_part1 (F := F) main_v4 main_v9 main_v13 main_v15 main_v16
-- ==== Kernel2.lean ====
abbrev S4x2048x128 : Shape := ⟨3, ![4, 2048, 128]⟩
abbrev S4x256x128 : Shape := ⟨3, ![4, 256, 128]⟩
abbrev S256x1024 : Shape := ⟨2, ![256, 1024]⟩
abbrev S2048x512 : Shape := ⟨2, ![2048, 512]⟩
abbrev S4x2048x1 : Shape := ⟨3, ![4, 2048, 1]⟩
abbrev S1x256x128 : Shape := ⟨3, ![1, 256, 128]⟩
abbrev S256x128 : Shape := ⟨2, ![256, 128]⟩
abbrev S1x256x1 : Shape := ⟨3, ![1, 256, 1]⟩
abbrev S256x256 : Shape := ⟨2, ![256, 256]⟩
abbrev S256 : Shape := ⟨1, ![256]⟩
abbrev S256x1 : Shape := ⟨2, ![256, 1]⟩

abbrev nBuf : Space → Nat
  | .hbm => 9
  | .vmem => 28
  | .smem => 0
  | _ => 0

abbrev bufTy : (tb : Table) → Fin (tcTables nBuf tb) → BufTy
  | .hbm, ⟨0, _⟩ => ⟨S4x2048x128, .bf16⟩
  | .hbm, ⟨1, _⟩ => ⟨S4x256x128, .bf16⟩
  | .hbm, ⟨2, _⟩ => ⟨S256x1024, .f32⟩
  | .hbm, ⟨3, _⟩ => ⟨S2048x512, .bf16⟩
  | .hbm, ⟨4, _⟩ => ⟨S2048x512, .bf16⟩
  | .hbm, ⟨5, _⟩ => ⟨S4x2048x1, .f32⟩
  | .hbm, ⟨6, _⟩ => ⟨S4x2048x128, .f32⟩
  | .hbm, ⟨7, _⟩ => ⟨S4x256x128, .f32⟩
  | .hbm, ⟨8, _⟩ => ⟨S4x256x128, .f32⟩
  | .local _ .vmem, ⟨0, _⟩ => ⟨S1x256x128, .bf16⟩
  | .local _ .vmem, ⟨1, _⟩ => ⟨S1x256x128, .bf16⟩
  | .local _ .vmem, ⟨2, _⟩ => ⟨S1x256x128, .bf16⟩
  | .local _ .vmem, ⟨3, _⟩ => ⟨S1x256x128, .bf16⟩
  | .local _ .vmem, ⟨4, _⟩ => ⟨S256x128, .f32⟩
  | .local _ .vmem, ⟨5, _⟩ => ⟨S256x128, .f32⟩
  | .local _ .vmem, ⟨6, _⟩ => ⟨S256x128, .bf16⟩
  | .local _ .vmem, ⟨7, _⟩ => ⟨S256x128, .bf16⟩
  | .local _ .vmem, ⟨8, _⟩ => ⟨S1x256x1, .f32⟩
  | .local _ .vmem, ⟨9, _⟩ => ⟨S1x256x1, .f32⟩
  | .local _ .vmem, ⟨10, _⟩ => ⟨S1x256x128, .bf16⟩
  | .local _ .vmem, ⟨11, _⟩ => ⟨S1x256x128, .bf16⟩
  | .local _ .vmem, ⟨12, _⟩ => ⟨S1x256x128, .bf16⟩
  | .local _ .vmem, ⟨13, _⟩ => ⟨S1x256x128, .bf16⟩
  | .local _ .vmem, ⟨14, _⟩ => ⟨S256x128, .f32⟩
  | .local _ .vmem, ⟨15, _⟩ => ⟨S256x128, .f32⟩
  | .local _ .vmem, ⟨16, _⟩ => ⟨S256x128, .bf16⟩
  | .local _ .vmem, ⟨17, _⟩ => ⟨S256x128, .bf16⟩
  | .local _ .vmem, ⟨18, _⟩ => ⟨S256x128, .bf16⟩
  | .local _ .vmem, ⟨19, _⟩ => ⟨S256x128, .bf16⟩
  | .local _ .vmem, ⟨20, _⟩ => ⟨S1x256x1, .f32⟩
  | .local _ .vmem, ⟨21, _⟩ => ⟨S1x256x1, .f32⟩
  | .local _ .vmem, ⟨22, _⟩ => ⟨S1x256x128, .f32⟩
  | .local _ .vmem, ⟨23, _⟩ => ⟨S1x256x128, .f32⟩
  | .local _ .vmem, ⟨24, _⟩ => ⟨S1x256x128, .f32⟩
  | .local _ .vmem, ⟨25, _⟩ => ⟨S1x256x128, .f32⟩
  | .local _ .vmem, ⟨26, _⟩ => ⟨S1x256x128, .f32⟩
  | .local _ .vmem, ⟨27, _⟩ => ⟨S1x256x128, .f32⟩
  | _, _ => ⟨S4x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x256x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x256x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== Reference2Ideal.lean ====
abbrev S4x2048x128 : Shape := ⟨3, ![4, 2048, 128]⟩
abbrev S4x256x128 : Shape := ⟨3, ![4, 256, 128]⟩
abbrev S256x1024 : Shape := ⟨2, ![256, 1024]⟩
abbrev S2048x512 : Shape := ⟨2, ![2048, 512]⟩
abbrev S256x2x4x128 : Shape := ⟨4, ![256, 2, 4, 128]⟩
abbrev S256x1x4x128 : Shape := ⟨4, ![256, 1, 4, 128]⟩
abbrev S256x4x128 : Shape := ⟨3, ![256, 4, 128]⟩
abbrev S2048x4x128 : Shape := ⟨3, ![2048, 4, 128]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x128x256 : Shape := ⟨3, ![4, 128, 256]⟩

abbrev nBuf : Space → Nat
  | .hbm => 78
  | .vmem => 0
  | .smem => 0
  | _ => 0

abbrev bufTy : (tb : Table) → Fin (tcTables nBuf tb) → BufTy
  | .hbm, ⟨0, _⟩ => ⟨S4x2048x128, .bf16⟩
  | .hbm, ⟨1, _⟩ => ⟨S4x256x128, .bf16⟩
  | .hbm, ⟨2, _⟩ => ⟨S256x1024, .f32⟩
  | .hbm, ⟨3, _⟩ => ⟨S2048x512, .bf16⟩
  | .hbm, ⟨4, _⟩ => ⟨S256x2x4x128, .f32⟩
  | .hbm, ⟨5, _⟩ => ⟨S256x1x4x128, .f32⟩
  | .hbm, ⟨6, _⟩ => ⟨S256x4x128, .f32⟩
  | .hbm, ⟨7, _⟩ => ⟨S4x256x128, .f32⟩
  | .hbm, ⟨8, _⟩ => ⟨S2048x512, .f32⟩
  | .hbm, ⟨9, _⟩ => ⟨S2048x4x128, .f32⟩
  | .hbm, ⟨10, _⟩ => ⟨S4x2048x128, .f32⟩
  | .hbm, ⟨11, _⟩ => ⟨S4x2048x128, .f32⟩
  | .hbm, ⟨12, _⟩ => ⟨S4x256x128, .f32⟩
  | .hbm, ⟨13, _⟩ => ⟨S4x2048x256, .f32⟩
  | .hbm, ⟨14, _⟩ => ⟨S_, .f32⟩
  | .hbm, ⟨15, _⟩ => ⟨S4x2048x256, .f32⟩
  | .hbm, ⟨16, _⟩ => ⟨S4x2048x256, .f32⟩
  | .hbm, ⟨17, _⟩ => ⟨S_, .f32⟩
  | .hbm, ⟨18, _⟩ => ⟨S4x2048, .f32⟩
  | .hbm, ⟨19, _⟩ => ⟨S4x2048x1, .f32⟩
  | .hbm, ⟨20, _⟩ => ⟨S4x2048x256, .f32⟩
  | .hbm, ⟨21, _⟩ => ⟨S4x2048x256, .i1⟩
  | .hbm, ⟨22, _⟩ => ⟨S4x2048x256, .f32⟩
  | .hbm, ⟨23, _⟩ => ⟨S_, .f32⟩
  | .hbm, ⟨24, _⟩ => ⟨S4x2048, .f32⟩
  | .hbm, ⟨25, _⟩ => ⟨S_, .f32⟩
  | .hbm, ⟨26, _⟩ => ⟨S4x2048, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .i1⟩
  | .hbm, ⟨31, _⟩ => ⟨S_, .f32⟩
  | .hbm, ⟨32, _⟩ => ⟨S4x2048, .f32⟩
  | .hbm, ⟨33, _⟩ => ⟨S4x2048, .i1⟩
  | .hbm, ⟨34, _⟩ => ⟨S_, .f32⟩
  | .hbm, ⟨35, _⟩ => ⟨S4x2048, .f32⟩
  | .hbm, ⟨36, _⟩ => ⟨S_, .f32⟩
  | .hbm, ⟨37, _⟩ => ⟨S4x2048, .f32⟩
  | .hbm, ⟨38, _⟩ => ⟨S_, .f32⟩
  | .hbm, ⟨39, _⟩ => ⟨S4x2048, .f32⟩
  | .hbm, ⟨40, _⟩ => ⟨S4x2048, .f32⟩
  | .hbm, ⟨41, _⟩ => ⟨S4x2048, .f32⟩
  | .hbm, ⟨42, _⟩ => ⟨S4x2048x1, .f32⟩
  | .hbm, ⟨43, _⟩ => ⟨S4x2048x256, .f32⟩
  | .hbm, ⟨44, _⟩ => ⟨S4x2048x256, .f32⟩
  | .hbm, ⟨45, _⟩ => ⟨S4x2048x256, .f32⟩
  | .hbm, ⟨46, _⟩ => ⟨S_, .f32⟩
  | .hbm, ⟨47, _⟩ => ⟨S4x2048, .f32⟩
  | .hbm, ⟨48, _⟩ => ⟨S4x2048x1, .f32⟩
  | .hbm, ⟨49, _⟩ => ⟨S4x2048x256, .f32⟩
  | .hbm, ⟨50, _⟩ => ⟨S4x2048x256, .f32⟩
  | .hbm, ⟨51, _⟩ => ⟨S4x2048x1, .f32⟩
  | .hbm, ⟨52, _⟩ => ⟨S_, .f32⟩
  | .hbm, ⟨53, _⟩ => ⟨S4x2048x1, .f32⟩
  | .hbm, ⟨54, _⟩ => ⟨S4x2048x1, .f32⟩
  | .hbm, ⟨55, _⟩ => ⟨S4x2048x128, .f32⟩
  | .hbm, ⟨56, _⟩ => ⟨S4x128x256, .f32⟩
  | .hbm, ⟨57, _⟩ => ⟨S4x256x128, .f32⟩
  | .hbm, ⟨58, _⟩ => ⟨S4x2048x256, .f32⟩
  | .hbm, ⟨59, _⟩ => ⟨S4x2048x256, .f32⟩
  | .hbm, ⟨60, _⟩ => ⟨S4x2048x256, .f32⟩
  | .hbm, ⟨61, _⟩ => ⟨S4x2048x256, .f32⟩
  | .hbm, ⟨62, _⟩ => ⟨S_, .f32⟩
  | .hbm, ⟨63, _⟩ => ⟨S4x2048, .f32⟩
  | .hbm, ⟨64, _⟩ => ⟨S4x2048x1, .f32⟩
  | .hbm, ⟨65, _⟩ => ⟨S4x2048x1, .f32⟩
  | .hbm, ⟨66, _⟩ => ⟨S4x2048x256, .f32⟩
  | .hbm, ⟨67, _⟩ => ⟨S4x2048x256, .f32⟩
  | .hbm, ⟨68, _⟩ => ⟨S_, .f32⟩
  | .hbm, ⟨69, _⟩ => ⟨S4x2048, .f32⟩
  | .hbm, ⟨70, _⟩ => ⟨S4x2048x256, .f32⟩
  | .hbm, ⟨71, _⟩ => ⟨S4x2048x256, .f32⟩
  | .hbm, ⟨72, _⟩ => ⟨S4x2048x256, .f32⟩
  | .hbm, ⟨73, _⟩ => ⟨S_, .f32⟩
  | .hbm, ⟨74, _⟩ => ⟨S4x2048x256, .f32⟩
  | .hbm, ⟨75, _⟩ => ⟨S4x2048x256, .f32⟩
  | .hbm, ⟨76, _⟩ => ⟨S4x256x128, .f32⟩
  | .hbm, ⟨77, _⟩ => ⟨S4x2048x128, .f32⟩
  | _, _ => ⟨S4x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_11 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_12 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== Kernel3.lean ====
abbrev S2048x2048 : Shape := ⟨2, ![2048, 2048]⟩
abbrev S4x2048x2048 : Shape := ⟨3, ![4, 2048, 2048]⟩
abbrev S1x8192x2048 : Shape := ⟨3, ![1, 8192, 2048]⟩
abbrev S2048x8192 : Shape := ⟨2, ![2048, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S1x1024x2048 : Shape := ⟨3, ![1, 1024, 2048]⟩
abbrev S1x1024x1024 : Shape := ⟨3, ![1, 1024, 1024]⟩

abbrev nBuf : Space → Nat
  | .hbm => 9
  | .vmem => 28
  | .smem => 0
  | _ => 0

abbrev bufTy : (tb : Table) → Fin (tcTables nBuf tb) → BufTy
  | .hbm, ⟨0, _⟩ => ⟨S2048x2048, .bf16⟩
  | .hbm, ⟨1, _⟩ => ⟨S4x2048x2048, .bf16⟩
  | .hbm, ⟨2, _⟩ => ⟨S1x8192x2048, .bf16⟩
  | .hbm, ⟨3, _⟩ => ⟨S2048x2048, .f32⟩
  | .hbm, ⟨4, _⟩ => ⟨S2048x8192, .bf16⟩
  | .hbm, ⟨5, _⟩ => ⟨S2048x8192, .bf16⟩
  | .hbm, ⟨6, _⟩ => ⟨S2048x8192, .bf16⟩
  | .hbm, ⟨7, _⟩ => ⟨S1x8192x2048, .bf16⟩
  | .hbm, ⟨8, _⟩ => ⟨S4x2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x2048, .f32⟩
  | .local _ .vmem, ⟨9, _⟩ => ⟨S1024x2048, .f32⟩
  | .local _ .vmem, ⟨10, _⟩ => ⟨S1x1024x2048, .bf16⟩
  | .local _ .vmem, ⟨11, _⟩ => ⟨S1x1024x2048, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S2048x1024, .bf16⟩
  | .local _ .vmem, ⟨17, _⟩ => ⟨S2048x1024, .bf16⟩
  | .local _ .vmem, ⟨18, _⟩ => ⟨S2048x1024, .f32⟩
  | .local _ .vmem, ⟨19, _⟩ => ⟨S2048x1024, .f32⟩
  | .local _ .vmem, ⟨20, _⟩ => ⟨S1x1024x1024, .bf16⟩
  | .local _ .vmem, ⟨21, _⟩ => ⟨S1x1024x1024, .bf16⟩
  | .local _ .vmem, ⟨22, _⟩ => ⟨S2048x1024, .bf16⟩
  | .local _ .vmem, ⟨23, _⟩ => ⟨S2048x1024, .bf16⟩
  | .local _ .vmem, ⟨24, _⟩ => ⟨S2048x1024, .bf16⟩
  | .local _ .vmem, ⟨25, _⟩ => ⟨S2048x1024, .bf16⟩
  | .local _ .vmem, ⟨26, _⟩ => ⟨S1x1024x1024, .bf16⟩
  | .local _ .vmem, ⟨27, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![2, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![2, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, true]

abbrev stage2_1 : Fin 2 → Memref sig .tc .vmem S2048x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![8, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1x1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Reference3Ideal.lean ====
abbrev S2048x2048 : Shape := ⟨2, ![2048, 2048]⟩
abbrev S4x2048x2048 : Shape := ⟨3, ![4, 2048, 2048]⟩
abbrev S1x8192x2048 : Shape := ⟨3, ![1, 8192, 2048]⟩
abbrev S2048x4x2048 : Shape := ⟨3, ![2048, 4, 2048]⟩
abbrev S2048x8192 : Shape := ⟨2, ![2048, 8192]⟩
abbrev S_ : Shape := ⟨0, ![]⟩
abbrev S8192x2048 : Shape := ⟨2, ![8192, 2048]⟩

abbrev nBuf : Space → Nat
  | .hbm => 39
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x2048, .bf16⟩
  | .hbm, ⟨2, _⟩ => ⟨S1x8192x2048, .bf16⟩
  | .hbm, ⟨3, _⟩ => ⟨S2048x2048, .f32⟩
  | .hbm, ⟨4, _⟩ => ⟨S2048x2048, .f32⟩
  | .hbm, ⟨5, _⟩ => ⟨S4x2048x2048, .f32⟩
  | .hbm, ⟨6, _⟩ => ⟨S1x8192x2048, .f32⟩
  | .hbm, ⟨7, _⟩ => ⟨S2048x4x2048, .f32⟩
  | .hbm, ⟨8, _⟩ => ⟨S2048x8192, .f32⟩
  | .hbm, ⟨9, _⟩ => ⟨S2048x8192, .f32⟩
  | .hbm, ⟨10, _⟩ => ⟨S_, .f32⟩
  | .hbm, ⟨11, _⟩ => ⟨S2048x8192, .f32⟩
  | .hbm, ⟨12, _⟩ => ⟨S2048x8192, .f32⟩
  | .hbm, ⟨13, _⟩ => ⟨S_, .f32⟩
  | .hbm, ⟨14, _⟩ => ⟨S2048x8192, .f32⟩
  | .hbm, ⟨15, _⟩ => ⟨S2048x8192, .i1⟩
  | .hbm, ⟨16, _⟩ => ⟨S_, .f32⟩
  | .hbm, ⟨17, _⟩ => ⟨S2048x8192, .f32⟩
  | .hbm, ⟨18, _⟩ => ⟨S2048x8192, .f32⟩
  | .hbm, ⟨19, _⟩ => ⟨S_, .f32⟩
  | .hbm, ⟨20, _⟩ => ⟨S2048x8192, .f32⟩
  | .hbm, ⟨21, _⟩ => ⟨S2048x8192, .f32⟩
  | .hbm, ⟨22, _⟩ => ⟨S8192x2048, .f32⟩
  | .hbm, ⟨23, _⟩ => ⟨S2048x2048, .f32⟩
  | .hbm, ⟨24, _⟩ => ⟨S2048x8192, .f32⟩
  | .hbm, ⟨25, _⟩ => ⟨S8192x2048, .f32⟩
  | .hbm, ⟨26, _⟩ => ⟨S2048x8192, .f32⟩
  | .hbm, ⟨27, _⟩ => ⟨S1x8192x2048, .f32⟩
  | .hbm, ⟨28, _⟩ => ⟨S2048x8192, .f32⟩
  | .hbm, ⟨29, _⟩ => ⟨S_, .f32⟩
  | .hbm, ⟨30, _⟩ => ⟨S2048x8192, .f32⟩
  | .hbm, ⟨31, _⟩ => ⟨S2048x8192, .f32⟩
  | .hbm, ⟨32, _⟩ => ⟨S8192x2048, .f32⟩
  | .hbm, ⟨33, _⟩ => ⟨S2048x8192, .f32⟩
  | .hbm, ⟨34, _⟩ => ⟨S2048x2048, .f32⟩
  | .hbm, ⟨35, _⟩ => ⟨S2048x4x2048, .f32⟩
  | .hbm, ⟨36, _⟩ => ⟨S4x2048x2048, .f32⟩
  | .hbm, ⟨37, _⟩ => ⟨S4x2048x2048, .bf16⟩
  | .hbm, ⟨38, _⟩ => ⟨S1x8192x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kernel4.lean ====
abbrev S4x2048x2048 : Shape := ⟨3, ![4, 2048, 2048]⟩
abbrev S2048x8192 : Shape := ⟨2, ![2048, 8192]⟩
abbrev S2048x2048 : Shape := ⟨2, ![2048, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x2048x2048, .bf16⟩
  | .hbm, ⟨1, _⟩ => ⟨S2048x8192, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4x2048x2048 : Shape := ⟨3, ![4, 2048, 2048]⟩
abbrev S2048x8192 : Shape := ⟨2, ![2048, 8192]⟩
abbrev S_ : Shape := ⟨0, ![]⟩
abbrev S2048x2048 : Shape := ⟨2, ![2048, 2048]⟩
abbrev S2048x4x2048 : Shape := ⟨3, ![2048, 4, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S2048x8192, .bf16⟩
  | .hbm, ⟨2, _⟩ => ⟨S_, .f32⟩
  | .hbm, ⟨3, _⟩ => ⟨S2048x2048, .f32⟩
  | .hbm, ⟨4, _⟩ => ⟨S4x2048x2048, .f32⟩
  | .hbm, ⟨5, _⟩ => ⟨S2048x4x2048, .f32⟩
  | .hbm, ⟨6, _⟩ => ⟨S2048x8192, .f32⟩
  | .hbm, ⟨7, _⟩ => ⟨S2048x8192, .f32⟩
  | .hbm, ⟨8, _⟩ => ⟨S2048x8192, .f32⟩
  | .hbm, ⟨9, _⟩ => ⟨S2048x2048, .f32⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S2048x8192 : Shape := ⟨2, ![2048, 8192]⟩
abbrev S1x8192x2048 : Shape := ⟨3, ![1, 8192, 2048]⟩
abbrev S2048x2048 : Shape := ⟨2, ![2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x8192, .bf16⟩
  | .hbm, ⟨1, _⟩ => ⟨S1x8192x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S2048x8192 : Shape := ⟨2, ![2048, 8192]⟩
abbrev S1x8192x2048 : Shape := ⟨3, ![1, 8192, 2048]⟩
abbrev S2048x2048 : Shape := ⟨2, ![2048, 2048]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S1x8192x2048, .bf16⟩
  | .hbm, ⟨2, _⟩ => ⟨S2048x2048, .f32⟩
  | .hbm, ⟨3, _⟩ => ⟨S2048x8192, .f32⟩
  | .hbm, ⟨4, _⟩ => ⟨S8192x2048, .bf16⟩
  | .hbm, ⟨5, _⟩ => ⟨S8192x2048, .f32⟩
  | .hbm, ⟨6, _⟩ => ⟨S2048x2048, .f32⟩
  | .hbm, ⟨7, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S2048x2048 : Shape := ⟨2, ![2048, 2048]⟩
abbrev S1x2048x13312 : Shape := ⟨3, ![1, 2048, 13312]⟩
abbrev S2048x13312 : Shape := ⟨2, ![2048, 13312]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S1x1024x1024 : Shape := ⟨3, ![1, 1024, 1024]⟩

abbrev nBuf : Space → Nat
  | .hbm => 5
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S1x2048x13312, .bf16⟩
  | .hbm, ⟨2, _⟩ => ⟨S2048x13312, .bf16⟩
  | .hbm, ⟨3, _⟩ => ⟨S2048x13312, .f32⟩
  | .hbm, ⟨4, _⟩ => ⟨S1x2048x13312, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S1x1024x1024, .bf16⟩
  | .local _ .vmem, ⟨11, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![2, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c13_i32 : BitVec 32 := 13#32
  let v0 : BitVec 32 := Scalar.divsi arg1 c13_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c13_i32 c0_i32_1
  let v7 : BitVec 32 := Scalar.extui v6
  let c0_i32_2 : BitVec 32 := 0#32
  let v8 : BitVec 1 := Scalar.cmpi .slt c13_i32 c0_i32_2
  let v9 : BitVec 32 := Scalar.extui v8
  let v10 : BitVec 32 := Scalar.subi v7 v9
  let v11 : BitVec 1 := Scalar.cmpi .ne v5 v10
  let v12 : BitVec 32 := Scalar.remsi arg1 c13_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c13_i32_4 : BitVec 32 := 13#32
  let c0_i32_5 : BitVec 32 := 0#32
  let v17 : BitVec 1 := Scalar.cmpi .eq c13_i32_4 c0_i32_5
  let c1_i32_6 : BitVec 32 := 1#32
  let v18 : BitVec 32 := Scalar.select v17 c1_i32_6 c13_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![13, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c13_i32 : BitVec 32 := 13#32
  let v0 : BitVec 32 := Scalar.divsi arg0 c13_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c13_i32 c0_i32_1
  let v7 : BitVec 32 := Scalar.extui v6
  let c0_i32_2 : BitVec 32 := 0#32
  let v8 : BitVec 1 := Scalar.cmpi .slt c13_i32 c0_i32_2
  let v9 : BitVec 32 := Scalar.extui v8
  let v10 : BitVec 32 := Scalar.subi v7 v9
  let v11 : BitVec 1 := Scalar.cmpi .ne v5 v10
  let v12 : BitVec 32 := Scalar.remsi arg0 c13_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c13_i32_4 : BitVec 32 := 13#32
  let c0_i32_5 : BitVec 32 := 0#32
  let v17 : BitVec 1 := Scalar.cmpi .eq c13_i32_4 c0_i32_5
  let c1_i32_6 : BitVec 32 := 1#32
  let v18 : BitVec 32 := Scalar.select v17 c1_i32_6 c13_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference6Ideal.lean ====
abbrev S2048x2048 : Shape := ⟨2, ![2048, 2048]⟩
abbrev S1x2048x13312 : Shape := ⟨3, ![1, 2048, 13312]⟩
abbrev S2048x13312 : Shape := ⟨2, ![2048, 13312]⟩
abbrev S13312x2048 : Shape := ⟨2, ![13312, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x13312, .bf16⟩
  | .hbm, ⟨2, _⟩ => ⟨S2048x13312, .bf16⟩
  | .hbm, ⟨3, _⟩ => ⟨S1x2048x13312, .f32⟩
  | .hbm, ⟨4, _⟩ => ⟨S2048x2048, .f32⟩
  | .hbm, ⟨5, _⟩ => ⟨S2048x13312, .f32⟩
  | .hbm, ⟨6, _⟩ => ⟨S2048x13312, .f32⟩
  | .hbm, ⟨7, _⟩ => ⟨S2048x13312, .f32⟩
  | .hbm, ⟨8, _⟩ => ⟨S13312x2048, .f32⟩
  | .hbm, ⟨9, _⟩ => ⟨S2048x13312, .f32⟩
  | .hbm, ⟨10, _⟩ => ⟨S1x2048x13312, .f32⟩
  | .hbm, ⟨11, _⟩ => ⟨S1x2048x13312, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S1x2048x13312 : Shape := ⟨3, ![1, 2048, 13312]⟩
abbrev S2048x13312 : Shape := ⟨2, ![2048, 13312]⟩
abbrev S2048x2048 : Shape := ⟨2, ![2048, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1x2048x13312, .bf16⟩
  | .hbm, ⟨1, _⟩ => ⟨S2048x13312, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1x2048x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 13], ![false, false, false]⟩

def k0_cond3 (i : grid0.Coords) : BitVec 1 :=
  let arg2 : BitVec 32 := BitVec.ofNat 32 (i 2).val
  let c12_i32 : BitVec 32 := 12#32
  let v10 : BitVec 1 := Scalar.cmpi .eq arg2 c12_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c13_i32 : BitVec 32 := 13#32
  let v0 : BitVec 32 := Scalar.divsi arg2 c13_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c13_i32 c0_i32_1
  let v7 : BitVec 32 := Scalar.extui v6
  let c0_i32_2 : BitVec 32 := 0#32
  let v8 : BitVec 1 := Scalar.cmpi .slt c13_i32 c0_i32_2
  let v9 : BitVec 32 := Scalar.extui v8
  let v10 : BitVec 32 := Scalar.subi v7 v9
  let v11 : BitVec 1 := Scalar.cmpi .ne v5 v10
  let v12 : BitVec 32 := Scalar.remsi arg2 c13_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c13_i32_4 : BitVec 32 := 13#32
  let c0_i32_5 : BitVec 32 := 0#32
  let v17 : BitVec 1 := Scalar.cmpi .eq c13_i32_4 c0_i32_5
  let c1_i32_6 : BitVec 32 := 1#32
  let v18 : BitVec 32 := Scalar.select v17 c1_i32_6 c13_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S1x2048x13312 : Shape := ⟨3, ![1, 2048, 13312]⟩
abbrev S2048x13312 : Shape := ⟨2, ![2048, 13312]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S1x2048x13312, .bf16⟩
  | .hbm, ⟨1, _⟩ => ⟨S2048x13312, .bf16⟩
  | .hbm, ⟨2, _⟩ => ⟨S_, .f32⟩
  | .hbm, ⟨3, _⟩ => ⟨S2048x2048, .f32⟩
  | .hbm, ⟨4, _⟩ => ⟨S2048x13312, .bf16⟩
  | .hbm, ⟨5, _⟩ => ⟨S2048x13312, .f32⟩
  | .hbm, ⟨6, _⟩ => ⟨S2048x13312, .f32⟩
  | .hbm, ⟨7, _⟩ => ⟨S2048x13312, .f32⟩
  | .hbm, ⟨8, _⟩ => ⟨S2048x2048, .f32⟩
  | _, _ => ⟨S1x2048x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S2048x2048 : Shape := ⟨2, ![2048, 2048]⟩
abbrev S2048x13312 : Shape := ⟨2, ![2048, 13312]⟩
abbrev S2048x1024 : Shape := ⟨2, ![2048, 1024]⟩
abbrev S4x1024x512 : Shape := ⟨3, ![4, 1024, 512]⟩
abbrev S1x2048x2048 : Shape := ⟨3, ![1, 2048, 2048]⟩
abbrev S1024x1024 : Shape := ⟨2, ![1024, 1024]⟩
abbrev S1x1024x512 : Shape := ⟨3, ![1, 1024, 512]⟩
abbrev S1024x512 : Shape := ⟨2, ![1024, 512]⟩
abbrev S512x512 : Shape := ⟨2, ![512, 512]⟩
abbrev S1024x2048 : Shape := ⟨2, ![1024, 2048]⟩
abbrev S1x2048x1024 : Shape := ⟨3, ![1, 2048, 1024]⟩
abbrev S1x1024x2048 : Shape := ⟨3, ![1, 1024, 2048]⟩
abbrev S1x1024x1024 : Shape := ⟨3, ![1, 1024, 1024]⟩
abbrev S2048x512 : Shape := ⟨2, ![2048, 512]⟩

abbrev nBuf : Space → Nat
  | .hbm => 26
  | .vmem => 93
  | .smem => 0
  | _ => 0

abbrev bufTy : (tb : Table) → Fin (tcTables nBuf tb) → BufTy
  | .hbm, ⟨0, _⟩ => ⟨S2048x2048, .f32⟩
  | .hbm, ⟨1, _⟩ => ⟨S2048x13312, .f32⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S4x1024x512, .bf16⟩
  | .hbm, ⟨6, _⟩ => ⟨S4x1024x512, .bf16⟩
  | .hbm, ⟨7, _⟩ => ⟨S4x1024x512, .bf16⟩
  | .hbm, ⟨8, _⟩ => ⟨S1x2048x2048, .bf16⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .bf16⟩
  | .hbm, ⟨14, _⟩ => ⟨S2048x2048, .f32⟩
  | .hbm, ⟨15, _⟩ => ⟨S2048x2048, .f32⟩
  | .hbm, ⟨16, _⟩ => ⟨S1x2048x2048, .bf16⟩
  | .hbm, ⟨17, _⟩ => ⟨S2048x2048, .bf16⟩
  | .hbm, ⟨18, _⟩ => ⟨S2048x2048, .bf16⟩
  | .hbm, ⟨19, _⟩ => ⟨S2048x2048, .bf16⟩
  | .hbm, ⟨20, _⟩ => ⟨S2048x2048, .bf16⟩
  | .hbm, ⟨21, _⟩ => ⟨S2048x2048, .bf16⟩
  | .hbm, ⟨22, _⟩ => ⟨S2048x2048, .bf16⟩
  | .hbm, ⟨23, _⟩ => ⟨S4x1024x512, .bf16⟩
  | .hbm, ⟨24, _⟩ => ⟨S4x1024x512, .bf16⟩
  | .hbm, ⟨25, _⟩ => ⟨S4x1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x512, .f32⟩
  | .local _ .vmem, ⟨5, _⟩ => ⟨S1024x512, .f32⟩
  | .local _ .vmem, ⟨6, _⟩ => ⟨S1024x1024, .bf16⟩
  | .local _ .vmem, ⟨7, _⟩ => ⟨S1024x1024, .bf16⟩
  | .local _ .vmem, ⟨8, _⟩ => ⟨S1x1024x512, .bf16⟩
  | .local _ .vmem, ⟨9, _⟩ => ⟨S1x1024x512, .bf16⟩
  | .local _ .vmem, ⟨10, _⟩ => ⟨S1024x512, .f32⟩
  | .local _ .vmem, ⟨11, _⟩ => ⟨S1024x512, .f32⟩
  | .local _ .vmem, ⟨12, _⟩ => ⟨S1024x1024, .bf16⟩
  | .local _ .vmem, ⟨13, _⟩ => ⟨S1024x1024, .bf16⟩
  | .local _ .vmem, ⟨14, _⟩ => ⟨S1x1024x512, .bf16⟩
  | .local _ .vmem, ⟨15, _⟩ => ⟨S1x1024x512, .bf16⟩
  | .local _ .vmem, ⟨16, _⟩ => ⟨S1024x512, .f32⟩
  | .local _ .vmem, ⟨17, _⟩ => ⟨S1024x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x512, .bf16⟩
  | .local _ .vmem, ⟨31, _⟩ => ⟨S512x512, .bf16⟩
  | .local _ .vmem, ⟨32, _⟩ => ⟨S1024x2048, .bf16⟩
  | .local _ .vmem, ⟨33, _⟩ => ⟨S1024x2048, .bf16⟩
  | .local _ .vmem, ⟨34, _⟩ => ⟨S1x2048x1024, .bf16⟩
  | .local _ .vmem, ⟨35, _⟩ => ⟨S1x2048x1024, .bf16⟩
  | .local _ .vmem, ⟨36, _⟩ => ⟨S1024x1024, .f32⟩
  | .local _ .vmem, ⟨37, _⟩ => ⟨S1024x1024, .f32⟩
  | .local _ .vmem, ⟨38, _⟩ => ⟨S1024x1024, .f32⟩
  | .local _ .vmem, ⟨39, _⟩ => ⟨S1024x1024, .f32⟩
  | .local _ .vmem, ⟨40, _⟩ => ⟨S1024x2048, .f32⟩
  | .local _ .vmem, ⟨41, _⟩ => ⟨S1024x2048, .f32⟩
  | .local _ .vmem, ⟨42, _⟩ => ⟨S1x1024x2048, .bf16⟩
  | .local _ .vmem, ⟨43, _⟩ => ⟨S1x1024x2048, .bf16⟩
  | .local _ .vmem, ⟨44, _⟩ => ⟨S1024x1024, .f32⟩
  | .local _ .vmem, ⟨45, _⟩ => ⟨S1024x1024, .f32⟩
  | .local _ .vmem, ⟨46, _⟩ => ⟨S2048x1024, .bf16⟩
  | .local _ .vmem, ⟨47, _⟩ => ⟨S2048x1024, .bf16⟩
  | .local _ .vmem, ⟨48, _⟩ => ⟨S2048x1024, .f32⟩
  | .local _ .vmem, ⟨49, _⟩ => ⟨S2048x1024, .f32⟩
  | .local _ .vmem, ⟨50, _⟩ => ⟨S1x1024x1024, .bf16⟩
  | .local _ .vmem, ⟨51, _⟩ => ⟨S1x1024x1024, .bf16⟩
  | .local _ .vmem, ⟨52, _⟩ => ⟨S512x512, .f32⟩
  | .local _ .vmem, ⟨53, _⟩ => ⟨S512x512, .f32⟩
  | .local _ .vmem, ⟨54, _⟩ => ⟨S512x512, .f32⟩
  | .local _ .vmem, ⟨55, _⟩ => ⟨S512x512, .f32⟩
  | .local _ .vmem, ⟨56, _⟩ => ⟨S512x512, .f32⟩
  | .local _ .vmem, ⟨57, _⟩ => ⟨S512x512, .f32⟩
  | .local _ .vmem, ⟨58, _⟩ => ⟨S512x512, .f32⟩
  | .local _ .vmem, ⟨59, _⟩ => ⟨S512x512, .f32⟩
  | .local _ .vmem, ⟨60, _⟩ => ⟨S512x512, .f32⟩
  | .local _ .vmem, ⟨61, _⟩ => ⟨S512x512, .f32⟩
  | .local _ .vmem, ⟨62, _⟩ => ⟨S512x512, .f32⟩
  | .local _ .vmem, ⟨63, _⟩ => ⟨S512x512, .f32⟩
  | .local _ .vmem, ⟨64, _⟩ => ⟨S512x512, .f32⟩
  | .local _ .vmem, ⟨65, _⟩ => ⟨S512x512, .f32⟩
  | .local _ .vmem, ⟨66, _⟩ => ⟨S512x512, .bf16⟩
  | .local _ .vmem, ⟨67, _⟩ => ⟨S512x512, .bf16⟩
  | .local _ .vmem, ⟨68, _⟩ => ⟨S512x512, .bf16⟩
  | .local _ .vmem, ⟨69, _⟩ => ⟨S512x512, .bf16⟩
  | .local _ .vmem, ⟨70, _⟩ => ⟨S512x512, .bf16⟩
  | .local _ .vmem, ⟨71, _⟩ => ⟨S512x512, .bf16⟩
  | .local _ .vmem, ⟨72, _⟩ => ⟨S512x512, .bf16⟩
  | .local _ .vmem, ⟨73, _⟩ => ⟨S512x512, .bf16⟩
  | .local _ .vmem, ⟨74, _⟩ => ⟨S512x512, .bf16⟩
  | .local _ .vmem, ⟨75, _⟩ => ⟨S512x512, .bf16⟩
  | .local _ .vmem, ⟨76, _⟩ => ⟨S512x512, .bf16⟩
  | .local _ .vmem, ⟨77, _⟩ => ⟨S512x512, .bf16⟩
  | .local _ .vmem, ⟨78, _⟩ => ⟨S2048x1024, .bf16⟩
  | .local _ .vmem, ⟨79, _⟩ => ⟨S2048x512, .bf16⟩
  | .local _ .vmem, ⟨80, _⟩ => ⟨S2048x512, .bf16⟩
  | .local _ .vmem, ⟨81, _⟩ => ⟨S1x1024x512, .bf16⟩
  | .local _ .vmem, ⟨82, _⟩ => ⟨S1x1024x512, .bf16⟩
  | .local _ .vmem, ⟨83, _⟩ => ⟨S2048x1024, .bf16⟩
  | .local _ .vmem, ⟨84, _⟩ => ⟨S2048x512, .bf16⟩
  | .local _ .vmem, ⟨85, _⟩ => ⟨S2048x512, .bf16⟩
  | .local _ .vmem, ⟨86, _⟩ => ⟨S1x1024x512, .bf16⟩
  | .local _ .vmem, ⟨87, _⟩ => ⟨S1x1024x512, .bf16⟩
  | .local _ .vmem, ⟨88, _⟩ => ⟨S2048x1024, .bf16⟩
  | .local _ .vmem, ⟨89, _⟩ => ⟨S2048x512, .bf16⟩
  | .local _ .vmem, ⟨90, _⟩ => ⟨S2048x512, .bf16⟩
  | .local _ .vmem, ⟨91, _⟩ => ⟨S1x1024x512, .bf16⟩
  | .local _ .vmem, ⟨92, _⟩ => ⟨S1x1024x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | _, _ => false

abbrev semScoped : Fin 0 → Bool
  | ⟨_, h⟩ => absurd h (Nat.not_lt_zero _)

abbrev dmaSemScoped : Fin 93 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | _ => false

abbrev sig : RefSig :=
  ofTc nBuf bufTy 0 93 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v7_4 : Ref sig .tc := ⟨.hbm, 21, rfl⟩
abbrev main_v7_5 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc3_stg5_0 : Ref sig .tc := ⟨.vmem, 28, rfl⟩
abbrev cc3_stg5_1 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg2_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_stg2_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg1_1 : Ref sig .tc := ⟨.vmem, 55, rfl⟩
abbrev cc7_stg2_0 : Ref sig .tc := ⟨.vmem, 56, rfl⟩
abbrev cc7_stg2_1 : Ref sig .tc := ⟨.vmem, 57, rfl⟩
abbrev cc7_stg3_0 : Ref sig .tc := ⟨.vmem, 58, rfl⟩
abbrev cc7_stg3_1 : Ref sig .tc := ⟨.vmem, 59, rfl⟩
abbrev cc7_stg4_0 : Ref sig .tc := ⟨.vmem, 60, rfl⟩
abbrev cc7_stg4_1 : Ref sig .tc := ⟨.vmem, 61, rfl⟩
abbrev cc7_stg5_0 : Ref sig .tc := ⟨.vmem, 62, rfl⟩
abbrev cc7_stg5_1 : Ref sig .tc := ⟨.vmem, 63, rfl⟩
abbrev cc7_stg6_0 : Ref sig .tc := ⟨.vmem, 64, rfl⟩
abbrev cc7_stg6_1 : Ref sig .tc := ⟨.vmem, 65, rfl⟩
abbrev cc7_stg7_0 : Ref sig .tc := ⟨.vmem, 66, rfl⟩
abbrev cc7_stg7_1 : Ref sig .tc := ⟨.vmem, 67, rfl⟩
abbrev cc7_stg8_0 : Ref sig .tc := ⟨.vmem, 68, rfl⟩
abbrev cc7_stg8_1 : Ref sig .tc := ⟨.vmem, 69, rfl⟩
abbrev cc7_stg9_0 : Ref sig .tc := ⟨.vmem, 70, rfl⟩
abbrev cc7_stg9_1 : Ref sig .tc := ⟨.vmem, 71, rfl⟩
abbrev cc7_stg10_0 : Ref sig .tc := ⟨.vmem, 72, rfl⟩
abbrev cc7_stg10_1 : Ref sig .tc := ⟨.vmem, 73, rfl⟩
abbrev cc7_stg11_0 : Ref sig .tc := ⟨.vmem, 74, rfl⟩
abbrev cc7_stg11_1 : Ref sig .tc := ⟨.vmem, 75, rfl⟩
abbrev cc7_stg12_0 : Ref sig .tc := ⟨.vmem, 76, rfl⟩
abbrev cc7_stg12_1 : Ref sig .tc := ⟨.vmem, 77, rfl⟩
abbrev cc8_stg0_0 : Ref sig .tc := ⟨.vmem, 78, rfl⟩
abbrev cc8_stg1_0 : Ref sig .tc := ⟨.vmem, 79, rfl⟩
abbrev cc8_stg1_1 : Ref sig .tc := ⟨.vmem, 80, rfl⟩
abbrev cc8_stg2_0 : Ref sig .tc := ⟨.vmem, 81, rfl⟩
abbrev cc8_stg2_1 : Ref sig .tc := ⟨.vmem, 82, rfl⟩
abbrev cc9_stg0_0 : Ref sig .tc := ⟨.vmem, 83, rfl⟩
abbrev cc9_stg1_0 : Ref sig .tc := ⟨.vmem, 84, rfl⟩
abbrev cc9_stg1_1 : Ref sig .tc := ⟨.vmem, 85, rfl⟩
abbrev cc9_stg2_0 : Ref sig .tc := ⟨.vmem, 86, rfl⟩
abbrev cc9_stg2_1 : Ref sig .tc := ⟨.vmem, 87, rfl⟩
abbrev cc10_stg0_0 : Ref sig .tc := ⟨.vmem, 88, rfl⟩
abbrev cc10_stg1_0 : Ref sig .tc := ⟨.vmem, 89, rfl⟩
abbrev cc10_stg1_1 : Ref sig .tc := ⟨.vmem, 90, rfl⟩
abbrev cc10_stg2_0 : Ref sig .tc := ⟨.vmem, 91, rfl⟩
abbrev cc10_stg2_1 : Ref sig .tc := ⟨.vmem, 92, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc3_sem5_0 : DmaSem sig := 28
abbrev cc3_sem5_1 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem2_1 : DmaSem sig := 45
abbrev cc6_sem0_0 : DmaSem sig := 46
abbrev cc6_sem0_1 : DmaSem sig := 47
abbrev cc6_sem1_0 : DmaSem sig := 48
abbrev cc6_sem1_1 : DmaSem sig := 49
abbrev cc6_sem2_0 : DmaSem sig := 50
abbrev cc6_sem2_1 : DmaSem sig := 51
abbrev cc7_sem0_0 : DmaSem sig := 52
abbrev cc7_sem0_1 : DmaSem sig := 53
abbrev cc7_sem1_0 : DmaSem sig := 54
abbrev cc7_sem1_1 : DmaSem sig := 55
abbrev cc7_sem2_0 : DmaSem sig := 56
abbrev cc7_sem2_1 : DmaSem sig := 57
abbrev cc7_sem3_0 : DmaSem sig := 58
abbrev cc7_sem3_1 : DmaSem sig := 59
abbrev cc7_sem4_0 : DmaSem sig := 60
abbrev cc7_sem4_1 : DmaSem sig := 61
abbrev cc7_sem5_0 : DmaSem sig := 62
abbrev cc7_sem5_1 : DmaSem sig := 63
abbrev cc7_sem6_0 : DmaSem sig := 64
abbrev cc7_sem6_1 : DmaSem sig := 65
abbrev cc7_sem7_0 : DmaSem sig := 66
abbrev cc7_sem7_1 : DmaSem sig := 67
abbrev cc7_sem8_0 : DmaSem sig := 68
abbrev cc7_sem8_1 : DmaSem sig := 69
abbrev cc7_sem9_0 : DmaSem sig := 70
abbrev cc7_sem9_1 : DmaSem sig := 71
abbrev cc7_sem10_0 : DmaSem sig := 72
abbrev cc7_sem10_1 : DmaSem sig := 73
abbrev cc7_sem11_0 : DmaSem sig := 74
abbrev cc7_sem11_1 : DmaSem sig := 75
abbrev cc7_sem12_0 : DmaSem sig := 76
abbrev cc7_sem12_1 : DmaSem sig := 77
abbrev cc8_sem0_0 : DmaSem sig := 78
abbrev cc8_sem1_0 : DmaSem sig := 79
abbrev cc8_sem1_1 : DmaSem sig := 80
abbrev cc8_sem2_0 : DmaSem sig := 81
abbrev cc8_sem2_1 : DmaSem sig := 82
abbrev cc9_sem0_0 : DmaSem sig := 83
abbrev cc9_sem1_0 : DmaSem sig := 84
abbrev cc9_sem1_1 : DmaSem sig := 85
abbrev cc9_sem2_0 : DmaSem sig := 86
abbrev cc9_sem2_1 : DmaSem sig := 87
abbrev cc10_sem0_0 : DmaSem sig := 88
abbrev cc10_sem1_0 : DmaSem sig := 89
abbrev cc10_sem1_1 : DmaSem sig := 90
abbrev cc10_sem2_0 : DmaSem sig := 91
abbrev cc10_sem2_1 : DmaSem sig := 92

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨2, ![4, 4], ![false, false]⟩

def cc3_transform_0 (i : grid3.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc3_transform_1 (i : grid3.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc3_transform_2 (i : grid3.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  ![arg0.toNat, v0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S512x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S512x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S512x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S512x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S512x512 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev grid4 : Pipeline.Grid := ⟨3, ![2, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1x2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev grid5 : Pipeline.Grid := ⟨3, ![2, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1x1024x2048 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![2, 2, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc6_transform_2 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage6_0 : Fin 2 → Memref sig .tc .vmem S2048x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true, true]

abbrev stage6_1 : Fin 2 → Memref sig .tc .vmem S2048x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false, true]

abbrev stage6_2 : Fin 2 → Memref sig .tc .vmem S1x1024x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨2, ![4, 4], ![false, false]⟩

def cc7_transform_0 (i : grid7.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc7_transform_1 (i : grid7.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc7_transform_2 (i : grid7.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  ![arg0.toNat, v0.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_5 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_6 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_7 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_8 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_9 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_10 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_11 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_12 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S512x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S512x512 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 2 → Memref sig .tc .vmem S512x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev stage7_3 : Fin 2 → Memref sig .tc .vmem S512x512 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]

abbrev stage7_4 : Fin 2 → Memref sig .tc .vmem S512x512 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true]

abbrev stage7_5 : Fin 2 → Memref sig .tc .vmem S512x512 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, true]

abbrev stage7_6 : Fin 2 → Memref sig .tc .vmem S512x512 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true, true]

abbrev stage7_7 : Fin 2 → Memref sig .tc .vmem S512x512 .bf16 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true, true]

abbrev stage7_8 : Fin 2 → Memref sig .tc .vmem S512x512 .bf16 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true, true]

abbrev stage7_9 : Fin 2 → Memref sig .tc .vmem S512x512 .bf16 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true, true]

abbrev stage7_10 : Fin 2 → Memref sig .tc .vmem S512x512 .bf16 := fun | 0 => Memref.whole cc7_stg10_0 | 1 => Memref.whole cc7_stg10_1 | ⟨_ + 2, h⟩ => absurd h (Nat.not_lt.2 (Nat.le_add_left _ _))
abbrev sem7_10 : Fin 2 → DmaSem sig := fun | 0 => cc7_sem10_0 | 1 => cc7_sem10_1 | ⟨_ + 2, h⟩ => absurd h (Nat.not_lt.2 (Nat.le_add_left _ _))
abbrev reads7_10 : Fin grid7.rank → Bool := ![true, true]

abbrev stage7_11 : Fin 2 → Memref sig .tc .vmem S512x512 .bf16 := fun | 0 => Memref.whole cc7_stg11_0 | 1 => Memref.whole cc7_stg11_1 | ⟨_ + 2, h⟩ => absurd h (Nat.not_lt.2 (Nat.le_add_left _ _))
abbrev sem7_11 : Fin 2 → DmaSem sig := fun | 0 => cc7_sem11_0 | 1 => cc7_sem11_1 | ⟨_ + 2, h⟩ => absurd h (Nat.not_lt.2 (Nat.le_add_left _ _))
abbrev reads7_11 : Fin grid7.rank → Bool := ![true, true]

abbrev stage7_12 : Fin 2 → Memref sig .tc .vmem S512x512 .bf16 := fun | 0 => Memref.whole cc7_stg12_0 | 1 => Memref.whole cc7_stg12_1 | ⟨_ + 2, h⟩ => absurd h (Nat.not_lt.2 (Nat.le_add_left _ _))
abbrev sem7_12 : Fin 2 → DmaSem sig := fun | 0 => cc7_sem12_0 | 1 => cc7_sem12_1 | ⟨_ + 2, h⟩ => absurd h (Nat.not_lt.2 (Nat.le_add_left _ _))
abbrev reads7_12 : Fin grid7.rank → Bool := ![true, true]

abbrev grid8 : Pipeline.Grid := ⟨3, ![4, 1, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc8_transform_2 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage8_0 : Fin 1 → Memref sig .tc .vmem S2048x1024 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false, true, true]

abbrev stage8_1 : Fin 2 → Memref sig .tc .vmem S2048x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, false, true]

abbrev stage8_2 : Fin 2 → Memref sig .tc .vmem S1x1024x512 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![4, 1, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc9_transform_2 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage9_0 : Fin 1 → Memref sig .tc .vmem S2048x1024 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false, true, true]

abbrev stage9_1 : Fin 2 → Memref sig .tc .vmem S2048x512 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, false, true]

abbrev stage9_2 : Fin 2 → Memref sig .tc .vmem S1x1024x512 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev grid10 : Pipeline.Grid := ⟨3, ![4, 1, 1], ![false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc10_transform_2 (i : grid10.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage10_0 : Fin 1 → Memref sig .tc .vmem S2048x1024 .bf16 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false, true, true]

abbrev stage10_1 : Fin 2 → Memref sig .tc .vmem S2048x512 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true, false, true]

abbrev stage10_2 : Fin 2 → Memref sig .tc .vmem S1x1024x512 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]
-- ==== Reference8Ideal.lean ====
abbrev S2048x2048 : Shape := ⟨2, ![2048, 2048]⟩
abbrev S2048x13312 : Shape := ⟨2, ![2048, 13312]⟩
abbrev S2048x1024 : Shape := ⟨2, ![2048, 1024]⟩
abbrev S4x1024x512 : Shape := ⟨3, ![4, 1024, 512]⟩
abbrev S1x2048x2048 : Shape := ⟨3, ![1, 2048, 2048]⟩
abbrev S2048x1x1024 : Shape := ⟨3, ![2048, 1, 1024]⟩
abbrev S2048x3x1024 : Shape := ⟨3, ![2048, 3, 1024]⟩
abbrev S2048x6144 : Shape := ⟨2, ![2048, 6144]⟩
abbrev S2048x3x2048 : Shape := ⟨3, ![2048, 3, 2048]⟩
abbrev S1024x4x512 : Shape := ⟨3, ![1024, 4, 512]⟩
abbrev S1024x2048 : Shape := ⟨2, ![1024, 2048]⟩
abbrev S1x1024x2048 : Shape := ⟨3, ![1, 1024, 2048]⟩
abbrev S3x1024x2048 : Shape := ⟨3, ![3, 1024, 2048]⟩
abbrev S3x2048x2048 : Shape := ⟨3, ![3, 2048, 2048]⟩
abbrev S_ : Shape := ⟨0, ![]⟩
abbrev S3x2048x1024 : Shape := ⟨3, ![3, 2048, 1024]⟩
abbrev S3x1024x4x512 : Shape := ⟨4, ![3, 1024, 4, 512]⟩
abbrev S3x4x1024x512 : Shape := ⟨4, ![3, 4, 1024, 512]⟩
abbrev S2048x1x2048 : Shape := ⟨3, ![2048, 1, 2048]⟩
abbrev S1x4x1024x512 : Shape := ⟨4, ![1, 4, 1024, 512]⟩

abbrev nBuf : Space → Nat
  | .hbm => 77
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x13312, .f32⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S4x1024x512, .bf16⟩
  | .hbm, ⟨6, _⟩ => ⟨S4x1024x512, .bf16⟩
  | .hbm, ⟨7, _⟩ => ⟨S4x1024x512, .bf16⟩
  | .hbm, ⟨8, _⟩ => ⟨S1x2048x2048, .bf16⟩
  | .hbm, ⟨9, _⟩ => ⟨S2048x2048, .f32⟩
  | .hbm, ⟨10, _⟩ => ⟨S2048x1x1024, .bf16⟩
  | .hbm, ⟨11, _⟩ => ⟨S2048x1x1024, .bf16⟩
  | .hbm, ⟨12, _⟩ => ⟨S2048x1x1024, .bf16⟩
  | .hbm, ⟨13, _⟩ => ⟨S2048x3x1024, .bf16⟩
  | .hbm, ⟨14, _⟩ => ⟨S2048x3x1024, .f32⟩
  | .hbm, ⟨15, _⟩ => ⟨S2048x6144, .f32⟩
  | .hbm, ⟨16, _⟩ => ⟨S2048x3x2048, .f32⟩
  | .hbm, ⟨17, _⟩ => ⟨S1024x4x512, .bf16⟩
  | .hbm, ⟨18, _⟩ => ⟨S1024x2048, .bf16⟩
  | .hbm, ⟨19, _⟩ => ⟨S1024x4x512, .bf16⟩
  | .hbm, ⟨20, _⟩ => ⟨S1024x2048, .bf16⟩
  | .hbm, ⟨21, _⟩ => ⟨S1024x4x512, .bf16⟩
  | .hbm, ⟨22, _⟩ => ⟨S1024x2048, .bf16⟩
  | .hbm, ⟨23, _⟩ => ⟨S1x1024x2048, .bf16⟩
  | .hbm, ⟨24, _⟩ => ⟨S1x1024x2048, .bf16⟩
  | .hbm, ⟨25, _⟩ => ⟨S1x1024x2048, .bf16⟩
  | .hbm, ⟨26, _⟩ => ⟨S3x1024x2048, .bf16⟩
  | .hbm, ⟨27, _⟩ => ⟨S3x1024x2048, .f32⟩
  | .hbm, ⟨28, _⟩ => ⟨S2048x2048, .bf16⟩
  | .hbm, ⟨29, _⟩ => ⟨S2048x2048, .f32⟩
  | .hbm, ⟨30, _⟩ => ⟨S3x2048x2048, .f32⟩
  | .hbm, ⟨31, _⟩ => ⟨S2048x3x2048, .f32⟩
  | .hbm, ⟨32, _⟩ => ⟨S2048x3x2048, .f32⟩
  | .hbm, ⟨33, _⟩ => ⟨S2048x3x2048, .f32⟩
  | .hbm, ⟨34, _⟩ => ⟨S_, .f32⟩
  | .hbm, ⟨35, _⟩ => ⟨S2048x3x2048, .f32⟩
  | .hbm, ⟨36, _⟩ => ⟨S2048x3x2048, .f32⟩
  | .hbm, ⟨37, _⟩ => ⟨S_, .f32⟩
  | .hbm, ⟨38, _⟩ => ⟨S2048x3x2048, .f32⟩
  | .hbm, ⟨39, _⟩ => ⟨S2048x3x2048, .f32⟩
  | .hbm, ⟨40, _⟩ => ⟨S_, .f32⟩
  | .hbm, ⟨41, _⟩ => ⟨S2048x3x2048, .f32⟩
  | .hbm, ⟨42, _⟩ => ⟨S2048x3x2048, .f32⟩
  | .hbm, ⟨43, _⟩ => ⟨S2048x3x2048, .f32⟩
  | .hbm, ⟨44, _⟩ => ⟨S2048x3x2048, .f32⟩
  | .hbm, ⟨45, _⟩ => ⟨S_, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x3x2048, .f32⟩
  | .hbm, ⟨53, _⟩ => ⟨S2048x3x2048, .f32⟩
  | .hbm, ⟨54, _⟩ => ⟨S2048x3x2048, .f32⟩
  | .hbm, ⟨55, _⟩ => ⟨S2048x3x2048, .f32⟩
  | .hbm, ⟨56, _⟩ => ⟨S3x2048x2048, .f32⟩
  | .hbm, ⟨57, _⟩ => ⟨S3x2048x1024, .f32⟩
  | .hbm, ⟨58, _⟩ => ⟨S3x1024x2048, .f32⟩
  | .hbm, ⟨59, _⟩ => ⟨S3x1024x4x512, .f32⟩
  | .hbm, ⟨60, _⟩ => ⟨S3x4x1024x512, .f32⟩
  | .hbm, ⟨61, _⟩ => ⟨S3x4x1024x512, .bf16⟩
  | .hbm, ⟨62, _⟩ => ⟨S2048x3x2048, .bf16⟩
  | .hbm, ⟨63, _⟩ => ⟨S1x2048x2048, .f32⟩
  | .hbm, ⟨64, _⟩ => ⟨S1x2048x2048, .bf16⟩
  | .hbm, ⟨65, _⟩ => ⟨S2048x1x2048, .bf16⟩
  | .hbm, ⟨66, _⟩ => ⟨S2048x2048, .bf16⟩
  | .hbm, ⟨67, _⟩ => ⟨S2048x1x2048, .bf16⟩
  | .hbm, ⟨68, _⟩ => ⟨S2048x2048, .bf16⟩
  | .hbm, ⟨69, _⟩ => ⟨S2048x1x2048, .bf16⟩
  | .hbm, ⟨70, _⟩ => ⟨S2048x2048, .bf16⟩
  | .hbm, ⟨71, _⟩ => ⟨S1x4x1024x512, .bf16⟩
  | .hbm, ⟨72, _⟩ => ⟨S4x1024x512, .bf16⟩
  | .hbm, ⟨73, _⟩ => ⟨S1x4x1024x512, .bf16⟩
  | .hbm, ⟨74, _⟩ => ⟨S4x1024x512, .bf16⟩
  | .hbm, ⟨75, _⟩ => ⟨S1x4x1024x512, .bf16⟩
  | .hbm, ⟨76, _⟩ => ⟨S4x1024x512, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_cst_0 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩

abbrev nD : Nat := 1
abbrev τ : Topo := Topo.v7x

variable {F : FTy → Type} [FloatOps F]
-- ==== Kernel9.lean ====
abbrev S4x1024x512 : Shape := ⟨3, ![4, 1024, 512]⟩
abbrev S2048x2048 : Shape := ⟨2, ![2048, 2048]⟩
abbrev S2048x1024 : Shape := ⟨2, ![2048, 1024]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x1024x512, .bf16⟩
  | .hbm, ⟨1, _⟩ => ⟨S2048x2048, .bf16⟩
  | .hbm, ⟨2, _⟩ => ⟨S2048x1024, .bf16⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4x1024x512 : Shape := ⟨3, ![4, 1024, 512]⟩
abbrev S2048x2048 : Shape := ⟨2, ![2048, 2048]⟩
abbrev S_ : Shape := ⟨0, ![]⟩
abbrev S2048x1024 : Shape := ⟨2, ![2048, 1024]⟩
abbrev S1024x4x512 : Shape := ⟨3, ![1024, 4, 512]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4x1024x512, .bf16⟩
  | .hbm, ⟨1, _⟩ => ⟨S2048x2048, .bf16⟩
  | .hbm, ⟨2, _⟩ => ⟨S_, .f32⟩
  | .hbm, ⟨3, _⟩ => ⟨S2048x1024, .f32⟩
  | .hbm, ⟨4, _⟩ => ⟨S4x1024x512, .f32⟩
  | .hbm, ⟨5, _⟩ => ⟨S1024x4x512, .f32⟩
  | .hbm, ⟨6, _⟩ => ⟨S1024x2048, .f32⟩
  | .hbm, ⟨7, _⟩ => ⟨S2048x2048, .f32⟩
  | .hbm, ⟨8, _⟩ => ⟨S2048x2048, .f32⟩
  | .hbm, ⟨9, _⟩ => ⟨S2048x1024, .f32⟩
  | .hbm, ⟨10, _⟩ => ⟨S2048x1024, .bf16⟩
  | _, _ => ⟨S4x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S2048x2048 : Shape := ⟨2, ![2048, 2048]⟩
abbrev S256x2048 : Shape := ⟨2, ![256, 2048]⟩
abbrev S1x2048x512 : Shape := ⟨3, ![1, 2048, 512]⟩
abbrev S1x2048x1024 : Shape := ⟨3, ![1, 2048, 1024]⟩
abbrev S4x512x512 : Shape := ⟨3, ![4, 512, 512]⟩
abbrev S2048x512 : Shape := ⟨2, ![2048, 512]⟩
abbrev S256x1024 : Shape := ⟨2, ![256, 1024]⟩
abbrev S1024x2048 : Shape := ⟨2, ![1024, 2048]⟩
abbrev S1024x512 : Shape := ⟨2, ![1024, 512]⟩
abbrev S2048x1024 : Shape := ⟨2, ![2048, 1024]⟩
abbrev S1x512x512 : Shape := ⟨3, ![1, 512, 512]⟩
abbrev S512x512 : Shape := ⟨2, ![512, 512]⟩
abbrev S1x1024x512 : Shape := ⟨3, ![1, 1024, 512]⟩
abbrev S1024x1024 : Shape := ⟨2, ![1024, 1024]⟩
abbrev S1x1024x1024 : Shape := ⟨3, ![1, 1024, 1024]⟩

abbrev nBuf : Space → Nat
  | .hbm => 18
  | .vmem => 42
  | .smem => 0
  | _ => 0

abbrev bufTy : (tb : Table) → Fin (tcTables nBuf tb) → BufTy
  | .hbm, ⟨0, _⟩ => ⟨S2048x2048, .bf16⟩
  | .hbm, ⟨1, _⟩ => ⟨S256x2048, .bf16⟩
  | .hbm, ⟨2, _⟩ => ⟨S1x2048x512, .bf16⟩
  | .hbm, ⟨3, _⟩ => ⟨S1x2048x1024, .bf16⟩
  | .hbm, ⟨4, _⟩ => ⟨S4x512x512, .bf16⟩
  | .hbm, ⟨5, _⟩ => ⟨S2048x512, .bf16⟩
  | .hbm, ⟨6, _⟩ => ⟨S2048x2048, .f32⟩
  | .hbm, ⟨7, _⟩ => ⟨S2048x512, .bf16⟩
  | .hbm, ⟨8, _⟩ => ⟨S256x1024, .bf16⟩
  | .hbm, ⟨9, _⟩ => ⟨S2048x2048, .f32⟩
  | .hbm, ⟨10, _⟩ => ⟨S2048x512, .f32⟩
  | .hbm, ⟨11, _⟩ => ⟨S256x1024, .f32⟩
  | .hbm, ⟨12, _⟩ => ⟨S2048x2048, .f32⟩
  | .hbm, ⟨13, _⟩ => ⟨S4x512x512, .bf16⟩
  | .hbm, ⟨14, _⟩ => ⟨S2048x2048, .f32⟩
  | .hbm, ⟨15, _⟩ => ⟨S1x2048x512, .bf16⟩
  | .hbm, ⟨16, _⟩ => ⟨S256x2048, .f32⟩
  | .hbm, ⟨17, _⟩ => ⟨S1x2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1024x512, .f32⟩
  | .local _ .vmem, ⟨4, _⟩ => ⟨S1024x512, .f32⟩
  | .local _ .vmem, ⟨5, _⟩ => ⟨S256x2048, .bf16⟩
  | .local _ .vmem, ⟨6, _⟩ => ⟨S1x2048x1024, .bf16⟩
  | .local _ .vmem, ⟨7, _⟩ => ⟨S256x1024, .f32⟩
  | .local _ .vmem, ⟨8, _⟩ => ⟨S1024x512, .bf16⟩
  | .local _ .vmem, ⟨9, _⟩ => ⟨S1024x512, .bf16⟩
  | .local _ .vmem, ⟨10, _⟩ => ⟨S1x512x512, .bf16⟩
  | .local _ .vmem, ⟨11, _⟩ => ⟨S1x512x512, .bf16⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S2048x512, .bf16⟩
  | .local _ .vmem, ⟨17, _⟩ => ⟨S2048x512, .f32⟩
  | .local _ .vmem, ⟨18, _⟩ => ⟨S2048x512, .f32⟩
  | .local _ .vmem, ⟨19, _⟩ => ⟨S1x512x512, .bf16⟩
  | .local _ .vmem, ⟨20, _⟩ => ⟨S1x512x512, .bf16⟩
  | .local _ .vmem, ⟨21, _⟩ => ⟨S1024x512, .bf16⟩
  | .local _ .vmem, ⟨22, _⟩ => ⟨S1024x512, .bf16⟩
  | .local _ .vmem, ⟨23, _⟩ => ⟨S1x1024x512, .bf16⟩
  | .local _ .vmem, ⟨24, _⟩ => ⟨S1x1024x512, .bf16⟩
  | .local _ .vmem, ⟨25, _⟩ => ⟨S1024x1024, .f32⟩
  | .local _ .vmem, ⟨26, _⟩ => ⟨S1024x1024, .f32⟩
  | .local _ .vmem, ⟨27, _⟩ => ⟨S2048x1024, .bf16⟩
  | .local _ .vmem, ⟨28, _⟩ => ⟨S2048x1024, .bf16⟩
  | .local _ .vmem, ⟨29, _⟩ => ⟨S2048x512, .bf16⟩
  | .local _ .vmem, ⟨30, _⟩ => ⟨S1x1024x512, .bf16⟩
  | .local _ .vmem, ⟨31, _⟩ => ⟨S1x1024x512, .bf16⟩
  | .local _ .vmem, ⟨32, _⟩ => ⟨S256x1024, .bf16⟩
  | .local _ .vmem, ⟨33, _⟩ => ⟨S1x1024x1024, .bf16⟩
  | .local _ .vmem, ⟨34, _⟩ => ⟨S1x1024x1024, .bf16⟩
  | .local _ .vmem, ⟨35, _⟩ => ⟨S256x1024, .f32⟩
  | .local _ .vmem, ⟨36, _⟩ => ⟨S256x1024, .f32⟩
  | .local _ .vmem, ⟨37, _⟩ => ⟨S256x1024, .bf16⟩
  | .local _ .vmem, ⟨38, _⟩ => ⟨S256x1024, .bf16⟩
  | .local _ .vmem, ⟨39, _⟩ => ⟨S256x1024, .bf16⟩
  | .local _ .vmem, ⟨40, _⟩ => ⟨S1x1024x1024, .bf16⟩
  | .local _ .vmem, ⟨41, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg1_0 : Ref sig .tc := ⟨.vmem, 33, rfl⟩
abbrev cc6_stg1_1 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg2_0 : Ref sig .tc := ⟨.vmem, 40, rfl⟩
abbrev cc7_stg2_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15
abbrev cc3_sem0_0 : DmaSem sig := 16
abbrev cc3_sem1_0 : DmaSem sig := 17
abbrev cc3_sem1_1 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem1_0 : DmaSem sig := 33
abbrev cc6_sem1_1 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem2_0 : DmaSem sig := 40
abbrev cc7_sem2_1 : DmaSem sig := 41

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S256x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 1 → Memref sig .tc .vmem S1x2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 1 → Memref sig .tc .vmem S256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true, false]

abbrev grid2 : Pipeline.Grid := ⟨3, ![2, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x512x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![4, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage3_0 : Fin 1 → Memref sig .tc .vmem S2048x512 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, true, true]

abbrev stage3_1 : Fin 2 → Memref sig .tc .vmem S2048x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1x512x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1x1024x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![1, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage5_0 : Fin 2 → Memref sig .tc .vmem S2048x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true, true]

abbrev stage5_1 : Fin 1 → Memref sig .tc .vmem S2048x512 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true, false, true]

abbrev stage5_2 : Fin 2 → Memref sig .tc .vmem S1x1024x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![1, 2, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc6_transform_1 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 1 → Memref sig .tc .vmem S256x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false, true]

abbrev stage6_1 : Fin 2 → Memref sig .tc .vmem S1x1024x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S256x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![1, 2, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc7_transform_2 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage7_0 : Fin 2 → Memref sig .tc .vmem S256x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true, true]

abbrev stage7_1 : Fin 1 → Memref sig .tc .vmem S256x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true, false, true]

abbrev stage7_2 : Fin 2 → Memref sig .tc .vmem S1x1024x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]
-- ==== Reference10Ideal.lean ====
abbrev S2048x2048 : Shape := ⟨2, ![2048, 2048]⟩
abbrev S256x2048 : Shape := ⟨2, ![256, 2048]⟩
abbrev S1x2048x512 : Shape := ⟨3, ![1, 2048, 512]⟩
abbrev S1x2048x1024 : Shape := ⟨3, ![1, 2048, 1024]⟩
abbrev S4x512x512 : Shape := ⟨3, ![4, 512, 512]⟩
abbrev S2048x512 : Shape := ⟨2, ![2048, 512]⟩
abbrev S256x1024 : Shape := ⟨2, ![256, 1024]⟩
abbrev S2048x1024 : Shape := ⟨2, ![2048, 1024]⟩
abbrev S512x4x512 : Shape := ⟨3, ![512, 4, 512]⟩
abbrev S512x2048 : Shape := ⟨2, ![512, 2048]⟩
abbrev S1024x2048 : Shape := ⟨2, ![1024, 2048]⟩

abbrev nBuf : Space → Nat
  | .hbm => 41
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S256x2048, .bf16⟩
  | .hbm, ⟨2, _⟩ => ⟨S1x2048x512, .bf16⟩
  | .hbm, ⟨3, _⟩ => ⟨S1x2048x1024, .bf16⟩
  | .hbm, ⟨4, _⟩ => ⟨S4x512x512, .bf16⟩
  | .hbm, ⟨5, _⟩ => ⟨S2048x512, .bf16⟩
  | .hbm, ⟨6, _⟩ => ⟨S2048x2048, .f32⟩
  | .hbm, ⟨7, _⟩ => ⟨S2048x512, .bf16⟩
  | .hbm, ⟨8, _⟩ => ⟨S256x1024, .bf16⟩
  | .hbm, ⟨9, _⟩ => ⟨S2048x2048, .f32⟩
  | .hbm, ⟨10, _⟩ => ⟨S2048x2048, .f32⟩
  | .hbm, ⟨11, _⟩ => ⟨S2048x512, .bf16⟩
  | .hbm, ⟨12, _⟩ => ⟨S2048x512, .f32⟩
  | .hbm, ⟨13, _⟩ => ⟨S2048x512, .f32⟩
  | .hbm, ⟨14, _⟩ => ⟨S256x2048, .f32⟩
  | .hbm, ⟨15, _⟩ => ⟨S2048x1024, .bf16⟩
  | .hbm, ⟨16, _⟩ => ⟨S2048x1024, .f32⟩
  | .hbm, ⟨17, _⟩ => ⟨S256x1024, .f32⟩
  | .hbm, ⟨18, _⟩ => ⟨S4x512x512, .f32⟩
  | .hbm, ⟨19, _⟩ => ⟨S512x4x512, .f32⟩
  | .hbm, ⟨20, _⟩ => ⟨S512x2048, .f32⟩
  | .hbm, ⟨21, _⟩ => ⟨S2048x512, .f32⟩
  | .hbm, ⟨22, _⟩ => ⟨S2048x2048, .f32⟩
  | .hbm, ⟨23, _⟩ => ⟨S2048x2048, .f32⟩
  | .hbm, ⟨24, _⟩ => ⟨S2048x512, .f32⟩
  | .hbm, ⟨25, _⟩ => ⟨S512x2048, .f32⟩
  | .hbm, ⟨26, _⟩ => ⟨S2048x512, .f32⟩
  | .hbm, ⟨27, _⟩ => ⟨S2048x2048, .f32⟩
  | .hbm, ⟨28, _⟩ => ⟨S256x1024, .f32⟩
  | .hbm, ⟨29, _⟩ => ⟨S1024x2048, .f32⟩
  | .hbm, ⟨30, _⟩ => ⟨S2048x1024, .f32⟩
  | .hbm, ⟨31, _⟩ => ⟨S256x2048, .f32⟩
  | .hbm, ⟨32, _⟩ => ⟨S2048x512, .f32⟩
  | .hbm, ⟨33, _⟩ => ⟨S512x2048, .f32⟩
  | .hbm, ⟨34, _⟩ => ⟨S512x4x512, .f32⟩
  | .hbm, ⟨35, _⟩ => ⟨S4x512x512, .f32⟩
  | .hbm, ⟨36, _⟩ => ⟨S1x2048x512, .f32⟩
  | .hbm, ⟨37, _⟩ => ⟨S1x2048x512, .bf16⟩
  | .hbm, ⟨38, _⟩ => ⟨S1x2048x1024, .f32⟩
  | .hbm, ⟨39, _⟩ => ⟨S1x2048x1024, .bf16⟩
  | .hbm, ⟨40, _⟩ => ⟨S4x512x512, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel11.lean ====
abbrev S4x512x512 : Shape := ⟨3, ![4, 512, 512]⟩
abbrev S2048x2048 : Shape := ⟨2, ![2048, 2048]⟩
abbrev S2048x512 : Shape := ⟨2, ![2048, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4x512x512, .bf16⟩
  | .hbm, ⟨1, _⟩ => ⟨S2048x2048, .f32⟩
  | .hbm, ⟨2, _⟩ => ⟨S2048x512, .bf16⟩
  | .local _ .vmem, ⟨0, _⟩ => ⟨S1024x512, .f32⟩
  | .local _ .vmem, ⟨1, _⟩ => ⟨S1024x512, .f32⟩
  | .local _ .vmem, ⟨2, _⟩ => ⟨S1x512x512, .bf16⟩
  | .local _ .vmem, ⟨3, _⟩ => ⟨S1x512x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4x512x512 : Shape := ⟨3, ![4, 512, 512]⟩
abbrev S2048x2048 : Shape := ⟨2, ![2048, 2048]⟩
abbrev S_ : Shape := ⟨0, ![]⟩
abbrev S2048x512 : Shape := ⟨2, ![2048, 512]⟩
abbrev S512x4x512 : Shape := ⟨3, ![512, 4, 512]⟩
abbrev S512x2048 : Shape := ⟨2, ![512, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4x512x512, .bf16⟩
  | .hbm, ⟨1, _⟩ => ⟨S2048x2048, .f32⟩
  | .hbm, ⟨2, _⟩ => ⟨S_, .f32⟩
  | .hbm, ⟨3, _⟩ => ⟨S2048x512, .f32⟩
  | .hbm, ⟨4, _⟩ => ⟨S4x512x512, .f32⟩
  | .hbm, ⟨5, _⟩ => ⟨S512x4x512, .f32⟩
  | .hbm, ⟨6, _⟩ => ⟨S512x2048, .f32⟩
  | .hbm, ⟨7, _⟩ => ⟨S2048x2048, .f32⟩
  | .hbm, ⟨8, _⟩ => ⟨S2048x512, .f32⟩
  | .hbm, ⟨9, _⟩ => ⟨S2048x512, .bf16⟩
  | _, _ => ⟨S4x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S2048x512 : Shape := ⟨2, ![2048, 512]⟩
abbrev S2048x256 : Shape := ⟨2, ![2048, 256]⟩
abbrev S1x512x2048 : Shape := ⟨3, ![1, 512, 2048]⟩
abbrev S4x256x512 : Shape := ⟨3, ![4, 256, 512]⟩
abbrev S2048x2048 : Shape := ⟨2, ![2048, 2048]⟩
abbrev S1024x512 : Shape := ⟨2, ![1024, 512]⟩
abbrev S1x512x1024 : Shape := ⟨3, ![1, 512, 1024]⟩
abbrev S1024x1024 : Shape := ⟨2, ![1024, 1024]⟩
abbrev S512x1024 : Shape := ⟨2, ![512, 1024]⟩
abbrev S1024x256 : Shape := ⟨2, ![1024, 256]⟩
abbrev S1x256x512 : Shape := ⟨3, ![1, 256, 512]⟩
abbrev S256x512 : Shape := ⟨2, ![256, 512]⟩
abbrev S1024x2048 : Shape := ⟨2, ![1024, 2048]⟩
abbrev S512x2048 : Shape := ⟨2, ![512, 2048]⟩
abbrev S2048x1024 : Shape := ⟨2, ![2048, 1024]⟩

abbrev nBuf : Space → Nat
  | .hbm => 11
  | .vmem => 27
  | .smem => 0
  | _ => 0

abbrev bufTy : (tb : Table) → Fin (tcTables nBuf tb) → BufTy
  | .hbm, ⟨0, _⟩ => ⟨S2048x512, .bf16⟩
  | .hbm, ⟨1, _⟩ => ⟨S2048x256, .bf16⟩
  | .hbm, ⟨2, _⟩ => ⟨S1x512x2048, .bf16⟩
  | .hbm, ⟨3, _⟩ => ⟨S4x256x512, .bf16⟩
  | .hbm, ⟨4, _⟩ => ⟨S2048x2048, .bf16⟩
  | .hbm, ⟨5, _⟩ => ⟨S2048x2048, .bf16⟩
  | .hbm, ⟨6, _⟩ => ⟨S2048x2048, .f32⟩
  | .hbm, ⟨7, _⟩ => ⟨S2048x2048, .f32⟩
  | .hbm, ⟨8, _⟩ => ⟨S2048x512, .f32⟩
  | .hbm, ⟨9, _⟩ => ⟨S1x512x2048, .bf16⟩
  | .hbm, ⟨10, _⟩ => ⟨S4x256x512, .bf16⟩
  | .local _ .vmem, ⟨0, _⟩ => ⟨S1024x512, .bf16⟩
  | .local _ .vmem, ⟨1, _⟩ => ⟨S1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x256, .bf16⟩
  | .local _ .vmem, ⟨7, _⟩ => ⟨S1024x256, .bf16⟩
  | .local _ .vmem, ⟨8, _⟩ => ⟨S1x256x512, .bf16⟩
  | .local _ .vmem, ⟨9, _⟩ => ⟨S1x256x512, .bf16⟩
  | .local _ .vmem, ⟨10, _⟩ => ⟨S1024x512, .f32⟩
  | .local _ .vmem, ⟨11, _⟩ => ⟨S1024x512, .f32⟩
  | .local _ .vmem, ⟨12, _⟩ => ⟨S1024x2048, .bf16⟩
  | .local _ .vmem, ⟨13, _⟩ => ⟨S1024x2048, .bf16⟩
  | .local _ .vmem, ⟨14, _⟩ => ⟨S1x512x2048, .bf16⟩
  | .local _ .vmem, ⟨15, _⟩ => ⟨S1024x512, .f32⟩
  | .local _ .vmem, ⟨16, _⟩ => ⟨S1024x512, .f32⟩
  | .local _ .vmem, ⟨17, _⟩ => ⟨S2048x512, .bf16⟩
  | .local _ .vmem, ⟨18, _⟩ => ⟨S2048x1024, .bf16⟩
  | .local _ .vmem, ⟨19, _⟩ => ⟨S2048x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S2048x256, .bf16⟩
  | .local _ .vmem, ⟨23, _⟩ => ⟨S2048x512, .bf16⟩
  | .local _ .vmem, ⟨24, _⟩ => ⟨S2048x512, .bf16⟩
  | .local _ .vmem, ⟨25, _⟩ => ⟨S1x256x512, .bf16⟩
  | .local _ .vmem, ⟨26, _⟩ => ⟨S1x256x512, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem1_0 : DmaSem sig := 23
abbrev cc4_sem1_1 : DmaSem sig := 24
abbrev cc4_sem2_0 : DmaSem sig := 25
abbrev cc4_sem2_1 : DmaSem sig := 26

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1x512x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage3_0 : Fin 1 → Memref sig .tc .vmem S2048x512 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, true, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1x512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage4_0 : Fin 1 → Memref sig .tc .vmem S2048x256 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, true, true]

abbrev stage4_1 : Fin 2 → Memref sig .tc .vmem S2048x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true]

abbrev stage4_2 : Fin 2 → Memref sig .tc .vmem S1x256x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== Reference12Ideal.lean ====
abbrev S2048x512 : Shape := ⟨2, ![2048, 512]⟩
abbrev S2048x256 : Shape := ⟨2, ![2048, 256]⟩
abbrev S1x512x2048 : Shape := ⟨3, ![1, 512, 2048]⟩
abbrev S4x256x512 : Shape := ⟨3, ![4, 256, 512]⟩
abbrev S2048x2048 : Shape := ⟨2, ![2048, 2048]⟩
abbrev S512x2048 : Shape := ⟨2, ![512, 2048]⟩
abbrev S256x4x512 : Shape := ⟨3, ![256, 4, 512]⟩
abbrev S256x2048 : Shape := ⟨2, ![256, 2048]⟩

abbrev nBuf : Space → Nat
  | .hbm => 27
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x256, .bf16⟩
  | .hbm, ⟨2, _⟩ => ⟨S1x512x2048, .bf16⟩
  | .hbm, ⟨3, _⟩ => ⟨S4x256x512, .bf16⟩
  | .hbm, ⟨4, _⟩ => ⟨S2048x2048, .bf16⟩
  | .hbm, ⟨5, _⟩ => ⟨S2048x2048, .bf16⟩
  | .hbm, ⟨6, _⟩ => ⟨S2048x512, .f32⟩
  | .hbm, ⟨7, _⟩ => ⟨S512x2048, .bf16⟩
  | .hbm, ⟨8, _⟩ => ⟨S512x2048, .f32⟩
  | .hbm, ⟨9, _⟩ => ⟨S2048x2048, .f32⟩
  | .hbm, ⟨10, _⟩ => ⟨S4x256x512, .f32⟩
  | .hbm, ⟨11, _⟩ => ⟨S256x4x512, .f32⟩
  | .hbm, ⟨12, _⟩ => ⟨S256x2048, .f32⟩
  | .hbm, ⟨13, _⟩ => ⟨S2048x256, .f32⟩
  | .hbm, ⟨14, _⟩ => ⟨S2048x2048, .f32⟩
  | .hbm, ⟨15, _⟩ => ⟨S2048x2048, .f32⟩
  | .hbm, ⟨16, _⟩ => ⟨S2048x512, .f32⟩
  | .hbm, ⟨17, _⟩ => ⟨S512x2048, .f32⟩
  | .hbm, ⟨18, _⟩ => ⟨S2048x512, .f32⟩
  | .hbm, ⟨19, _⟩ => ⟨S2048x2048, .f32⟩
  | .hbm, ⟨20, _⟩ => ⟨S2048x256, .f32⟩
  | .hbm, ⟨21, _⟩ => ⟨S256x2048, .f32⟩
  | .hbm, ⟨22, _⟩ => ⟨S256x4x512, .f32⟩
  | .hbm, ⟨23, _⟩ => ⟨S4x256x512, .f32⟩
  | .hbm, ⟨24, _⟩ => ⟨S1x512x2048, .f32⟩
  | .hbm, ⟨25, _⟩ => ⟨S1x512x2048, .bf16⟩
  | .hbm, ⟨26, _⟩ => ⟨S4x256x512, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel13.lean ====
abbrev S4x256x512 : Shape := ⟨3, ![4, 256, 512]⟩
abbrev S2048x2048 : Shape := ⟨2, ![2048, 2048]⟩
abbrev S2048x256 : Shape := ⟨2, ![2048, 256]⟩
abbrev S1024x512 : Shape := ⟨2, ![1024, 512]⟩
abbrev S1x256x512 : Shape := ⟨3, ![1, 256, 512]⟩
abbrev S1024x256 : Shape := ⟨2, ![1024, 256]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S4x256x512, .bf16⟩
  | .hbm, ⟨1, _⟩ => ⟨S2048x2048, .bf16⟩
  | .hbm, ⟨2, _⟩ => ⟨S2048x256, .f32⟩
  | .local _ .vmem, ⟨0, _⟩ => ⟨S1024x512, .bf16⟩
  | .local _ .vmem, ⟨1, _⟩ => ⟨S1024x512, .bf16⟩
  | .local _ .vmem, ⟨2, _⟩ => ⟨S1x256x512, .bf16⟩
  | .local _ .vmem, ⟨3, _⟩ => ⟨S1x256x512, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S4x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4x256x512 : Shape := ⟨3, ![4, 256, 512]⟩
abbrev S2048x2048 : Shape := ⟨2, ![2048, 2048]⟩
abbrev S_ : Shape := ⟨0, ![]⟩
abbrev S2048x256 : Shape := ⟨2, ![2048, 256]⟩
abbrev S256x4x512 : Shape := ⟨3, ![256, 4, 512]⟩
abbrev S256x2048 : Shape := ⟨2, ![256, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4x256x512, .bf16⟩
  | .hbm, ⟨1, _⟩ => ⟨S2048x2048, .bf16⟩
  | .hbm, ⟨2, _⟩ => ⟨S_, .f32⟩
  | .hbm, ⟨3, _⟩ => ⟨S2048x256, .f32⟩
  | .hbm, ⟨4, _⟩ => ⟨S4x256x512, .f32⟩
  | .hbm, ⟨5, _⟩ => ⟨S256x4x512, .f32⟩
  | .hbm, ⟨6, _⟩ => ⟨S256x2048, .f32⟩
  | .hbm, ⟨7, _⟩ => ⟨S2048x2048, .f32⟩
  | .hbm, ⟨8, _⟩ => ⟨S2048x2048, .f32⟩
  | .hbm, ⟨9, _⟩ => ⟨S2048x256, .f32⟩
  | _, _ => ⟨S4x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S4x2048 : Shape := ⟨2, ![4, 2048]⟩
abbrev S4x512 : Shape := ⟨2, ![4, 512]⟩
abbrev S4x256 : Shape := ⟨2, ![4, 256]⟩
abbrev S4x192 : Shape := ⟨2, ![4, 192]⟩
abbrev S4x8 : Shape := ⟨2, ![4, 8]⟩
abbrev S4x128 : Shape := ⟨2, ![4, 128]⟩
abbrev S4x8x257 : Shape := ⟨3, ![4, 8, 257]⟩
abbrev S4x2056 : Shape := ⟨2, ![4, 2056]⟩
abbrev S4x12176 : Shape := ⟨2, ![4, 12176]⟩
abbrev S48704 : Shape := ⟨1, ![48704]⟩
abbrev S_ : Shape := ⟨0, ![]⟩
abbrev S49152 : Shape := ⟨1, ![49152]⟩
abbrev S384x128 : Shape := ⟨2, ![384, 128]⟩
abbrev S1x384x128 : Shape := ⟨3, ![1, 384, 128]⟩
abbrev S1x128x128 : Shape := ⟨3, ![1, 128, 128]⟩
abbrev S128x128 : Shape := ⟨2, ![128, 128]⟩
abbrev S1 : Shape := ⟨1, ![1]⟩

abbrev nBuf : Space → Nat
  | .hbm => 171
  | .vmem => 16
  | .smem => 0
  | _ => 0

abbrev hbmTy0_0 (i : Nat) : BufTy := match i % 128 with
  | 0 => ⟨S4x2048, .f32⟩
  | 1 => ⟨S4x512, .f32⟩
  | 2 => ⟨S4x256, .f32⟩
  | 3 => ⟨S4x192, .f32⟩
  | 4 => ⟨S4x192, .f32⟩
  | 5 => ⟨S4x8, .f32⟩
  | 6 => ⟨S4x128, .f32⟩
  | 7 => ⟨S4x128, .f32⟩
  | 8 => ⟨S4x8x257, .f32⟩
  | 9 => ⟨S4x128, .f32⟩
  | 10 => ⟨S4x128, .f32⟩
  | 11 => ⟨S4x2048, .f32⟩
  | 12 => ⟨S4x2048, .f32⟩
  | 13 => ⟨S4x128, .f32⟩
  | 14 => ⟨S4x128, .f32⟩
  | 15 => ⟨S4x2048, .f32⟩
  | 16 => ⟨S4x2048, .f32⟩
  | 17 => ⟨S4x512, .f32⟩
  | 18 => ⟨S4x256, .f32⟩
  | 19 => ⟨S4x192, .f32⟩
  | 20 => ⟨S4x192, .f32⟩
  | 21 => ⟨S4x8, .f32⟩
  | 22 => ⟨S4x128, .f32⟩
  | 23 => ⟨S4x128, .f32⟩
  | 24 => ⟨S4x8x257, .f32⟩
  | 25 => ⟨S4x128, .f32⟩
  | 26 => ⟨S4x128, .f32⟩
  | 27 => ⟨S4x2048, .f32⟩
  | 28 => ⟨S4x2048, .f32⟩
  | 29 => ⟨S4x128, .f32⟩
  | 30 => ⟨S4x128, .f32⟩
  | 31 => ⟨S4x2048, .f32⟩
  | 32 => ⟨S4x2048, .f32⟩
  | 33 => ⟨S4x512, .f32⟩
  | 34 => ⟨S4x256, .f32⟩
  | 35 => ⟨S4x192, .f32⟩
  | 36 => ⟨S4x192, .f32⟩
  | 37 => ⟨S4x8, .f32⟩
  | 38 => ⟨S4x128, .f32⟩
  | 39 => ⟨S4x128, .f32⟩
  | 40 => ⟨S4x8x257, .f32⟩
  | 41 => ⟨S4x128, .f32⟩
  | 42 => ⟨S4x128, .f32⟩
  | 43 => ⟨S4x2048, .f32⟩
  | 44 => ⟨S4x2048, .f32⟩
  | 45 => ⟨S4x128, .f32⟩
  | 46 => ⟨S4x128, .f32⟩
  | 47 => ⟨S4x2048, .f32⟩
  | 48 => ⟨S4x2048, .f32⟩
  | 49 => ⟨S4x512, .f32⟩
  | 50 => ⟨S4x256, .f32⟩
  | 51 => ⟨S4x192, .f32⟩
  | 52 => ⟨S4x192, .f32⟩
  | 53 => ⟨S4x8, .f32⟩
  | 54 => ⟨S4x128, .f32⟩
  | 55 => ⟨S4x128, .f32⟩
  | 56 => ⟨S4x8x257, .f32⟩
  | 57 => ⟨S4x128, .f32⟩
  | 58 => ⟨S4x128, .f32⟩
  | 59 => ⟨S4x2048, .f32⟩
  | 60 => ⟨S4x2048, .f32⟩
  | 61 => ⟨S4x128, .f32⟩
  | 62 => ⟨S4x128, .f32⟩
  | 63 => ⟨S4x2048, .f32⟩
  | 64 => ⟨S4x2056, .f32⟩
  | 65 => ⟨S4x12176, .f32⟩
  | 66 => ⟨S48704, .f32⟩
  | 67 => ⟨S_, .i32⟩
  | 68 => ⟨S_, .f32⟩
  | 69 => ⟨S49152, .f32⟩
  | 70 => ⟨S384x128, .f32⟩
  | 71 => ⟨S1x384x128, .f32⟩
  | 72 => ⟨S4x2056, .f32⟩
  | 73 => ⟨S4x12176, .f32⟩
  | 74 => ⟨S48704, .f32⟩
  | 75 => ⟨S_, .i32⟩
  | 76 => ⟨S_, .f32⟩
  | 77 => ⟨S49152, .f32⟩
  | 78 => ⟨S384x128, .f32⟩
  | 79 => ⟨S4x2056, .f32⟩
  | 80 => ⟨S4x12176, .f32⟩
  | 81 => ⟨S48704, .f32⟩
  | 82 => ⟨S_, .i32⟩
  | 83 => ⟨S_, .f32⟩
  | 84 => ⟨S49152, .f32⟩
  | 85 => ⟨S384x128, .f32⟩
  | 86 => ⟨S1x384x128, .f32⟩
  | 87 => ⟨S4x2056, .f32⟩
  | 88 => ⟨S4x12176, .f32⟩
  | 89 => ⟨S48704, .f32⟩
  | 90 => ⟨S_, .i32⟩
  | 91 => ⟨S_, .f32⟩
  | 92 => ⟨S49152, .f32⟩
  | 93 => ⟨S384x128, .f32⟩
  | 94 => ⟨S1x384x128, .f32⟩
  | 95 => ⟨S1x384x128, .f32⟩
  | 96 => ⟨S1x384x128, .f32⟩
  | 97 => ⟨S1x384x128, .f32⟩
  | 98 => ⟨S1x384x128, .f32⟩
  | 99 => ⟨S384x128, .f32⟩
  | 100 => ⟨S49152, .f32⟩
  | 101 => ⟨S48704, .f32⟩
  | 102 => ⟨S4x12176, .f32⟩
  | 103 => ⟨S4x2048, .f32⟩
  | 104 => ⟨S4x512, .f32⟩
  | 105 => ⟨S4x256, .f32⟩
  | 106 => ⟨S4x192, .f32⟩
  | 107 => ⟨S4x192, .f32⟩
  | 108 => ⟨S4x8, .f32⟩
  | 109 => ⟨S4x128, .f32⟩
  | 110 => ⟨S4x128, .f32⟩
  | 111 => ⟨S4x2056, .f32⟩
  | 112 => ⟨S4x8x257, .f32⟩
  | 113 => ⟨S4x128, .f32⟩
  | 114 => ⟨S4x128, .f32⟩
  | 115 => ⟨S4x2048, .f32⟩
  | 116 => ⟨S4x2048, .f32⟩
  | 117 => ⟨S4x128, .f32⟩
  | 118 => ⟨S4x128, .f32⟩
  | 119 => ⟨S4x2048, .f32⟩
  | 120 => ⟨S49152, .f32⟩
  | 121 => ⟨S1, .f32⟩
  | 122 => ⟨S_, .f32⟩
  | 123 => ⟨S384x128, .f32⟩
  | 124 => ⟨S49152, .f32⟩
  | 125 => ⟨S48704, .f32⟩
  | 126 => ⟨S4x12176, .f32⟩
  | 127 => ⟨S4x2048, .f32⟩
  | _ => ⟨S4x2048, .f32⟩

abbrev hbmTy0_1 (i : Nat) : BufTy := match i % 128 with
  | 0 => ⟨S4x512, .f32⟩
  | 1 => ⟨S4x256, .f32⟩
  | 2 => ⟨S4x192, .f32⟩
  | 3 => ⟨S4x192, .f32⟩
  | 4 => ⟨S4x8, .f32⟩
  | 5 => ⟨S4x128, .f32⟩
  | 6 => ⟨S4x128, .f32⟩
  | 7 => ⟨S4x2056, .f32⟩
  | 8 => ⟨S4x8x257, .f32⟩
  | 9 => ⟨S4x128, .f32⟩
  | 10 => ⟨S4x128, .f32⟩
  | 11 => ⟨S4x2048, .f32⟩
  | 12 => ⟨S4x2048, .f32⟩
  | 13 => ⟨S4x128, .f32⟩
  | 14 => ⟨S4x128, .f32⟩
  | 15 => ⟨S4x2048, .f32⟩
  | 16 => ⟨S49152, .f32⟩
  | 17 => ⟨S1, .f32⟩
  | 18 => ⟨S_, .f32⟩
  | 19 => ⟨S384x128, .f32⟩
  | 20 => ⟨S49152, .f32⟩
  | 21 => ⟨S48704, .f32⟩
  | 22 => ⟨S4x12176, .f32⟩
  | 23 => ⟨S4x2048, .f32⟩
  | 24 => ⟨S4x512, .f32⟩
  | 25 => ⟨S4x256, .f32⟩
  | 26 => ⟨S4x192, .f32⟩
  | 27 => ⟨S4x192, .f32⟩
  | 28 => ⟨S4x8, .f32⟩
  | 29 => ⟨S4x128, .f32⟩
  | 30 => ⟨S4x128, .f32⟩
  | 31 => ⟨S4x2056, .f32⟩
  | 32 => ⟨S4x8x257, .f32⟩
  | 33 => ⟨S4x128, .f32⟩
  | 34 => ⟨S4x128, .f32⟩
  | 35 => ⟨S4x2048, .f32⟩
  | 36 => ⟨S4x2048, .f32⟩
  | 37 => ⟨S4x128, .f32⟩
  | 38 => ⟨S4x128, .f32⟩
  | 39 => ⟨S4x2048, .f32⟩
  | 40 => ⟨S49152, .f32⟩
  | 41 => ⟨S1, .f32⟩
  | 42 => ⟨S_, .f32⟩
  | _ => ⟨S4x2048, .f32⟩

abbrev hbmTy (i : Nat) : BufTy := match i / 128 with
  | 0 => hbmTy0_0 i
  | 1 => hbmTy0_1 i
  | _ => ⟨S4x2048, .f32⟩

abbrev bufTy : (tb : Table) → Fin (tcTables nBuf tb) → BufTy
  | .hbm, ⟨i, _⟩ => hbmTy i
  | .local _ .vmem, ⟨0, _⟩ => ⟨S1x128x128, .f32⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S128x128, .f32⟩
  | .local _ .vmem, ⟨7, _⟩ => ⟨S128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_v0 : Ref sig .tc := ⟨.hbm, 64, rfl⟩
abbrev main_v1 : Ref sig .tc := ⟨.hbm, 65, rfl⟩
abbrev main_v2 : Ref sig .tc := ⟨.hbm, 66, rfl⟩
abbrev main_c : Ref sig .tc := ⟨.hbm, 67, rfl⟩
abbrev main_call0_v0 : Ref sig .tc := ⟨.hbm, 68, rfl⟩
abbrev main_v3 : Ref sig .tc := ⟨.hbm, 69, rfl⟩
abbrev main_v4 : Ref sig .tc := ⟨.hbm, 70, rfl⟩
abbrev main_v5 : Ref sig .tc := ⟨.hbm, 71, rfl⟩
abbrev main_v6 : Ref sig .tc := ⟨.hbm, 72, rfl⟩
abbrev main_v7 : Ref sig .tc := ⟨.hbm, 73, rfl⟩
abbrev main_v8 : Ref sig .tc := ⟨.hbm, 74, rfl⟩
abbrev main_c_0 : Ref sig .tc := ⟨.hbm, 75, rfl⟩
abbrev main_call1_v0 : Ref sig .tc := ⟨.hbm, 76, rfl⟩
abbrev main_v9 : Ref sig .tc := ⟨.hbm, 77, rfl⟩
abbrev main_v10 : Ref sig .tc := ⟨.hbm, 78, rfl⟩
abbrev main_v11 : Ref sig .tc := ⟨.hbm, 79, rfl⟩
abbrev main_v12 : Ref sig .tc := ⟨.hbm, 80, rfl⟩
abbrev main_v13 : Ref sig .tc := ⟨.hbm, 81, rfl⟩
abbrev main_c_1 : Ref sig .tc := ⟨.hbm, 82, rfl⟩
abbrev main_call2_v0 : Ref sig .tc := ⟨.hbm, 83, rfl⟩
abbrev main_v14 : Ref sig .tc := ⟨.hbm, 84, rfl⟩
abbrev main_v15 : Ref sig .tc := ⟨.hbm, 85, rfl⟩
abbrev main_v16 : Ref sig .tc := ⟨.hbm, 86, rfl⟩
abbrev main_v17 : Ref sig .tc := ⟨.hbm, 87, rfl⟩
abbrev main_v18 : Ref sig .tc := ⟨.hbm, 88, rfl⟩
abbrev main_v19 : Ref sig .tc := ⟨.hbm, 89, rfl⟩
abbrev main_c_2 : Ref sig .tc := ⟨.hbm, 90, rfl⟩
abbrev main_call3_v0 : Ref sig .tc := ⟨.hbm, 91, rfl⟩
abbrev main_v20 : Ref sig .tc := ⟨.hbm, 92, rfl⟩
abbrev main_v21 : Ref sig .tc := ⟨.hbm, 93, rfl⟩
abbrev main_v22 : Ref sig .tc := ⟨.hbm, 94, rfl⟩
abbrev main_v23_0 : Ref sig .tc := ⟨.hbm, 95, rfl⟩
abbrev main_v23_1 : Ref sig .tc := ⟨.hbm, 96, rfl⟩
abbrev main_v23_2 : Ref sig .tc := ⟨.hbm, 97, rfl⟩
abbrev main_v23_3 : Ref sig .tc := ⟨.hbm, 98, rfl⟩
abbrev main_v24 : Ref sig .tc := ⟨.hbm, 99, rfl⟩
abbrev main_v25 : Ref sig .tc := ⟨.hbm, 100, rfl⟩
abbrev main_v26 : Ref sig .tc := ⟨.hbm, 101, rfl⟩
abbrev main_v27 : Ref sig .tc := ⟨.hbm, 102, rfl⟩
abbrev main_v28 : Ref sig .tc := ⟨.hbm, 103, rfl⟩
abbrev main_v29 : Ref sig .tc := ⟨.hbm, 104, rfl⟩
abbrev main_v30 : Ref sig .tc := ⟨.hbm, 105, rfl⟩
abbrev main_v31 : Ref sig .tc := ⟨.hbm, 106, rfl⟩
abbrev main_v32 : Ref sig .tc := ⟨.hbm, 107, rfl⟩
abbrev main_v33 : Ref sig .tc := ⟨.hbm, 108, rfl⟩
abbrev main_v34 : Ref sig .tc := ⟨.hbm, 109, rfl⟩
abbrev main_v35 : Ref sig .tc := ⟨.hbm, 110, rfl⟩
abbrev main_v36 : Ref sig .tc := ⟨.hbm, 111, rfl⟩
abbrev main_v37 : Ref sig .tc := ⟨.hbm, 112, rfl⟩
abbrev main_v38 : Ref sig .tc := ⟨.hbm, 113, rfl⟩
abbrev main_v39 : Ref sig .tc := ⟨.hbm, 114, rfl⟩
abbrev main_v40 : Ref sig .tc := ⟨.hbm, 115, rfl⟩
abbrev main_v41 : Ref sig .tc := ⟨.hbm, 116, rfl⟩
abbrev main_v42 : Ref sig .tc := ⟨.hbm, 117, rfl⟩
abbrev main_v43 : Ref sig .tc := ⟨.hbm, 118, rfl⟩
abbrev main_v44 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference14Ideal.lean ====
abbrev S4x2048 : Shape := ⟨2, ![4, 2048]⟩
abbrev S4x512 : Shape := ⟨2, ![4, 512]⟩
abbrev S4x256 : Shape := ⟨2, ![4, 256]⟩
abbrev S4x192 : Shape := ⟨2, ![4, 192]⟩
abbrev S4x8 : Shape := ⟨2, ![4, 8]⟩
abbrev S4x128 : Shape := ⟨2, ![4, 128]⟩
abbrev S4x8x257 : Shape := ⟨3, ![4, 8, 257]⟩
abbrev S_ : Shape := ⟨0, ![]⟩

abbrev nBuf : Space → Nat
  | .hbm => 592
  | .vmem => 0
  | .smem => 0
  | _ => 0

abbrev hbmTy0_0 (i : Nat) : BufTy := match i % 128 with
  | 0 => ⟨S4x2048, .f32⟩
  | 1 => ⟨S4x512, .f32⟩
  | 2 => ⟨S4x256, .f32⟩
  | 3 => ⟨S4x192, .f32⟩
  | 4 => ⟨S4x192, .f32⟩
  | 5 => ⟨S4x8, .f32⟩
  | 6 => ⟨S4x128, .f32⟩
  | 7 => ⟨S4x128, .f32⟩
  | 8 => ⟨S4x8x257, .f32⟩
  | 9 => ⟨S4x128, .f32⟩
  | 10 => ⟨S4x128, .f32⟩
  | 11 => ⟨S4x2048, .f32⟩
  | 12 => ⟨S4x2048, .f32⟩
  | 13 => ⟨S4x128, .f32⟩
  | 14 => ⟨S4x128, .f32⟩
  | 15 => ⟨S4x2048, .f32⟩
  | 16 => ⟨S4x2048, .f32⟩
  | 17 => ⟨S4x512, .f32⟩
  | 18 => ⟨S4x256, .f32⟩
  | 19 => ⟨S4x192, .f32⟩
  | 20 => ⟨S4x192, .f32⟩
  | 21 => ⟨S4x8, .f32⟩
  | 22 => ⟨S4x128, .f32⟩
  | 23 => ⟨S4x128, .f32⟩
  | 24 => ⟨S4x8x257, .f32⟩
  | 25 => ⟨S4x128, .f32⟩
  | 26 => ⟨S4x128, .f32⟩
  | 27 => ⟨S4x2048, .f32⟩
  | 28 => ⟨S4x2048, .f32⟩
  | 29 => ⟨S4x128, .f32⟩
  | 30 => ⟨S4x128, .f32⟩
  | 31 => ⟨S4x2048, .f32⟩
  | 32 => ⟨S4x2048, .f32⟩
  | 33 => ⟨S4x512, .f32⟩
  | 34 => ⟨S4x256, .f32⟩
  | 35 => ⟨S4x192, .f32⟩
  | 36 => ⟨S4x192, .f32⟩
  | 37 => ⟨S4x8, .f32⟩
  | 38 => ⟨S4x128, .f32⟩
  | 39 => ⟨S4x128, .f32⟩
  | 40 => ⟨S4x8x257, .f32⟩
  | 41 => ⟨S4x128, .f32⟩
  | 42 => ⟨S4x128, .f32⟩
  | 43 => ⟨S4x2048, .f32⟩
  | 44 => ⟨S4x2048, .f32⟩
  | 45 => ⟨S4x128, .f32⟩
  | 46 => ⟨S4x128, .f32⟩
  | 47 => ⟨S4x2048, .f32⟩
  | 48 => ⟨S4x2048, .f32⟩
  | 49 => ⟨S4x512, .f32⟩
  | 50 => ⟨S4x256, .f32⟩
  | 51 => ⟨S4x192, .f32⟩
  | 52 => ⟨S4x192, .f32⟩
  | 53 => ⟨S4x8, .f32⟩
  | 54 => ⟨S4x128, .f32⟩
  | 55 => ⟨S4x128, .f32⟩
  | 56 => ⟨S4x8x257, .f32⟩
  | 57 => ⟨S4x128, .f32⟩
  | 58 => ⟨S4x128, .f32⟩
  | 59 => ⟨S4x2048, .f32⟩
  | 60 => ⟨S4x2048, .f32⟩
  | 61 => ⟨S4x128, .f32⟩
  | 62 => ⟨S4x128, .f32⟩
  | 63 => ⟨S4x2048, .f32⟩
  | 64 => ⟨S_, .f32⟩
  | 65 => ⟨S4x2048, .f32⟩
  | 66 => ⟨S4x2048, .f32⟩
  | 67 => ⟨S_, .f32⟩
  | 68 => ⟨S4x2048, .f32⟩
  | 69 => ⟨S4x2048, .f32⟩
  | 70 => ⟨S4x2048, .f32⟩
  | 71 => ⟨S_, .f32⟩
  | 72 => ⟨S4x2048, .f32⟩
  | 73 => ⟨S4x2048, .f32⟩
  | 74 => ⟨S4x2048, .f32⟩
  | 75 => ⟨S_, .f32⟩
  | 76 => ⟨S4x2048, .f32⟩
  | 77 => ⟨S4x2048, .f32⟩
  | 78 => ⟨S4x2048, .f32⟩
  | 79 => ⟨S_, .f32⟩
  | 80 => ⟨S4x2048, .f32⟩
  | 81 => ⟨S4x2048, .f32⟩
  | 82 => ⟨S_, .f32⟩
  | 83 => ⟨S4x2048, .f32⟩
  | 84 => ⟨S4x2048, .f32⟩
  | 85 => ⟨S4x2048, .f32⟩
  | 86 => ⟨S_, .f32⟩
  | 87 => ⟨S4x2048, .f32⟩
  | 88 => ⟨S4x2048, .f32⟩
  | 89 => ⟨S4x2048, .f32⟩
  | 90 => ⟨S_, .f32⟩
  | 91 => ⟨S4x2048, .f32⟩
  | 92 => ⟨S4x2048, .f32⟩
  | 93 => ⟨S4x2048, .f32⟩
  | 94 => ⟨S_, .f32⟩
  | 95 => ⟨S4x2048, .f32⟩
  | 96 => ⟨S4x2048, .f32⟩
  | 97 => ⟨S_, .f32⟩
  | 98 => ⟨S4x512, .f32⟩
  | 99 => ⟨S4x512, .f32⟩
  | 100 => ⟨S_, .f32⟩
  | 101 => ⟨S4x512, .f32⟩
  | 102 => ⟨S4x512, .f32⟩
  | 103 => ⟨S4x512, .f32⟩
  | 104 => ⟨S_, .f32⟩
  | 105 => ⟨S4x512, .f32⟩
  | 106 => ⟨S4x512, .f32⟩
  | 107 => ⟨S4x512, .f32⟩
  | 108 => ⟨S_, .f32⟩
  | 109 => ⟨S4x512, .f32⟩
  | 110 => ⟨S4x512, .f32⟩
  | 111 => ⟨S4x512, .f32⟩
  | 112 => ⟨S_, .f32⟩
  | 113 => ⟨S4x512, .f32⟩
  | 114 => ⟨S4x512, .f32⟩
  | 115 => ⟨S_, .f32⟩
  | 116 => ⟨S4x512, .f32⟩
  | 117 => ⟨S4x512, .f32⟩
  | 118 => ⟨S4x512, .f32⟩
  | 119 => ⟨S_, .f32⟩
  | 120 => ⟨S4x512, .f32⟩
  | 121 => ⟨S4x512, .f32⟩
  | 122 => ⟨S4x512, .f32⟩
  | 123 => ⟨S_, .f32⟩
  | 124 => ⟨S4x512, .f32⟩
  | 125 => ⟨S4x512, .f32⟩
  | 126 => ⟨S4x512, .f32⟩
  | 127 => ⟨S_, .f32⟩
  | _ => ⟨S4x2048, .f32⟩

abbrev hbmTy0_1 (i : Nat) : BufTy := match i % 128 with
  | 0 => ⟨S4x512, .f32⟩
  | 1 => ⟨S4x512, .f32⟩
  | 2 => ⟨S_, .f32⟩
  | 3 => ⟨S4x256, .f32⟩
  | 4 => ⟨S4x256, .f32⟩
  | 5 => ⟨S_, .f32⟩
  | 6 => ⟨S4x256, .f32⟩
  | 7 => ⟨S4x256, .f32⟩
  | 8 => ⟨S4x256, .f32⟩
  | 9 => ⟨S_, .f32⟩
  | 10 => ⟨S4x256, .f32⟩
  | 11 => ⟨S4x256, .f32⟩
  | 12 => ⟨S4x256, .f32⟩
  | 13 => ⟨S_, .f32⟩
  | 14 => ⟨S4x256, .f32⟩
  | 15 => ⟨S4x256, .f32⟩
  | 16 => ⟨S4x256, .f32⟩
  | 17 => ⟨S_, .f32⟩
  | 18 => ⟨S4x256, .f32⟩
  | 19 => ⟨S4x256, .f32⟩
  | 20 => ⟨S_, .f32⟩
  | 21 => ⟨S4x256, .f32⟩
  | 22 => ⟨S4x256, .f32⟩
  | 23 => ⟨S4x256, .f32⟩
  | 24 => ⟨S_, .f32⟩
  | 25 => ⟨S4x256, .f32⟩
  | 26 => ⟨S4x256, .f32⟩
  | 27 => ⟨S4x256, .f32⟩
  | 28 => ⟨S_, .f32⟩
  | 29 => ⟨S4x256, .f32⟩
  | 30 => ⟨S4x256, .f32⟩
  | 31 => ⟨S4x256, .f32⟩
  | 32 => ⟨S_, .f32⟩
  | 33 => ⟨S4x256, .f32⟩
  | 34 => ⟨S4x256, .f32⟩
  | 35 => ⟨S_, .f32⟩
  | 36 => ⟨S4x192, .f32⟩
  | 37 => ⟨S4x192, .f32⟩
  | 38 => ⟨S_, .f32⟩
  | 39 => ⟨S4x192, .f32⟩
  | 40 => ⟨S4x192, .f32⟩
  | 41 => ⟨S4x192, .f32⟩
  | 42 => ⟨S_, .f32⟩
  | 43 => ⟨S4x192, .f32⟩
  | 44 => ⟨S4x192, .f32⟩
  | 45 => ⟨S4x192, .f32⟩
  | 46 => ⟨S_, .f32⟩
  | 47 => ⟨S4x192, .f32⟩
  | 48 => ⟨S4x192, .f32⟩
  | 49 => ⟨S4x192, .f32⟩
  | 50 => ⟨S_, .f32⟩
  | 51 => ⟨S4x192, .f32⟩
  | 52 => ⟨S4x192, .f32⟩
  | 53 => ⟨S_, .f32⟩
  | 54 => ⟨S4x192, .f32⟩
  | 55 => ⟨S4x192, .f32⟩
  | 56 => ⟨S4x192, .f32⟩
  | 57 => ⟨S_, .f32⟩
  | 58 => ⟨S4x192, .f32⟩
  | 59 => ⟨S4x192, .f32⟩
  | 60 => ⟨S4x192, .f32⟩
  | 61 => ⟨S_, .f32⟩
  | 62 => ⟨S4x192, .f32⟩
  | 63 => ⟨S4x192, .f32⟩
  | 64 => ⟨S4x192, .f32⟩
  | 65 => ⟨S_, .f32⟩
  | 66 => ⟨S4x192, .f32⟩
  | 67 => ⟨S4x192, .f32⟩
  | 68 => ⟨S_, .f32⟩
  | 69 => ⟨S4x192, .f32⟩
  | 70 => ⟨S4x192, .f32⟩
  | 71 => ⟨S_, .f32⟩
  | 72 => ⟨S4x192, .f32⟩
  | 73 => ⟨S4x192, .f32⟩
  | 74 => ⟨S4x192, .f32⟩
  | 75 => ⟨S_, .f32⟩
  | 76 => ⟨S4x192, .f32⟩
  | 77 => ⟨S4x192, .f32⟩
  | 78 => ⟨S4x192, .f32⟩
  | 79 => ⟨S_, .f32⟩
  | 80 => ⟨S4x192, .f32⟩
  | 81 => ⟨S4x192, .f32⟩
  | 82 => ⟨S4x192, .f32⟩
  | 83 => ⟨S_, .f32⟩
  | 84 => ⟨S4x192, .f32⟩
  | 85 => ⟨S4x192, .f32⟩
  | 86 => ⟨S_, .f32⟩
  | 87 => ⟨S4x192, .f32⟩
  | 88 => ⟨S4x192, .f32⟩
  | 89 => ⟨S4x192, .f32⟩
  | 90 => ⟨S_, .f32⟩
  | 91 => ⟨S4x192, .f32⟩
  | 92 => ⟨S4x192, .f32⟩
  | 93 => ⟨S4x192, .f32⟩
  | 94 => ⟨S_, .f32⟩
  | 95 => ⟨S4x192, .f32⟩
  | 96 => ⟨S4x192, .f32⟩
  | 97 => ⟨S4x192, .f32⟩
  | 98 => ⟨S_, .f32⟩
  | 99 => ⟨S4x192, .f32⟩
  | 100 => ⟨S4x192, .f32⟩
  | 101 => ⟨S_, .f32⟩
  | 102 => ⟨S4x8, .f32⟩
  | 103 => ⟨S4x8, .f32⟩
  | 104 => ⟨S_, .f32⟩
  | 105 => ⟨S4x8, .f32⟩
  | 106 => ⟨S4x8, .f32⟩
  | 107 => ⟨S4x8, .f32⟩
  | 108 => ⟨S_, .f32⟩
  | 109 => ⟨S4x8, .f32⟩
  | 110 => ⟨S4x8, .f32⟩
  | 111 => ⟨S4x8, .f32⟩
  | 112 => ⟨S_, .f32⟩
  | 113 => ⟨S4x8, .f32⟩
  | 114 => ⟨S4x8, .f32⟩
  | 115 => ⟨S4x8, .f32⟩
  | 116 => ⟨S_, .f32⟩
  | 117 => ⟨S4x8, .f32⟩
  | 118 => ⟨S4x8, .f32⟩
  | 119 => ⟨S_, .f32⟩
  | 120 => ⟨S4x8, .f32⟩
  | 121 => ⟨S4x8, .f32⟩
  | 122 => ⟨S4x8, .f32⟩
  | 123 => ⟨S_, .f32⟩
  | 124 => ⟨S4x8, .f32⟩
  | 125 => ⟨S4x8, .f32⟩
  | 126 => ⟨S4x8, .f32⟩
  | 127 => ⟨S_, .f32⟩
  | _ => ⟨S4x2048, .f32⟩

abbrev hbmTy0_2 (i : Nat) : BufTy := match i % 128 with
  | 0 => ⟨S4x8, .f32⟩
  | 1 => ⟨S4x8, .f32⟩
  | 2 => ⟨S4x8, .f32⟩
  | 3 => ⟨S_, .f32⟩
  | 4 => ⟨S4x8, .f32⟩
  | 5 => ⟨S4x8, .f32⟩
  | 6 => ⟨S_, .f32⟩
  | 7 => ⟨S4x128, .f32⟩
  | 8 => ⟨S4x128, .f32⟩
  | 9 => ⟨S_, .f32⟩
  | 10 => ⟨S4x128, .f32⟩
  | 11 => ⟨S4x128, .f32⟩
  | 12 => ⟨S4x128, .f32⟩
  | 13 => ⟨S_, .f32⟩
  | 14 => ⟨S4x128, .f32⟩
  | 15 => ⟨S4x128, .f32⟩
  | 16 => ⟨S4x128, .f32⟩
  | 17 => ⟨S_, .f32⟩
  | 18 => ⟨S4x128, .f32⟩
  | 19 => ⟨S4x128, .f32⟩
  | 20 => ⟨S4x128, .f32⟩
  | 21 => ⟨S_, .f32⟩
  | 22 => ⟨S4x128, .f32⟩
  | 23 => ⟨S4x128, .f32⟩
  | 24 => ⟨S_, .f32⟩
  | 25 => ⟨S4x128, .f32⟩
  | 26 => ⟨S4x128, .f32⟩
  | 27 => ⟨S4x128, .f32⟩
  | 28 => ⟨S_, .f32⟩
  | 29 => ⟨S4x128, .f32⟩
  | 30 => ⟨S4x128, .f32⟩
  | 31 => ⟨S4x128, .f32⟩
  | 32 => ⟨S_, .f32⟩
  | 33 => ⟨S4x128, .f32⟩
  | 34 => ⟨S4x128, .f32⟩
  | 35 => ⟨S4x128, .f32⟩
  | 36 => ⟨S_, .f32⟩
  | 37 => ⟨S4x128, .f32⟩
  | 38 => ⟨S4x128, .f32⟩
  | 39 => ⟨S_, .f32⟩
  | 40 => ⟨S4x128, .f32⟩
  | 41 => ⟨S4x128, .f32⟩
  | 42 => ⟨S_, .f32⟩
  | 43 => ⟨S4x128, .f32⟩
  | 44 => ⟨S4x128, .f32⟩
  | 45 => ⟨S4x128, .f32⟩
  | 46 => ⟨S_, .f32⟩
  | 47 => ⟨S4x128, .f32⟩
  | 48 => ⟨S4x128, .f32⟩
  | 49 => ⟨S4x128, .f32⟩
  | 50 => ⟨S_, .f32⟩
  | 51 => ⟨S4x128, .f32⟩
  | 52 => ⟨S4x128, .f32⟩
  | 53 => ⟨S4x128, .f32⟩
  | 54 => ⟨S_, .f32⟩
  | 55 => ⟨S4x128, .f32⟩
  | 56 => ⟨S4x128, .f32⟩
  | 57 => ⟨S_, .f32⟩
  | 58 => ⟨S4x128, .f32⟩
  | 59 => ⟨S4x128, .f32⟩
  | 60 => ⟨S4x128, .f32⟩
  | 61 => ⟨S_, .f32⟩
  | 62 => ⟨S4x128, .f32⟩
  | 63 => ⟨S4x128, .f32⟩
  | 64 => ⟨S4x128, .f32⟩
  | 65 => ⟨S_, .f32⟩
  | 66 => ⟨S4x128, .f32⟩
  | 67 => ⟨S4x128, .f32⟩
  | 68 => ⟨S4x128, .f32⟩
  | 69 => ⟨S_, .f32⟩
  | 70 => ⟨S4x128, .f32⟩
  | 71 => ⟨S4x128, .f32⟩
  | 72 => ⟨S_, .f32⟩
  | 73 => ⟨S4x8x257, .f32⟩
  | 74 => ⟨S4x8x257, .f32⟩
  | 75 => ⟨S_, .f32⟩
  | 76 => ⟨S4x8x257, .f32⟩
  | 77 => ⟨S4x8x257, .f32⟩
  | 78 => ⟨S4x8x257, .f32⟩
  | 79 => ⟨S_, .f32⟩
  | 80 => ⟨S4x8x257, .f32⟩
  | 81 => ⟨S4x8x257, .f32⟩
  | 82 => ⟨S4x8x257, .f32⟩
  | 83 => ⟨S_, .f32⟩
  | 84 => ⟨S4x8x257, .f32⟩
  | 85 => ⟨S4x8x257, .f32⟩
  | 86 => ⟨S4x8x257, .f32⟩
  | 87 => ⟨S_, .f32⟩
  | 88 => ⟨S4x8x257, .f32⟩
  | 89 => ⟨S4x8x257, .f32⟩
  | 90 => ⟨S_, .f32⟩
  | 91 => ⟨S4x8x257, .f32⟩
  | 92 => ⟨S4x8x257, .f32⟩
  | 93 => ⟨S4x8x257, .f32⟩
  | 94 => ⟨S_, .f32⟩
  | 95 => ⟨S4x8x257, .f32⟩
  | 96 => ⟨S4x8x257, .f32⟩
  | 97 => ⟨S4x8x257, .f32⟩
  | 98 => ⟨S_, .f32⟩
  | 99 => ⟨S4x8x257, .f32⟩
  | 100 => ⟨S4x8x257, .f32⟩
  | 101 => ⟨S4x8x257, .f32⟩
  | 102 => ⟨S_, .f32⟩
  | 103 => ⟨S4x8x257, .f32⟩
  | 104 => ⟨S4x8x257, .f32⟩
  | 105 => ⟨S_, .f32⟩
  | 106 => ⟨S4x128, .f32⟩
  | 107 => ⟨S4x128, .f32⟩
  | 108 => ⟨S_, .f32⟩
  | 109 => ⟨S4x128, .f32⟩
  | 110 => ⟨S4x128, .f32⟩
  | 111 => ⟨S4x128, .f32⟩
  | 112 => ⟨S_, .f32⟩
  | 113 => ⟨S4x128, .f32⟩
  | 114 => ⟨S4x128, .f32⟩
  | 115 => ⟨S4x128, .f32⟩
  | 116 => ⟨S_, .f32⟩
  | 117 => ⟨S4x128, .f32⟩
  | 118 => ⟨S4x128, .f32⟩
  | 119 => ⟨S4x128, .f32⟩
  | 120 => ⟨S_, .f32⟩
  | 121 => ⟨S4x128, .f32⟩
  | 122 => ⟨S4x128, .f32⟩
  | 123 => ⟨S_, .f32⟩
  | 124 => ⟨S4x128, .f32⟩
  | 125 => ⟨S4x128, .f32⟩
  | 126 => ⟨S4x128, .f32⟩
  | 127 => ⟨S_, .f32⟩
  | _ => ⟨S4x2048, .f32⟩

abbrev hbmTy0_3 (i : Nat) : BufTy := match i % 128 with
  | 0 => ⟨S4x128, .f32⟩
  | 1 => ⟨S4x128, .f32⟩
  | 2 => ⟨S4x128, .f32⟩
  | 3 => ⟨S_, .f32⟩
  | 4 => ⟨S4x128, .f32⟩
  | 5 => ⟨S4x128, .f32⟩
  | 6 => ⟨S4x128, .f32⟩
  | 7 => ⟨S_, .f32⟩
  | 8 => ⟨S4x128, .f32⟩
  | 9 => ⟨S4x128, .f32⟩
  | 10 => ⟨S_, .f32⟩
  | 11 => ⟨S4x128, .f32⟩
  | 12 => ⟨S4x128, .f32⟩
  | 13 => ⟨S_, .f32⟩
  | 14 => ⟨S4x128, .f32⟩
  | 15 => ⟨S4x128, .f32⟩
  | 16 => ⟨S4x128, .f32⟩
  | 17 => ⟨S_, .f32⟩
  | 18 => ⟨S4x128, .f32⟩
  | 19 => ⟨S4x128, .f32⟩
  | 20 => ⟨S4x128, .f32⟩
  | 21 => ⟨S_, .f32⟩
  | 22 => ⟨S4x128, .f32⟩
  | 23 => ⟨S4x128, .f32⟩
  | 24 => ⟨S4x128, .f32⟩
  | 25 => ⟨S_, .f32⟩
  | 26 => ⟨S4x128, .f32⟩
  | 27 => ⟨S4x128, .f32⟩
  | 28 => ⟨S_, .f32⟩
  | 29 => ⟨S4x128, .f32⟩
  | 30 => ⟨S4x128, .f32⟩
  | 31 => ⟨S4x128, .f32⟩
  | 32 => ⟨S_, .f32⟩
  | 33 => ⟨S4x128, .f32⟩
  | 34 => ⟨S4x128, .f32⟩
  | 35 => ⟨S4x128, .f32⟩
  | 36 => ⟨S_, .f32⟩
  | 37 => ⟨S4x128, .f32⟩
  | 38 => ⟨S4x128, .f32⟩
  | 39 => ⟨S4x128, .f32⟩
  | 40 => ⟨S_, .f32⟩
  | 41 => ⟨S4x128, .f32⟩
  | 42 => ⟨S4x128, .f32⟩
  | 43 => ⟨S_, .f32⟩
  | 44 => ⟨S4x2048, .f32⟩
  | 45 => ⟨S4x2048, .f32⟩
  | 46 => ⟨S_, .f32⟩
  | 47 => ⟨S4x2048, .f32⟩
  | 48 => ⟨S4x2048, .f32⟩
  | 49 => ⟨S4x2048, .f32⟩
  | 50 => ⟨S_, .f32⟩
  | 51 => ⟨S4x2048, .f32⟩
  | 52 => ⟨S4x2048, .f32⟩
  | 53 => ⟨S4x2048, .f32⟩
  | 54 => ⟨S_, .f32⟩
  | 55 => ⟨S4x2048, .f32⟩
  | 56 => ⟨S4x2048, .f32⟩
  | 57 => ⟨S4x2048, .f32⟩
  | 58 => ⟨S_, .f32⟩
  | 59 => ⟨S4x2048, .f32⟩
  | 60 => ⟨S4x2048, .f32⟩
  | 61 => ⟨S_, .f32⟩
  | 62 => ⟨S4x2048, .f32⟩
  | 63 => ⟨S4x2048, .f32⟩
  | 64 => ⟨S4x2048, .f32⟩
  | 65 => ⟨S_, .f32⟩
  | 66 => ⟨S4x2048, .f32⟩
  | 67 => ⟨S4x2048, .f32⟩
  | 68 => ⟨S4x2048, .f32⟩
  | 69 => ⟨S_, .f32⟩
  | 70 => ⟨S4x2048, .f32⟩
  | 71 => ⟨S4x2048, .f32⟩
  | 72 => ⟨S4x2048, .f32⟩
  | 73 => ⟨S_, .f32⟩
  | 74 => ⟨S4x2048, .f32⟩
  | 75 => ⟨S4x2048, .f32⟩
  | 76 => ⟨S_, .f32⟩
  | 77 => ⟨S4x2048, .f32⟩
  | 78 => ⟨S4x2048, .f32⟩
  | 79 => ⟨S_, .f32⟩
  | 80 => ⟨S4x2048, .f32⟩
  | 81 => ⟨S4x2048, .f32⟩
  | 82 => ⟨S4x2048, .f32⟩
  | 83 => ⟨S_, .f32⟩
  | 84 => ⟨S4x2048, .f32⟩
  | 85 => ⟨S4x2048, .f32⟩
  | 86 => ⟨S4x2048, .f32⟩
  | 87 => ⟨S_, .f32⟩
  | 88 => ⟨S4x2048, .f32⟩
  | 89 => ⟨S4x2048, .f32⟩
  | 90 => ⟨S4x2048, .f32⟩
  | 91 => ⟨S_, .f32⟩
  | 92 => ⟨S4x2048, .f32⟩
  | 93 => ⟨S4x2048, .f32⟩
  | 94 => ⟨S_, .f32⟩
  | 95 => ⟨S4x2048, .f32⟩
  | 96 => ⟨S4x2048, .f32⟩
  | 97 => ⟨S4x2048, .f32⟩
  | 98 => ⟨S_, .f32⟩
  | 99 => ⟨S4x2048, .f32⟩
  | 100 => ⟨S4x2048, .f32⟩
  | 101 => ⟨S4x2048, .f32⟩
  | 102 => ⟨S_, .f32⟩
  | 103 => ⟨S4x2048, .f32⟩
  | 104 => ⟨S4x2048, .f32⟩
  | 105 => ⟨S4x2048, .f32⟩
  | 106 => ⟨S_, .f32⟩
  | 107 => ⟨S4x2048, .f32⟩
  | 108 => ⟨S4x2048, .f32⟩
  | 109 => ⟨S_, .f32⟩
  | 110 => ⟨S4x128, .f32⟩
  | 111 => ⟨S4x128, .f32⟩
  | 112 => ⟨S_, .f32⟩
  | 113 => ⟨S4x128, .f32⟩
  | 114 => ⟨S4x128, .f32⟩
  | 115 => ⟨S4x128, .f32⟩
  | 116 => ⟨S_, .f32⟩
  | 117 => ⟨S4x128, .f32⟩
  | 118 => ⟨S4x128, .f32⟩
  | 119 => ⟨S4x128, .f32⟩
  | 120 => ⟨S_, .f32⟩
  | 121 => ⟨S4x128, .f32⟩
  | 122 => ⟨S4x128, .f32⟩
  | 123 => ⟨S4x128, .f32⟩
  | 124 => ⟨S_, .f32⟩
  | 125 => ⟨S4x128, .f32⟩
  | 126 => ⟨S4x128, .f32⟩
  | 127 => ⟨S_, .f32⟩
  | _ => ⟨S4x2048, .f32⟩

abbrev hbmTy0_4 (i : Nat) : BufTy := match i % 128 with
  | 0 => ⟨S4x128, .f32⟩
  | 1 => ⟨S4x128, .f32⟩
  | 2 => ⟨S4x128, .f32⟩
  | 3 => ⟨S_, .f32⟩
  | 4 => ⟨S4x128, .f32⟩
  | 5 => ⟨S4x128, .f32⟩
  | 6 => ⟨S4x128, .f32⟩
  | 7 => ⟨S_, .f32⟩
  | 8 => ⟨S4x128, .f32⟩
  | 9 => ⟨S4x128, .f32⟩
  | 10 => ⟨S4x128, .f32⟩
  | 11 => ⟨S_, .f32⟩
  | 12 => ⟨S4x128, .f32⟩
  | 13 => ⟨S4x128, .f32⟩
  | 14 => ⟨S_, .f32⟩
  | 15 => ⟨S4x128, .f32⟩
  | 16 => ⟨S4x128, .f32⟩
  | 17 => ⟨S_, .f32⟩
  | 18 => ⟨S4x128, .f32⟩
  | 19 => ⟨S4x128, .f32⟩
  | 20 => ⟨S4x128, .f32⟩
  | 21 => ⟨S_, .f32⟩
  | 22 => ⟨S4x128, .f32⟩
  | 23 => ⟨S4x128, .f32⟩
  | 24 => ⟨S4x128, .f32⟩
  | 25 => ⟨S_, .f32⟩
  | 26 => ⟨S4x128, .f32⟩
  | 27 => ⟨S4x128, .f32⟩
  | 28 => ⟨S4x128, .f32⟩
  | 29 => ⟨S_, .f32⟩
  | 30 => ⟨S4x128, .f32⟩
  | 31 => ⟨S4x128, .f32⟩
  | 32 => ⟨S_, .f32⟩
  | 33 => ⟨S4x128, .f32⟩
  | 34 => ⟨S4x128, .f32⟩
  | 35 => ⟨S4x128, .f32⟩
  | 36 => ⟨S_, .f32⟩
  | 37 => ⟨S4x128, .f32⟩
  | 38 => ⟨S4x128, .f32⟩
  | 39 => ⟨S4x128, .f32⟩
  | 40 => ⟨S_, .f32⟩
  | 41 => ⟨S4x128, .f32⟩
  | 42 => ⟨S4x128, .f32⟩
  | 43 => ⟨S4x128, .f32⟩
  | 44 => ⟨S_, .f32⟩
  | 45 => ⟨S4x128, .f32⟩
  | 46 => ⟨S4x128, .f32⟩
  | 47 => ⟨S_, .f32⟩
  | 48 => ⟨S4x2048, .f32⟩
  | 49 => ⟨S4x2048, .f32⟩
  | 50 => ⟨S_, .f32⟩
  | 51 => ⟨S4x2048, .f32⟩
  | 52 => ⟨S4x2048, .f32⟩
  | 53 => ⟨S4x2048, .f32⟩
  | 54 => ⟨S_, .f32⟩
  | 55 => ⟨S4x2048, .f32⟩
  | 56 => ⟨S4x2048, .f32⟩
  | 57 => ⟨S4x2048, .f32⟩
  | 58 => ⟨S_, .f32⟩
  | 59 => ⟨S4x2048, .f32⟩
  | 60 => ⟨S4x2048, .f32⟩
  | 61 => ⟨S4x2048, .f32⟩
  | 62 => ⟨S_, .f32⟩
  | 63 => ⟨S4x2048, .f32⟩
  | 64 => ⟨S4x2048, .f32⟩
  | 65 => ⟨S_, .f32⟩
  | 66 => ⟨S4x2048, .f32⟩
  | 67 => ⟨S4x2048, .f32⟩
  | 68 => ⟨S4x2048, .f32⟩
  | 69 => ⟨S_, .f32⟩
  | 70 => ⟨S4x2048, .f32⟩
  | 71 => ⟨S4x2048, .f32⟩
  | 72 => ⟨S4x2048, .f32⟩
  | 73 => ⟨S_, .f32⟩
  | 74 => ⟨S4x2048, .f32⟩
  | 75 => ⟨S4x2048, .f32⟩
  | 76 => ⟨S4x2048, .f32⟩
  | 77 => ⟨S_, .f32⟩
  | 78 => ⟨S4x2048, .f32⟩
  | 79 => ⟨S4x2048, .f32⟩
  | _ => ⟨S4x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x2048, .f32⟩

abbrev bufTy : (tb : Table) → Fin (tcTables nBuf tb) → BufTy
  | .hbm, ⟨i, _⟩ => hbmTy i
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_cst : Ref sig .tc := ⟨.hbm, 64, rfl⟩
abbrev main_v0 : Ref sig .tc := ⟨.hbm, 65, rfl⟩
abbrev main_v1 : Ref sig .tc := ⟨.hbm, 66, rfl⟩
abbrev main_cst_0 : Ref sig .tc := ⟨.hbm, 67, rfl⟩
abbrev main_v2 : Ref sig .tc := ⟨.hbm, 68, rfl⟩
abbrev main_v3 : Ref sig .tc := ⟨.hbm, 69, rfl⟩
abbrev main_v4 : Ref sig .tc := ⟨.hbm, 70, rfl⟩
abbrev main_cst_1 : Ref sig .tc := ⟨.hbm, 71, rfl⟩
abbrev main_v5 : Ref sig .tc := ⟨.hbm, 72, rfl⟩
abbrev main_v6 : Ref sig .tc := ⟨.hbm, 73, rfl⟩
abbrev main_v7 : Ref sig .tc := ⟨.hbm, 74, rfl⟩
abbrev main_cst_2 : Ref sig .tc := ⟨.hbm, 75, rfl⟩
abbrev main_v8 : Ref sig .tc := ⟨.hbm, 76, rfl⟩
abbrev main_v9 : Ref sig .tc := ⟨.hbm, 77, rfl⟩
abbrev main_v10 : Ref sig .tc := ⟨.hbm, 78, rfl⟩
abbrev main_cst_3 : Ref sig .tc := ⟨.hbm, 79, rfl⟩
abbrev main_v11 : Ref sig .tc := ⟨.hbm, 80, rfl⟩
abbrev main_v12 : Ref sig .tc := ⟨.hbm, 81, rfl⟩
abbrev main_cst_4 : Ref sig .tc := ⟨.hbm, 82, rfl⟩
abbrev main_v13 : Ref sig .tc := ⟨.hbm, 83, rfl⟩
abbrev main_v14 : Ref sig .tc := ⟨.hbm, 84, rfl⟩
abbrev main_v15 : Ref sig .tc := ⟨.hbm, 85, rfl⟩
abbrev main_cst_5 : Ref sig .tc := ⟨.hbm, 86, rfl⟩
abbrev main_v16 : Ref sig .tc := ⟨.hbm, 87, rfl⟩
abbrev main_v17 : Ref sig .tc := ⟨.hbm, 88, rfl⟩
abbrev main_v18 : Ref sig .tc := ⟨.hbm, 89, rfl⟩
abbrev main_cst_6 : Ref sig .tc := ⟨.hbm, 90, rfl⟩
abbrev main_v19 : Ref sig .tc := ⟨.hbm, 91, rfl⟩
abbrev main_v20 : Ref sig .tc := ⟨.hbm, 92, rfl⟩
abbrev main_v21 : Ref sig .tc := ⟨.hbm, 93, rfl⟩
abbrev main_cst_7 : Ref sig .tc := ⟨.hbm, 94, rfl⟩
abbrev main_v22 : Ref sig .tc := ⟨.hbm, 95, rfl⟩
abbrev main_v23 : Ref sig .tc := ⟨.hbm, 96, rfl⟩
abbrev main_cst_8 : Ref sig .tc := ⟨.hbm, 97, rfl⟩
abbrev main_v24 : Ref sig .tc := ⟨.hbm, 98, rfl⟩
abbrev main_v25 : Ref sig .tc := ⟨.hbm, 99, rfl⟩
abbrev main_cst_9 : Ref sig .tc := ⟨.hbm, 100, rfl⟩
abbrev main_v26 : Ref sig .tc := ⟨.hbm, 101, rfl⟩
abbrev main_v27 : Ref sig .tc := ⟨.hbm, 102, rfl⟩
abbrev main_v28 : Ref sig .tc := ⟨.hbm, 103, rfl⟩
abbrev main_cst_10 : Ref sig .tc := ⟨.hbm, 104, rfl⟩
abbrev main_v29 : Ref sig .tc := ⟨.hbm, 105, rfl⟩
abbrev main_v30 : Ref sig .tc := ⟨.hbm, 106, rfl⟩
abbrev main_v31 : Ref sig .tc := ⟨.hbm, 107, rfl⟩
abbrev main_cst_11 : Ref sig .tc := ⟨.hbm, 108, rfl⟩
abbrev main_v32 : Ref sig .tc := ⟨.hbm, 109, rfl⟩
abbrev main_v33 : Ref sig .tc := ⟨.hbm, 110, rfl⟩
abbrev main_v34 : Ref sig .tc := ⟨.hbm, 111, rfl⟩
abbrev main_cst_12 : Ref sig .tc := ⟨.hbm, 112, rfl⟩
abbrev main_v35 : Ref sig .tc := ⟨.hbm, 113, rfl⟩
abbrev main_v36 : Ref sig .tc := ⟨.hbm, 114, rfl⟩
abbrev main_cst_13 : Ref sig .tc := ⟨.hbm, 115, rfl⟩
abbrev main_v37 : Ref sig .tc := ⟨.hbm, 116, rfl⟩
abbrev main_v38 : Ref sig .tc := ⟨.hbm, 117, rfl⟩
abbrev main_v39 : Ref sig .tc := ⟨.hbm, 118, rfl⟩
abbrev main_cst_14 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_cst_15 : Ref sig .tc := ⟨.hbm, 123, rfl⟩
abbrev main_v43 : Ref sig .tc := ⟨.hbm, 124, rfl⟩
abbrev main_v44 : Ref sig .tc := ⟨.hbm, 125, rfl⟩
abbrev main_v45 : Ref sig .tc := ⟨.hbm, 126, rfl⟩
abbrev main_cst_16 : Ref sig .tc := ⟨.hbm, 127, rfl⟩
abbrev main_v46 : Ref sig .tc := ⟨.hbm, 128, rfl⟩
abbrev main_v47 : Ref sig .tc := ⟨.hbm, 129, rfl⟩
abbrev main_cst_17 : Ref sig .tc := ⟨.hbm, 130, rfl⟩
abbrev main_v48 : Ref sig .tc := ⟨.hbm, 131, rfl⟩
abbrev main_v49 : Ref sig .tc := ⟨.hbm, 132, rfl⟩
abbrev main_cst_18 : Ref sig .tc := ⟨.hbm, 133, rfl⟩
abbrev main_v50 : Ref sig .tc := ⟨.hbm, 134, rfl⟩
abbrev main_v51 : Ref sig .tc := ⟨.hbm, 135, rfl⟩
abbrev main_v52 : Ref sig .tc := ⟨.hbm, 136, rfl⟩
abbrev main_cst_19 : Ref sig .tc := ⟨.hbm, 137, rfl⟩
abbrev main_v53 : Ref sig .tc := ⟨.hbm, 138, rfl⟩
abbrev main_v54 : Ref sig .tc := ⟨.hbm, 139, rfl⟩
abbrev main_v55 : Ref sig .tc := ⟨.hbm, 140, rfl⟩
abbrev main_cst_20 : Ref sig .tc := ⟨.hbm, 141, rfl⟩
abbrev main_v56 : Ref sig .tc := ⟨.hbm, 142, rfl⟩
abbrev main_v57 : Ref sig .tc := ⟨.hbm, 143, rfl⟩
abbrev main_v58 : Ref sig .tc := ⟨.hbm, 144, rfl⟩
abbrev main_cst_21 : Ref sig .tc := ⟨.hbm, 145, rfl⟩
abbrev main_v59 : Ref sig .tc := ⟨.hbm, 146, rfl⟩
abbrev main_v60 : Ref sig .tc := ⟨.hbm, 147, rfl⟩
abbrev main_cst_22 : Ref sig .tc := ⟨.hbm, 148, rfl⟩
abbrev main_v61 : Ref sig .tc := ⟨.hbm, 149, rfl⟩
abbrev main_v62 : Ref sig .tc := ⟨.hbm, 150, rfl⟩
abbrev main_v63 : Ref sig .tc := ⟨.hbm, 151, rfl⟩
abbrev main_cst_23 : Ref sig .tc := ⟨.hbm, 152, rfl⟩
abbrev main_v64 : Ref sig .tc := ⟨.hbm, 153, rfl⟩
abbrev main_v65 : Ref sig .tc := ⟨.hbm, 154, rfl⟩
abbrev main_v66 : Ref sig .tc := ⟨.hbm, 155, rfl⟩
abbrev main_cst_24 : Ref sig .tc := ⟨.hbm, 156, rfl⟩
abbrev main_v67 : Ref sig .tc := ⟨.hbm, 157, rfl⟩
abbrev main_v68 : Ref sig .tc := ⟨.hbm, 158, rfl⟩
abbrev main_v69 : Ref sig .tc := ⟨.hbm, 159, rfl⟩
abbrev main_cst_25 : Ref sig .tc := ⟨.hbm, 160, rfl⟩
abbrev main_v70 : Ref sig .tc := ⟨.hbm, 161, rfl⟩
abbrev main_v71 : Ref sig .tc := ⟨.hbm, 162, rfl⟩
abbrev main_cst_26 : Ref sig .tc := ⟨.hbm, 163, rfl⟩
abbrev main_v72 : Ref sig .tc := ⟨.hbm, 164, rfl⟩
abbrev main_v73 : Ref sig .tc := ⟨.hbm, 165, rfl⟩
abbrev main_cst_27 : Ref sig .tc := ⟨.hbm, 166, rfl⟩
abbrev main_v74 : Ref sig .tc := ⟨.hbm, 167, rfl⟩
abbrev main_v75 : Ref sig .tc := ⟨.hbm, 168, rfl⟩
abbrev main_v76 : Ref sig .tc := ⟨.hbm, 169, rfl⟩
abbrev main_cst_28 : Ref sig .tc := ⟨.hbm, 170, rfl⟩
abbrev main_v77 : Ref sig .tc := ⟨.hbm, 171, rfl⟩
abbrev main_v78 : Ref sig .tc := ⟨.hbm, 172, rfl⟩
abbrev main_v79 : Ref sig .tc := ⟨.hbm, 173, rfl⟩
abbrev main_cst_29 : Ref sig .tc := ⟨.hbm, 174, rfl⟩
abbrev main_v80 : Ref sig .tc := ⟨.hbm, 175, rfl⟩
abbrev main_v81 : Ref sig .tc := ⟨.hbm, 176, rfl⟩
abbrev main_v82 : Ref sig .tc := ⟨.hbm, 177, rfl⟩
abbrev main_cst_30 : Ref sig .tc := ⟨.hbm, 178, rfl⟩
abbrev main_v83 : Ref sig .tc := ⟨.hbm, 179, rfl⟩
abbrev main_v84 : Ref sig .tc := ⟨.hbm, 180, rfl⟩
abbrev main_cst_31 : Ref sig .tc := ⟨.hbm, 181, rfl⟩
abbrev main_v85 : Ref sig .tc := ⟨.hbm, 182, rfl⟩
abbrev main_v86 : Ref sig .tc := ⟨.hbm, 183, rfl⟩
abbrev main_v87 : Ref sig .tc := ⟨.hbm, 184, rfl⟩
abbrev main_cst_32 : Ref sig .tc := ⟨.hbm, 185, rfl⟩
abbrev main_v88 : Ref sig .tc := ⟨.hbm, 186, rfl⟩
abbrev main_v89 : Ref sig .tc := ⟨.hbm, 187, rfl⟩
abbrev main_v90 : Ref sig .tc := ⟨.hbm, 188, rfl⟩
abbrev main_cst_33 : Ref sig .tc := ⟨.hbm, 189, rfl⟩
abbrev main_v91 : Ref sig .tc := ⟨.hbm, 190, rfl⟩
abbrev main_v92 : Ref sig .tc := ⟨.hbm, 191, rfl⟩
abbrev main_v93 : Ref sig .tc := ⟨.hbm, 192, rfl⟩
abbrev main_cst_34 : Ref sig .tc := ⟨.hbm, 193, rfl⟩
abbrev main_v94 : Ref sig .tc := ⟨.hbm, 194, rfl⟩
abbrev main_v95 : Ref sig .tc := ⟨.hbm, 195, rfl⟩
abbrev main_cst_35 : Ref sig .tc := ⟨.hbm, 196, rfl⟩
abbrev main_v96 : Ref sig .tc := ⟨.hbm, 197, rfl⟩
abbrev main_v97 : Ref sig .tc := ⟨.hbm, 198, rfl⟩
abbrev main_cst_36 : Ref sig .tc := ⟨.hbm, 199, rfl⟩
abbrev main_v98 : Ref sig .tc := ⟨.hbm, 200, rfl⟩
abbrev main_v99 : Ref sig .tc := ⟨.hbm, 201, rfl⟩
abbrev main_v100 : Ref sig .tc := ⟨.hbm, 202, rfl⟩
abbrev main_cst_37 : Ref sig .tc := ⟨.hbm, 203, rfl⟩
abbrev main_v101 : Ref sig .tc := ⟨.hbm, 204, rfl⟩
abbrev main_v102 : Ref sig .tc := ⟨.hbm, 205, rfl⟩
abbrev main_v103 : Ref sig .tc := ⟨.hbm, 206, rfl⟩
abbrev main_cst_38 : Ref sig .tc := ⟨.hbm, 207, rfl⟩
abbrev main_v104 : Ref sig .tc := ⟨.hbm, 208, rfl⟩
abbrev main_v105 : Ref sig .tc := ⟨.hbm, 209, rfl⟩
abbrev main_v106 : Ref sig .tc := ⟨.hbm, 210, rfl⟩
abbrev main_cst_39 : Ref sig .tc := ⟨.hbm, 211, rfl⟩
abbrev main_v107 : Ref sig .tc := ⟨.hbm, 212, rfl⟩
abbrev main_v108 : Ref sig .tc := ⟨.hbm, 213, rfl⟩
abbrev main_cst_40 : Ref sig .tc := ⟨.hbm, 214, rfl⟩
abbrev main_v109 : Ref sig .tc := ⟨.hbm, 215, rfl⟩
abbrev main_v110 : Ref sig .tc := ⟨.hbm, 216, rfl⟩
abbrev main_v111 : Ref sig .tc := ⟨.hbm, 217, rfl⟩
abbrev main_cst_41 : Ref sig .tc := ⟨.hbm, 218, rfl⟩
abbrev main_v112 : Ref sig .tc := ⟨.hbm, 219, rfl⟩
abbrev main_v113 : Ref sig .tc := ⟨.hbm, 220, rfl⟩
abbrev main_v114 : Ref sig .tc := ⟨.hbm, 221, rfl⟩
abbrev main_cst_42 : Ref sig .tc := ⟨.hbm, 222, rfl⟩
abbrev main_v115 : Ref sig .tc := ⟨.hbm, 223, rfl⟩
abbrev main_v116 : Ref sig .tc := ⟨.hbm, 224, rfl⟩
abbrev main_v117 : Ref sig .tc := ⟨.hbm, 225, rfl⟩
abbrev main_cst_43 : Ref sig .tc := ⟨.hbm, 226, rfl⟩
abbrev main_v118 : Ref sig .tc := ⟨.hbm, 227, rfl⟩
abbrev main_v119 : Ref sig .tc := ⟨.hbm, 228, rfl⟩
abbrev main_cst_44 : Ref sig .tc := ⟨.hbm, 229, rfl⟩
abbrev main_v120 : Ref sig .tc := ⟨.hbm, 230, rfl⟩
abbrev main_v121 : Ref sig .tc := ⟨.hbm, 231, rfl⟩
abbrev main_cst_45 : Ref sig .tc := ⟨.hbm, 232, rfl⟩
abbrev main_v122 : Ref sig .tc := ⟨.hbm, 233, rfl⟩
abbrev main_v123 : Ref sig .tc := ⟨.hbm, 234, rfl⟩
abbrev main_v124 : Ref sig .tc := ⟨.hbm, 235, rfl⟩
abbrev main_cst_46 : Ref sig .tc := ⟨.hbm, 236, rfl⟩
abbrev main_v125 : Ref sig .tc := ⟨.hbm, 237, rfl⟩
abbrev main_v126 : Ref sig .tc := ⟨.hbm, 238, rfl⟩
abbrev main_v127 : Ref sig .tc := ⟨.hbm, 239, rfl⟩
abbrev main_cst_47 : Ref sig .tc := ⟨.hbm, 240, rfl⟩
abbrev main_v128 : Ref sig .tc := ⟨.hbm, 241, rfl⟩
abbrev main_v129 : Ref sig .tc := ⟨.hbm, 242, rfl⟩
abbrev main_v130 : Ref sig .tc := ⟨.hbm, 243, rfl⟩
abbrev main_cst_48 : Ref sig .tc := ⟨.hbm, 244, rfl⟩
abbrev main_v131 : Ref sig .tc := ⟨.hbm, 245, rfl⟩
abbrev main_v132 : Ref sig .tc := ⟨.hbm, 246, rfl⟩
abbrev main_cst_49 : Ref sig .tc := ⟨.hbm, 247, rfl⟩
abbrev main_v133 : Ref sig .tc := ⟨.hbm, 248, rfl⟩
abbrev main_v134 : Ref sig .tc := ⟨.hbm, 249, rfl⟩
abbrev main_v135 : Ref sig .tc := ⟨.hbm, 250, rfl⟩
abbrev main_cst_50 : Ref sig .tc := ⟨.hbm, 251, rfl⟩
abbrev main_v136 : Ref sig .tc := ⟨.hbm, 252, rfl⟩
abbrev main_v137 : Ref sig .tc := ⟨.hbm, 253, rfl⟩
abbrev main_v138 : Ref sig .tc := ⟨.hbm, 254, rfl⟩
abbrev main_cst_51 : Ref sig .tc := ⟨.hbm, 255, rfl⟩
abbrev main_v139 : Ref sig .tc := ⟨.hbm, 256, rfl⟩
abbrev main_v140 : Ref sig .tc := ⟨.hbm, 257, rfl⟩
abbrev main_v141 : Ref sig .tc := ⟨.hbm, 258, rfl⟩
abbrev main_cst_52 : Ref sig .tc := ⟨.hbm, 259, rfl⟩
abbrev main_v142 : Ref sig .tc := ⟨.hbm, 260, rfl⟩
abbrev main_v143 : Ref sig .tc := ⟨.hbm, 261, rfl⟩
abbrev main_cst_53 : Ref sig .tc := ⟨.hbm, 262, rfl⟩
abbrev main_v144 : Ref sig .tc := ⟨.hbm, 263, rfl⟩
abbrev main_v145 : Ref sig .tc := ⟨.hbm, 264, rfl⟩
abbrev main_cst_54 : Ref sig .tc := ⟨.hbm, 265, rfl⟩
abbrev main_v146 : Ref sig .tc := ⟨.hbm, 266, rfl⟩
abbrev main_v147 : Ref sig .tc := ⟨.hbm, 267, rfl⟩
abbrev main_v148 : Ref sig .tc := ⟨.hbm, 268, rfl⟩
abbrev main_cst_55 : Ref sig .tc := ⟨.hbm, 269, rfl⟩
abbrev main_v149 : Ref sig .tc := ⟨.hbm, 270, rfl⟩
abbrev main_v150 : Ref sig .tc := ⟨.hbm, 271, rfl⟩
abbrev main_v151 : Ref sig .tc := ⟨.hbm, 272, rfl⟩
abbrev main_cst_56 : Ref sig .tc := ⟨.hbm, 273, rfl⟩
abbrev main_v152 : Ref sig .tc := ⟨.hbm, 274, rfl⟩
abbrev main_v153 : Ref sig .tc := ⟨.hbm, 275, rfl⟩
abbrev main_v154 : Ref sig .tc := ⟨.hbm, 276, rfl⟩
abbrev main_cst_57 : Ref sig .tc := ⟨.hbm, 277, rfl⟩
abbrev main_v155 : Ref sig .tc := ⟨.hbm, 278, rfl⟩
abbrev main_v156 : Ref sig .tc := ⟨.hbm, 279, rfl⟩
abbrev main_cst_58 : Ref sig .tc := ⟨.hbm, 280, rfl⟩
abbrev main_v157 : Ref sig .tc := ⟨.hbm, 281, rfl⟩
abbrev main_v158 : Ref sig .tc := ⟨.hbm, 282, rfl⟩
abbrev main_v159 : Ref sig .tc := ⟨.hbm, 283, rfl⟩
abbrev main_cst_59 : Ref sig .tc := ⟨.hbm, 284, rfl⟩
abbrev main_v160 : Ref sig .tc := ⟨.hbm, 285, rfl⟩
abbrev main_v161 : Ref sig .tc := ⟨.hbm, 286, rfl⟩
abbrev main_v162 : Ref sig .tc := ⟨.hbm, 287, rfl⟩
abbrev main_cst_60 : Ref sig .tc := ⟨.hbm, 288, rfl⟩
abbrev main_v163 : Ref sig .tc := ⟨.hbm, 289, rfl⟩
abbrev main_v164 : Ref sig .tc := ⟨.hbm, 290, rfl⟩
abbrev main_v165 : Ref sig .tc := ⟨.hbm, 291, rfl⟩
abbrev main_cst_61 : Ref sig .tc := ⟨.hbm, 292, rfl⟩
abbrev main_v166 : Ref sig .tc := ⟨.hbm, 293, rfl⟩
abbrev main_v167 : Ref sig .tc := ⟨.hbm, 294, rfl⟩
abbrev main_cst_62 : Ref sig .tc := ⟨.hbm, 295, rfl⟩
abbrev main_v168 : Ref sig .tc := ⟨.hbm, 296, rfl⟩
abbrev main_v169 : Ref sig .tc := ⟨.hbm, 297, rfl⟩
abbrev main_cst_63 : Ref sig .tc := ⟨.hbm, 298, rfl⟩
abbrev main_v170 : Ref sig .tc := ⟨.hbm, 299, rfl⟩
abbrev main_v171 : Ref sig .tc := ⟨.hbm, 300, rfl⟩
abbrev main_v172 : Ref sig .tc := ⟨.hbm, 301, rfl⟩
abbrev main_cst_64 : Ref sig .tc := ⟨.hbm, 302, rfl⟩
abbrev main_v173 : Ref sig .tc := ⟨.hbm, 303, rfl⟩
abbrev main_v174 : Ref sig .tc := ⟨.hbm, 304, rfl⟩
abbrev main_v175 : Ref sig .tc := ⟨.hbm, 305, rfl⟩
abbrev main_cst_65 : Ref sig .tc := ⟨.hbm, 306, rfl⟩
abbrev main_v176 : Ref sig .tc := ⟨.hbm, 307, rfl⟩
abbrev main_v177 : Ref sig .tc := ⟨.hbm, 308, rfl⟩
abbrev main_v178 : Ref sig .tc := ⟨.hbm, 309, rfl⟩
abbrev main_cst_66 : Ref sig .tc := ⟨.hbm, 310, rfl⟩
abbrev main_v179 : Ref sig .tc := ⟨.hbm, 311, rfl⟩
abbrev main_v180 : Ref sig .tc := ⟨.hbm, 312, rfl⟩
abbrev main_cst_67 : Ref sig .tc := ⟨.hbm, 313, rfl⟩
abbrev main_v181 : Ref sig .tc := ⟨.hbm, 314, rfl⟩
abbrev main_v182 : Ref sig .tc := ⟨.hbm, 315, rfl⟩
abbrev main_v183 : Ref sig .tc := ⟨.hbm, 316, rfl⟩
abbrev main_cst_68 : Ref sig .tc := ⟨.hbm, 317, rfl⟩
abbrev main_v184 : Ref sig .tc := ⟨.hbm, 318, rfl⟩
abbrev main_v185 : Ref sig .tc := ⟨.hbm, 319, rfl⟩
abbrev main_v186 : Ref sig .tc := ⟨.hbm, 320, rfl⟩
abbrev main_cst_69 : Ref sig .tc := ⟨.hbm, 321, rfl⟩
abbrev main_v187 : Ref sig .tc := ⟨.hbm, 322, rfl⟩
abbrev main_v188 : Ref sig .tc := ⟨.hbm, 323, rfl⟩
abbrev main_v189 : Ref sig .tc := ⟨.hbm, 324, rfl⟩
abbrev main_cst_70 : Ref sig .tc := ⟨.hbm, 325, rfl⟩
abbrev main_v190 : Ref sig .tc := ⟨.hbm, 326, rfl⟩
abbrev main_v191 : Ref sig .tc := ⟨.hbm, 327, rfl⟩
abbrev main_cst_71 : Ref sig .tc := ⟨.hbm, 328, rfl⟩
abbrev main_v192 : Ref sig .tc := ⟨.hbm, 329, rfl⟩
abbrev main_v193 : Ref sig .tc := ⟨.hbm, 330, rfl⟩
abbrev main_cst_72 : Ref sig .tc := ⟨.hbm, 331, rfl⟩
abbrev main_v194 : Ref sig .tc := ⟨.hbm, 332, rfl⟩
abbrev main_v195 : Ref sig .tc := ⟨.hbm, 333, rfl⟩
abbrev main_v196 : Ref sig .tc := ⟨.hbm, 334, rfl⟩
abbrev main_cst_73 : Ref sig .tc := ⟨.hbm, 335, rfl⟩
abbrev main_v197 : Ref sig .tc := ⟨.hbm, 336, rfl⟩
abbrev main_v198 : Ref sig .tc := ⟨.hbm, 337, rfl⟩
abbrev main_v199 : Ref sig .tc := ⟨.hbm, 338, rfl⟩
abbrev main_cst_74 : Ref sig .tc := ⟨.hbm, 339, rfl⟩
abbrev main_v200 : Ref sig .tc := ⟨.hbm, 340, rfl⟩
abbrev main_v201 : Ref sig .tc := ⟨.hbm, 341, rfl⟩
abbrev main_v202 : Ref sig .tc := ⟨.hbm, 342, rfl⟩
abbrev main_cst_75 : Ref sig .tc := ⟨.hbm, 343, rfl⟩
abbrev main_v203 : Ref sig .tc := ⟨.hbm, 344, rfl⟩
abbrev main_v204 : Ref sig .tc := ⟨.hbm, 345, rfl⟩
abbrev main_cst_76 : Ref sig .tc := ⟨.hbm, 346, rfl⟩
abbrev main_v205 : Ref sig .tc := ⟨.hbm, 347, rfl⟩
abbrev main_v206 : Ref sig .tc := ⟨.hbm, 348, rfl⟩
abbrev main_v207 : Ref sig .tc := ⟨.hbm, 349, rfl⟩
abbrev main_cst_77 : Ref sig .tc := ⟨.hbm, 350, rfl⟩
abbrev main_v208 : Ref sig .tc := ⟨.hbm, 351, rfl⟩
abbrev main_v209 : Ref sig .tc := ⟨.hbm, 352, rfl⟩
abbrev main_v210 : Ref sig .tc := ⟨.hbm, 353, rfl⟩
abbrev main_cst_78 : Ref sig .tc := ⟨.hbm, 354, rfl⟩
abbrev main_v211 : Ref sig .tc := ⟨.hbm, 355, rfl⟩
abbrev main_v212 : Ref sig .tc := ⟨.hbm, 356, rfl⟩
abbrev main_v213 : Ref sig .tc := ⟨.hbm, 357, rfl⟩
abbrev main_cst_79 : Ref sig .tc := ⟨.hbm, 358, rfl⟩
abbrev main_v214 : Ref sig .tc := ⟨.hbm, 359, rfl⟩
abbrev main_v215 : Ref sig .tc := ⟨.hbm, 360, rfl⟩
abbrev main_cst_80 : Ref sig .tc := ⟨.hbm, 361, rfl⟩
abbrev main_v216 : Ref sig .tc := ⟨.hbm, 362, rfl⟩
abbrev main_v217 : Ref sig .tc := ⟨.hbm, 363, rfl⟩
abbrev main_cst_81 : Ref sig .tc := ⟨.hbm, 364, rfl⟩
abbrev main_v218 : Ref sig .tc := ⟨.hbm, 365, rfl⟩
abbrev main_v219 : Ref sig .tc := ⟨.hbm, 366, rfl⟩
abbrev main_v220 : Ref sig .tc := ⟨.hbm, 367, rfl⟩
abbrev main_cst_82 : Ref sig .tc := ⟨.hbm, 368, rfl⟩
abbrev main_v221 : Ref sig .tc := ⟨.hbm, 369, rfl⟩
abbrev main_v222 : Ref sig .tc := ⟨.hbm, 370, rfl⟩
abbrev main_v223 : Ref sig .tc := ⟨.hbm, 371, rfl⟩
abbrev main_cst_83 : Ref sig .tc := ⟨.hbm, 372, rfl⟩
abbrev main_v224 : Ref sig .tc := ⟨.hbm, 373, rfl⟩
abbrev main_v225 : Ref sig .tc := ⟨.hbm, 374, rfl⟩
abbrev main_v226 : Ref sig .tc := ⟨.hbm, 375, rfl⟩
abbrev main_cst_84 : Ref sig .tc := ⟨.hbm, 376, rfl⟩
abbrev main_v227 : Ref sig .tc := ⟨.hbm, 377, rfl⟩
abbrev main_v228 : Ref sig .tc := ⟨.hbm, 378, rfl⟩
abbrev main_cst_85 : Ref sig .tc := ⟨.hbm, 379, rfl⟩
abbrev main_v229 : Ref sig .tc := ⟨.hbm, 380, rfl⟩
abbrev main_v230 : Ref sig .tc := ⟨.hbm, 381, rfl⟩
abbrev main_v231 : Ref sig .tc := ⟨.hbm, 382, rfl⟩
abbrev main_cst_86 : Ref sig .tc := ⟨.hbm, 383, rfl⟩
abbrev main_v232 : Ref sig .tc := ⟨.hbm, 384, rfl⟩
abbrev main_v233 : Ref sig .tc := ⟨.hbm, 385, rfl⟩
abbrev main_v234 : Ref sig .tc := ⟨.hbm, 386, rfl⟩
abbrev main_cst_87 : Ref sig .tc := ⟨.hbm, 387, rfl⟩
abbrev main_v235 : Ref sig .tc := ⟨.hbm, 388, rfl⟩
abbrev main_v236 : Ref sig .tc := ⟨.hbm, 389, rfl⟩
abbrev main_v237 : Ref sig .tc := ⟨.hbm, 390, rfl⟩
abbrev main_cst_88 : Ref sig .tc := ⟨.hbm, 391, rfl⟩
abbrev main_v238 : Ref sig .tc := ⟨.hbm, 392, rfl⟩
abbrev main_v239 : Ref sig .tc := ⟨.hbm, 393, rfl⟩
abbrev main_cst_89 : Ref sig .tc := ⟨.hbm, 394, rfl⟩
abbrev main_v240 : Ref sig .tc := ⟨.hbm, 395, rfl⟩
abbrev main_v241 : Ref sig .tc := ⟨.hbm, 396, rfl⟩
abbrev main_cst_90 : Ref sig .tc := ⟨.hbm, 397, rfl⟩
abbrev main_v242 : Ref sig .tc := ⟨.hbm, 398, rfl⟩
abbrev main_v243 : Ref sig .tc := ⟨.hbm, 399, rfl⟩
abbrev main_v244 : Ref sig .tc := ⟨.hbm, 400, rfl⟩
abbrev main_cst_91 : Ref sig .tc := ⟨.hbm, 401, rfl⟩
abbrev main_v245 : Ref sig .tc := ⟨.hbm, 402, rfl⟩
abbrev main_v246 : Ref sig .tc := ⟨.hbm, 403, rfl⟩
abbrev main_v247 : Ref sig .tc := ⟨.hbm, 404, rfl⟩
abbrev main_cst_92 : Ref sig .tc := ⟨.hbm, 405, rfl⟩
abbrev main_v248 : Ref sig .tc := ⟨.hbm, 406, rfl⟩
abbrev main_v249 : Ref sig .tc := ⟨.hbm, 407, rfl⟩
abbrev main_v250 : Ref sig .tc := ⟨.hbm, 408, rfl⟩
abbrev main_cst_93 : Ref sig .tc := ⟨.hbm, 409, rfl⟩
abbrev main_v251 : Ref sig .tc := ⟨.hbm, 410, rfl⟩
abbrev main_v252 : Ref sig .tc := ⟨.hbm, 411, rfl⟩
abbrev main_cst_94 : Ref sig .tc := ⟨.hbm, 412, rfl⟩
abbrev main_v253 : Ref sig .tc := ⟨.hbm, 413, rfl⟩
abbrev main_v254 : Ref sig .tc := ⟨.hbm, 414, rfl⟩
abbrev main_v255 : Ref sig .tc := ⟨.hbm, 415, rfl⟩
abbrev main_cst_95 : Ref sig .tc := ⟨.hbm, 416, rfl⟩
abbrev main_v256 : Ref sig .tc := ⟨.hbm, 417, rfl⟩
abbrev main_v257 : Ref sig .tc := ⟨.hbm, 418, rfl⟩
abbrev main_v258 : Ref sig .tc := ⟨.hbm, 419, rfl⟩
abbrev main_cst_96 : Ref sig .tc := ⟨.hbm, 420, rfl⟩
abbrev main_v259 : Ref sig .tc := ⟨.hbm, 421, rfl⟩
abbrev main_v260 : Ref sig .tc := ⟨.hbm, 422, rfl⟩
abbrev main_v261 : Ref sig .tc := ⟨.hbm, 423, rfl⟩
abbrev main_cst_97 : Ref sig .tc := ⟨.hbm, 424, rfl⟩
abbrev main_v262 : Ref sig .tc := ⟨.hbm, 425, rfl⟩
abbrev main_v263 : Ref sig .tc := ⟨.hbm, 426, rfl⟩
abbrev main_cst_98 : Ref sig .tc := ⟨.hbm, 427, rfl⟩
abbrev main_v264 : Ref sig .tc := ⟨.hbm, 428, rfl⟩
abbrev main_v265 : Ref sig .tc := ⟨.hbm, 429, rfl⟩
abbrev main_cst_99 : Ref sig .tc := ⟨.hbm, 430, rfl⟩
abbrev main_v266 : Ref sig .tc := ⟨.hbm, 431, rfl⟩
abbrev main_v267 : Ref sig .tc := ⟨.hbm, 432, rfl⟩
abbrev main_v268 : Ref sig .tc := ⟨.hbm, 433, rfl⟩
abbrev main_cst_100 : Ref sig .tc := ⟨.hbm, 434, rfl⟩
abbrev main_v269 : Ref sig .tc := ⟨.hbm, 435, rfl⟩
abbrev main_v270 : Ref sig .tc := ⟨.hbm, 436, rfl⟩
abbrev main_v271 : Ref sig .tc := ⟨.hbm, 437, rfl⟩
abbrev main_cst_101 : Ref sig .tc := ⟨.hbm, 438, rfl⟩
abbrev main_v272 : Ref sig .tc := ⟨.hbm, 439, rfl⟩
abbrev main_v273 : Ref sig .tc := ⟨.hbm, 440, rfl⟩
abbrev main_v274 : Ref sig .tc := ⟨.hbm, 441, rfl⟩
abbrev main_cst_102 : Ref sig .tc := ⟨.hbm, 442, rfl⟩
abbrev main_v275 : Ref sig .tc := ⟨.hbm, 443, rfl⟩
abbrev main_v276 : Ref sig .tc := ⟨.hbm, 444, rfl⟩
abbrev main_cst_103 : Ref sig .tc := ⟨.hbm, 445, rfl⟩
abbrev main_v277 : Ref sig .tc := ⟨.hbm, 446, rfl⟩
abbrev main_v278 : Ref sig .tc := ⟨.hbm, 447, rfl⟩
abbrev main_v279 : Ref sig .tc := ⟨.hbm, 448, rfl⟩
abbrev main_cst_104 : Ref sig .tc := ⟨.hbm, 449, rfl⟩
abbrev main_v280 : Ref sig .tc := ⟨.hbm, 450, rfl⟩
abbrev main_v281 : Ref sig .tc := ⟨.hbm, 451, rfl⟩
abbrev main_v282 : Ref sig .tc := ⟨.hbm, 452, rfl⟩
abbrev main_cst_105 : Ref sig .tc := ⟨.hbm, 453, rfl⟩
abbrev main_v283 : Ref sig .tc := ⟨.hbm, 454, rfl⟩
abbrev main_v284 : Ref sig .tc := ⟨.hbm, 455, rfl⟩
abbrev main_v285 : Ref sig .tc := ⟨.hbm, 456, rfl⟩
abbrev main_cst_106 : Ref sig .tc := ⟨.hbm, 457, rfl⟩
abbrev main_v286 : Ref sig .tc := ⟨.hbm, 458, rfl⟩
abbrev main_v287 : Ref sig .tc := ⟨.hbm, 459, rfl⟩
abbrev main_cst_107 : Ref sig .tc := ⟨.hbm, 460, rfl⟩
abbrev main_v288 : Ref sig .tc := ⟨.hbm, 461, rfl⟩
abbrev main_v289 : Ref sig .tc := ⟨.hbm, 462, rfl⟩
abbrev main_cst_108 : Ref sig .tc := ⟨.hbm, 463, rfl⟩
abbrev main_v290 : Ref sig .tc := ⟨.hbm, 464, rfl⟩
abbrev main_v291 : Ref sig .tc := ⟨.hbm, 465, rfl⟩
abbrev main_v292 : Ref sig .tc := ⟨.hbm, 466, rfl⟩
abbrev main_cst_109 : Ref sig .tc := ⟨.hbm, 467, rfl⟩
abbrev main_v293 : Ref sig .tc := ⟨.hbm, 468, rfl⟩
abbrev main_v294 : Ref sig .tc := ⟨.hbm, 469, rfl⟩
abbrev main_v295 : Ref sig .tc := ⟨.hbm, 470, rfl⟩
abbrev main_cst_110 : Ref sig .tc := ⟨.hbm, 471, rfl⟩
abbrev main_v296 : Ref sig .tc := ⟨.hbm, 472, rfl⟩
abbrev main_v297 : Ref sig .tc := ⟨.hbm, 473, rfl⟩
abbrev main_v298 : Ref sig .tc := ⟨.hbm, 474, rfl⟩
abbrev main_cst_111 : Ref sig .tc := ⟨.hbm, 475, rfl⟩
abbrev main_v299 : Ref sig .tc := ⟨.hbm, 476, rfl⟩
abbrev main_v300 : Ref sig .tc := ⟨.hbm, 477, rfl⟩
abbrev main_cst_112 : Ref sig .tc := ⟨.hbm, 478, rfl⟩
abbrev main_v301 : Ref sig .tc := ⟨.hbm, 479, rfl⟩
abbrev main_v302 : Ref sig .tc := ⟨.hbm, 480, rfl⟩
abbrev main_v303 : Ref sig .tc := ⟨.hbm, 481, rfl⟩
abbrev main_cst_113 : Ref sig .tc := ⟨.hbm, 482, rfl⟩
abbrev main_v304 : Ref sig .tc := ⟨.hbm, 483, rfl⟩
abbrev main_v305 : Ref sig .tc := ⟨.hbm, 484, rfl⟩
abbrev main_v306 : Ref sig .tc := ⟨.hbm, 485, rfl⟩
abbrev main_cst_114 : Ref sig .tc := ⟨.hbm, 486, rfl⟩
abbrev main_v307 : Ref sig .tc := ⟨.hbm, 487, rfl⟩
abbrev main_v308 : Ref sig .tc := ⟨.hbm, 488, rfl⟩
abbrev main_v309 : Ref sig .tc := ⟨.hbm, 489, rfl⟩
abbrev main_cst_115 : Ref sig .tc := ⟨.hbm, 490, rfl⟩
abbrev main_v310 : Ref sig .tc := ⟨.hbm, 491, rfl⟩
abbrev main_v311 : Ref sig .tc := ⟨.hbm, 492, rfl⟩
abbrev main_cst_116 : Ref sig .tc := ⟨.hbm, 493, rfl⟩
abbrev main_v312 : Ref sig .tc := ⟨.hbm, 494, rfl⟩
abbrev main_v313 : Ref sig .tc := ⟨.hbm, 495, rfl⟩
abbrev main_cst_117 : Ref sig .tc := ⟨.hbm, 496, rfl⟩
abbrev main_v314 : Ref sig .tc := ⟨.hbm, 497, rfl⟩
abbrev main_v315 : Ref sig .tc := ⟨.hbm, 498, rfl⟩
abbrev main_v316 : Ref sig .tc := ⟨.hbm, 499, rfl⟩
abbrev main_cst_118 : Ref sig .tc := ⟨.hbm, 500, rfl⟩
abbrev main_v317 : Ref sig .tc := ⟨.hbm, 501, rfl⟩
abbrev main_v318 : Ref sig .tc := ⟨.hbm, 502, rfl⟩
abbrev main_v319 : Ref sig .tc := ⟨.hbm, 503, rfl⟩
abbrev main_cst_119 : Ref sig .tc := ⟨.hbm, 504, rfl⟩
abbrev main_v320 : Ref sig .tc := ⟨.hbm, 505, rfl⟩
abbrev main_v321 : Ref sig .tc := ⟨.hbm, 506, rfl⟩
abbrev main_v322 : Ref sig .tc := ⟨.hbm, 507, rfl⟩
abbrev main_cst_120 : Ref sig .tc := ⟨.hbm, 508, rfl⟩
abbrev main_v323 : Ref sig .tc := ⟨.hbm, 509, rfl⟩
abbrev main_v324 : Ref sig .tc := ⟨.hbm, 510, rfl⟩
abbrev main_cst_121 : Ref sig .tc := ⟨.hbm, 511, rfl⟩
abbrev main_v325 : Ref sig .tc := ⟨.hbm, 512, rfl⟩
abbrev main_v326 : Ref sig .tc := ⟨.hbm, 513, rfl⟩
abbrev main_v327 : Ref sig .tc := ⟨.hbm, 514, rfl⟩
abbrev main_cst_122 : Ref sig .tc := ⟨.hbm, 515, rfl⟩
abbrev main_v328 : Ref sig .tc := ⟨.hbm, 516, rfl⟩
abbrev main_v329 : Ref sig .tc := ⟨.hbm, 517, rfl⟩
abbrev main_v330 : Ref sig .tc := ⟨.hbm, 518, rfl⟩
abbrev main_cst_123 : Ref sig .tc := ⟨.hbm, 519, rfl⟩
abbrev main_v331 : Ref sig .tc := ⟨.hbm, 520, rfl⟩
abbrev main_v332 : Ref sig .tc := ⟨.hbm, 521, rfl⟩
abbrev main_v333 : Ref sig .tc := ⟨.hbm, 522, rfl⟩
abbrev main_cst_124 : Ref sig .tc := ⟨.hbm, 523, rfl⟩
abbrev main_v334 : Ref sig .tc := ⟨.hbm, 524, rfl⟩
abbrev main_v335 : Ref sig .tc := ⟨.hbm, 525, rfl⟩
abbrev main_cst_125 : Ref sig .tc := ⟨.hbm, 526, rfl⟩
abbrev main_v336 : Ref sig .tc := ⟨.hbm, 527, rfl⟩
abbrev main_v337 : Ref sig .tc := ⟨.hbm, 528, rfl⟩
abbrev main_cst_126 : Ref sig .tc := ⟨.hbm, 529, rfl⟩
abbrev main_v338 : Ref sig .tc := ⟨.hbm, 530, rfl⟩
abbrev main_v339 : Ref sig .tc := ⟨.hbm, 531, rfl⟩
abbrev main_v340 : Ref sig .tc := ⟨.hbm, 532, rfl⟩
abbrev main_cst_127 : Ref sig .tc := ⟨.hbm, 533, rfl⟩
abbrev main_v341 : Ref sig .tc := ⟨.hbm, 534, rfl⟩
abbrev main_v342 : Ref sig .tc := ⟨.hbm, 535, rfl⟩
abbrev main_v343 : Ref sig .tc := ⟨.hbm, 536, rfl⟩
abbrev main_cst_128 : Ref sig .tc := ⟨.hbm, 537, rfl⟩
abbrev main_v344 : Ref sig .tc := ⟨.hbm, 538, rfl⟩
abbrev main_v345 : Ref sig .tc := ⟨.hbm, 539, rfl⟩
abbrev main_v346 : Ref sig .tc := ⟨.hbm, 540, rfl⟩
abbrev main_cst_129 : Ref sig .tc := ⟨.hbm, 541, rfl⟩
abbrev main_v347 : Ref sig .tc := ⟨.hbm, 542, rfl⟩
abbrev main_v348 : Ref sig .tc := ⟨.hbm, 543, rfl⟩
abbrev main_cst_130 : Ref sig .tc := ⟨.hbm, 544, rfl⟩
abbrev main_v349 : Ref sig .tc := ⟨.hbm, 545, rfl⟩
abbrev main_v350 : Ref sig .tc := ⟨.hbm, 546, rfl⟩
abbrev main_v351 : Ref sig .tc := ⟨.hbm, 547, rfl⟩
abbrev main_cst_131 : Ref sig .tc := ⟨.hbm, 548, rfl⟩
abbrev main_v352 : Ref sig .tc := ⟨.hbm, 549, rfl⟩
abbrev main_v353 : Ref sig .tc := ⟨.hbm, 550, rfl⟩
abbrev main_v354 : Ref sig .tc := ⟨.hbm, 551, rfl⟩
abbrev main_cst_132 : Ref sig .tc := ⟨.hbm, 552, rfl⟩
abbrev main_v355 : Ref sig .tc := ⟨.hbm, 553, rfl⟩
abbrev main_v356 : Ref sig .tc := ⟨.hbm, 554, rfl⟩
abbrev main_v357 : Ref sig .tc := ⟨.hbm, 555, rfl⟩
abbrev main_cst_133 : Ref sig .tc := ⟨.hbm, 556, rfl⟩
abbrev main_v358 : Ref sig .tc := ⟨.hbm, 557, rfl⟩
abbrev main_v359 : Ref sig .tc := ⟨.hbm, 558, rfl⟩
abbrev main_cst_134 : Ref sig .tc := ⟨.hbm, 559, rfl⟩
abbrev main_v360 : Ref sig .tc := ⟨.hbm, 560, rfl⟩
abbrev main_v361 : Ref sig .tc := ⟨.hbm, 561, rfl⟩
abbrev main_cst_135 : Ref sig .tc := ⟨.hbm, 562, rfl⟩
abbrev main_v362 : Ref sig .tc := ⟨.hbm, 563, rfl⟩
abbrev main_v363 : Ref sig .tc := ⟨.hbm, 564, rfl⟩
abbrev main_v364 : Ref sig .tc := ⟨.hbm, 565, rfl⟩
abbrev main_cst_136 : Ref sig .tc := ⟨.hbm, 566, rfl⟩
abbrev main_v365 : Ref sig .tc := ⟨.hbm, 567, rfl⟩
abbrev main_v366 : Ref sig .tc := ⟨.hbm, 568, rfl⟩
abbrev main_v367 : Ref sig .tc := ⟨.hbm, 569, rfl⟩
abbrev main_cst_137 : Ref sig .tc := ⟨.hbm, 570, rfl⟩
abbrev main_v368 : Ref sig .tc := ⟨.hbm, 571, rfl⟩
abbrev main_v369 : Ref sig .tc := ⟨.hbm, 572, rfl⟩
abbrev main_v370 : Ref sig .tc := ⟨.hbm, 573, rfl⟩
abbrev main_cst_138 : Ref sig .tc := ⟨.hbm, 574, rfl⟩
abbrev main_v371 : Ref sig .tc := ⟨.hbm, 575, rfl⟩
abbrev main_v372 : Ref sig .tc := ⟨.hbm, 576, rfl⟩
abbrev main_cst_139 : Ref sig .tc := ⟨.hbm, 577, rfl⟩
abbrev main_v373 : Ref sig .tc := ⟨.hbm, 578, rfl⟩
abbrev main_v374 : Ref sig .tc := ⟨.hbm, 579, rfl⟩
abbrev main_v375 : Ref sig .tc := ⟨.hbm, 580, rfl⟩
abbrev main_cst_140 : Ref sig .tc := ⟨.hbm, 581, rfl⟩
abbrev main_v376 : Ref sig .tc := ⟨.hbm, 582, rfl⟩
abbrev main_v377 : Ref sig .tc := ⟨.hbm, 583, rfl⟩
abbrev main_v378 : Ref sig .tc := ⟨.hbm, 584, rfl⟩
abbrev main_cst_141 : Ref sig .tc := ⟨.hbm, 585, rfl⟩
abbrev main_v379 : Ref sig .tc := ⟨.hbm, 586, rfl⟩
abbrev main_v380 : Ref sig .tc := ⟨.hbm, 587, rfl⟩
abbrev main_v381 : Ref sig .tc := ⟨.hbm, 588, rfl⟩
abbrev main_cst_142 : Ref sig .tc := ⟨.hbm, 589, rfl⟩
abbrev main_v382 : Ref sig .tc := ⟨.hbm, 590, rfl⟩
abbrev main_v383 : Ref sig .tc := ⟨.hbm, 591, rfl⟩

abbrev nD : Nat := 1
abbrev τ : Topo := Topo.v7x

variable {F : FTy → Type} [FloatOps F]
-- ==== Proof.Tiles.lean ====
/-
  SUMS BY TILES: an axis cut in tiles, and a value that a grid adds up tile by tile. Nothing here mentions a program.
-/
module

public import Idealize.ShloMosaic.Lib.Pointwise
public import Idealize.ShloMosaic.Lib.Pipeline.ValueKit

@[expose] public section

noncomputable section

namespace Cert.Tiles

open Idealize.ShloMosaic

/-- Place `r` of tile `n` of an axis of tiles of 1024. -/
def pos {N : Nat} (n : Nat) (r : Fin 1024) (h : n * 1024 + 1024 ≤ N) : Fin N := ⟨n * 1024 + r.val, by omega⟩

/-- Place `r` of tile `n` of an axis of tiles of 2048. -/
def pos2 {N : Nat} (n : Nat) (r : Fin 2048) (h : n * 2048 + 2048 ≤ N) : Fin N := ⟨n * 2048 + r.val, by omega⟩

/-- Place `r` of tile `n` of an axis of tiles of 512. -/
def pos5 {N : Nat} (n : Nat) (r : Fin 512) (h : n * 512 + 512 ≤ N) : Fin N := ⟨n * 512 + r.val, by omega⟩

/-- A sum of products, factor by factor. -/
theorem sum_mul_congr {n : Nat} {f f' g g' : Fin n → EReal} (hf : ∀ k, f k = f' k) (hg : ∀ k, g k = g' k) :
    ∑ k, f k * g k = ∑ k, f' k * g' k :=
  Finset.sum_congr rfl fun k _ => congrArg₂ (fun a b : EReal => a * b) (hf k) (hg k)

/-- A sum over rows is the sum over the tiles of the sums over a tile's rows. -/
theorem sum_tiles {M : Type*} [AddCommMonoid M] {n m : Nat} (N : Nat) (hN : N = n * m) (f : Fin N → M) :
    ∑ i : Fin N, f i = ∑ a : Fin n, ∑ r : Fin m, f ⟨a.val * m + r.val, by
      subst hN; calc a.val * m + r.val < a.val * m + m := by omega
        _ = (a.val + 1) * m := by ring
        _ ≤ n * m := Nat.mul_le_mul_right _ a.isLt⟩ := by
  subst hN
  rw [← Equiv.sum_comp finProdFinEquiv f, Fintype.sum_prod_type]
  refine Finset.sum_congr rfl fun a _ => Finset.sum_congr rfl fun r _ => congrArg f (Fin.ext ?_)
  show r.val + m * a.val = a.val * m + r.val
  ring

/-- A value restarted at every `J`-th point of a grid and added to at the others: at the last point of a run of `J`, it is
    the sum of the run's parts. -/
theorem acc_run {N J : Nat} (f : (n : Nat) → n < N → EReal) (T : Nat → EReal)
    (h0 : ∀ t : Fin N, t.val % J = 0 → f t.val t.isLt = T t.val)
    (hs : ∀ t : Fin N, ¬ t.val % J = 0 →
      f t.val t.isLt = f (t.val - 1) (Nat.lt_of_le_of_lt (Nat.sub_le _ _) t.isLt) + T t.val)
    (t : Fin N) (hJ : t.val % J + 1 = J) : f t.val t.isLt = ∑ s : Fin J, T (J * (t.val / J) + s.val) := by
  have e := Pipeline.eq_sum_of_reset_step_apply (fun n hn (_ : Unit) => f n hn) J (fun _ => 0) (fun n _ => T n)
    (fun t h _ => (h0 t h).trans (zero_add _).symm) (fun t h _ => hs t h) t ()
  refine e.trans ?_
  rw [hJ, zero_add, Finset.sum_range]

end Cert.Tiles

end
-- ==== Proof.AttnMath.lean ====
/-
  THE ARITHMETIC OF ONE ROW OF A SOFTMAX, over the extended reals: what the several spellings of a softmax, of its
  log-sum and of its gradient are worth when the scores are numbers (or minus infinity where a mask forbids a key).
  Nothing here mentions a program: the rows are functions on a finite type of keys.
-/
module

public import Idealize.ShloMosaic.Lib.Pointwise
public import Idealize.ShloMosaic.Lib.Pipeline.ValueKit
public import proofs.«01_k».proof.Proof.Tiles

@[expose] public section

noncomputable section

namespace Cert.Attn

open Idealize.ShloMosaic

/-- The embedding of the reals into the extended reals goes through finite sums. -/
theorem coe_sum {J : Type*} (s : Finset J) (f : J → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- A sum of products of numbers is a number. -/
theorem sum_mul_coe {J : Type*} (s : Finset J) (f g : J → ℝ) :
    ∑ j ∈ s, (f j : EReal) * (g j : EReal) = ((∑ j ∈ s, f j * g j : ℝ) : EReal) := by
  rw [coe_sum]; exact Finset.sum_congr rfl fun j _ => (EReal.coe_mul _ _).symm

variable {J : Type*} [Fintype J]

/-- A row of scores `sc`: the number `x j` at the keys `j` that the mask `a` allows, of which there is at least one, and
    minus infinity at the others. -/
structure Row (a : J → Prop) (x : J → ℝ) (sc : J → EReal) : Prop where
  some : ∃ j, a j
  on : ∀ j, a j → sc j = x j
  off : ∀ j, ¬ a j → sc j = ⊥

open Classical in
/-- The exponential of an allowed score, and zero at a forbidden key. -/
def wt (a : J → Prop) (x : J → ℝ) (j : J) : ℝ := if a j then Real.exp (x j) else 0

/-- The sum of a row's exponentials. -/
def tot (a : J → Prop) (x : J → ℝ) : ℝ := ∑ j, wt a x j

/-- The softmax of a row. -/
def prob (a : J → Prop) (x : J → ℝ) (j : J) : ℝ := wt a x j / tot a x

/-- The gradient of the scores of a row, from the gradient `dp` of its softmax. -/
def dscore (a : J → Prop) (x : J → ℝ) (dp : J → ℝ) (j : J) : ℝ := prob a x j * (dp j - ∑ k, prob a x k * dp k)

variable {a : J → Prop} {x : J → ℝ} {sc : J → EReal}

/-- A row without a mask. -/
theorem Row.plain [Nonempty J] (h : ∀ j, sc j = x j) : Row (fun _ => True) x sc :=
  ⟨⟨Classical.arbitrary J, trivial⟩, fun j _ => h j, fun _ hj => absurd trivial hj⟩

theorem wt_nonneg (j : J) : 0 ≤ wt a x j := by
  unfold wt; split
  · exact (Real.exp_pos _).le
  · exact le_rfl

/-- A forbidden key has weight zero in the softmax. -/
theorem prob_off {j : J} (h : ¬ a j) : prob a x j = 0 := by simp [prob, wt, h]

/-- The gradient of a forbidden key's score is zero. -/
theorem dscore_off {j : J} (h : ¬ a j) (dp : J → ℝ) : dscore a x dp j = 0 := by simp [dscore, prob_off h]

section
variable (R : Row a x sc)
include R

theorem Row.tot_pos : 0 < tot a x := by
  obtain ⟨j, hj⟩ := R.some
  refine Finset.sum_pos' (fun k _ => wt_nonneg k) ⟨j, Finset.mem_univ _, ?_⟩
  simp [wt, hj, Real.exp_pos]

/-- The largest score of a row is a number. -/
theorem Row.max_coe : ∃ M : ℝ, Finset.univ.fold max ⊥ sc = (M : EReal) := by
  obtain ⟨j, hj⟩ := R.some
  have e : Finset.univ.fold max ⊥ sc = Finset.univ.sup sc := rfl
  obtain ⟨i, -, hi⟩ := Finset.exists_mem_eq_sup (Finset.univ : Finset J) ⟨j, Finset.mem_univ _⟩ sc
  by_cases h : a i
  · exact ⟨x i, by rw [e, hi, R.on i h]⟩
  · have hle : sc j ≤ Finset.univ.sup sc := Finset.le_sup (Finset.mem_univ j)
    rw [hi, R.off i h, R.on j hj] at hle
    exact absurd (le_bot_iff.mp hle) (EReal.coe_ne_bot _)

/-- The exponential of a score over a number. -/
theorem Row.exp_sub (M : ℝ) (j : J) : Ideal.exp (sc j - (M : EReal)) = ((wt a x j * Real.exp (-M) : ℝ) : EReal) := by
  by_cases h : a j
  · rw [R.on j h, ← EReal.coe_sub, Ideal.exp_coe]
    simp [wt, h, sub_eq_add_neg, Real.exp_add]
  · rw [R.off j h]
    simp [wt, h, sub_eq_add_neg]

/-- The sum of the exponentials over a number. -/
theorem Row.sum_exp_sub (M : ℝ) : ∑ j, Ideal.exp (sc j - (M : EReal)) = ((tot a x * Real.exp (-M) : ℝ) : EReal) := by
  simp only [R.exp_sub M]
  rw [← coe_sum, ← Finset.sum_mul]; rfl

end

/-- The largest score of a row, as the programs find it: the maximum over the keys, from minus infinity. -/
def rowMax (sc : J → EReal) : EReal := Finset.univ.fold max ⊥ sc

/-- The sum of the exponentials of the scores over the largest one. -/
def rowSum (sc : J → EReal) : EReal := ∑ j, Ideal.exp (sc j - rowMax sc)

section
variable (R : Row a x sc)
include R

/-- The softmax spelled as a quotient. -/
theorem Row.quot (j : J) : Ideal.div (Ideal.exp (sc j - rowMax sc)) (rowSum sc) = ((prob a x j : ℝ) : EReal) := by
  obtain ⟨M, hM⟩ := R.max_coe
  have ht := R.tot_pos
  have he := Real.exp_pos (-M)
  unfold rowSum rowMax
  rw [hM, R.sum_exp_sub, R.exp_sub, Ideal.div_coe (mul_pos ht he).ne', ← EReal.coe_mul]
  congr 1; unfold prob; field_simp

/-- The softmax spelled as a product with a reciprocal. -/
theorem Row.recip (j : J) : Ideal.exp (sc j - rowMax sc) * Ideal.div 1 (rowSum sc) = ((prob a x j : ℝ) : EReal) := by
  obtain ⟨M, hM⟩ := R.max_coe
  have ht := R.tot_pos
  have he := Real.exp_pos (-M)
  unfold rowSum rowMax
  rw [hM, R.sum_exp_sub, R.exp_sub, Ideal.div_coe (mul_pos ht he).ne', one_mul, ← EReal.coe_mul]
  congr 1; unfold prob; field_simp

/-- The largest score plus the logarithm of the sum is the logarithm of the sum of the exponentials. -/
theorem Row.lse : rowMax sc + Ideal.log (rowSum sc) = ((Real.log (tot a x) : ℝ) : EReal) := by
  obtain ⟨M, hM⟩ := R.max_coe
  have ht := R.tot_pos
  have he := Real.exp_pos (-M)
  unfold rowSum rowMax
  rw [hM, R.sum_exp_sub, Ideal.log_coe, if_neg (not_le.mpr (mul_pos ht he)), ← EReal.coe_add]
  congr 1; rw [Real.log_mul ht.ne' he.ne', Real.log_exp]; ring

/-- The softmax recomputed from the saved log-sum. -/
theorem Row.exp_lse (j : J) : Ideal.exp (sc j - ((Real.log (tot a x) : ℝ) : EReal)) = ((prob a x j : ℝ) : EReal) := by
  rw [R.exp_sub]
  congr 1; unfold prob; rw [Real.exp_neg, Real.exp_log R.tot_pos]; rfl

/-- The gradient of the scores as differentiating the quotient gives it. -/
theorem Row.grad_quot (dp : J → ℝ) (j : J) :
    (Ideal.div (dp j : EReal) (rowSum sc)
        + -(∑ k, (dp k : EReal) * Ideal.div 1 (rowSum sc * rowSum sc) * Ideal.exp (sc k - rowMax sc)))
      * Ideal.exp (sc j - rowMax sc) = ((dscore a x dp j : ℝ) : EReal) := by
  obtain ⟨M, hM⟩ := R.max_coe
  have ht := R.tot_pos
  have he := Real.exp_pos (-M)
  have hl := mul_pos ht he
  unfold rowSum rowMax
  simp only [hM, R.sum_exp_sub]
  simp only [R.exp_sub]
  rw [← EReal.coe_mul (tot a x * _)]
  rw [Ideal.div_coe hl.ne', Ideal.div_coe (mul_pos hl hl).ne']
  simp only [one_mul, ← EReal.coe_mul]
  rw [← coe_sum, ← EReal.coe_neg, ← EReal.coe_add, ← EReal.coe_mul]
  congr 1
  unfold dscore prob
  have e : ∑ k, dp k * (1 / (tot a x * Real.exp (-M) * (tot a x * Real.exp (-M)))) * (wt a x k * Real.exp (-M))
      = (∑ k, wt a x k / tot a x * dp k) * (1 / (tot a x * Real.exp (-M))) := by
    rw [Finset.sum_mul]; refine Finset.sum_congr rfl fun k _ => ?_; field_simp
  rw [e]; field_simp; ring

end

/-- The gradient of the softmax against an output row: with `o d = ∑ j, prob j * v j d` and `dp j = ∑ d, ct d * v j d`, the
    sum of `ct d * o d` is the sum of `prob j * dp j`. -/
theorem drow_eq {D : Type*} [Fintype D] (p : J → ℝ) (v : J → D → ℝ) (ct : D → ℝ) :
    ∑ d, ct d * ∑ j, p j * v j d = ∑ j, p j * ∑ d, ct d * v j d := by
  simp only [Finset.mul_sum]
  rw [Finset.sum_comm]
  exact Finset.sum_congr rfl fun j _ => Finset.sum_congr rfl fun d _ => by ring

/-- A value restarted at every `J`-th point of a grid and added to at the others, each part a number: at the last point of
    a run of `J`, it is the sum of the run's parts. -/
theorem acc_run {N J : Nat} (f : (n : Nat) → n < N → EReal) (T : Nat → ℝ)
    (h0 : ∀ t : Fin N, t.val % J = 0 → f t.val t.isLt = (T t.val : EReal))
    (hs : ∀ t : Fin N, ¬ t.val % J = 0 →
      f t.val t.isLt = f (t.val - 1) (Nat.lt_of_le_of_lt (Nat.sub_le _ _) t.isLt) + (T t.val : EReal))
    (t : Fin N) (hJ : t.val % J + 1 = J) : f t.val t.isLt = ((∑ s : Fin J, T (J * (t.val / J) + s.val) : ℝ) : EReal) := by
  rw [Tiles.acc_run f (fun n => (T n : EReal)) h0 hs t hJ, coe_sum]

/-- The host's maximum along the last of three axes, at an index: the maximum of the row, from the initial value. Stated at
    any extents. -/
theorem hostMax_row {n0 n1 n2 : Nat} {u : Shape} (v : FVec Ideal ⟨3, ![n0, n1, n2]⟩ .f32) (init : FVec Ideal u .f32)
    (h : (⟨3, ![n0, n1, n2]⟩ : Shape).ReducesTo [2] ⟨2, ![n0, n1]⟩) (hu : 0 < u.numel) (p : Fin n0) (r : Fin n1) :
    Host.reduce FloatOps.maximumf v init h hu (ix2 p r)
      = Finset.univ.fold max (init (Shape.Idx.first hu)) fun k : Fin n2 => v (ix3 p r k) := by
  pointwise

/-- The elementwise maximum of two arrays, at an index. -/
theorem maxArr {s : Shape} (v w : FVec Ideal s .f32) (j : s.Idx) : maximumf v w j = max (v j) (w j) := rfl

/-- The single-precision pattern of minus infinity. -/
theorem ofBits_neg_inf : Ideal.ofBits .f32 0xFF800000#32 = ⊥ := by simp [Ideal.ofBits, Ideal.ieee]

/-- The single-precision pattern of infinity. -/
theorem ofBits_inf : Ideal.ofBits .f32 0x7F800000#32 = ⊤ := by simp [Ideal.ofBits, Ideal.ieee]

end Cert.Attn

end
-- ==== Proof.Fin.lean ====
/-
  THE PRECONDITION, read: an array whose elements all have an absolute value below infinity holds numbers.
-/
module

public import Idealize.ShloMosaic.Lib.ReduceAll
public import Idealize.ShloMosaic.Lib.Pointwise
public import proofs.«01_k».proof.Proof.AttnMath

@[expose] public section

noncomputable section

namespace Cert.Attn

open Idealize.ShloMosaic

/-- An extended real whose absolute value is below infinity is a number. -/
theorem real_of_abs_lt {x : EReal} (h : max x (-x) < ⊤) : ∃ r : ℝ, x = (r : EReal) := by
  induction x using EReal.rec with
  | bot => simp at h
  | coe r => exact ⟨r, rfl⟩
  | top => simp at h

/-- `jnp.all(jnp.abs(x) < inf)` is true only of an array of numbers. -/
theorem real_of_all {s t u : Shape} {axes : List (Fin s.rank)} [Subsingleton t.Idx] (x : FVec Ideal s .f32)
    (hb : (⟨0, ![]⟩ : Shape).BroadcastsInDim s (![] : Fin 0 → Fin s.rank)) (init : u.Idx → BitVec 1) (h : s.ReducesTo axes t)
    (hu : 0 < u.numel) (j : t.Idx)
    (e : Host.reduce IntOp.andi (cmpf .olt (Host.absf x) (broadcastInDim s ![] hb (constant (⟨0, ![]⟩ : Shape) .f32 0x7F800000#32))) init h hu j = 1#1)
    (i : s.Idx) : ∃ r : ℝ, x i = (r : EReal) := by
  have e := Host.reduce_andi_all _ init h hu j e i
  refine real_of_abs_lt ?_
  revert e
  pointwise
  intro e
  have e : FloatOps.absf (x i) < Ideal.ofBits FTy.f32 2139095040#32 := by
    by_contra hn; rw [decide_eq_false hn] at e; exact absurd e (by decide)
  rw [ofBits_inf] at e
  exact e

end Cert.Attn

end
-- ==== Proof.CrossRef.lean ====
/-
  THE REFERENCE OF THE CROSS-ATTENTION'S BACKWARD PASS, read: its three results as sums over the keys, the rows and the
  lanes, for arguments that are numbers.
-/
module

public import proofs.«01_k».proof.Proof.Gen.Reference2Ideal.Run
public import proofs.«01_k».proof.Proof.AttnMath

@[expose] public section

set_option maxRecDepth 16384

noncomputable section

namespace Cert.Cross

open Idealize.ShloMosaic Idealize.ShloMosaic.TcCoe
open Cert.Reference2Ideal Cert.Reference2Ideal.Gen Cert.Attn

/-! ## The steps of the reference, as functions of arrays -/

/-- The scaled scores. -/
def sA (q : FVec Ideal S4x2048x128 .f32) (k : FVec Ideal S4x256x128 .f32) : FVec Ideal S4x2048x256 .f32 :=
  mulf (Host.dotGeneral dot_S4x2048x128_S4x256x128_S4x2048x256_2_2_1_1_0_0 none q k)
    (broadcastInDim S4x2048x256 ![] bcast_S_S4x2048x256 (constant S_ .f32 0x3DB504F3#32))

/-- Each row's largest score. -/
def mA (s : FVec Ideal S4x2048x256 .f32) : FVec Ideal S4x2048 .f32 :=
  maximumf (broadcastInDim S4x2048 ![] bcast_S_S4x2048 (constant S_ .f32 0xFF800000#32))
    (Host.reduce FloatOps.maximumf s (constant S_ .f32 0xFF800000#32) reducesTo_S4x2048x256_S4x2048_d2 h_S_)

/-- A row value at every key. -/
def rowA (l : FVec Ideal S4x2048 .f32) : FVec Ideal S4x2048x256 .f32 :=
  broadcastInDim S4x2048x256 ![0, 1, 2] bcast_S4x2048x1_S4x2048x256_0_1_2 (broadcastInDim S4x2048x1 ![0, 1] bcast_S4x2048_S4x2048x1_0_1 l)

/-- The exponentials of the scores over the largest. -/
def eA (s : FVec Ideal S4x2048x256 .f32) : FVec Ideal S4x2048x256 .f32 := Host.exp (subf s (rowA (mA s)))

/-- Each row's sum. -/
def lA (e : FVec Ideal S4x2048x256 .f32) : FVec Ideal S4x2048 .f32 :=
  Host.reduceAdd e (constant S_ .f32 0x00000000#32) reducesTo_S4x2048x256_S4x2048_d2 h_S_

theorem sA_apply (q : FVec Ideal S4x2048x128 .f32) (k : FVec Ideal S4x256x128 .f32) (h : Fin 4) (i : Fin 2048) (j : Fin 256) :
    sA q k (ix3 h i j) = (∑ d : Fin 128, q (ix3 h i d) * k (ix3 h j d)) * Ideal.ofBits .f32 0x3DB504F3#32 := by
  unfold sA; pointwise

theorem mA_apply (s : FVec Ideal S4x2048x256 .f32) (h : Fin 4) (i : Fin 2048) :
    mA s (ix2 h i) = rowMax fun j : Fin 256 => s (ix3 h i j) := by
  unfold mA
  rw [maxArr, hostMax_row]
  pointwise
  rw [ofBits_neg_inf, max_eq_right bot_le]; rfl

theorem eA_apply (s : FVec Ideal S4x2048x256 .f32) (h : Fin 4) (i : Fin 2048) (j : Fin 256) :
    eA s (ix3 h i j) = Ideal.exp (s (ix3 h i j) - rowMax fun j : Fin 256 => s (ix3 h i j)) := by
  unfold eA rowA; pointwise [mA_apply]

theorem lA_apply (e : FVec Ideal S4x2048x256 .f32) (h : Fin 4) (i : Fin 2048) :
    lA e (ix2 h i) = ∑ j : Fin 256, e (ix3 h i j) := by
  unfold lA; pointwise

/-- The gradient of the softmax before the quotient is differentiated: the products of the output's gradient with the values. -/
def dpA (ct : FVec Ideal S4x2048x128 .f32) (v : FVec Ideal S4x256x128 .f32) : FVec Ideal S4x2048x256 .f32 :=
  Host.dotGeneral dot_S4x2048x128_S4x256x128_S4x2048x256_2_2_1_1_0_0 none ct v

theorem dpA_apply (ct : FVec Ideal S4x2048x128 .f32) (v : FVec Ideal S4x256x128 .f32) (h : Fin 4) (i : Fin 2048) (j : Fin 256) :
    dpA ct v (ix3 h i j) = ∑ d : Fin 128, ct (ix3 h i d) * v (ix3 h j d) := by
  unfold dpA; pointwise

/-- The gradient of the scores, from the gradient `dp` of the softmax, the exponentials `e` and their sums `l`. -/
def gA (dp e : FVec Ideal S4x2048x256 .f32) (l : FVec Ideal S4x2048 .f32) : FVec Ideal S4x2048x256 .f32 :=
  mulf (addf (Host.divf dp (rowA l))
    (broadcastInDim S4x2048x256 ![0, 1] bcast_S4x2048_S4x2048x256_0_1
      (Host.reduceAdd (Host.negf (shapeCast _
        (Host.reduceAdd (mulf (mulf dp (broadcastInDim S4x2048x256 ![0, 1, 2] bcast_S4x2048x1_S4x2048x256_0_1_2
            (Host.divf (broadcastInDim S4x2048x1 ![] bcast_S_S4x2048x1 (constant S_ .f32 0x3F800000#32))
              (mulf (broadcastInDim S4x2048x1 ![0, 1] bcast_S4x2048_S4x2048x1_0_1 l)
                (broadcastInDim S4x2048x1 ![0, 1] bcast_S4x2048_S4x2048x1_0_1 l))))) e)
          (constant S_ .f32 0x00000000#32) reducesTo_S4x2048x256_S4x2048_d2 h_S_) shapeCasts_S4x2048_S4x2048x1))
        (constant S_ .f32 0x00000000#32) reducesTo_S4x2048x1_S4x2048_d2 h_S_))) e

theorem gA_apply (dp e : FVec Ideal S4x2048x256 .f32) (l : FVec Ideal S4x2048 .f32) (h : Fin 4) (i : Fin 2048) (j : Fin 256) :
    gA dp e l (ix3 h i j) = (Ideal.div (dp (ix3 h i j)) (l (ix2 h i))
      + -(∑ k : Fin 256, dp (ix3 h i k) * Ideal.div 1 (l (ix2 h i) * l (ix2 h i)) * e (ix3 h i k))) * e (ix3 h i j) := by
  unfold gA rowA; pointwise [Fin.sum_univ_one]

/-- The gradient of the queries, from the gradient `g` of the unscaled softmax's scores. -/
def dqA (g : FVec Ideal S4x2048x256 .f32) (k : FVec Ideal S4x256x128 .f32) : FVec Ideal S4x2048x128 .f32 :=
  Host.dotGeneral dot_S4x2048x256_S4x256x128_S4x2048x128_2_1_1_2_0_0 none
    (mulf g (broadcastInDim S4x2048x256 ![] bcast_S_S4x2048x256 (constant S_ .f32 0x3DB504F3#32))) k

theorem dqA_apply (g : FVec Ideal S4x2048x256 .f32) (k : FVec Ideal S4x256x128 .f32) (h : Fin 4) (i : Fin 2048) (d : Fin 128) :
    dqA g k (ix3 h i d) = ∑ j : Fin 256, g (ix3 h i j) * Ideal.ofBits .f32 0x3DB504F3#32 * k (ix3 h j d) := by
  unfold dqA; pointwise

/-- The gradient of the keys. -/
def dkA (g : FVec Ideal S4x2048x256 .f32) (q : FVec Ideal S4x2048x128 .f32) : FVec Ideal S4x256x128 .f32 :=
  Host.dotGeneral dot_S4x2048x256_S4x2048x128_S4x256x128_1_1_2_2_0_0 none
    (mulf g (broadcastInDim S4x2048x256 ![] bcast_S_S4x2048x256 (constant S_ .f32 0x3DB504F3#32))) q

theorem dkA_apply (g : FVec Ideal S4x2048x256 .f32) (q : FVec Ideal S4x2048x128 .f32) (h : Fin 4) (j : Fin 256) (d : Fin 128) :
    dkA g q (ix3 h j d) = ∑ i : Fin 2048, g (ix3 h i j) * Ideal.ofBits .f32 0x3DB504F3#32 * q (ix3 h i d) := by
  unfold dkA; pointwise

/-- The gradient of the values, from the exponentials and their sums. -/
def dvA (ct : FVec Ideal S4x2048x128 .f32) (e : FVec Ideal S4x2048x256 .f32) (l : FVec Ideal S4x2048 .f32) : FVec Ideal S4x256x128 .f32 :=
  transpose S4x256x128 [0, 2, 1] (Host.dotGeneral dot_S4x2048x128_S4x2048x256_S4x128x256_1_1_2_2_0_0 none ct (Host.divf e (rowA l)))
    transposes_S4x128x256_S4x256x128_0_2_1

theorem dvA_apply (ct : FVec Ideal S4x2048x128 .f32) (e : FVec Ideal S4x2048x256 .f32) (l : FVec Ideal S4x2048 .f32) (h : Fin 4)
    (j : Fin 256) (d : Fin 128) :
    dvA ct e l (ix3 h j d) = ∑ i : Fin 2048, ct (ix3 h i d) * Ideal.div (e (ix3 h i j)) (l (ix2 h i)) := by
  unfold dvA rowA; pointwise

/-- The values, cut from the projected memory. -/
def vA (mkv : FVec Ideal S256x1024 .f32) : FVec Ideal S4x256x128 .f32 :=
  transpose S4x256x128 [1, 0, 2] (shapeCast _ (extractStridedSlice S256x1x4x128 ![0, 1, 0, 0]
    (shapeCast _ mkv shapeCasts_S256x1024_S256x2x4x128) slices_S256x2x4x128_S256x1x4x128_0_1_0_0) shapeCasts_S256x1x4x128_S256x4x128)
    transposes_S256x4x128_S4x256x128_1_0_2

/-- The gradient of the output by heads. -/
def ctA (g : FVec Ideal S2048x512 .bf16) : FVec Ideal S4x2048x128 .f32 :=
  transpose S4x2048x128 [1, 0, 2] (shapeCast _ (extf .f32 g bitsLt_bf16_f32) shapeCasts_S2048x512_S2048x4x128)
    transposes_S2048x4x128_S4x2048x128_1_0_2

theorem vA_apply (mkv : FVec Ideal S256x1024 .f32) (h : Fin 4) (j : Fin 256) (d : Fin 128) :
    vA mkv (ix3 h j d) = mkv (ix2 j ⟨512 + h.val * 128 + d.val, by omega⟩) := by
  unfold vA; pointwise

theorem ctA_apply (g : FVec Ideal S2048x512 .bf16) (h : Fin 4) (i : Fin 2048) (d : Fin 128) :
    ctA g (ix3 h i d) = g (ix2 i ⟨h.val * 128 + d.val, by omega⟩) := by
  unfold ctA; pointwise

/-! ## The arithmetic: the results over the reals -/

/-- The scale of the scores is a number. -/
theorem scale_real : ∃ r : ℝ, Ideal.ofBits .f32 0x3DB504F3#32 = (r : EReal) := by
  refine ⟨11863283 / 134217728, ?_⟩
  simp [Ideal.ofBits, Ideal.ieee, -EReal.coe_mul]
  norm_num

/-- The scale of the scores. -/
def scale : ℝ := scale_real.choose

theorem scale_eq : Ideal.ofBits .f32 0x3DB504F3#32 = (scale : EReal) := scale_real.choose_spec

/-- The numbers the arguments hold: the queries, the keys, the values and the gradient of the output, by heads. -/
structure Data where
  Q : Fin 4 → Fin 2048 → Fin 128 → ℝ
  K : Fin 4 → Fin 256 → Fin 128 → ℝ
  V : Fin 4 → Fin 256 → Fin 128 → ℝ
  G : Fin 4 → Fin 2048 → Fin 128 → ℝ

namespace Data
variable (D : Data)

/-- The scores. -/
def X (h : Fin 4) (i : Fin 2048) (j : Fin 256) : ℝ := (∑ d, D.Q h i d * D.K h j d) * scale

/-- The softmax of the scores. -/
def P (h : Fin 4) (i : Fin 2048) (j : Fin 256) : ℝ := prob (fun _ => True) (D.X h i) j

/-- The gradient of the softmax. -/
def DP (h : Fin 4) (i : Fin 2048) (j : Fin 256) : ℝ := ∑ d, D.G h i d * D.V h j d

/-- The gradient of the scores. -/
def DS (h : Fin 4) (i : Fin 2048) (j : Fin 256) : ℝ := dscore (fun _ => True) (D.X h i) (D.DP h i) j

/-- The output. -/
def O (h : Fin 4) (i : Fin 2048) (d : Fin 128) : ℝ := ∑ j, D.P h i j * D.V h j d

/-- The gradient of the queries. -/
def DQ (h : Fin 4) (i : Fin 2048) (d : Fin 128) : ℝ := (∑ j, D.DS h i j * D.K h j d) * scale

/-- The gradient of the keys. -/
def DK (h : Fin 4) (j : Fin 256) (d : Fin 128) : ℝ := (∑ i, D.DS h i j * D.Q h i d) * scale

/-- The gradient of the values. -/
def DV (h : Fin 4) (j : Fin 256) (d : Fin 128) : ℝ := ∑ i, D.P h i j * D.G h i d

end Data

section
variable {D : Data} {q : FVec Ideal S4x2048x128 .f32} {k : FVec Ideal S4x256x128 .f32} {v : FVec Ideal S4x256x128 .f32}
  {ct : FVec Ideal S4x2048x128 .f32}
variable (hq : ∀ h i d, q (ix3 h i d) = (D.Q h i d : EReal)) (hk : ∀ h j d, k (ix3 h j d) = (D.K h j d : EReal))
  (hv : ∀ h j d, v (ix3 h j d) = (D.V h j d : EReal)) (hg : ∀ h i d, ct (ix3 h i d) = (D.G h i d : EReal))
include hq hk

theorem sA_num (h : Fin 4) (i : Fin 2048) (j : Fin 256) : sA q k (ix3 h i j) = (D.X h i j : EReal) := by
  rw [sA_apply]; simp only [hq, hk, scale_eq, sum_mul_coe, ← EReal.coe_mul]; rfl

theorem row_num (h : Fin 4) (i : Fin 2048) : Row (fun _ => True) (D.X h i) fun j : Fin 256 => sA q k (ix3 h i j) :=
  Row.plain fun j => sA_num hq hk h i j

theorem lA_eq (h : Fin 4) (i : Fin 2048) : lA (eA (sA q k)) (ix2 h i) = rowSum fun j : Fin 256 => sA q k (ix3 h i j) := by
  rw [lA_apply]; simp only [eA_apply]; rfl

theorem p_num (h : Fin 4) (i : Fin 2048) (j : Fin 256) :
    Ideal.div (eA (sA q k) (ix3 h i j)) (lA (eA (sA q k)) (ix2 h i)) = (D.P h i j : EReal) := by
  rw [lA_eq hq hk, eA_apply]; exact (row_num hq hk h i).quot j

include hv hg

theorem gA_num (h : Fin 4) (i : Fin 2048) (j : Fin 256) :
    gA (dpA ct v) (eA (sA q k)) (lA (eA (sA q k))) (ix3 h i j) = (D.DS h i j : EReal) := by
  have hdp : ∀ j, dpA ct v (ix3 h i j) = (D.DP h i j : EReal) := fun j => by
    rw [dpA_apply]; simp only [hg, hv, sum_mul_coe]; rfl
  rw [gA_apply, lA_eq hq hk]; simp only [eA_apply, hdp]
  exact (row_num hq hk h i).grad_quot (D.DP h i) j

/-- The reference's gradient of the queries. -/
theorem dqA_num (h : Fin 4) (i : Fin 2048) (d : Fin 128) :
    dqA (gA (dpA ct v) (eA (sA q k)) (lA (eA (sA q k)))) k (ix3 h i d) = (D.DQ h i d : EReal) := by
  rw [dqA_apply]; simp only [gA_num hq hk hv hg, hk, scale_eq, ← EReal.coe_mul]
  rw [← coe_sum]; congr 1; unfold Data.DQ; rw [Finset.sum_mul]; exact Finset.sum_congr rfl fun _ _ => by ring

/-- The reference's gradient of the keys. -/
theorem dkA_num (h : Fin 4) (j : Fin 256) (d : Fin 128) :
    dkA (gA (dpA ct v) (eA (sA q k)) (lA (eA (sA q k)))) q (ix3 h j d) = (D.DK h j d : EReal) := by
  rw [dkA_apply]; simp only [gA_num hq hk hv hg, hq, scale_eq, ← EReal.coe_mul]
  rw [← coe_sum]; congr 1; unfold Data.DK; rw [Finset.sum_mul]; exact Finset.sum_congr rfl fun _ _ => by ring

/-- The reference's gradient of the values. -/
theorem dvA_num (h : Fin 4) (j : Fin 256) (d : Fin 128) :
    dvA ct (eA (sA q k)) (lA (eA (sA q k))) (ix3 h j d) = (D.DV h j d : EReal) := by
  rw [dvA_apply]; simp only [p_num hq hk, hg, ← EReal.coe_mul]
  rw [← coe_sum]; congr 1; unfold Data.DV; exact Finset.sum_congr rfl fun _ _ => by ring

end

section
variable (m : (ℓ : Loc nD τ sig) → Buf (Elt Ideal) ℓ) (c : Dev nD)

/-- The scores of the launch. -/
abbrev sM : FVec Ideal S4x2048x256 .f32 :=
  sA (extf .f32 (m ((c.tc : Thread nD τ).loc main_arg0)) bitsLt_bf16_f32) (extf .f32 (m ((c.tc : Thread nD τ).loc main_arg1)) bitsLt_bf16_f32)

theorem out0_eq : Value.res_out0 m c = dqA (gA (dpA (ctA (m ((c.tc : Thread nD τ).loc main_arg3))) (vA (m ((c.tc : Thread nD τ).loc main_arg2))))
    (eA (sM m c)) (lA (eA (sM m c)))) (extf .f32 (m ((c.tc : Thread nD τ).loc main_arg1)) bitsLt_bf16_f32) := by
  unfold Value.res_out0 Value.res_main_v59; rfl

theorem out1_eq : Value.res_out1 m c = dkA (gA (dpA (ctA (m ((c.tc : Thread nD τ).loc main_arg3))) (vA (m ((c.tc : Thread nD τ).loc main_arg2))))
    (eA (sM m c)) (lA (eA (sM m c)))) (extf .f32 (m ((c.tc : Thread nD τ).loc main_arg0)) bitsLt_bf16_f32) := by
  unfold Value.res_out1 Value.res_main_v58; rfl

/-- The numbers the reference's argument arrays hold. -/
structure Holds (D : Data) : Prop where
  q : ∀ h i d, (m ((c.tc : Thread nD τ).loc main_arg0) : FVec Ideal S4x2048x128 .bf16) (ix3 h i d) = (D.Q h i d : EReal)
  k : ∀ h j d, (m ((c.tc : Thread nD τ).loc main_arg1) : FVec Ideal S4x256x128 .bf16) (ix3 h j d) = (D.K h j d : EReal)
  v : ∀ (h : Fin 4) (j : Fin 256) (d : Fin 128), (m ((c.tc : Thread nD τ).loc main_arg2) : FVec Ideal S256x1024 .f32)
    (ix2 j ⟨512 + h.val * 128 + d.val, by omega⟩) = (D.V h j d : EReal)
  g : ∀ (h : Fin 4) (i : Fin 2048) (d : Fin 128), (m ((c.tc : Thread nD τ).loc main_arg3) : FVec Ideal S2048x512 .bf16)
    (ix2 i ⟨h.val * 128 + d.val, by omega⟩) = (D.G h i d : EReal)

/-- The reference's three results, on arguments that are numbers. -/
theorem ref_num (ρ : Dev nD → PrngReg) (D : Dev nD → Data) (H : ∀ c, Holds m c (D c)) :
    θ_run defs (onTc main) ⟨m, fun _ => 0, ρ⟩ (fun r => ∀ c : Dev nD,
      (∀ h i d, (r.2.mem ((c.tc : Thread nD τ).loc main_v59) : FVec Ideal S4x2048x128 .f32) (ix3 h i d) = ((D c).DQ h i d : EReal))
      ∧ (∀ h j d, (r.2.mem ((c.tc : Thread nD τ).loc main_v58) : FVec Ideal S4x256x128 .f32) (ix3 h j d) = ((D c).DK h j d : EReal))
      ∧ (∀ h j d, (r.2.mem ((c.tc : Thread nD τ).loc main_v42) : FVec Ideal S4x256x128 .f32) (ix3 h j d) = ((D c).DV h j d : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c => by
    obtain ⟨h0, h1, h2, ha⟩ := hr c
    have hq : ∀ h i d, (extf .f32 (m ((c.tc : Thread nD τ).loc main_arg0)) bitsLt_bf16_f32 : FVec Ideal S4x2048x128 .f32) (ix3 h i d) = ((D c).Q h i d : EReal) := (H c).q
    have hk : ∀ h i d, (extf .f32 (m ((c.tc : Thread nD τ).loc main_arg1)) bitsLt_bf16_f32 : FVec Ideal S4x256x128 .f32) (ix3 h i d) = ((D c).K h i d : EReal) := (H c).k
    have hv : ∀ h i d, vA (m ((c.tc : Thread nD τ).loc main_arg2)) (ix3 h i d) = ((D c).V h i d : EReal) := fun h i d => (vA_apply _ h i d).trans ((H c).v h i d)
    have hg : ∀ h i d, ctA (m ((c.tc : Thread nD τ).loc main_arg3)) (ix3 h i d) = ((D c).G h i d : EReal) := fun h i d => (ctA_apply _ h i d).trans ((H c).g h i d)
    refine ⟨fun h i d => ?_, fun h j d => ?_, fun h j d => ?_, ha⟩
    · rw [h0]; exact (congrFun (out0_eq m c) _).trans (dqA_num hq hk hv hg h i d)
    · rw [h1]; exact (congrFun (out1_eq m c) _).trans (dkA_num hq hk hv hg h j d)
    · rw [h2]; exact dvA_num hq hk hv hg h j d) (Value.run m ρ)

end

end Cert.Cross

end
-- ==== Proof.CrossPay.lean ====
/-
  THE CROSS-ATTENTION'S TWO KERNELS, read at one grid point: what a tile of 256 query rows of one head makes of its blocks
  when the blocks hold numbers.
-/
module

public import proofs.«01_k».proof.Proof.Gen.Kernel2Ideal.Frame
public import proofs.«01_k».proof.Proof.CrossRef

@[expose] public section

set_option maxRecDepth 16384

noncomputable section

namespace Cert.Cross

open Idealize.ShloMosaic Idealize.ShloMosaic.TcCoe
open Cert.Kernel2Ideal Cert.Kernel2Ideal.Gen Cert.Attn

/-! ## The forward kernel's values, at an index -/

theorem fwd_s (x0 x1 : Vec Ideal S1x256x128 .bf16) (r j : Fin 256) :
    k0_pay1 x0 x1 (ix2 r j) = (∑ d : Fin 128, x0 (ix3 0 r d) * x1 (ix3 0 j d)) * Ideal.ofBits .f32 0x3DB504F3#32 := by
  unfold k0_pay1; pointwise

theorem fwd_m (x0 x1 : Vec Ideal S1x256x128 .bf16) (r : Fin 256) :
    k0_pay2 x0 x1 (ix2 r 0) = rowMax fun j : Fin 256 => k0_pay1 x0 x1 (ix2 r j) := by
  unfold k0_pay2; pointwise; rfl

theorem fwd_e (x0 x1 : Vec Ideal S1x256x128 .bf16) (r j : Fin 256) :
    k0_pay3 x0 x1 (ix2 r j) = Ideal.exp (k0_pay1 x0 x1 (ix2 r j) - rowMax fun j : Fin 256 => k0_pay1 x0 x1 (ix2 r j)) := by
  unfold k0_pay3; pointwise [fwd_m]

theorem fwd_l (x0 x1 : Vec Ideal S1x256x128 .bf16) (r : Fin 256) :
    k0_pay4 x0 x1 (ix2 r 0) = rowSum fun j : Fin 256 => k0_pay1 x0 x1 (ix2 r j) := by
  unfold k0_pay4; pointwise [fwd_e]; rfl

theorem fwd_o (x0 x1 : Vec Ideal S1x256x128 .bf16) (x2 : Vec Ideal S256x128 .f32) (r : Fin 256) (d : Fin 128) :
    k0_pay5 x0 x1 x2 (ix2 r d) = ∑ j : Fin 256, k0_pay3 x0 x1 (ix2 r j)
      * Ideal.div 1 (rowSum fun j : Fin 256 => k0_pay1 x0 x1 (ix2 r j)) * x2 (ix2 j d) := by
  unfold k0_pay5; pointwise [fwd_l]

theorem fwd_lse (x0 x1 : Vec Ideal S1x256x128 .bf16) (r : Fin 256) :
    k0_pay6 x0 x1 (ix3 0 r 0) = (rowMax fun j : Fin 256 => k0_pay1 x0 x1 (ix2 r j))
      + Ideal.log (rowSum fun j : Fin 256 => k0_pay1 x0 x1 (ix2 r j)) := by
  unfold k0_pay6; pointwise [fwd_l, fwd_m]

/-! ## The backward kernel's values, at an index -/

theorem bwd_p (x0 x1 : Vec Ideal S1x256x128 .bf16) (x5 : Vec Ideal S1x256x1 .f32) (r j : Fin 256) :
    k1_pay8 x0 x1 x5 (ix2 r j) = Ideal.exp (k0_pay1 x0 x1 (ix2 r j) - x5 (ix3 0 r 0)) := by
  unfold k1_pay8 k1_pay6 k1_pay7; pointwise [fwd_s]

theorem bwd_ds (x0 x1 : Vec Ideal S1x256x128 .bf16) (x2 : Vec Ideal S256x128 .f32) (x3 x4 : Vec Ideal S256x128 .bf16)
    (x5 : Vec Ideal S1x256x1 .f32) (r j : Fin 256) :
    k1_pay9 x0 x4 x1 x5 x3 x2 (ix2 r j) = k1_pay8 x0 x1 x5 (ix2 r j)
      * ((∑ d : Fin 128, x4 (ix2 r d) * x2 (ix2 j d)) - ∑ d : Fin 128, x4 (ix2 r d) * x3 (ix2 r d)) := by
  unfold k1_pay9; pointwise

theorem bwd_dq (x0 x1 : Vec Ideal S1x256x128 .bf16) (x2 : Vec Ideal S256x128 .f32) (x3 x4 : Vec Ideal S256x128 .bf16)
    (x5 : Vec Ideal S1x256x1 .f32) (r : Fin 256) (d : Fin 128) :
    k1_pay1 (k1_pay10 x0 x4 x1 x5 x3 x2) (ix3 0 r d)
      = (∑ j : Fin 256, k1_pay9 x0 x4 x1 x5 x3 x2 (ix2 r j) * x1 (ix3 0 j d)) * Ideal.ofBits .f32 0x3DB504F3#32 := by
  unfold k1_pay1 k1_pay10 k1_pay7; pointwise

theorem bwd_dk (x0 : Vec Ideal S1x256x128 .bf16) (ds : FVec Ideal S256x256 .bf16) (old : Vec Ideal S1x256x128 .f32)
    (j : Fin 256) (d : Fin 128) :
    k1_pay2 (k1_pay6 x0) ds old (ix3 0 j d)
      = old (ix3 0 j d) + (∑ r : Fin 256, ds (ix2 r j) * x0 (ix3 0 r d)) * Ideal.ofBits .f32 0x3DB504F3#32 := by
  unfold k1_pay2 k1_pay6; pointwise

theorem bwd_dv (x4 : Vec Ideal S256x128 .bf16) (p : FVec Ideal S256x256 .f32) (old : Vec Ideal S1x256x128 .f32)
    (j : Fin 256) (d : Fin 128) :
    k1_pay3 x4 p old (ix3 0 j d) = old (ix3 0 j d) + ∑ r : Fin 256, p (ix2 r j) * x4 (ix2 r d) := by
  unfold k1_pay3; pointwise

theorem bwd_zero4 (j : Fin 256) (d : Fin 128) : k1_pay4 (F := Ideal) (ix3 0 j d) = 0 := by
  unfold k1_pay4; pointwise
theorem bwd_zero5 (j : Fin 256) (d : Fin 128) : k1_pay5 (F := Ideal) (ix3 0 j d) = 0 := by
  unfold k1_pay5; pointwise

/-! ## On blocks that hold numbers -/

section
variable {D : Data} {h : Fin 4} {n : Fin 8}
  {x0 x1 : Vec Ideal S1x256x128 .bf16} {x2 : Vec Ideal S256x128 .f32} {x3 x4 : Vec Ideal S256x128 .bf16} {x5 : Vec Ideal S1x256x1 .f32}

/-- The row `r` of tile `n`. -/
def row (n : Fin 8) (r : Fin 256) : Fin 2048 := ⟨n.val * 256 + r.val, by omega⟩

variable (hq : ∀ r d, x0 (ix3 0 r d) = (D.Q h (row n r) d : EReal)) (hk : ∀ j d, x1 (ix3 0 j d) = (D.K h j d : EReal))
include hq hk

theorem blk_row (r : Fin 256) : Row (fun _ => True) (D.X h (row n r)) fun j : Fin 256 => k0_pay1 x0 x1 (ix2 r j) :=
  Row.plain fun j => by rw [fwd_s]; simp only [hq, hk, scale_eq, sum_mul_coe, ← EReal.coe_mul]; rfl

/-- The forward kernel's log-sum. -/
theorem blk_lse (r : Fin 256) : k0_pay6 x0 x1 (ix3 0 r 0) = ((Real.log (tot (fun _ => True) (D.X h (row n r))) : ℝ) : EReal) := by
  rw [fwd_lse]; exact (blk_row hq hk r).lse

/-- The forward kernel's output. -/
theorem blk_o (hv : ∀ j d, x2 (ix2 j d) = (D.V h j d : EReal)) (r : Fin 256) (d : Fin 128) :
    k0_pay5 x0 x1 x2 (ix2 r d) = (D.O h (row n r) d : EReal) := by
  rw [fwd_o]; simp only [fwd_e, (blk_row hq hk r).recip, hv, sum_mul_coe]; rfl

variable (hl : ∀ r, x5 (ix3 0 r 0) = ((Real.log (tot (fun _ => True) (D.X h (row n r))) : ℝ) : EReal))
include hl

theorem blk_p (r j : Fin 256) : k1_pay8 x0 x1 x5 (ix2 r j) = (D.P h (row n r) j : EReal) := by
  rw [bwd_p, hl]; exact (blk_row hq hk r).exp_lse j

variable (hg : ∀ r d, x4 (ix2 r d) = (D.G h (row n r) d : EReal))
include hg

/-- A tile's part of the gradient of the values. -/
theorem blk_dv (old : Vec Ideal S1x256x128 .f32) (j : Fin 256) (d : Fin 128) :
    k1_pay3 x4 (k1_pay8 x0 x1 x5) old (ix3 0 j d)
      = old (ix3 0 j d) + ((∑ r : Fin 256, D.P h (row n r) j * D.G h (row n r) d : ℝ) : EReal) := by
  rw [bwd_dv]; simp only [blk_p hq hk hl, hg, sum_mul_coe]

variable (hv : ∀ j d, x2 (ix2 j d) = (D.V h j d : EReal)) (ho : ∀ r d, x3 (ix2 r d) = (D.O h (row n r) d : EReal))
include hv ho

theorem blk_ds (r j : Fin 256) : k1_pay9 x0 x4 x1 x5 x3 x2 (ix2 r j) = (D.DS h (row n r) j : EReal) := by
  rw [bwd_ds, blk_p hq hk hl]; simp only [hg, hv, ho, sum_mul_coe]
  rw [← EReal.coe_sub, ← EReal.coe_mul]; congr 1; unfold Data.O; rw [drow_eq]; rfl

/-- A tile's gradient of the queries. -/
theorem blk_dq (r : Fin 256) (d : Fin 128) :
    k1_pay1 (k1_pay10 x0 x4 x1 x5 x3 x2) (ix3 0 r d) = (D.DQ h (row n r) d : EReal) := by
  rw [bwd_dq]; simp only [blk_ds hq hk hl hg hv ho, hk, scale_eq, sum_mul_coe]; rw [← EReal.coe_mul]; rfl

/-- A tile's part of the gradient of the keys. -/
theorem blk_dk (old : Vec Ideal S1x256x128 .f32) (j : Fin 256) (d : Fin 128) :
    k1_pay2 (k1_pay6 x0) (k1_pay9 x0 x4 x1 x5 x3 x2) old (ix3 0 j d)
      = old (ix3 0 j d) + (((∑ r : Fin 256, D.DS h (row n r) j * D.Q h (row n r) d) * scale : ℝ) : EReal) := by
  rw [bwd_dk]; simp only [blk_ds hq hk hl hg hv ho, hq, scale_eq, sum_mul_coe]; rw [← EReal.coe_mul]

end

end Cert.Cross

end
-- ==== Proof.CrossVal.lean ====
/-
  THE CROSS-ATTENTION'S TWO REGIONS: what their arrays hold after the run, when the arguments hold numbers.
-/
module

public import proofs.«01_k».proof.Proof.CrossPay
public import Idealize.ShloMosaic.Lib.Pipeline.ValueKit

@[expose] public section

set_option maxRecDepth 16384

noncomputable section

namespace Cert.Cross

open Idealize.ShloMosaic Idealize.ShloMosaic.TcCoe Idealize.ShloMosaic.Tactic
open Idealize.ShloMosaic.Pipeline (Dat)
open Cert.Kernel2Ideal Cert.Kernel2Ideal.Gen Cert.Attn

/-! ## Which head and which tile a grid point is -/

theorem idx0 : ∀ t : Fin cfg0.N, win0_0.index t = ![t.val / 8, t.val % 8, 0] ∧ win0_1.index t = ![t.val / 8, 0, 0]
    ∧ win0_2.index t = ![0, 4 + t.val / 8] ∧ win0_3.index t = ![t.val % 8, t.val / 8] ∧ win0_4.index t = ![t.val / 8, t.val % 8, 0] :=
  (by decide +kernel : ∀ t : Fin grid0.N, _)

theorem idx1 : ∀ t : Fin cfg1.N, win1_0.index t = ![t.val / 8, t.val % 8, 0] ∧ win1_1.index t = ![t.val / 8, 0, 0]
    ∧ win1_2.index t = ![0, 4 + t.val / 8] ∧ win1_3.index t = ![t.val % 8, t.val / 8] ∧ win1_4.index t = ![t.val % 8, t.val / 8]
    ∧ win1_5.index t = ![t.val / 8, t.val % 8, 0] ∧ win1_6.index t = ![t.val / 8, t.val % 8, 0]
    ∧ win1_7.index t = ![t.val / 8, 0, 0] ∧ win1_8.index t = ![t.val / 8, 0, 0] :=
  (by decide +kernel : ∀ t : Fin grid1.N, _)

/-- The head of point `n`. -/
def hd (n : Nat) (hn : n < 32) : Fin 4 := ⟨n / 8, by omega⟩
/-- The tile of point `n`. -/
def tl (n : Nat) : Fin 8 := ⟨n % 8, by omega⟩

theorem lt0 (t : Fin cfg0.N) : t.val < 32 := lt_of_lt_of_eq t.isLt (show cfg0.N = 32 from N_0)
theorem lt1 (t : Fin cfg1.N) : t.val < 32 := lt_of_lt_of_eq t.isLt (show cfg1.N = 32 from N_1)

/-- The TensorCore's buffers at a region's entry. -/
abbrev Ent := (c : Dev nD) → (b : Ref sig .tc) → Buf (Elt Ideal) ((c.tc : Thread nD τ).loc b)

variable (V : Ent) (c : Dev nD)

/-- The numbers that the argument arrays hold at a region's entry. -/
structure Args (D : Data) : Prop where
  q : ∀ h i d, (V c main_arg0 : FVec Ideal S4x2048x128 .bf16) (ix3 h i d) = (D.Q h i d : EReal)
  k : ∀ h j d, (V c main_arg1 : FVec Ideal S4x256x128 .bf16) (ix3 h j d) = (D.K h j d : EReal)
  v : ∀ (h : Fin 4) (j : Fin 256) (d : Fin 128), (V c main_arg2 : FVec Ideal S256x1024 .f32)
    (ix2 j ⟨512 + h.val * 128 + d.val, by omega⟩) = (D.V h j d : EReal)
  g : ∀ (h : Fin 4) (i : Fin 2048) (d : Fin 128), (V c main_arg3 : FVec Ideal S2048x512 .bf16)
    (ix2 i ⟨h.val * 128 + d.val, by omega⟩) = (D.G h i d : EReal)

/-! ## Region 0: the output and the log-sums -/

section
variable {V c} {D : Data} (H : Args V c D) (t : Fin cfg0.N)
include H

theorem r0_q (r : Fin 256) (d : Fin 128) : iblk0 V c 0 t (ix3 0 r d) = (D.Q (hd t.val (lt0 t)) (row (tl t.val) r) d : EReal) := by
  have ht := lt0 t
  rw [← H.q]; unfold hd tl row; blk_ext [iblk0, idx0 t]

theorem r0_k (r : Fin 256) (d : Fin 128) : iblk0 V c 1 t (ix3 0 r d) = (D.K (hd t.val (lt0 t)) r d : EReal) := by
  have ht := lt0 t
  rw [← H.k]; unfold hd; blk_ext [iblk0, idx0 t]

theorem r0_v (j : Fin 256) (d : Fin 128) : iblk0 V c 2 t (ix2 j d) = (D.V (hd t.val (lt0 t)) j d : EReal) := by
  have ht := lt0 t
  rw [← H.v]; unfold hd; blk_ext [iblk0, idx0 t]

end

/-- The output array's contents. -/
def oG (D : Data) : FVec Ideal S2048x512 .bf16 := fun i =>
  ((D.O ⟨(i 1).val / 128, by have := (i 1).isLt; simp at this; omega⟩ (i 0) ⟨(i 1).val % 128, by omega⟩ : ℝ) : EReal)

/-- The log-sums' array's contents. -/
def lG (D : Data) : FVec Ideal S4x2048x1 .f32 := fun i => ((Real.log (tot (fun _ => True) (D.X (i 0) (i 1))) : ℝ) : EReal)

theorem oG_apply (D : Data) (h : Fin 4) (i : Fin 2048) (d : Fin 128) :
    oG D (ix2 i ⟨h.val * 128 + d.val, by omega⟩) = (D.O h i d : EReal) := by
  have e1 : (h.val * 128 + d.val) / 128 = h.val := by omega
  have e2 : (h.val * 128 + d.val) % 128 = d.val := by omega
  show ((D.O ⟨(h.val * 128 + d.val) / 128, _⟩ i ⟨(h.val * 128 + d.val) % 128, _⟩ : ℝ) : EReal) = _
  simp only [e1, e2]

section
variable {V c} {D : Data} (H : Args V c D)
include H

theorem arr0_3 : (dat0 V c).arrAt 3 cfg0.N = oG D := by
  refine (dat0 V c).arrAt_eq_of_covers 3 _ (by decide +kernel) fun t hf y => ?_
  have ht := lt0 t
  blk_simp; rw [after0_3]; frame_out
  change S256x128.Idx at y
  idx_vars y
  refine (blk_o (h := hd t.val ht) (n := tl t.val) (r0_q H t) (r0_k H t) (r0_v H t) _ _).trans ((oG_apply D _ _ _).symm.trans (congrArg (oG D) ?_))
  unfold hd tl row; blk_ext [idx0 t]

theorem arr0_4 : (dat0 V c).arrAt 4 cfg0.N = lG D := by
  refine (dat0 V c).arrAt_eq_of_covers 4 _ (by decide +kernel) fun t hf y => ?_
  have ht := lt0 t
  blk_simp; rw [after0_4]; frame_out
  change S1x256x1.Idx at y
  idx_vars y
  obtain rfl := Subsingleton.elim y0 0
  obtain rfl := Subsingleton.elim y2 0
  refine (blk_lse (h := hd t.val ht) (n := tl t.val) (r0_q H t) (r0_k H t) _).trans
    ((show _ = lG D (ix3 (hd t.val ht) (row (tl t.val) y1) 0) from rfl).trans (congrArg (lG D) ?_))
  unfold hd tl row; blk_ext [idx0 t]

end

/-! ## Region 1: the three gradients -/

/-- What region 1 is entered with beside the arguments. -/
structure Saved (D : Data) : Prop where
  o : ∀ (h : Fin 4) (i : Fin 2048) (d : Fin 128), (V c main_v0_0 : FVec Ideal S2048x512 .bf16)
    (ix2 i ⟨h.val * 128 + d.val, by omega⟩) = (D.O h i d : EReal)
  l : ∀ (h : Fin 4) (i : Fin 2048), (V c main_v0_1 : FVec Ideal S4x2048x1 .f32) (ix3 h i 0)
    = ((Real.log (tot (fun _ => True) (D.X h i)) : ℝ) : EReal)

section
variable {V c} {D : Data} (H : Args V c D) (S : Saved V c D)

section
variable (t : Fin cfg1.N)

include H in
theorem r1_q (r : Fin 256) (d : Fin 128) : iblk1 V c 0 t (ix3 0 r d) = (D.Q (hd t.val (lt1 t)) (row (tl t.val) r) d : EReal) := by
  have ht := lt1 t
  rw [← H.q]; unfold hd tl row; blk_ext [iblk1, idx1 t]

include H in
theorem r1_k (r : Fin 256) (d : Fin 128) : iblk1 V c 1 t (ix3 0 r d) = (D.K (hd t.val (lt1 t)) r d : EReal) := by
  have ht := lt1 t
  rw [← H.k]; unfold hd; blk_ext [iblk1, idx1 t]

include H in
theorem r1_v (j : Fin 256) (d : Fin 128) : iblk1 V c 2 t (ix2 j d) = (D.V (hd t.val (lt1 t)) j d : EReal) := by
  have ht := lt1 t
  rw [← H.v]; unfold hd; blk_ext [iblk1, idx1 t]

include H in
theorem r1_g (r : Fin 256) (d : Fin 128) : iblk1 V c 4 t (ix2 r d) = (D.G (hd t.val (lt1 t)) (row (tl t.val) r) d : EReal) := by
  have ht := lt1 t
  rw [← H.g]; unfold hd tl row; blk_ext [iblk1, idx1 t]

include S in
theorem r1_o (r : Fin 256) (d : Fin 128) : iblk1 V c 3 t (ix2 r d) = (D.O (hd t.val (lt1 t)) (row (tl t.val) r) d : EReal) := by
  have ht := lt1 t
  rw [← S.o]; unfold hd tl row; blk_ext [iblk1, idx1 t]

include S in
theorem r1_l (r : Fin 256) : iblk1 V c 5 t (ix3 0 r 0)
    = ((Real.log (tot (fun _ => True) (D.X (hd t.val (lt1 t)) (row (tl t.val) r))) : ℝ) : EReal) := by
  have ht := lt1 t
  rw [← S.l]; unfold hd tl row; blk_ext [iblk1, idx1 t]

include H S

/-- The gradient of the queries that a point leaves. -/
theorem out6 (r : Fin 256) (d : Fin 128) :
    (outsAt1 V c t.val t.isLt).1 (ix3 0 r d) = (D.DQ (hd t.val (lt1 t)) (row (tl t.val) r) d : EReal) := by
  have e := blk_dq (r1_q H t) (r1_k H t) (r1_l S t) (r1_g H t) (r1_v H t) (r1_o S t) r d
  by_cases h0 : t.val % 8 = 0
  · rw [outsAt1_A V c t h0]; frame_out; exact e
  · rw [outsAt1_B V c t h0]; frame_out; exact e

theorem step7_A (h0 : t.val % 8 = 0) (j : Fin 256) (d : Fin 128) :
    (outsAt1 V c t.val t.isLt).2.1 (ix3 0 j d) = (((∑ r : Fin 256, D.DS (hd t.val (lt1 t)) (row (tl t.val) r) j
      * D.Q (hd t.val (lt1 t)) (row (tl t.val) r) d) * scale : ℝ) : EReal) := by
  rw [outsAt1_A V c t h0]; frame_out
  refine (blk_dk (r1_q H t) (r1_k H t) (r1_l S t) (r1_g H t) (r1_v H t) (r1_o S t) _ j d).trans ?_
  rw [bwd_zero4, zero_add]

theorem step7_B (h0 : ¬ t.val % 8 = 0) (j : Fin 256) (d : Fin 128) :
    (outsAt1 V c t.val t.isLt).2.1 (ix3 0 j d) = (outsAt1 V c (t.val - 1) (Nat.lt_of_le_of_lt (Nat.sub_le _ _) t.isLt)).2.1 (ix3 0 j d)
      + (((∑ r : Fin 256, D.DS (hd t.val (lt1 t)) (row (tl t.val) r) j
      * D.Q (hd t.val (lt1 t)) (row (tl t.val) r) d) * scale : ℝ) : EReal) := by
  rw [outsAt1_B V c t h0]; frame_out
  exact blk_dk (r1_q H t) (r1_k H t) (r1_l S t) (r1_g H t) (r1_v H t) (r1_o S t) _ j d

theorem step8_A (h0 : t.val % 8 = 0) (j : Fin 256) (d : Fin 128) :
    (outsAt1 V c t.val t.isLt).2.2 (ix3 0 j d) = ((∑ r : Fin 256, D.P (hd t.val (lt1 t)) (row (tl t.val) r) j
      * D.G (hd t.val (lt1 t)) (row (tl t.val) r) d : ℝ) : EReal) := by
  rw [outsAt1_A V c t h0]; frame_out
  refine (blk_dv (r1_q H t) (r1_k H t) (r1_l S t) (r1_g H t) _ j d).trans ?_
  rw [bwd_zero5, zero_add]

theorem step8_B (h0 : ¬ t.val % 8 = 0) (j : Fin 256) (d : Fin 128) :
    (outsAt1 V c t.val t.isLt).2.2 (ix3 0 j d) = (outsAt1 V c (t.val - 1) (Nat.lt_of_le_of_lt (Nat.sub_le _ _) t.isLt)).2.2 (ix3 0 j d)
      + ((∑ r : Fin 256, D.P (hd t.val (lt1 t)) (row (tl t.val) r) j
      * D.G (hd t.val (lt1 t)) (row (tl t.val) r) d : ℝ) : EReal) := by
  rw [outsAt1_B V c t h0]; frame_out
  exact blk_dv (r1_q H t) (r1_k H t) (r1_l S t) (r1_g H t) _ j d

end

/-- The array of the gradient of the queries. -/
def dqG (D : Data) : FVec Ideal S4x2048x128 .f32 := fun i => ((D.DQ (i 0) (i 1) (i 2) : ℝ) : EReal)
/-- The array of the gradient of the keys. -/
def dkG (D : Data) : FVec Ideal S4x256x128 .f32 := fun i => ((D.DK (i 0) (i 1) (i 2) : ℝ) : EReal)
/-- The array of the gradient of the values. -/
def dvG (D : Data) : FVec Ideal S4x256x128 .f32 := fun i => ((D.DV (i 0) (i 1) (i 2) : ℝ) : EReal)

/-- What point `n` adds to the gradient of the keys. -/
def T7 (D : Data) (j : Fin 256) (d : Fin 128) (n : Nat) : ℝ := if hn : n < 32 then
  (∑ r : Fin 256, D.DS (hd n hn) (row (tl n) r) j * D.Q (hd n hn) (row (tl n) r) d) * scale else 0

/-- What point `n` adds to the gradient of the values. -/
def T8 (D : Data) (j : Fin 256) (d : Fin 128) (n : Nat) : ℝ := if hn : n < 32 then
  ∑ r : Fin 256, D.P (hd n hn) (row (tl n) r) j * D.G (hd n hn) (row (tl n) r) d else 0

/-- The parts of one head's eight points. -/
theorem run_pt (n : Nat) (hn : n < 32) (s : Fin 8) :
    ∃ h' : 8 * (n / 8) + s.val < 32, hd (8 * (n / 8) + s.val) h' = hd n hn ∧ tl (8 * (n / 8) + s.val) = s := by
  refine ⟨by omega, Fin.ext ?_, Fin.ext ?_⟩
  · show (8 * (n / 8) + s.val) / 8 = n / 8; omega
  · show (8 * (n / 8) + s.val) % 8 = s.val; omega

theorem sum_T7 (D : Data) (j : Fin 256) (d : Fin 128) (n : Nat) (hn : n < 32) :
    ∑ s : Fin 8, T7 D j d (8 * (n / 8) + s.val) = D.DK (hd n hn) j d := by
  unfold Data.DK; rw [Tiles.sum_tiles (n := 8) (m := 256) 2048 rfl, Finset.sum_mul]
  refine Finset.sum_congr rfl fun s _ => ?_
  obtain ⟨h', e1, e2⟩ := run_pt n hn s
  unfold T7; rw [dif_pos h', e1, e2]; rfl

theorem sum_T8 (D : Data) (j : Fin 256) (d : Fin 128) (n : Nat) (hn : n < 32) :
    ∑ s : Fin 8, T8 D j d (8 * (n / 8) + s.val) = D.DV (hd n hn) j d := by
  unfold Data.DV; rw [Tiles.sum_tiles (n := 8) (m := 256) 2048 rfl]
  refine Finset.sum_congr rfl fun s _ => ?_
  obtain ⟨h', e1, e2⟩ := run_pt n hn s
  unfold T8; rw [dif_pos h', e1, e2]; rfl

include H S

/-- The gradient of the keys after a head's last tile. -/
theorem out7 (t : Fin cfg1.N) (hr : t.val % 8 = 7) (j : Fin 256) (d : Fin 128) :
    (outsAt1 V c t.val t.isLt).2.1 (ix3 0 j d) = (D.DK (hd t.val (lt1 t)) j d : EReal) := by
  rw [← sum_T7]
  exact acc_run (J := 8) (fun n hn => (outsAt1 V c n hn).2.1 (ix3 0 j d)) (T7 D j d)
    (fun t h => (step7_A H S t h j d).trans (by unfold T7; rw [dif_pos (lt1 t)]))
    (fun t h => (step7_B H S t h j d).trans (by unfold T7; rw [dif_pos (lt1 t)])) t (by omega)

/-- The gradient of the values after a head's last tile. -/
theorem out8 (t : Fin cfg1.N) (hr : t.val % 8 = 7) (j : Fin 256) (d : Fin 128) :
    (outsAt1 V c t.val t.isLt).2.2 (ix3 0 j d) = (D.DV (hd t.val (lt1 t)) j d : EReal) := by
  rw [← sum_T8]
  exact acc_run (J := 8) (fun n hn => (outsAt1 V c n hn).2.2 (ix3 0 j d)) (T8 D j d)
    (fun t h => (step8_A H S t h j d).trans (by unfold T8; rw [dif_pos (lt1 t)]))
    (fun t h => (step8_B H S t h j d).trans (by unfold T8; rw [dif_pos (lt1 t)])) t (by omega)

/-- The array of the gradient of the queries after the run. -/
theorem arr1_6 : (dat1 V c).arrAt 6 cfg1.N = dqG D := by
  refine (dat1 V c).arrAt_eq_of_covers 6 _ (by decide +kernel) fun t hf y => ?_
  have ht := lt1 t
  blk_simp; rw [after1_6]
  change S1x256x128.Idx at y
  idx_vars y
  obtain rfl := Subsingleton.elim y0 0
  refine (out6 H S t y1 y2).trans ((show _ = dqG D
    (ix3 (hd t.val ht) (row (tl t.val) y1) y2) from rfl).trans (congrArg (dqG D) ?_))
  unfold hd tl row; blk_ext [idx1 t]

/-- The array of the gradient of the keys after the run. -/
theorem arr1_7 : (dat1 V c).arrAt 7 cfg1.N = dkG D := by
  refine (dat1 V c).arrAt_eq_of_covers 7 _ (by decide +kernel) fun t hf y => ?_
  have ht := lt1 t
  blk_simp; rw [after1_7]
  change S1x256x128.Idx at y
  idx_vars y
  obtain rfl := Subsingleton.elim y0 0
  refine (out7 H S t ((flush1_7 t).mp hf) y1 y2).trans ((show _ = dkG D
    (ix3 (hd t.val ht) y1 y2) from rfl).trans (congrArg (dkG D) ?_))
  unfold hd; blk_ext [idx1 t]

/-- The array of the gradient of the values after the run. -/
theorem arr1_8 : (dat1 V c).arrAt 8 cfg1.N = dvG D := by
  refine (dat1 V c).arrAt_eq_of_covers 8 _ (by decide +kernel) fun t hf y => ?_
  have ht := lt1 t
  blk_simp; rw [after1_8]
  change S1x256x128.Idx at y
  idx_vars y
  obtain rfl := Subsingleton.elim y0 0
  refine (out8 H S t ((flush1_8 t).mp hf) y1 y2).trans ((show _ = dvG D
    (ix3 (hd t.val ht) y1 y2) from rfl).trans (congrArg (dvG D) ?_))
  unfold hd; blk_ext [idx1 t]

end

end Cert.Cross

end
-- ==== Proof.CrossRun.lean ====
/-
  THE CROSS-ATTENTION'S RUN: the three arrays of gradients at the end, the arguments holding numbers at the launch.
-/
module

public import proofs.«01_k».proof.Proof.CrossVal

@[expose] public section

set_option maxRecDepth 16384

noncomputable section

namespace Cert.Cross

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen Cert.Attn

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends with the arrays of gradients as region 1 leaves them and the arguments as launched. -/
theorem run_arrays : θ_run defs (onTc (τ := τ) (main (F := Ideal))) ⟨m, fun _ => 0, ρ⟩ (fun r => ∀ c : Dev nD,
      r.2.mem ((c.tc : Thread nD τ).loc main_v1_0) = (dat1 (V1 m ρ) c).arrAt 6 cfg1.N
      ∧ r.2.mem ((c.tc : Thread nD τ).loc main_v1_1) = (dat1 (V1 m ρ) c).arrAt 7 cfg1.N
      ∧ r.2.mem ((c.tc : Thread nD τ).loc main_v1_2) = (dat1 (V1 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c =>
      ⟨(h c _ (mem_uc main_v1_0 (by decide))).trans (W2_arr m ρ c 6),
       (h c _ (mem_uc main_v1_1 (by decide))).trans (W2_arr m ρ c 7),
       (h c _ (mem_uc main_v1_2 (by decide))).trans (W2_arr m ρ c 8),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

section
variable {m ρ} {c : Dev nD} {D : Data} (H : Args (V0 m ρ) c D)
include H

/-- Region 0 leaves the arguments as they were. -/
theorem args1 : Args (V1 m ρ) c D where
  q h i d := (congrFun (W1_args m ρ c main_arg0 (by decide)) _).trans (H.q h i d)
  k h i d := (congrFun (W1_args m ρ c main_arg1 (by decide)) _).trans (H.k h i d)
  v h i d := (congrFun (W1_args m ρ c main_arg2 (by decide)) _).trans (H.v h i d)
  g h i d := (congrFun (W1_args m ρ c main_arg3 (by decide)) _).trans (H.g h i d)

/-- Region 1 is entered with the output and the log-sums. -/
theorem saved1 : Saved (V1 m ρ) c D where
  o h i d := (congrFun ((W1_arr m ρ c 3).trans (arr0_3 H)) _).trans (oG_apply D h i d)
  l h i := congrFun ((W1_arr m ρ c 4).trans (arr0_4 H)) (ix3 h i 0)

end

/-- Every run ends with the three gradients, when the arguments hold numbers. -/
theorem run_num (D : Dev nD → Data) (H : ∀ c, Args (V0 m ρ) c (D c)) :
    θ_run defs (onTc (τ := τ) (main (F := Ideal))) ⟨m, fun _ => 0, ρ⟩ (fun r => ∀ c : Dev nD,
      r.2.mem ((c.tc : Thread nD τ).loc main_v1_0) = dqG (D c)
      ∧ r.2.mem ((c.tc : Thread nD τ).loc main_v1_1) = dkG (D c)
      ∧ r.2.mem ((c.tc : Thread nD τ).loc main_v1_2) = dvG (D c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ hr c =>
    have h1 := args1 (H c)
    have h2 := saved1 (H c)
    ⟨(hr c).1.trans (arr1_6 h1 h2), (hr c).2.1.trans (arr1_7 h1 h2), (hr c).2.2.1.trans (arr1_8 h1 h2), (hr c).2.2.2⟩)
    (run_arrays m ρ)

end Cert.Cross

end
-- ==== Proof.CrossFin.lean ====
/-
  THE CROSS-ATTENTION'S VALUE CLAIM: the kernel's three gradients are the reference's, on finite arguments.
-/
module

public import proofs.«01_k».proof.Defs
public import proofs.«01_k».proof.Proof.Gen.Pre_finite2
public import proofs.«01_k».proof.Proof.Fin
public import proofs.«01_k».proof.Proof.CrossRun
public import proofs.«01_k».proof.Proof.CrossRef

@[expose] public section

set_option maxRecDepth 16384

noncomputable section

namespace Cert.Cross

open Idealize.ShloMosaic Idealize.SL.Sem Cert.Attn

section
open Cert.Pre_finite2
instance : Subsingleton S_.Idx := inferInstanceAs (Subsingleton (⟨0, ![]⟩ : Shape).Idx)

/-- What the precondition says of the four arrays: each holds numbers. -/
theorem finite_real (a0 : FVec Ideal S4x2048x128 .bf16) (a1 : FVec Ideal S4x256x128 .bf16) (a2 : FVec Ideal S256x1024 .f32)
    (a3 : FVec Ideal S2048x512 .bf16) (h : Cert.Pre_finite2.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ ∀ i, ∃ r : ℝ, a3 i = (r : EReal) := by
  have e := congrFun h (fun a => a.elim0)
  unfold Cert.Pre_finite2.fn Cert.Pre_finite2.fn_part1 at e
  obtain ⟨e, e3⟩ := IntOp.andi_eq_one.mp e
  obtain ⟨e, e2⟩ := IntOp.andi_eq_one.mp e
  obtain ⟨e0, e1⟩ := IntOp.andi_eq_one.mp e
  exact ⟨real_of_all _ _ _ _ _ _ e0, real_of_all _ _ _ _ _ _ e1, real_of_all _ _ _ _ _ _ e2, real_of_all _ _ _ _ _ _ e3⟩

/-- The numbers the four arrays hold. -/
def data (a0 : FVec Ideal S4x2048x128 .bf16) (a1 : FVec Ideal S4x256x128 .bf16) (a2 : FVec Ideal S256x1024 .f32)
    (a3 : FVec Ideal S2048x512 .bf16) : Data where
  Q h i d := (a0 (ix3 h i d)).toReal
  K h j d := (a1 (ix3 h j d)).toReal
  V h j d := (a2 (ix2 j ⟨512 + h.val * 128 + d.val, by omega⟩)).toReal
  G h i d := (a3 (ix2 i ⟨h.val * 128 + d.val, by omega⟩)).toReal

end

/-- A number is the number it is read as. -/
theorem toReal_of {x : EReal} (h : ∃ r : ℝ, x = (r : EReal)) : x = (x.toReal : EReal) := by
  obtain ⟨r, rfl⟩ := h; rfl

theorem algebraic : Cert.algebraic_Kernel2Ideal_Reference2Ideal_pre_finite2 := by
  intro m g m' g' hp ha
  let D : Dev Cert.Kernel2Ideal.nD → Data := fun c => data (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2))
    (m ((c.tc : Thread Cert.Kernel2Ideal.nD Cert.Kernel2Ideal.τ).loc Cert.Kernel2Ideal.main_arg3))
  have hA : ∀ c, Args (Cert.Kernel2Ideal.Gen.V0 m g) c (D c) := fun c => by
    obtain ⟨h0, h1, h2, h3⟩ := finite_real _ _ _ _ (hp c)
    exact ⟨fun h i d => toReal_of (h0 _), fun h i d => toReal_of (h1 _), fun h i d => toReal_of (h2 _), fun h i d => toReal_of (h3 _)⟩
  have hB : ∀ c, Holds m' c (D c) := fun c =>
    ⟨fun h i d => (congrFun (ha c).1 _).trans ((hA c).q h i d), fun h i d => (congrFun (ha c).2.1 _).trans ((hA c).k h i d),
     fun h i d => (congrFun (ha c).2.2.1 _).trans ((hA c).v h i d), fun h i d => (congrFun (ha c).2.2.2 _).trans ((hA c).g h i d)⟩
  refine ⟨fun c => dqG (D c), fun c => dkG (D c), fun c => dvG (D c), run_num m g D hA,
    (θ_run _ _ _).mono (fun r hr c => ?_) (ref_num m' g' D hB)⟩
  obtain ⟨h0, h1, h2, h3⟩ := hr c
  refine ⟨?_, ?_, ?_, h3⟩
  · funext y; change (⟨3, ![4, 2048, 128]⟩ : Shape).Idx at y; idx_vars y; exact h0 _ _ _
  · funext y; change (⟨3, ![4, 256, 128]⟩ : Shape).Idx at y; idx_vars y; exact h1 _ _ _
  · funext y; change (⟨3, ![4, 256, 128]⟩ : Shape).Idx at y; idx_vars y; exact h2 _ _ _

end Cert.Cross

end
-- ==== Proof.MlpVal.lean ====
/-
  THE CHANNEL MIXER'S HIDDEN LAYER AND ITS WEIGHTS' GRADIENTS: the arrays that the four regions leave, each element one sum
  of products.
-/
module

public import proofs.«01_k».proof.Proof.Gen.Kernel3Ideal.Frame
public import proofs.«01_k».proof.Proof.Tiles

@[expose] public section

set_option maxRecDepth 16384

noncomputable section

namespace Cert.Mlp

open Idealize.ShloMosaic Idealize.ShloMosaic.TcCoe Idealize.ShloMosaic.Tactic
open Cert.Kernel3Ideal Cert.Kernel3Ideal.Gen Cert.Tiles

/-- The hidden layer before its activation: rows of `hm` against the columns of `w`, which come in four blocks. -/
def aG (hm : FVec Ideal S2048x2048 .bf16) (w : FVec Ideal S4x2048x2048 .bf16) : FVec Ideal S2048x8192 .bf16 :=
  fun i => ∑ k : Fin 2048, hm (ix2 (i 0) k) * w (ix3 ⟨(i 1).val / 2048, by have := (i 1).isLt; simp at this; omega⟩ k ⟨(i 1).val % 2048, by omega⟩)

/-- The positive part. -/
def pos0 (x : EReal) : EReal := max x (Ideal.ofBits .f32 0x00000000#32)

/-- The hidden layer: the squared positive part. -/
def actG (a : FVec Ideal S2048x8192 .bf16) : FVec Ideal S2048x8192 .bf16 := fun i => pos0 (a i) * pos0 (a i)

/-- The gradient of the hidden layer before its activation. -/
def daG (g : FVec Ideal S2048x2048 .f32) (w : FVec Ideal S1x8192x2048 .bf16) (a : FVec Ideal S2048x8192 .bf16) : FVec Ideal S2048x8192 .bf16 :=
  fun i => (∑ d : Fin 2048, g (ix2 (i 0) d) * w (ix3 0 (i 1) d)) * (Ideal.ofBits .f32 0x40000000#32 * pos0 (a i))

/-- The gradient of the second weight: columns of `act` against columns of `g`. -/
def dw2G (act : FVec Ideal S2048x8192 .bf16) (g : FVec Ideal S2048x2048 .f32) : FVec Ideal S1x8192x2048 .bf16 :=
  fun i => ∑ r : Fin 2048, act (ix2 r (i 1)) * g (ix2 r (i 2))

/-- The gradient of the first weight, in four blocks of columns. -/
def dw1G (hm : FVec Ideal S2048x2048 .bf16) (da : FVec Ideal S2048x8192 .bf16) : FVec Ideal S4x2048x2048 .bf16 :=
  fun i => ∑ r : Fin 2048, hm (ix2 r (i 1)) * da (ix2 r ⟨(i 0).val * 2048 + (i 2).val, by have := (i 0).isLt; have := (i 2).isLt; simp at *; omega⟩)

/-! ## A point's tile -/

theorem tile_m (x0 : Vec Ideal S1024x2048 .bf16) (x1 : Vec Ideal S1x2048x1024 .bf16) (r s : Fin 1024) :
    k0_pay1 x0 x1 (ix2 r s) = ∑ k : Fin 2048, x0 (ix2 r k) * x1 (ix3 0 k s) := by
  unfold k0_pay1; pointwise

theorem tile_a (x0 : Vec Ideal S1024x2048 .bf16) (x1 : Vec Ideal S1x2048x1024 .bf16) (r s : Fin 1024) :
    k0_pay2 x0 x1 (ix2 r s) = ∑ k : Fin 2048, x0 (ix2 r k) * x1 (ix3 0 k s) := by
  unfold k0_pay2; pointwise [tile_m]

theorem tile_act (x0 : Vec Ideal S1024x2048 .bf16) (x1 : Vec Ideal S1x2048x1024 .bf16) (r s : Fin 1024) :
    k0_pay3 x0 x1 (ix2 r s) = pos0 (∑ k : Fin 2048, x0 (ix2 r k) * x1 (ix3 0 k s))
      * pos0 (∑ k : Fin 2048, x0 (ix2 r k) * x1 (ix3 0 k s)) := by
  unfold k0_pay3 pos0; pointwise [tile_m]

theorem tile_da (x0 : Vec Ideal S1024x2048 .f32) (x1 : Vec Ideal S1x1024x2048 .bf16) (x2 : Vec Ideal S1024x1024 .bf16) (r s : Fin 1024) :
    k1_pay1 x0 x1 x2 (ix2 r s) = (∑ d : Fin 2048, x0 (ix2 r d) * x1 (ix3 0 s d)) * (Ideal.ofBits .f32 0x40000000#32 * pos0 (x2 (ix2 r s))) := by
  unfold k1_pay1 pos0; pointwise

theorem tile_dw2 (x0 : Vec Ideal S2048x1024 .bf16) (x1 : Vec Ideal S2048x1024 .f32) (r s : Fin 1024) :
    k2_pay1 x0 x1 (ix3 0 r s) = ∑ k : Fin 2048, x0 (ix2 k r) * x1 (ix2 k s) := by
  unfold k2_pay1; pointwise

theorem tile_dw1 (x0 x1 : Vec Ideal S2048x1024 .bf16) (r s : Fin 1024) :
    k3_pay1 x0 x1 (ix3 0 r s) = ∑ k : Fin 2048, x0 (ix2 k r) * x1 (ix2 k s) := by
  unfold k3_pay1; pointwise

/-! ## The tile a grid point works on -/

theorem idx0 : ∀ t : Fin cfg0.N, win0_0.index t = ![t.val / 8, 0] ∧ win0_1.index t = ![t.val % 8 / 2, 0, t.val % 8 % 2]
    ∧ win0_2.index t = ![t.val / 8, t.val % 8] ∧ win0_3.index t = ![t.val / 8, t.val % 8] :=
  (by decide +kernel : ∀ t : Fin grid0.N, _)

theorem idx1 : ∀ t : Fin cfg1.N, win1_0.index t = ![t.val / 8, 0] ∧ win1_1.index t = ![0, t.val % 8, 0]
    ∧ win1_2.index t = ![t.val / 8, t.val % 8] ∧ win1_3.index t = ![t.val / 8, t.val % 8] :=
  (by decide +kernel : ∀ t : Fin grid1.N, _)

theorem idx2 : ∀ t : Fin cfg2.N, win2_0.index t = ![0, t.val % 8] ∧ win2_1.index t = ![0, t.val / 8]
    ∧ win2_2.index t = ![0, t.val % 8, t.val / 8] :=
  (by decide +kernel : ∀ t : Fin grid2.N, _)

theorem idx3 : ∀ t : Fin cfg3.N, win3_0.index t = ![0, t.val % 2] ∧ win3_1.index t = ![0, t.val / 2]
    ∧ win3_2.index t = ![t.val / 2 / 2, t.val % 2, t.val / 2 % 2] :=
  (by decide +kernel : ∀ t : Fin grid3.N, _)

theorem lt0 (t : Fin cfg0.N) : t.val < 16 := lt_of_lt_of_eq t.isLt (show cfg0.N = 16 from N_0)
theorem lt1 (t : Fin cfg1.N) : t.val < 16 := lt_of_lt_of_eq t.isLt (show cfg1.N = 16 from N_1)
theorem lt2 (t : Fin cfg2.N) : t.val < 16 := lt_of_lt_of_eq t.isLt (show cfg2.N = 16 from N_2)
theorem lt3 (t : Fin cfg3.N) : t.val < 16 := lt_of_lt_of_eq t.isLt (show cfg3.N = 16 from N_3)

/-- The TensorCore's buffers at a region's entry. -/
abbrev Ent := (c : Dev nD) → (b : Ref sig .tc) → Buf (Elt Ideal) ((c.tc : Thread nD τ).loc b)

variable (V : Ent) (c : Dev nD)

/-! ## Region 0: the hidden layer -/

/-- A point's sum of products is the hidden layer's element, before the activation. -/
theorem sum0 (t : Fin cfg0.N) (r s : Fin 1024) (i : S2048x8192.Idx)
    (hi : i = ix2 (pos (t.val / 8) r (by have := lt0 t; omega)) (pos (t.val % 8) s (by omega))) (x0 : Vec Ideal S1024x2048 .bf16)
    (x1 : Vec Ideal S1x2048x1024 .bf16) (e0 : x0 = iblk0 V c 0 t) (e1 : x1 = iblk0 V c 1 t) :
    ∑ k : Fin 2048, x0 (ix2 r k) * x1 (ix3 0 k s) = aG (V c main_arg0) (V c main_arg1) i := by
  have ht := lt0 t
  subst hi e0 e1
  refine Finset.sum_congr rfl fun k _ => congrArg₂ (fun a b : EReal => a * b) ?_ ?_
  · unfold pos; blk_ext [iblk0, idx0 t]
  · unfold pos; blk_ext [iblk0, idx0 t]

theorem arr0_2 : (dat0 V c).arrAt 2 cfg0.N = aG (V c main_arg0) (V c main_arg1) := by
  refine (dat0 V c).arrAt_eq_of_covers 2 _ (by decide +kernel) fun t hf y => ?_
  have ht := lt0 t
  blk_simp; rw [after0_2]; frame_out
  change S1024x1024.Idx at y
  idx_vars y
  refine (tile_a _ _ _ _).trans (sum0 V c t y0 y1 _ ?_ _ _ rfl rfl)
  unfold pos; blk_ext [idx0 t]

theorem arr0_3 : (dat0 V c).arrAt 3 cfg0.N = actG (aG (V c main_arg0) (V c main_arg1)) := by
  refine (dat0 V c).arrAt_eq_of_covers 3 _ (by decide +kernel) fun t hf y => ?_
  have ht := lt0 t
  blk_simp; rw [after0_3]; frame_out
  change S1024x1024.Idx at y
  idx_vars y
  refine (tile_act _ _ _ _).trans (congrArg (fun x => pos0 x * pos0 x) (sum0 V c t y0 y1 _ ?_ _ _ rfl rfl))
  unfold pos; blk_ext [idx0 t]

/-! ## Region 1: the hidden layer's gradient -/

theorem arr1_3 : (dat1 V c).arrAt 3 cfg1.N = daG (V c main_arg3) (V c main_arg2) (V c main_v0_0) := by
  refine (dat1 V c).arrAt_eq_of_covers 3 _ (by decide +kernel) fun t hf y => ?_
  have ht := lt1 t
  blk_simp; rw [after1_3]; frame_out
  change S1024x1024.Idx at y
  idx_vars y
  have h0 : ∀ k : Fin 2048, iblk1 V c 0 t (ix2 y0 k) = (V c main_arg3 : FVec Ideal S2048x2048 .f32)
      (ix2 (pos (t.val / 8) y0 (by omega)) k) := fun k => by unfold pos; blk_ext [iblk1, idx1 t]
  have h1 : ∀ k : Fin 2048, iblk1 V c 1 t (ix3 0 y1 k) = (V c main_arg2 : FVec Ideal S1x8192x2048 .bf16)
      (ix3 0 (pos (t.val % 8) y1 (by omega)) k) := fun k => by unfold pos; blk_ext [iblk1, idx1 t]
  have h2 : iblk1 V c 2 t (ix2 y0 y1) = (V c main_v0_0 : FVec Ideal S2048x8192 .bf16)
      (ix2 (pos (t.val / 8) y0 (by omega)) (pos (t.val % 8) y1 (by omega))) := by unfold pos; blk_ext [iblk1, idx1 t]
  refine (tile_da _ _ _ _ _).trans ((congrArg₂ (fun a b : EReal => a * (Ideal.ofBits .f32 0x40000000#32 * pos0 b))
    (Finset.sum_congr rfl fun k _ => congrArg₂ (fun a b : EReal => a * b) (h0 k) (h1 k)) h2).trans
    ((show _ = daG (V c main_arg3) (V c main_arg2) (V c main_v0_0)
        (ix2 (pos (t.val / 8) y0 (by omega)) (pos (t.val % 8) y1 (by omega))) from rfl).trans
      (congrArg (daG (V c main_arg3) (V c main_arg2) (V c main_v0_0)) ?_)))
  unfold pos; blk_ext [idx1 t]

/-! ## Regions 2 and 3: the weights' gradients -/

theorem arr2_2 : (dat2 V c).arrAt 2 cfg2.N = dw2G (V c main_v0_1) (V c main_arg3) := by
  refine (dat2 V c).arrAt_eq_of_covers 2 _ (by decide +kernel) fun t hf y => ?_
  have ht := lt2 t
  blk_simp; rw [after2_2]; frame_out
  change S1x1024x1024.Idx at y
  idx_vars y
  obtain rfl := Subsingleton.elim y0 0
  have h0 : ∀ k : Fin 2048, iblk2 V c 0 t (ix2 k y1) = (V c main_v0_1 : FVec Ideal S2048x8192 .bf16)
      (ix2 k (pos (t.val % 8) y1 (by omega))) := fun k => by unfold pos; blk_ext [iblk2, idx2 t]
  have h1 : ∀ k : Fin 2048, iblk2 V c 1 t (ix2 k y2) = (V c main_arg3 : FVec Ideal S2048x2048 .f32)
      (ix2 k (pos (t.val / 8) y2 (by omega))) := fun k => by unfold pos; blk_ext [iblk2, idx2 t]
  refine (tile_dw2 _ _ _ _).trans ((Finset.sum_congr rfl fun k _ => congrArg₂ (fun a b : EReal => a * b) (h0 k) (h1 k)).trans
    ((show _ = dw2G (V c main_v0_1) (V c main_arg3) (ix3 0 (pos (t.val % 8) y1 (by omega)) (pos (t.val / 8) y2 (by omega))) from rfl).trans
      (congrArg (dw2G (V c main_v0_1) (V c main_arg3)) ?_)))
  unfold pos; blk_ext [idx2 t]

theorem arr3_2 : (dat3 V c).arrAt 2 cfg3.N = dw1G (V c main_arg0) (V c main_v1) := by
  refine (dat3 V c).arrAt_eq_of_covers 2 _ (by decide +kernel) fun t hf y => ?_
  have ht := lt3 t
  blk_simp; rw [after3_2]; frame_out
  change S1x1024x1024.Idx at y
  idx_vars y
  obtain rfl := Subsingleton.elim y0 0
  have h0 : ∀ k : Fin 2048, iblk3 V c 0 t (ix2 k y1) = (V c main_arg0 : FVec Ideal S2048x2048 .bf16)
      (ix2 k (pos (t.val % 2) y1 (by omega))) := fun k => by unfold pos; blk_ext [iblk3, idx3 t]
  have h1 : ∀ k : Fin 2048, iblk3 V c 1 t (ix2 k y2) = (V c main_v1 : FVec Ideal S2048x8192 .bf16)
      (ix2 k ⟨t.val / 2 / 2 * 2048 + (pos (N := 2048) (t.val / 2 % 2) y2 (by omega)).val, by unfold pos; dsimp only; omega⟩) :=
    fun k => by unfold pos; blk_ext [iblk3, idx3 t]
  refine (tile_dw1 _ _ _ _).trans ((Finset.sum_congr rfl fun k _ => congrArg₂ (fun a b : EReal => a * b) (h0 k) (h1 k)).trans
    ((show _ = dw1G (V c main_arg0) (V c main_v1) (ix3 ⟨t.val / 2 / 2, by omega⟩ (pos (t.val % 2) y1 (by omega)) (pos (t.val / 2 % 2) y2 (by omega))) from rfl).trans
      (congrArg (dw1G (V c main_arg0) (V c main_v1)) ?_)))
  unfold pos; blk_ext [idx3 t]

end Cert.Mlp

end
-- ==== Proof.MlpRun.lean ====
/-
  THE CHANNEL MIXER'S RUN: the two weights' gradients at the end.
-/
module

public import proofs.«01_k».proof.Proof.MlpVal

@[expose] public section

set_option maxRecDepth 16384

noncomputable section

namespace Cert.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends with the results as the regions leave them and the arguments as launched. -/
theorem run_arrays : θ_run defs (onTc (τ := τ) (main (F := Ideal))) ⟨m, fun _ => 0, ρ⟩ (fun r => ∀ c : Dev nD,
      r.2.mem ((c.tc : Thread nD τ).loc main_v3) = (dat3 (V3 m ρ) c).arrAt 2 cfg3.N
      ∧ r.2.mem ((c.tc : Thread nD τ).loc main_v2) = (dat2 (V2 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v3 (by decide))).trans (W4_arr m ρ c 2),
       (h c _ (mem_uc main_v2 (by decide))).trans ((W4_of m ρ c main_v2 (by decide)).trans (W3_arr m ρ c 2)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

/-- The hidden layer before its activation, of the launch's arguments. -/
abbrev aM (c : Dev nD) : FVec Ideal S2048x8192 .bf16 := aG (m ((c.tc : Thread nD τ).loc main_arg0)) (m ((c.tc : Thread nD τ).loc main_arg1))

/-- The second weight's gradient, of the launch's arguments. -/
abbrev dw2M (c : Dev nD) : FVec Ideal S1x8192x2048 .bf16 := dw2G (actG (aM m c)) (m ((c.tc : Thread nD τ).loc main_arg3))

/-- The first weight's gradient, of the launch's arguments. -/
abbrev dw1M (c : Dev nD) : FVec Ideal S4x2048x2048 .bf16 := dw1G (m ((c.tc : Thread nD τ).loc main_arg0))
  (daG (m ((c.tc : Thread nD τ).loc main_arg3)) (m ((c.tc : Thread nD τ).loc main_arg2)) (aM m c))

theorem res2 (c : Dev nD) : (dat2 (V2 m ρ) c).arrAt 2 cfg2.N = dw2M m c :=
  (arr2_2 (V2 m ρ) c).trans (congrArg₂ dw2G
    ((W2_of m ρ c main_v0_1 (by decide)).trans ((W1_arr m ρ c 3).trans (arr0_3 (V0 m ρ) c))) (W2_args m ρ c main_arg3 (by decide)))

theorem res1 (c : Dev nD) : (dat1 (V1 m ρ) c).arrAt 3 cfg1.N
    = daG (m ((c.tc : Thread nD τ).loc main_arg3)) (m ((c.tc : Thread nD τ).loc main_arg2)) (aM m c) := by
  refine (arr1_3 (V1 m ρ) c).trans (congr (congrArg₂ daG (W1_args m ρ c main_arg3 (by decide)) (W1_args m ρ c main_arg2 (by decide))) ?_)
  exact (W1_arr m ρ c 2).trans (arr0_2 (V0 m ρ) c)

theorem res3 (c : Dev nD) : (dat3 (V3 m ρ) c).arrAt 2 cfg3.N = dw1M m c :=
  (arr3_2 (V3 m ρ) c).trans (congrArg₂ dw1G (W3_args m ρ c main_arg0 (by decide))
    ((W3_of m ρ c main_v1 (by decide)).trans ((W2_arr m ρ c 3).trans (res1 m ρ c))))

/-- Every run ends with the two gradients. -/
theorem run_num : θ_run defs (onTc (τ := τ) (main (F := Ideal))) ⟨m, fun _ => 0, ρ⟩ (fun r => ∀ c : Dev nD,
      r.2.mem ((c.tc : Thread nD τ).loc main_v3) = dw1M m c
      ∧ r.2.mem ((c.tc : Thread nD τ).loc main_v2) = dw2M m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ hr c => ⟨(hr c).1.trans (res3 m ρ c), (hr c).2.1.trans (res2 m ρ c), (hr c).2.2⟩) (run_arrays m ρ)

end Cert.Mlp

end
-- ==== Proof.MlpFin.lean ====
/-
  THE VALUE CLAIM FOR THE CHANNEL MIXER'S WEIGHTS: the kernel's two gradients are the reference's.
-/
module

public import proofs.«01_k».proof.Defs
public import proofs.«01_k».proof.Proof.Gen.Reference3Ideal.Run
public import proofs.«01_k».proof.Proof.MlpRun

@[expose] public section

set_option maxRecDepth 16384

noncomputable section

namespace Cert.Mlp

open Idealize.ShloMosaic Idealize.ShloMosaic.TcCoe Idealize.SL.Sem

section
open Cert.Reference3Ideal Cert.Reference3Ideal.Gen

/-! ## The steps of the reference, as functions of arrays -/

/-- An array of zeros. -/
def zA : FVec Ideal S2048x8192 .f32 := broadcastInDim S2048x8192 ![] bcast_S_S2048x8192 (constant S_ .f32 0x00000000#32)

/-- The hidden layer before its activation. -/
def aA (a0 : FVec Ideal S2048x2048 .bf16) (a1 : FVec Ideal S4x2048x2048 .bf16) : FVec Ideal S2048x8192 .f32 :=
  Host.dotGeneral dot_S2048x2048_S2048x8192_S2048x8192_1_0_0_1_n_n none (extf .f32 a0 bitsLt_bf16_f32) (shapeCast S2048x8192
    (transpose S2048x4x2048 [1, 0, 2] (extf .f32 a1 bitsLt_bf16_f32) transposes_S4x2048x2048_S2048x4x2048_1_0_2) shapeCasts_S2048x4x2048_S2048x8192)

/-- Its gradient. -/
def daA (a2 : FVec Ideal S1x8192x2048 .bf16) (a3 : FVec Ideal S2048x2048 .f32) (a : FVec Ideal S2048x8192 .f32) : FVec Ideal S2048x8192 .f32 :=
  select (cmpf .ogt a zA) (mulf (Host.dotGeneral dot_S2048x2048_S8192x2048_S2048x8192_1_1_0_0_n_n none a3
      (shapeCast S8192x2048 (extf .f32 a2 bitsLt_bf16_f32) shapeCasts_S1x8192x2048_S8192x2048))
    (mulf (broadcastInDim S2048x8192 ![] bcast_S_S2048x8192 (constant S_ .f32 0x40000000#32)) (maximumf a zA))) zA

/-- The first weight's gradient. -/
def dw1A (a0 : FVec Ideal S2048x2048 .bf16) (da : FVec Ideal S2048x8192 .f32) : FVec Ideal S4x2048x2048 .bf16 :=
  truncf .bf16 (transpose S4x2048x2048 [1, 0, 2] (shapeCast S2048x4x2048 (transpose S2048x8192 [1, 0]
    (Host.dotGeneral dot_S2048x8192_S2048x2048_S8192x2048_0_0_1_1_n_n none da (extf .f32 a0 bitsLt_bf16_f32))
    transposes_S8192x2048_S2048x8192_1_0) shapeCasts_S2048x8192_S2048x4x2048) transposes_S2048x4x2048_S4x2048x2048_1_0_2) bitsLt_bf16_f32

/-- The second weight's gradient. -/
def dw2A (a3 : FVec Ideal S2048x2048 .f32) (a : FVec Ideal S2048x8192 .f32) : FVec Ideal S1x8192x2048 .bf16 :=
  truncf .bf16 (broadcastInDim S1x8192x2048 ![1, 2] bcast_S8192x2048_S1x8192x2048_1_2 (transpose S8192x2048 [1, 0]
    (Host.dotGeneral dot_S2048x2048_S2048x8192_S2048x8192_0_0_1_1_n_n none a3 (mulf (maximumf a zA) (maximumf a zA)))
    transposes_S2048x8192_S8192x2048_1_0)) bitsLt_bf16_f32

theorem aA_apply (a0 : FVec Ideal S2048x2048 .bf16) (a1 : FVec Ideal S4x2048x2048 .bf16) (i : Fin 2048) (j : Fin 8192) :
    aA a0 a1 (ix2 i j) = aG a0 a1 (ix2 i j) := by
  unfold aA aG; pointwise

theorem daA_apply (a2 : FVec Ideal S1x8192x2048 .bf16) (a3 : FVec Ideal S2048x2048 .f32) (a : FVec Ideal S2048x8192 .f32)
    (b : FVec Ideal S2048x8192 .bf16) (i : Fin 2048) (j : Fin 8192) (h : a (ix2 i j) = b (ix2 i j)) :
    daA a2 a3 a (ix2 i j) = daG a3 a2 b (ix2 i j) := by
  unfold daA daG zA pos0; pointwise [h]
  split
  · rfl
  · next hb => rw [max_eq_right (not_lt.mp hb), mul_zero, mul_zero]

theorem dw1A_apply (a0 : FVec Ideal S2048x2048 .bf16) (da : FVec Ideal S2048x8192 .f32) (b : Fin 4) (i j : Fin 2048) :
    dw1A a0 da (ix3 b i j) = dw1G a0 da (ix3 b i j) := by
  unfold dw1A dw1G; pointwise
  exact Finset.sum_congr rfl fun k _ => mul_comm _ _

theorem dw2A_apply (a3 : FVec Ideal S2048x2048 .f32) (a : FVec Ideal S2048x8192 .f32) (i : Fin 8192) (j : Fin 2048) :
    dw2A a3 a (ix3 0 i j) = dw2G (actG a) a3 (ix3 0 i j) := by
  unfold dw2A dw2G actG pos0 zA; pointwise
  exact Finset.sum_congr rfl fun k _ => mul_comm _ _

end

theorem algebraic : Cert.algebraic_Kernel3Ideal_Reference3Ideal := by
  intro m g m' g' _ ha
  refine ⟨_, _, run_num m g, (θ_run _ _ _).mono (fun r h c => ⟨(h c).1.trans ?_, (h c).2.1.trans ?_, (h c).2.2⟩)
    (Cert.Reference3Ideal.Value.run m' g')⟩
  · rw [(ha c).1, (ha c).2.1, (ha c).2.2.1, (ha c).2.2.2]
    refine (show _ = dw1A _ (daA _ _ (aA _ _)) from rfl).trans ?_
    funext y; change (⟨3, ![4, 2048, 2048]⟩ : Shape).Idx at y; idx_vars y
    refine (dw1A_apply _ _ _ _ _).trans (congrFun (congrArg (dw1G _) ?_) _)
    funext z; change (⟨2, ![2048, 8192]⟩ : Shape).Idx at z; idx_vars z
    exact daA_apply _ _ _ _ _ _ (aA_apply _ _ _ _)
  · rw [(ha c).1, (ha c).2.1, (ha c).2.2.2]
    refine (show _ = dw2A _ (aA _ _) from rfl).trans ?_
    funext y; change (⟨3, ![1, 8192, 2048]⟩ : Shape).Idx at y; idx_vars y
    obtain rfl := Subsingleton.elim y0 0
    refine (dw2A_apply _ _ _ _).trans (congrFun (congrArg (fun a => dw2G (actG a) _) ?_) _)
    funext z; change (⟨2, ![2048, 8192]⟩ : Shape).Idx at z; idx_vars z
    exact aA_apply _ _ _ _

end Cert.Mlp

end
-- ==== Proof.HmVal.lean ====
/-
  THE CHANNEL MIXER'S GRADIENT OF ITS INPUT: a product with the first weight's transpose, summed over eight tiles of columns.
-/
module

public import proofs.«01_k».proof.Proof.Gen.Kernel4Ideal.Value
public import proofs.«01_k».proof.Proof.Tiles

@[expose] public section

set_option maxRecDepth 16384

noncomputable section

namespace Cert.Hm

open Idealize.ShloMosaic Idealize.ShloMosaic.TcCoe Idealize.ShloMosaic.Tactic
open Cert.Kernel4Ideal Cert.Kernel4Ideal.Gen Cert.Tiles

/-- The gradient of the input: rows of `da` against rows of `w`, whose columns come in four blocks. -/
def dhG (w : FVec Ideal S4x2048x2048 .bf16) (da : FVec Ideal S2048x8192 .bf16) : FVec Ideal S2048x2048 .f32 :=
  fun i => ∑ n : Fin 8192, da (ix2 (i 0) n) * w (ix3 ⟨n.val / 2048, by omega⟩ (i 1) ⟨n.val % 2048, by omega⟩)

/-! ## A point's tile -/

theorem tile (x0 : Vec Ideal S1024x1024 .bf16) (x1 : Vec Ideal S1x1024x1024 .bf16) (r s : Fin 1024) :
    k0_pay1 x0 x1 (ix2 r s) = ∑ k : Fin 1024, x0 (ix2 r k) * x1 (ix3 0 s k) := by
  unfold k0_pay1; pointwise

theorem first (x0 : Vec Ideal S1024x1024 .bf16) (x1 : Vec Ideal S1x1024x1024 .bf16) (r s : Fin 1024) :
    k0_pay2 x0 x1 (ix2 r s) = ∑ k : Fin 1024, x0 (ix2 r k) * x1 (ix3 0 s k) := by
  unfold k0_pay2; pointwise [tile]

theorem next (x0 : Vec Ideal S1024x1024 .bf16) (x1 : Vec Ideal S1x1024x1024 .bf16) (old : Vec Ideal S1024x1024 .f32) (r s : Fin 1024) :
    k0_pay3 x0 x1 old (ix2 r s) = old (ix2 r s) + ∑ k : Fin 1024, x0 (ix2 r k) * x1 (ix3 0 s k) := by
  unfold k0_pay3; pointwise [tile]

/-! ## The tiles a grid point works on -/

theorem idx : ∀ t : Fin cfg0.N, win0_0.index t = ![t.val / 16 % 2, t.val % 8]
    ∧ win0_1.index t = ![t.val % 8 / 2, t.val / 8 % 2, t.val % 8 % 2] ∧ win0_2.index t = ![t.val / 16 % 2, t.val / 8 % 2] :=
  (by decide +kernel : ∀ t : Fin grid0.N, _)

variable (m : (ℓ : Loc nD τ sig) → Buf (Elt Ideal) ℓ) (ρ : Dev nD → PrngReg) (c : Dev nD)

/-- The first weight. -/
abbrev w : FVec Ideal S4x2048x2048 .bf16 := V m c main_arg0
/-- The gradient of the hidden layer. -/
abbrev da : FVec Ideal S2048x8192 .bf16 := V m c main_arg1

/-- What point `n` adds at place `(r, s)` of its tile. -/
def part (n : Nat) (r s : Fin 1024) : EReal :=
  ∑ k : Fin 1024, da m c (ix2 (pos (n / 16 % 2) r (by omega)) (pos (n % 8) k (by omega)))
    * w m c (ix3 ⟨n % 8 / 2, by omega⟩ (pos (n / 8 % 2) s (by omega)) (pos (n % 8 % 2) k (by omega)))

/-- A point's block of the hidden layer's gradient. -/
abbrev b0 (t : Fin cfg0.N) : Vec Ideal S1024x1024 .bf16 := iblk m c 0 t
/-- A point's block of the weight. -/
abbrev b1 (t : Fin cfg0.N) : Vec Ideal S1x1024x1024 .bf16 := iblk m c 1 t

theorem part_eq (t : Fin cfg0.N) (r s : Fin 1024) :
    ∑ k : Fin 1024, b0 m c t (ix2 r k) * b1 m c t (ix3 0 s k) = part m c t.val r s := by
  refine Finset.sum_congr rfl fun k _ => congrArg₂ (fun a b : EReal => a * b) ?_ ?_
  · unfold pos; blk_ext [iblk, idx t]
  · unfold pos; blk_ext [iblk, idx t]

theorem step_A (t : Fin cfg0.N) (h : t.val % 8 = 0) (r s : Fin 1024) :
    (outsAt0 m c t.val t.isLt).2 (ix2 r s) = part m c t.val r s := by
  rw [outsAt0_A m c t h (by omega) (by omega)]; frame_out
  exact (first _ _ r s).trans (part_eq m c t r s)

theorem step_B (t : Fin cfg0.N) (h : ¬ t.val % 8 = 0) (r s : Fin 1024) :
    (outsAt0 m c t.val t.isLt).2 (ix2 r s)
      = (outsAt0 m c (t.val - 1) (Nat.lt_of_le_of_lt (Nat.sub_le _ _) t.isLt)).2 (ix2 r s) + part m c t.val r s := by
  by_cases h7 : t.val % 8 = 7
  · rw [outsAt0_C m c t h (by omega) h7]; frame_out
    exact (next _ _ _ r s).trans (congrArg₂ (fun a b : EReal => a + b) (congrFun (Memref.IsWhole.read_unread _ _) _) (part_eq m c t r s))
  · rw [outsAt0_B m c t h (by omega) h7]; frame_out
    exact (next _ _ _ r s).trans (congrArg₂ (fun a b : EReal => a + b) (congrFun (Memref.IsWhole.read_unread _ _) _) (part_eq m c t r s))

/-- At a run's last point the tile written back is the sum. -/
theorem last (t : Fin cfg0.N) (h7 : t.val % 8 = 7) (r s : Fin 1024) :
    (outsAt0 m c t.val t.isLt).1 (ix2 r s)
      = dhG (w m c) (da m c) (ix2 (pos (t.val / 16 % 2) r (by omega)) (pos (t.val / 8 % 2) s (by omega))) := by
  have e : (outsAt0 m c t.val t.isLt).1 (ix2 r s) = (outsAt0 m c t.val t.isLt).2 (ix2 r s) := by
    rw [outsAt0_C m c t (by omega) (by omega) h7]; frame_out
  rw [e, acc_run (fun n hn => (outsAt0 m c n hn).2 (ix2 r s)) (fun n => part m c n r s)
    (fun t h => step_A m c t h r s) (fun t h => step_B m c t h r s) t (by omega)]
  refine Eq.trans ?_ (sum_tiles (n := 8) (m := 1024) 8192 rfl _).symm
  refine Finset.sum_congr rfl fun a _ => ?_
  have e1 : (8 * (t.val / 8) + a.val) / 16 % 2 = t.val / 16 % 2 := by omega
  have e2 : (8 * (t.val / 8) + a.val) % 8 = a.val := by omega
  have e3 : (8 * (t.val / 8) + a.val) / 8 % 2 = t.val / 8 % 2 := by omega
  unfold part; simp only [e1, e2, e3]
  refine Finset.sum_congr rfl fun k _ => congrArg₂ (fun a b : EReal => a * b) rfl (congrArg (w m c) ?_)
  have e4 : (a.val * 1024 + k.val) / 2048 = a.val / 2 := by omega
  have e5 : (a.val * 1024 + k.val) % 2048 = a.val % 2 * 1024 + k.val := by omega
  unfold pos; simp only [e4, e5]; rfl

theorem arr : (dats m 0 c).arrAt 2 cfg0.N = dhG (w m c) (da m c) := by
  refine (dats m 0 c).arrAt_eq_of_covers 2 _ (by decide +kernel) fun t hf y => ?_
  have h7 := (flush0_2 t).mp hf
  blk_simp; rw [after0_2]
  change S1024x1024.Idx at y
  idx_vars y
  refine (last m c t h7 y0 y1).trans (congrArg (dhG (w m c) (da m c)) ?_)
  unfold pos; blk_ext [idx t]

end Cert.Hm

end
-- ==== Proof.HmFin.lean ====
/-
  THE VALUE CLAIM FOR THE CHANNEL MIXER'S GRADIENT OF ITS INPUT: the kernel's array is the reference's.
-/
module

public import proofs.«01_k».proof.Defs
public import proofs.«01_k».proof.Proof.Gen.Reference4Ideal.Run
public import proofs.«01_k».proof.Proof.HmVal

@[expose] public section

set_option maxRecDepth 16384

noncomputable section

namespace Cert.Hm

open Idealize.ShloMosaic Idealize.ShloMosaic.TcCoe Idealize.SL.Sem

section
open Cert.Reference4Ideal Cert.Reference4Ideal.Gen

/-- The reference's product, with the weight's four blocks of columns laid side by side. -/
theorem ref_apply (a0 : FVec Ideal S4x2048x2048 .bf16) (a1 : FVec Ideal S2048x8192 .bf16) (i j : Fin 2048) :
    Host.dotGeneral dot_S2048x8192_S2048x8192_S2048x2048_1_1_0_0_n_n none (extf .f32 a1 bitsLt_bf16_f32) (shapeCast S2048x8192 (transpose S2048x4x2048 [1, 0, 2] (extf .f32 a0 bitsLt_bf16_f32) transposes_S4x2048x2048_S2048x4x2048_1_0_2) shapeCasts_S2048x4x2048_S2048x8192) (ix2 i j) = dhG a0 a1 (ix2 i j) := by
  unfold dhG; pointwise

end

theorem algebraic : Cert.algebraic_Kernel4Ideal_Reference4Ideal := by
  intro m g m' g' _ ha
  refine ⟨fun c => dhG (w m c) (da m c), (θ_run _ _ _).mono (fun r h c => ⟨(h c).1.trans (arr m c), (h c).2⟩)
    (Cert.Kernel4Ideal.Value.run_blocks m g), (θ_run _ _ _).mono (fun r h c => ⟨(h c).1.trans ?_, (h c).2⟩)
    (Cert.Reference4Ideal.Value.run m' g')⟩
  rw [(ha c).1, (ha c).2]
  funext y; change (⟨2, ![2048, 2048]⟩ : Shape).Idx at y; idx_vars y
  exact ref_apply _ _ _ _

end Cert.Hm

end
-- ==== Proof.MixVal.lean ====
/-
  THE CHANNEL MIXER'S OUTPUT: the product of the hidden layer with the second weight, summed over four tiles of the hidden
  layer, added to the residual stream.
-/
module

public import proofs.«01_k».proof.Proof.Gen.Kernel5Ideal.Value
public import proofs.«01_k».proof.Proof.Tiles

@[expose] public section

set_option maxRecDepth 16384

noncomputable section

namespace Cert.Mix

open Idealize.ShloMosaic Idealize.ShloMosaic.TcCoe Idealize.ShloMosaic.Tactic
open Cert.Kernel5Ideal Cert.Kernel5Ideal.Gen Cert.Tiles

/-- The output: the residual and the rows of `act` against the columns of `w`. -/
def yG (act : FVec Ideal S2048x8192 .bf16) (w : FVec Ideal S1x8192x2048 .bf16) (x : FVec Ideal S2048x2048 .f32) : FVec Ideal S2048x2048 .f32 :=
  fun i => x i + ∑ n : Fin 8192, act (ix2 (i 0) n) * w (ix3 0 n (i 1))

/-! ## A point's tile -/

theorem tile (x0 : Vec Ideal S1024x2048 .bf16) (x1 : Vec Ideal S1x2048x1024 .bf16) (r s : Fin 1024) :
    k0_pay1 x0 x1 (ix2 r s) = ∑ k : Fin 2048, x0 (ix2 r k) * x1 (ix3 0 k s) := by
  unfold k0_pay1; pointwise

theorem first (x0 : Vec Ideal S1024x2048 .bf16) (x1 : Vec Ideal S1x2048x1024 .bf16) (r s : Fin 1024) :
    k0_pay2 x0 x1 (ix2 r s) = ∑ k : Fin 2048, x0 (ix2 r k) * x1 (ix3 0 k s) := by
  unfold k0_pay2; pointwise [tile]

theorem next (x0 : Vec Ideal S1024x2048 .bf16) (x1 : Vec Ideal S1x2048x1024 .bf16) (old : Vec Ideal S1024x1024 .f32) (r s : Fin 1024) :
    k0_pay3 x0 x1 old (ix2 r s) = old (ix2 r s) + ∑ k : Fin 2048, x0 (ix2 r k) * x1 (ix3 0 k s) := by
  unfold k0_pay3; pointwise [tile]

theorem close (acc x : Vec Ideal S1024x1024 .f32) (r s : Fin 1024) : k0_pay4 acc x (ix2 r s) = acc (ix2 r s) + x (ix2 r s) := by
  unfold k0_pay4; pointwise

/-! ## The tiles a grid point works on -/

theorem idx : ∀ t : Fin cfg0.N, win0_0.index t = ![t.val / 8 % 2, t.val % 4]
    ∧ win0_1.index t = ![0, t.val % 4, t.val / 4 % 2] ∧ win0_2.index t = ![t.val / 8 % 2, t.val / 4 % 2]
    ∧ win0_3.index t = ![t.val / 8 % 2, t.val / 4 % 2] :=
  (by decide +kernel : ∀ t : Fin grid0.N, _)

variable (m : (ℓ : Loc nD τ sig) → Buf (Elt Ideal) ℓ) (ρ : Dev nD → PrngReg) (c : Dev nD)

/-- The hidden layer. -/
abbrev act : FVec Ideal S2048x8192 .bf16 := V m c main_arg0
/-- The second weight. -/
abbrev w : FVec Ideal S1x8192x2048 .bf16 := V m c main_arg1
/-- The residual stream. -/
abbrev x : FVec Ideal S2048x2048 .f32 := V m c main_arg2

/-- What point `n` adds at place `(r, s)` of its tile. -/
def part (n : Nat) (r s : Fin 1024) : EReal :=
  ∑ k : Fin 2048, act m c (ix2 (pos (n / 8 % 2) r (by omega)) (pos2 (n % 4) k (by omega)))
    * w m c (ix3 0 (pos2 (n % 4) k (by omega)) (pos (n / 4 % 2) s (by omega)))

/-- A point's block of the hidden layer. -/
abbrev b0 (t : Fin cfg0.N) : Vec Ideal S1024x2048 .bf16 := iblk m c 0 t
/-- A point's block of the weight. -/
abbrev b1 (t : Fin cfg0.N) : Vec Ideal S1x2048x1024 .bf16 := iblk m c 1 t

theorem part_eq (t : Fin cfg0.N) (r s : Fin 1024) :
    ∑ k : Fin 2048, b0 m c t (ix2 r k) * b1 m c t (ix3 0 k s) = part m c t.val r s := by
  refine Finset.sum_congr rfl fun k _ => congrArg₂ (fun a b : EReal => a * b) ?_ ?_
  · unfold pos pos2; blk_ext [iblk, idx t]
  · unfold pos pos2; blk_ext [iblk, idx t]

theorem x_eq (t : Fin cfg0.N) (r s : Fin 1024) :
    iblk m c 2 t (ix2 r s) = x m c (ix2 (pos (t.val / 8 % 2) r (by omega)) (pos (t.val / 4 % 2) s (by omega))) := by
  unfold pos; blk_ext [iblk, idx t]

theorem step_A (t : Fin cfg0.N) (h : t.val % 4 = 0) (r s : Fin 1024) :
    (outsAt0 m c t.val t.isLt).2 (ix2 r s) = part m c t.val r s := by
  rw [outsAt0_A m c t h (by omega) (by omega)]; frame_out
  exact (first _ _ r s).trans (part_eq m c t r s)

theorem step_B (t : Fin cfg0.N) (h : ¬ t.val % 4 = 0) (r s : Fin 1024) :
    (outsAt0 m c t.val t.isLt).2 (ix2 r s)
      = (outsAt0 m c (t.val - 1) (Nat.lt_of_le_of_lt (Nat.sub_le _ _) t.isLt)).2 (ix2 r s) + part m c t.val r s := by
  by_cases h3 : t.val % 4 = 3
  · rw [outsAt0_C m c t h (by omega) h3]; frame_out
    exact (next _ _ _ r s).trans (congrArg₂ (fun a b : EReal => a + b) (congrFun (Memref.IsWhole.read_unread _ _) _) (part_eq m c t r s))
  · rw [outsAt0_B m c t h (by omega) h3]; frame_out
    exact (next _ _ _ r s).trans (congrArg₂ (fun a b : EReal => a + b) (congrFun (Memref.IsWhole.read_unread _ _) _) (part_eq m c t r s))

/-- At a run's last point the tile written back is the sum and the residual. -/
theorem last (t : Fin cfg0.N) (h3 : t.val % 4 = 3) (r s : Fin 1024) :
    (outsAt0 m c t.val t.isLt).1 (ix2 r s)
      = yG (act m c) (w m c) (x m c) (ix2 (pos (t.val / 8 % 2) r (by omega)) (pos (t.val / 4 % 2) s (by omega))) := by
  have e : (outsAt0 m c t.val t.isLt).1 (ix2 r s) = (outsAt0 m c t.val t.isLt).2 (ix2 r s)
      + x m c (ix2 (pos (t.val / 8 % 2) r (by omega)) (pos (t.val / 4 % 2) s (by omega))) := by
    rw [← x_eq, outsAt0_C m c t (by omega) (by omega) h3]; frame_out
    exact close _ _ _ _
  rw [e, acc_run (fun n hn => (outsAt0 m c n hn).2 (ix2 r s)) (fun n => part m c n r s)
    (fun t h => step_A m c t h r s) (fun t h => step_B m c t h r s) t (by omega), add_comm]
  refine congrArg (fun b : EReal => x m c _ + b) (Eq.trans ?_ (sum_tiles (n := 4) (m := 2048) 8192 rfl _).symm)
  refine Finset.sum_congr rfl fun a _ => ?_
  have e1 : (4 * (t.val / 4) + a.val) / 8 % 2 = t.val / 8 % 2 := by omega
  have e2 : (4 * (t.val / 4) + a.val) % 4 = a.val := by omega
  have e3 : (4 * (t.val / 4) + a.val) / 4 % 2 = t.val / 4 % 2 := by omega
  unfold part; simp only [e1, e2, e3]
  rfl

theorem arr : (dats m 0 c).arrAt 3 cfg0.N = yG (act m c) (w m c) (x m c) := by
  refine (dats m 0 c).arrAt_eq_of_covers 3 _ (by decide +kernel) fun t hf y => ?_
  have h3 := (flush0_3 t).mp hf
  blk_simp; rw [after0_3]
  change S1024x1024.Idx at y
  idx_vars y
  refine (last m c t h3 y0 y1).trans (congrArg (yG (act m c) (w m c) (x m c)) ?_)
  unfold pos; blk_ext [idx t]

end Cert.Mix

end
-- ==== Proof.MixFin.lean ====
/-
  THE VALUE CLAIM FOR THE CHANNEL MIXER'S OUTPUT: the kernel's array is the reference's.
-/
module

public import proofs.«01_k».proof.Defs
public import proofs.«01_k».proof.Proof.Gen.Reference5Ideal.Run
public import proofs.«01_k».proof.Proof.MixVal

@[expose] public section

set_option maxRecDepth 16384

noncomputable section

namespace Cert.Mix

open Idealize.ShloMosaic Idealize.ShloMosaic.TcCoe Idealize.SL.Sem

section
open Cert.Reference5Ideal Cert.Reference5Ideal.Gen

/-- The reference's sum and product. -/
theorem ref_apply (a0 : FVec Ideal S2048x8192 .bf16) (a1 : FVec Ideal S1x8192x2048 .bf16) (a2 : FVec Ideal S2048x2048 .f32) (i j : Fin 2048) :
    addf a2 (Host.dotGeneral dot_S2048x8192_S8192x2048_S2048x2048_1_0_0_1_n_n none (extf .f32 a0 bitsLt_bf16_f32)
      (extf .f32 (shapeCast S8192x2048 a1 shapeCasts_S1x8192x2048_S8192x2048) bitsLt_bf16_f32)) (ix2 i j) = yG a0 a1 a2 (ix2 i j) := by
  unfold yG; pointwise

end

theorem algebraic : Cert.algebraic_Kernel5Ideal_Reference5Ideal := by
  intro m g m' g' _ ha
  refine ⟨fun c => yG (act m c) (w m c) (x m c), (θ_run _ _ _).mono (fun r h c => ⟨(h c).1.trans (arr m c), (h c).2⟩)
    (Cert.Kernel5Ideal.Value.run_blocks m g), (θ_run _ _ _).mono (fun r h c => ⟨(h c).1.trans ?_, (h c).2⟩)
    (Cert.Reference5Ideal.Value.run m' g')⟩
  rw [(ha c).1, (ha c).2.1, (ha c).2.2]
  funext y; change (⟨2, ![2048, 2048]⟩ : Shape).Idx at y; idx_vars y
  exact ref_apply _ _ _ _ _

end Cert.Mix

end
-- ==== Proof.InVal.lean ====
/-
  THE INPUT PROJECTION AND ITS WEIGHT'S GRADIENT: the arrays that the two regions leave, each element one sum of products.
-/
module

public import proofs.«01_k».proof.Proof.Gen.Kernel6Ideal.Frame
public import proofs.«01_k».proof.Proof.Tiles

@[expose] public section

set_option maxRecDepth 16384

noncomputable section

namespace Cert.InProj

open Idealize.ShloMosaic Idealize.ShloMosaic.TcCoe Idealize.ShloMosaic.Tactic
open Cert.Kernel6Ideal Cert.Kernel6Ideal.Gen Cert.Tiles

/-- The projection: rows of `h` against columns of `w`. -/
def zG (h : FVec Ideal S2048x2048 .bf16) (w : FVec Ideal S1x2048x13312 .bf16) : FVec Ideal S2048x13312 .f32 :=
  fun i => ∑ k : Fin 2048, h (ix2 (i 0) k) * w (ix3 0 k (i 1))

/-- The weight's gradient: columns of `h` against columns of `dz`. -/
def dwG (h : FVec Ideal S2048x2048 .bf16) (dz : FVec Ideal S2048x13312 .bf16) : FVec Ideal S1x2048x13312 .bf16 :=
  fun i => ∑ r : Fin 2048, h (ix2 r (i 1)) * dz (ix2 r (i 2))

/-! ## A point's tile -/

theorem tile_z (x0 : Vec Ideal S1024x2048 .bf16) (x1 : Vec Ideal S1x2048x1024 .bf16) (r s : Fin 1024) :
    k0_pay1 x0 x1 (ix2 r s) = ∑ k : Fin 2048, x0 (ix2 r k) * x1 (ix3 0 k s) := by
  unfold k0_pay1; pointwise

theorem tile_dw (x0 x1 : Vec Ideal S2048x1024 .bf16) (r s : Fin 1024) :
    k1_pay1 x0 x1 (ix3 0 r s) = ∑ k : Fin 2048, x0 (ix2 k r) * x1 (ix2 k s) := by
  unfold k1_pay1; pointwise

/-! ## The tile a grid point works on -/

theorem idx0 : ∀ t : Fin cfg0.N, win0_0.index t = ![t.val / 13, 0] ∧ win0_1.index t = ![0, 0, t.val % 13]
    ∧ win0_2.index t = ![t.val / 13, t.val % 13] :=
  (by decide +kernel : ∀ t : Fin grid0.N, _)

theorem idx1 : ∀ t : Fin cfg1.N, win1_0.index t = ![0, t.val % 2] ∧ win1_1.index t = ![0, t.val / 2]
    ∧ win1_2.index t = ![0, t.val % 2, t.val / 2] :=
  (by decide +kernel : ∀ t : Fin grid1.N, _)

theorem lt0 (t : Fin cfg0.N) : t.val < 26 := lt_of_lt_of_eq t.isLt (show cfg0.N = 26 from N_0)
theorem lt1 (t : Fin cfg1.N) : t.val < 26 := lt_of_lt_of_eq t.isLt (show cfg1.N = 26 from N_1)

/-- The TensorCore's buffers at a region's entry. -/
abbrev Ent := (c : Dev nD) → (b : Ref sig .tc) → Buf (Elt Ideal) ((c.tc : Thread nD τ).loc b)

variable (V : Ent) (c : Dev nD)

theorem arr0_2 : (dat0 V c).arrAt 2 cfg0.N = zG (V c main_arg0) (V c main_arg1) := by
  refine (dat0 V c).arrAt_eq_of_covers 2 _ (by decide +kernel) fun t hf y => ?_
  have ht := lt0 t
  blk_simp; rw [after0_2]; frame_out
  change S1024x1024.Idx at y
  idx_vars y
  have h0 : ∀ k : Fin 2048, iblk0 V c 0 t (ix2 y0 k) = (V c main_arg0 : FVec Ideal S2048x2048 .bf16)
      (ix2 (pos (t.val / 13) y0 (by omega)) k) := fun k => by unfold pos; blk_ext [iblk0, idx0 t]
  have h1 : ∀ k : Fin 2048, iblk0 V c 1 t (ix3 0 k y1) = (V c main_arg1 : FVec Ideal S1x2048x13312 .bf16)
      (ix3 0 k (pos (t.val % 13) y1 (by omega))) := fun k => by unfold pos; blk_ext [iblk0, idx0 t]
  refine (tile_z _ _ _ _).trans ((Finset.sum_congr rfl fun k _ => congrArg₂ (fun a b : EReal => a * b) (h0 k) (h1 k)).trans
    ((show _ = zG (V c main_arg0) (V c main_arg1) (ix2 (pos (t.val / 13) y0 (by omega)) (pos (t.val % 13) y1 (by omega))) from rfl).trans
      (congrArg (zG (V c main_arg0) (V c main_arg1)) ?_)))
  unfold pos; blk_ext [idx0 t]

theorem arr1_2 : (dat1 V c).arrAt 2 cfg1.N = dwG (V c main_arg0) (V c main_arg2) := by
  refine (dat1 V c).arrAt_eq_of_covers 2 _ (by decide +kernel) fun t hf y => ?_
  have ht := lt1 t
  blk_simp; rw [after1_2]; frame_out
  change S1x1024x1024.Idx at y
  idx_vars y
  obtain rfl := Subsingleton.elim y0 0
  have h0 : ∀ k : Fin 2048, iblk1 V c 0 t (ix2 k y1) = (V c main_arg0 : FVec Ideal S2048x2048 .bf16)
      (ix2 k (pos (t.val % 2) y1 (by omega))) := fun k => by unfold pos; blk_ext [iblk1, idx1 t]
  have h1 : ∀ k : Fin 2048, iblk1 V c 1 t (ix2 k y2) = (V c main_arg2 : FVec Ideal S2048x13312 .bf16)
      (ix2 k (pos (t.val / 2) y2 (by omega))) := fun k => by unfold pos; blk_ext [iblk1, idx1 t]
  refine (tile_dw _ _ _ _).trans ((Finset.sum_congr rfl fun k _ => congrArg₂ (fun a b : EReal => a * b) (h0 k) (h1 k)).trans
    ((show _ = dwG (V c main_arg0) (V c main_arg2) (ix3 0 (pos (t.val % 2) y1 (by omega)) (pos (t.val / 2) y2 (by omega))) from rfl).trans
      (congrArg (dwG (V c main_arg0) (V c main_arg2)) ?_)))
  unfold pos; blk_ext [idx1 t]

end Cert.InProj

end
-- ==== Proof.InRun.lean ====
/-
  THE INPUT PROJECTION'S RUN: the projection and its weight's gradient at the end.
-/
module

public import proofs.«01_k».proof.Proof.InVal

@[expose] public section

set_option maxRecDepth 16384

noncomputable section

namespace Cert.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel6Ideal Cert.Kernel6Ideal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends with the results as the regions leave them and the arguments as launched. -/
theorem run_arrays : θ_run defs (onTc (τ := τ) (main (F := Ideal))) ⟨m, fun _ => 0, ρ⟩ (fun r => ∀ c : Dev nD,
      r.2.mem ((c.tc : Thread nD τ).loc main_v0) = (dat0 (V0 m ρ) c).arrAt 2 cfg0.N
      ∧ r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c =>
      ⟨(h c _ (mem_uc main_v0 (by decide))).trans ((W2_of m ρ c main_v0 (by decide)).trans (W1_arr m ρ c 2)),
       (h c _ (mem_uc main_v1 (by decide))).trans (W2_arr m ρ c 2),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

/-- Every run ends with the projection and the gradient. -/
theorem run_num : θ_run defs (onTc (τ := τ) (main (F := Ideal))) ⟨m, fun _ => 0, ρ⟩ (fun r => ∀ c : Dev nD,
      r.2.mem ((c.tc : Thread nD τ).loc main_v0) = zG (m ((c.tc : Thread nD τ).loc main_arg0)) (m ((c.tc : Thread nD τ).loc main_arg1))
      ∧ r.2.mem ((c.tc : Thread nD τ).loc main_v1) = dwG (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ hr c =>
    ⟨(hr c).1.trans (arr0_2 (V0 m ρ) c), (hr c).2.1.trans ((arr1_2 (V1 m ρ) c).trans
      (congrArg₂ dwG (W1_args m ρ c main_arg0 (by decide)) (W1_args m ρ c main_arg2 (by decide)))), (hr c).2.2⟩)
    (run_arrays m ρ)

end Cert.InProj

end
-- ==== Proof.InFin.lean ====
/-
  THE VALUE CLAIM FOR THE INPUT PROJECTION: the kernel's projection and gradient are the reference's.
-/
module

public import proofs.«01_k».proof.Defs
public import proofs.«01_k».proof.Proof.Gen.Reference6Ideal.Run
public import proofs.«01_k».proof.Proof.InRun

@[expose] public section

set_option maxRecDepth 16384

noncomputable section

namespace Cert.InProj

open Idealize.ShloMosaic Idealize.ShloMosaic.TcCoe Idealize.SL.Sem

section
open Cert.Reference6Ideal Cert.Reference6Ideal.Gen

/-- The reference's projection. -/
theorem ref_z (a0 : FVec Ideal S2048x2048 .bf16) (a1 : FVec Ideal S1x2048x13312 .bf16) (i : Fin 2048) (j : Fin 13312) :
    Host.dotGeneral dot_S2048x2048_S2048x13312_S2048x13312_1_0_0_1_n_n none (extf .f32 a0 bitsLt_bf16_f32)
      (shapeCast S2048x13312 (extf .f32 a1 bitsLt_bf16_f32) shapeCasts_S1x2048x13312_S2048x13312) (ix2 i j) = zG a0 a1 (ix2 i j) := by
  unfold zG; pointwise

/-- The reference's gradient: the product the other way round, transposed. -/
theorem ref_dw (a0 : FVec Ideal S2048x2048 .bf16) (a2 : FVec Ideal S2048x13312 .bf16) (i : Fin 2048) (j : Fin 13312) :
    truncf (F := Ideal) .bf16 (broadcastInDim S1x2048x13312 ![1, 2] bcast_S2048x13312_S1x2048x13312_1_2 (transpose S2048x13312 [1, 0]
      (Host.dotGeneral dot_S2048x13312_S2048x2048_S13312x2048_0_0_1_1_n_n none (extf .f32 a2 bitsLt_bf16_f32) (extf .f32 a0 bitsLt_bf16_f32))
      transposes_S13312x2048_S2048x13312_1_0)) bitsLt_bf16_f32 (ix3 0 i j) = dwG a0 a2 (ix3 0 i j) := by
  unfold dwG; pointwise
  exact Finset.sum_congr rfl fun k _ => mul_comm _ _

end

theorem algebraic : Cert.algebraic_Kernel6Ideal_Reference6Ideal := by
  intro m g m' g' _ ha
  refine ⟨_, _, run_num m g, (θ_run _ _ _).mono (fun r h c => ⟨(h c).1.trans ?_, (h c).2.1.trans ?_, (h c).2.2⟩)
    (Cert.Reference6Ideal.Value.run m' g')⟩
  · rw [(ha c).1, (ha c).2.1]
    funext y; change (⟨2, ![2048, 13312]⟩ : Shape).Idx at y; idx_vars y
    exact ref_z _ _ _ _
  · rw [(ha c).1, (ha c).2.2]
    funext y; change (⟨3, ![1, 2048, 13312]⟩ : Shape).Idx at y; idx_vars y
    obtain rfl := Subsingleton.elim y0 0
    exact ref_dw _ _ _ _

end Cert.InProj

end
-- ==== Proof.InDxVal.lean ====
/-
  THE GRADIENT OF THE INPUT PROJECTION'S INPUT: a product with the weight's transpose, summed over thirteen tiles of columns.
-/
module

public import proofs.«01_k».proof.Proof.Gen.Kernel7Ideal.Value
public import proofs.«01_k».proof.Proof.Tiles

@[expose] public section

set_option maxRecDepth 16384

noncomputable section

namespace Cert.InDx

open Idealize.ShloMosaic Idealize.ShloMosaic.TcCoe Idealize.ShloMosaic.Tactic
open Cert.Kernel7Ideal Cert.Kernel7Ideal.Gen Cert.Tiles

/-- The gradient of the input: rows of `dz` against rows of `w`. -/
def dhG (w : FVec Ideal S1x2048x13312 .bf16) (dz : FVec Ideal S2048x13312 .bf16) : FVec Ideal S2048x2048 .f32 :=
  fun i => ∑ n : Fin 13312, dz (ix2 (i 0) n) * w (ix3 0 (i 1) n)

/-! ## A point's tile -/

theorem tile (x0 : Vec Ideal S1024x1024 .bf16) (x1 : Vec Ideal S1x1024x1024 .bf16) (r s : Fin 1024) :
    k0_pay1 x0 x1 (ix2 r s) = ∑ k : Fin 1024, x0 (ix2 r k) * x1 (ix3 0 s k) := by
  unfold k0_pay1; pointwise

theorem first (x0 : Vec Ideal S1024x1024 .bf16) (x1 : Vec Ideal S1x1024x1024 .bf16) (r s : Fin 1024) :
    k0_pay2 x0 x1 (ix2 r s) = ∑ k : Fin 1024, x0 (ix2 r k) * x1 (ix3 0 s k) := by
  unfold k0_pay2; pointwise [tile]

theorem next (x0 : Vec Ideal S1024x1024 .bf16) (x1 : Vec Ideal S1x1024x1024 .bf16) (old : Vec Ideal S1024x1024 .f32) (r s : Fin 1024) :
    k0_pay3 x0 x1 old (ix2 r s) = old (ix2 r s) + ∑ k : Fin 1024, x0 (ix2 r k) * x1 (ix3 0 s k) := by
  unfold k0_pay3; pointwise [tile]

/-! ## The tiles a grid point works on -/

theorem idx : ∀ t : Fin cfg0.N, win0_0.index t = ![t.val / 26 % 2, t.val % 13]
    ∧ win0_1.index t = ![0, t.val / 13 % 2, t.val % 13] ∧ win0_2.index t = ![t.val / 26 % 2, t.val / 13 % 2] :=
  (by decide +kernel : ∀ t : Fin grid0.N, _)

variable (m : (ℓ : Loc nD τ sig) → Buf (Elt Ideal) ℓ) (ρ : Dev nD → PrngReg) (c : Dev nD)

/-- The weight. -/
abbrev w : FVec Ideal S1x2048x13312 .bf16 := V m c main_arg0
/-- The gradient of the projection. -/
abbrev dz : FVec Ideal S2048x13312 .bf16 := V m c main_arg1

/-- What point `n` adds at place `(r, s)` of its tile. -/
def part (n : Nat) (r s : Fin 1024) : EReal :=
  ∑ k : Fin 1024, dz m c (ix2 (pos (n / 26 % 2) r (by omega)) (pos (n % 13) k (by omega)))
    * w m c (ix3 0 (pos (n / 13 % 2) s (by omega)) (pos (n % 13) k (by omega)))

/-- A point's block of the projection's gradient. -/
abbrev b0 (t : Fin cfg0.N) : Vec Ideal S1024x1024 .bf16 := iblk m c 0 t
/-- A point's block of the weight. -/
abbrev b1 (t : Fin cfg0.N) : Vec Ideal S1x1024x1024 .bf16 := iblk m c 1 t

theorem part_eq (t : Fin cfg0.N) (r s : Fin 1024) :
    ∑ k : Fin 1024, b0 m c t (ix2 r k) * b1 m c t (ix3 0 s k) = part m c t.val r s := by
  refine Finset.sum_congr rfl fun k _ => congrArg₂ (fun a b : EReal => a * b) ?_ ?_
  · unfold pos; blk_ext [iblk, idx t]
  · unfold pos; blk_ext [iblk, idx t]

theorem step_A (t : Fin cfg0.N) (h : t.val % 13 = 0) (r s : Fin 1024) :
    (outsAt0 m c t.val t.isLt).2 (ix2 r s) = part m c t.val r s := by
  rw [outsAt0_A m c t h (by omega) (by omega)]; frame_out
  exact (first _ _ r s).trans (part_eq m c t r s)

theorem step_B (t : Fin cfg0.N) (h : ¬ t.val % 13 = 0) (r s : Fin 1024) :
    (outsAt0 m c t.val t.isLt).2 (ix2 r s)
      = (outsAt0 m c (t.val - 1) (Nat.lt_of_le_of_lt (Nat.sub_le _ _) t.isLt)).2 (ix2 r s) + part m c t.val r s := by
  by_cases h7 : t.val % 13 = 12
  · rw [outsAt0_C m c t h (by omega) h7]; frame_out
    exact (next _ _ _ r s).trans (congrArg₂ (fun a b : EReal => a + b) (congrFun (Memref.IsWhole.read_unread _ _) _) (part_eq m c t r s))
  · rw [outsAt0_B m c t h (by omega) h7]; frame_out
    exact (next _ _ _ r s).trans (congrArg₂ (fun a b : EReal => a + b) (congrFun (Memref.IsWhole.read_unread _ _) _) (part_eq m c t r s))

/-- At a run's last point the tile written back is the sum. -/
theorem last (t : Fin cfg0.N) (h7 : t.val % 13 = 12) (r s : Fin 1024) :
    (outsAt0 m c t.val t.isLt).1 (ix2 r s)
      = dhG (w m c) (dz m c) (ix2 (pos (t.val / 26 % 2) r (by omega)) (pos (t.val / 13 % 2) s (by omega))) := by
  have e : (outsAt0 m c t.val t.isLt).1 (ix2 r s) = (outsAt0 m c t.val t.isLt).2 (ix2 r s) := by
    rw [outsAt0_C m c t (by omega) (by omega) h7]; frame_out
  rw [e, acc_run (fun n hn => (outsAt0 m c n hn).2 (ix2 r s)) (fun n => part m c n r s)
    (fun t h => step_A m c t h r s) (fun t h => step_B m c t h r s) t (by omega)]
  refine Eq.trans ?_ (sum_tiles (n := 13) (m := 1024) 13312 rfl _).symm
  refine Finset.sum_congr rfl fun a _ => ?_
  have e1 : (13 * (t.val / 13) + a.val) / 26 % 2 = t.val / 26 % 2 := by omega
  have e2 : (13 * (t.val / 13) + a.val) % 13 = a.val := by omega
  have e3 : (13 * (t.val / 13) + a.val) / 13 % 2 = t.val / 13 % 2 := by omega
  unfold part; simp only [e1, e2, e3]
  refine Finset.sum_congr rfl fun k _ => congrArg₂ (fun a b : EReal => a * b) rfl rfl

theorem arr : (dats m 0 c).arrAt 2 cfg0.N = dhG (w m c) (dz m c) := by
  refine (dats m 0 c).arrAt_eq_of_covers 2 _ (by decide +kernel) fun t hf y => ?_
  have h7 := (flush0_2 t).mp hf
  blk_simp; rw [after0_2]
  change S1024x1024.Idx at y
  idx_vars y
  refine (last m c t h7 y0 y1).trans (congrArg (dhG (w m c) (dz m c)) ?_)
  unfold pos; blk_ext [idx t]

end Cert.InDx

end
-- ==== Proof.InDxFin.lean ====
/-
  THE VALUE CLAIM FOR THE GRADIENT OF THE INPUT PROJECTION'S INPUT: the kernel's array is the reference's.
-/
module

public import proofs.«01_k».proof.Defs
public import proofs.«01_k».proof.Proof.Gen.Reference7Ideal.Run
public import proofs.«01_k».proof.Proof.InDxVal

@[expose] public section

set_option maxRecDepth 16384

noncomputable section

namespace Cert.InDx

open Idealize.ShloMosaic Idealize.ShloMosaic.TcCoe Idealize.SL.Sem

section
open Cert.Reference7Ideal Cert.Reference7Ideal.Gen

/-- The reference's product. -/
theorem ref_apply (a0 : FVec Ideal S1x2048x13312 .bf16) (a1 : FVec Ideal S2048x13312 .bf16) (i j : Fin 2048) :
    Host.dotGeneral dot_S2048x13312_S2048x13312_S2048x2048_1_1_0_0_n_n none (extf .f32 a1 bitsLt_bf16_f32)
      (extf .f32 (shapeCast S2048x13312 a0 shapeCasts_S1x2048x13312_S2048x13312) bitsLt_bf16_f32) (ix2 i j) = dhG a0 a1 (ix2 i j) := by
  unfold dhG; pointwise

end

theorem algebraic : Cert.algebraic_Kernel7Ideal_Reference7Ideal := by
  intro m g m' g' _ ha
  refine ⟨fun c => dhG (w m c) (dz m c), (θ_run _ _ _).mono (fun r h c => ⟨(h c).1.trans (arr m c), (h c).2⟩)
    (Cert.Kernel7Ideal.Value.run_blocks m g), (θ_run _ _ _).mono (fun r h c => ⟨(h c).1.trans ?_, (h c).2⟩)
    (Cert.Reference7Ideal.Value.run m' g')⟩
  rw [(ha c).1, (ha c).2]
  funext y; change (⟨2, ![2048, 2048]⟩ : Shape).Idx at y; idx_vars y
  exact ref_apply _ _ _ _

end Cert.InDx

end
-- ==== Proof.GateVal.lean ====
/-
  THE GATED MERGE OF THE THREE MIXERS AND THE OUTPUT PROJECTION, with their gradients: the arrays that the eleven regions
  leave. The mixers' projections, the merge, the output projection and its gradients, the merge's gradients, and the
  gradients of the mixers' weights.
-/
module

public import proofs.«01_k».proof.Proof.Gen.Kernel8Ideal.Frame
public import proofs.«01_k».proof.Proof.Tiles

@[expose] public section

set_option maxRecDepth 16384

noncomputable section

namespace Cert.Gate

open Idealize.ShloMosaic Idealize.ShloMosaic.TcCoe Idealize.ShloMosaic.Tactic
open Cert.Kernel8Ideal Cert.Kernel8Ideal.Gen Cert.Tiles

/-- The logistic function. -/
def sg (x : EReal) : EReal :=
  Ideal.div (Ideal.ofBits .f32 0x3F800000#32) (Ideal.ofBits .f32 0x3F800000#32 + Ideal.exp (Ideal.ofBits .f32 0x00000000#32 - x))

/-- The gate of mixer `n` at a place: a column of `z`, whose last columns are the gates. -/
def gate (n : Fin 3) (z : FVec Ideal S2048x13312 .f32) (i : S2048x2048.Idx) : EReal :=
  z (ix2 (i 0) ⟨7168 + n.val * 2048 + (i 1).val, by have := (i 1).isLt; simp at this; omega⟩)

/-- A mixer's projection: rows of `o` against the columns of `w`, which come in four blocks. -/
def pG (o : FVec Ideal S2048x1024 .bf16) (w : FVec Ideal S4x1024x512 .bf16) : FVec Ideal S2048x2048 .f32 :=
  fun i => ∑ k : Fin 1024, o (ix2 (i 0) k) * w (ix3 ⟨(i 1).val / 512, by have := (i 1).isLt; simp at this; omega⟩ k ⟨(i 1).val % 512, by omega⟩)

/-- The merge: the projections, each by its gate. -/
def mG (z : FVec Ideal S2048x13312 .f32) (p0 p1 p2 : FVec Ideal S2048x2048 .f32) : FVec Ideal S2048x2048 .bf16 :=
  fun i => sg (gate 0 z i) * p0 i + sg (gate 1 z i) * p1 i + sg (gate 2 z i) * p2 i

/-- The output projection and the residual. -/
def xG (m : FVec Ideal S2048x2048 .bf16) (w : FVec Ideal S1x2048x2048 .bf16) (x : FVec Ideal S2048x2048 .f32) : FVec Ideal S2048x2048 .f32 :=
  fun i => (∑ k : Fin 2048, m (ix2 (i 0) k) * w (ix3 0 k (i 1))) + x i

/-- The merge's gradient. -/
def dmG (g : FVec Ideal S2048x2048 .f32) (w : FVec Ideal S1x2048x2048 .bf16) : FVec Ideal S2048x2048 .f32 :=
  fun i => ∑ d : Fin 2048, g (ix2 (i 0) d) * w (ix3 0 (i 1) d)

/-- The gradient of the output projection's weight. -/
def dwG (m : FVec Ideal S2048x2048 .bf16) (g : FVec Ideal S2048x2048 .f32) : FVec Ideal S1x2048x2048 .bf16 :=
  fun i => ∑ r : Fin 2048, m (ix2 r (i 1)) * g (ix2 r (i 2))

/-- The gradient of mixer `n`'s gate. -/
def dgG (n : Fin 3) (z : FVec Ideal S2048x13312 .f32) (p dm : FVec Ideal S2048x2048 .f32) : FVec Ideal S2048x2048 .bf16 :=
  fun i => dm i * p i * sg (gate n z i) * (Ideal.ofBits .f32 0x3F800000#32 - sg (gate n z i))

/-- The gradient of mixer `n`'s projection. -/
def dpG (n : Fin 3) (z : FVec Ideal S2048x13312 .f32) (dm : FVec Ideal S2048x2048 .f32) : FVec Ideal S2048x2048 .bf16 :=
  fun i => dm i * sg (gate n z i)

/-- The gradient of a mixer's weight, in four blocks of columns. -/
def dbG (o : FVec Ideal S2048x1024 .bf16) (dp : FVec Ideal S2048x2048 .bf16) : FVec Ideal S4x1024x512 .bf16 :=
  fun i => ∑ r : Fin 2048, o (ix2 r (i 1)) * dp (ix2 r ⟨(i 0).val * 512 + (i 2).val, by have := (i 0).isLt; have := (i 2).isLt; simp at *; omega⟩)

/-! ## A point's tile -/

theorem tile_p (x0 : Vec Ideal S1024x1024 .bf16) (x1 : Vec Ideal S1x1024x512 .bf16) (r : Fin 1024) (s : Fin 512) :
    k0_pay1 x0 x1 (ix2 r s) = ∑ k : Fin 1024, x0 (ix2 r k) * x1 (ix3 0 k s) := by
  unfold k0_pay1; pointwise

theorem tile_m (g0 p0 g1 p1 g2 p2 : Vec Ideal S512x512 .f32) (r s : Fin 512) :
    k3_pay1 g0 p0 g1 p1 g2 p2 (ix2 r s)
      = sg (g0 (ix2 r s)) * p0 (ix2 r s) + sg (g1 (ix2 r s)) * p1 (ix2 r s) + sg (g2 (ix2 r s)) * p2 (ix2 r s) := by
  unfold k3_pay1 sg; pointwise

theorem tile_x (x0 : Vec Ideal S1024x2048 .bf16) (x1 : Vec Ideal S1x2048x1024 .bf16) (x2 : Vec Ideal S1024x1024 .f32) (r s : Fin 1024) :
    k4_pay1 x0 x1 x2 (ix2 r s) = (∑ k : Fin 2048, x0 (ix2 r k) * x1 (ix3 0 k s)) + x2 (ix2 r s) := by
  unfold k4_pay1; pointwise

theorem tile_dm (x0 : Vec Ideal S1024x2048 .f32) (x1 : Vec Ideal S1x1024x2048 .bf16) (r s : Fin 1024) :
    k5_pay1 x0 x1 (ix2 r s) = ∑ d : Fin 2048, x0 (ix2 r d) * x1 (ix3 0 s d) := by
  unfold k5_pay1; pointwise

theorem tile_dw (x0 : Vec Ideal S2048x1024 .bf16) (x1 : Vec Ideal S2048x1024 .f32) (r s : Fin 1024) :
    k6_pay1 x0 x1 (ix3 0 r s) = ∑ k : Fin 2048, x0 (ix2 k r) * x1 (ix2 k s) := by
  unfold k6_pay1; pointwise

theorem tile_s0 (g : Vec Ideal S512x512 .f32) (r s : Fin 512) : k7_pay6 g (ix2 r s) = sg (g (ix2 r s)) := by
  unfold k7_pay6 sg; pointwise

theorem tile_s1 (g : Vec Ideal S512x512 .f32) (r s : Fin 512) : k7_pay9 g (ix2 r s) = sg (g (ix2 r s)) := by
  unfold k7_pay9 sg; pointwise

theorem tile_s2 (g : Vec Ideal S512x512 .f32) (r s : Fin 512) : k7_pay2 g (ix2 r s) = sg (g (ix2 r s)) := by
  unfold k7_pay2 sg; pointwise

theorem tile_d (d : Vec Ideal S512x512 .f32) (r s : Fin 512) : k7_pay5 d (ix2 r s) = d (ix2 r s) := by
  unfold k7_pay5; pointwise

theorem tile_dg0 (d g p : Vec Ideal S512x512 .f32) (r s : Fin 512) : k7_pay8 d g p (ix2 r s)
    = d (ix2 r s) * p (ix2 r s) * sg (g (ix2 r s)) * (Ideal.ofBits .f32 0x3F800000#32 - sg (g (ix2 r s))) := by
  unfold k7_pay8; pointwise [tile_s0, tile_d]

theorem tile_dg1 (d g p : Vec Ideal S512x512 .f32) (r s : Fin 512) : k7_pay1 (k7_pay5 d) (k7_pay9 g) p (ix2 r s)
    = d (ix2 r s) * p (ix2 r s) * sg (g (ix2 r s)) * (Ideal.ofBits .f32 0x3F800000#32 - sg (g (ix2 r s))) := by
  unfold k7_pay1; pointwise [tile_s1, tile_d]

theorem tile_dg2 (d g p : Vec Ideal S512x512 .f32) (r s : Fin 512) : k7_pay4 (k7_pay5 d) g p (ix2 r s)
    = d (ix2 r s) * p (ix2 r s) * sg (g (ix2 r s)) * (Ideal.ofBits .f32 0x3F800000#32 - sg (g (ix2 r s))) := by
  unfold k7_pay4; pointwise [tile_s2, tile_d]

theorem tile_dp0 (d g : Vec Ideal S512x512 .f32) (r s : Fin 512) : k7_pay7 d g (ix2 r s) = d (ix2 r s) * sg (g (ix2 r s)) := by
  unfold k7_pay7; pointwise [tile_s0, tile_d]

theorem tile_dp1 (d g : Vec Ideal S512x512 .f32) (r s : Fin 512) : k7_pay10 d g (ix2 r s) = d (ix2 r s) * sg (g (ix2 r s)) := by
  unfold k7_pay10; pointwise [tile_s1, tile_d]

theorem tile_dp2 (d g : Vec Ideal S512x512 .f32) (r s : Fin 512) : k7_pay3 (k7_pay5 d) g (ix2 r s) = d (ix2 r s) * sg (g (ix2 r s)) := by
  unfold k7_pay3; pointwise [tile_s2, tile_d]

theorem tile_db (x0 : Vec Ideal S2048x1024 .bf16) (x1 : Vec Ideal S2048x512 .bf16) (r : Fin 1024) (s : Fin 512) :
    k8_pay1 x0 x1 (ix3 0 r s) = ∑ k : Fin 2048, x0 (ix2 k r) * x1 (ix2 k s) := by
  unfold k8_pay1; pointwise

/-! ## The tile a grid point works on -/

theorem idx0 : ∀ t : Fin cfg0.N, win0_0.index t = ![t.val / 4, 0]
    ∧ win0_1.index t = ![t.val % 4, 0, 0]
    ∧ win0_2.index t = ![t.val / 4, t.val % 4] :=
  (by decide +kernel : ∀ t : Fin grid0.N, _)

theorem idx1 : ∀ t : Fin cfg1.N, win1_0.index t = ![t.val / 4, 0]
    ∧ win1_1.index t = ![t.val % 4, 0, 0]
    ∧ win1_2.index t = ![t.val / 4, t.val % 4] :=
  (by decide +kernel : ∀ t : Fin grid1.N, _)

theorem idx2 : ∀ t : Fin cfg2.N, win2_0.index t = ![t.val / 4, 0]
    ∧ win2_1.index t = ![t.val % 4, 0, 0]
    ∧ win2_2.index t = ![t.val / 4, t.val % 4] :=
  (by decide +kernel : ∀ t : Fin grid2.N, _)

theorem idx3 : ∀ t : Fin cfg3.N, win3_0.index t = ![t.val / 4, 14 + t.val % 4]
    ∧ win3_1.index t = ![t.val / 4, 18 + t.val % 4]
    ∧ win3_2.index t = ![t.val / 4, 22 + t.val % 4]
    ∧ win3_3.index t = ![t.val / 4, t.val % 4]
    ∧ win3_4.index t = ![t.val / 4, t.val % 4]
    ∧ win3_5.index t = ![t.val / 4, t.val % 4]
    ∧ win3_6.index t = ![t.val / 4, t.val % 4] :=
  (by decide +kernel : ∀ t : Fin grid3.N, _)

theorem idx4 : ∀ t : Fin cfg4.N, win4_0.index t = ![t.val / 2, 0]
    ∧ win4_1.index t = ![0, 0, t.val % 2]
    ∧ win4_2.index t = ![t.val / 2, t.val % 2]
    ∧ win4_3.index t = ![t.val / 2, t.val % 2] :=
  (by decide +kernel : ∀ t : Fin grid4.N, _)

theorem idx5 : ∀ t : Fin cfg5.N, win5_0.index t = ![t.val / 2, 0]
    ∧ win5_1.index t = ![0, t.val % 2, 0]
    ∧ win5_2.index t = ![t.val / 2, t.val % 2] :=
  (by decide +kernel : ∀ t : Fin grid5.N, _)

theorem idx6 : ∀ t : Fin cfg6.N, win6_0.index t = ![0, t.val % 2]
    ∧ win6_1.index t = ![0, t.val / 2]
    ∧ win6_2.index t = ![0, t.val % 2, t.val / 2] :=
  (by decide +kernel : ∀ t : Fin grid6.N, _)

theorem idx7 : ∀ t : Fin cfg7.N, win7_0.index t = ![t.val / 4, 14 + t.val % 4]
    ∧ win7_1.index t = ![t.val / 4, 18 + t.val % 4]
    ∧ win7_2.index t = ![t.val / 4, 22 + t.val % 4]
    ∧ win7_3.index t = ![t.val / 4, t.val % 4]
    ∧ win7_4.index t = ![t.val / 4, t.val % 4]
    ∧ win7_5.index t = ![t.val / 4, t.val % 4]
    ∧ win7_6.index t = ![t.val / 4, t.val % 4]
    ∧ win7_7.index t = ![t.val / 4, t.val % 4]
    ∧ win7_8.index t = ![t.val / 4, t.val % 4]
    ∧ win7_9.index t = ![t.val / 4, t.val % 4]
    ∧ win7_10.index t = ![t.val / 4, t.val % 4]
    ∧ win7_11.index t = ![t.val / 4, t.val % 4]
    ∧ win7_12.index t = ![t.val / 4, t.val % 4] :=
  (by decide +kernel : ∀ t : Fin grid7.N, _)

theorem idx8 : ∀ t : Fin cfg8.N, win8_0.index t = ![0, 0]
    ∧ win8_1.index t = ![0, t.val]
    ∧ win8_2.index t = ![t.val, 0, 0] :=
  (by decide +kernel : ∀ t : Fin grid8.N, _)

theorem idx9 : ∀ t : Fin cfg9.N, win9_0.index t = ![0, 0]
    ∧ win9_1.index t = ![0, t.val]
    ∧ win9_2.index t = ![t.val, 0, 0] :=
  (by decide +kernel : ∀ t : Fin grid9.N, _)

theorem idx10 : ∀ t : Fin cfg10.N, win10_0.index t = ![0, 0]
    ∧ win10_1.index t = ![0, t.val]
    ∧ win10_2.index t = ![t.val, 0, 0] :=
  (by decide +kernel : ∀ t : Fin grid10.N, _)

theorem lt0 (t : Fin cfg0.N) : t.val < 8 := lt_of_lt_of_eq t.isLt (show cfg0.N = 8 from N_0)
theorem lt1 (t : Fin cfg1.N) : t.val < 8 := lt_of_lt_of_eq t.isLt (show cfg1.N = 8 from N_1)
theorem lt2 (t : Fin cfg2.N) : t.val < 8 := lt_of_lt_of_eq t.isLt (show cfg2.N = 8 from N_2)
theorem lt3 (t : Fin cfg3.N) : t.val < 16 := lt_of_lt_of_eq t.isLt (show cfg3.N = 16 from N_3)
theorem lt4 (t : Fin cfg4.N) : t.val < 4 := lt_of_lt_of_eq t.isLt (show cfg4.N = 4 from N_4)
theorem lt5 (t : Fin cfg5.N) : t.val < 4 := lt_of_lt_of_eq t.isLt (show cfg5.N = 4 from N_5)
theorem lt6 (t : Fin cfg6.N) : t.val < 4 := lt_of_lt_of_eq t.isLt (show cfg6.N = 4 from N_6)
theorem lt7 (t : Fin cfg7.N) : t.val < 16 := lt_of_lt_of_eq t.isLt (show cfg7.N = 16 from N_7)
theorem lt8 (t : Fin cfg8.N) : t.val < 4 := lt_of_lt_of_eq t.isLt (show cfg8.N = 4 from N_8)
theorem lt9 (t : Fin cfg9.N) : t.val < 4 := lt_of_lt_of_eq t.isLt (show cfg9.N = 4 from N_9)
theorem lt10 (t : Fin cfg10.N) : t.val < 4 := lt_of_lt_of_eq t.isLt (show cfg10.N = 4 from N_10)

/-- The TensorCore's buffers at a region's entry. -/
abbrev Ent := (c : Dev nD) → (b : Ref sig .tc) → Buf (Elt Ideal) ((c.tc : Thread nD τ).loc b)

variable (V : Ent) (c : Dev nD)

/-! ## The mixers' projections -/

theorem arr0_2 : (dat0 V c).arrAt 2 cfg0.N = pG (V c main_arg2) (V c main_arg5) := by
  refine (dat0 V c).arrAt_eq_of_covers 2 _ (by decide +kernel) fun t hf y => ?_
  have ht := lt0 t
  blk_simp; rw [after0_2]; frame_out
  change S1024x512.Idx at y
  idx_vars y
  have h0 : ∀ k : Fin 1024, iblk0 V c 0 t (ix2 y0 k) = (V c main_arg2 : FVec Ideal S2048x1024 .bf16)
      (ix2 (pos (t.val / 4) y0 (by omega)) k) := fun k => by unfold pos; blk_ext [iblk0, idx0 t]
  have h1 : ∀ k : Fin 1024, iblk0 V c 1 t (ix3 0 k y1) = (V c main_arg5 : FVec Ideal S4x1024x512 .bf16)
      (ix3 ⟨(pos5 (N := 2048) (t.val % 4) y1 (by omega)).val / 512, by unfold pos5; dsimp only; omega⟩ k
        ⟨(pos5 (N := 2048) (t.val % 4) y1 (by omega)).val % 512, by omega⟩) := fun k => by unfold pos5; blk_ext [iblk0, idx0 t]
  refine (tile_p _ _ _ _).trans ((sum_mul_congr h0 h1).trans
    ((show _ = pG (V c main_arg2) (V c main_arg5) (ix2 (pos (t.val / 4) y0 (by omega)) (pos5 (t.val % 4) y1 (by omega))) from rfl).trans
      (congrArg (pG (V c main_arg2) (V c main_arg5)) ?_)))
  unfold pos pos5; blk_ext [idx0 t]

theorem arr1_2 : (dat1 V c).arrAt 2 cfg1.N = pG (V c main_arg3) (V c main_arg6) := by
  refine (dat1 V c).arrAt_eq_of_covers 2 _ (by decide +kernel) fun t hf y => ?_
  have ht := lt1 t
  blk_simp; rw [after1_2]; frame_out
  change S1024x512.Idx at y
  idx_vars y
  have h0 : ∀ k : Fin 1024, iblk1 V c 0 t (ix2 y0 k) = (V c main_arg3 : FVec Ideal S2048x1024 .bf16)
      (ix2 (pos (t.val / 4) y0 (by omega)) k) := fun k => by unfold pos; blk_ext [iblk1, idx1 t]
  have h1 : ∀ k : Fin 1024, iblk1 V c 1 t (ix3 0 k y1) = (V c main_arg6 : FVec Ideal S4x1024x512 .bf16)
      (ix3 ⟨(pos5 (N := 2048) (t.val % 4) y1 (by omega)).val / 512, by unfold pos5; dsimp only; omega⟩ k
        ⟨(pos5 (N := 2048) (t.val % 4) y1 (by omega)).val % 512, by omega⟩) := fun k => by unfold pos5; blk_ext [iblk1, idx1 t]
  refine (tile_p _ _ _ _).trans ((sum_mul_congr h0 h1).trans
    ((show _ = pG (V c main_arg3) (V c main_arg6) (ix2 (pos (t.val / 4) y0 (by omega)) (pos5 (t.val % 4) y1 (by omega))) from rfl).trans
      (congrArg (pG (V c main_arg3) (V c main_arg6)) ?_)))
  unfold pos pos5; blk_ext [idx1 t]

theorem arr2_2 : (dat2 V c).arrAt 2 cfg2.N = pG (V c main_arg4) (V c main_arg7) := by
  refine (dat2 V c).arrAt_eq_of_covers 2 _ (by decide +kernel) fun t hf y => ?_
  have ht := lt2 t
  blk_simp; rw [after2_2]; frame_out
  change S1024x512.Idx at y
  idx_vars y
  have h0 : ∀ k : Fin 1024, iblk2 V c 0 t (ix2 y0 k) = (V c main_arg4 : FVec Ideal S2048x1024 .bf16)
      (ix2 (pos (t.val / 4) y0 (by omega)) k) := fun k => by unfold pos; blk_ext [iblk2, idx2 t]
  have h1 : ∀ k : Fin 1024, iblk2 V c 1 t (ix3 0 k y1) = (V c main_arg7 : FVec Ideal S4x1024x512 .bf16)
      (ix3 ⟨(pos5 (N := 2048) (t.val % 4) y1 (by omega)).val / 512, by unfold pos5; dsimp only; omega⟩ k
        ⟨(pos5 (N := 2048) (t.val % 4) y1 (by omega)).val % 512, by omega⟩) := fun k => by unfold pos5; blk_ext [iblk2, idx2 t]
  refine (tile_p _ _ _ _).trans ((sum_mul_congr h0 h1).trans
    ((show _ = pG (V c main_arg4) (V c main_arg7) (ix2 (pos (t.val / 4) y0 (by omega)) (pos5 (t.val % 4) y1 (by omega))) from rfl).trans
      (congrArg (pG (V c main_arg4) (V c main_arg7)) ?_)))
  unfold pos pos5; blk_ext [idx2 t]

/-! ## The merge -/

theorem arr3_6 : (dat3 V c).arrAt 6 cfg3.N = mG (V c main_arg1) (V c main_v0) (V c main_v1) (V c main_v2) := by
  refine (dat3 V c).arrAt_eq_of_covers 6 _ (by decide +kernel) fun t hf y => ?_
  have ht := lt3 t
  blk_simp; rw [after3_6]; frame_out
  change S512x512.Idx at y
  idx_vars y
  have g0 : iblk3 V c 0 t (ix2 y0 y1) = gate 0 (V c main_arg1) (ix2 (pos5 (t.val / 4) y0 (by omega)) (pos5 (t.val % 4) y1 (by omega))) := by
    unfold pos5 gate; blk_ext [iblk3, idx3 t]
  have p0 : iblk3 V c 3 t (ix2 y0 y1) = (V c main_v0 : FVec Ideal S2048x2048 .f32) (ix2 (pos5 (t.val / 4) y0 (by omega)) (pos5 (t.val % 4) y1 (by omega))) := by
    unfold pos5; blk_ext [iblk3, idx3 t]
  have g1 : iblk3 V c 1 t (ix2 y0 y1) = gate 1 (V c main_arg1) (ix2 (pos5 (t.val / 4) y0 (by omega)) (pos5 (t.val % 4) y1 (by omega))) := by
    unfold pos5 gate; blk_ext [iblk3, idx3 t]
  have p1 : iblk3 V c 4 t (ix2 y0 y1) = (V c main_v1 : FVec Ideal S2048x2048 .f32) (ix2 (pos5 (t.val / 4) y0 (by omega)) (pos5 (t.val % 4) y1 (by omega))) := by
    unfold pos5; blk_ext [iblk3, idx3 t]
  have g2 : iblk3 V c 2 t (ix2 y0 y1) = gate 2 (V c main_arg1) (ix2 (pos5 (t.val / 4) y0 (by omega)) (pos5 (t.val % 4) y1 (by omega))) := by
    unfold pos5 gate; blk_ext [iblk3, idx3 t]
  have p2 : iblk3 V c 5 t (ix2 y0 y1) = (V c main_v2 : FVec Ideal S2048x2048 .f32) (ix2 (pos5 (t.val / 4) y0 (by omega)) (pos5 (t.val % 4) y1 (by omega))) := by
    unfold pos5; blk_ext [iblk3, idx3 t]
  refine (tile_m _ _ _ _ _ _ _ _).trans ((congrArg₂ (fun a b : EReal => a + b) (congrArg₂ (fun a b : EReal => a + b)
    (congrArg₂ (fun a b : EReal => sg a * b) g0 p0) (congrArg₂ (fun a b : EReal => sg a * b) g1 p1))
    (congrArg₂ (fun a b : EReal => sg a * b) g2 p2)).trans
    ((show _ = mG (V c main_arg1) (V c main_v0) (V c main_v1) (V c main_v2)
        (ix2 (pos5 (t.val / 4) y0 (by omega)) (pos5 (t.val % 4) y1 (by omega))) from rfl).trans
      (congrArg (mG (V c main_arg1) (V c main_v0) (V c main_v1) (V c main_v2)) ?_)))
  unfold pos5; blk_ext [idx3 t]

/-! ## The output projection and its gradients -/

theorem arr4_3 : (dat4 V c).arrAt 3 cfg4.N = xG (V c main_v3) (V c main_arg8) (V c main_arg0) := by
  refine (dat4 V c).arrAt_eq_of_covers 3 _ (by decide +kernel) fun t hf y => ?_
  have ht := lt4 t
  blk_simp; rw [after4_3]; frame_out
  change S1024x1024.Idx at y
  idx_vars y
  have h0 : ∀ k : Fin 2048, iblk4 V c 0 t (ix2 y0 k) = (V c main_v3 : FVec Ideal S2048x2048 .bf16)
      (ix2 (pos (t.val / 2) y0 (by omega)) k) := fun k => by unfold pos; blk_ext [iblk4, idx4 t]
  have h1 : ∀ k : Fin 2048, iblk4 V c 1 t (ix3 0 k y1) = (V c main_arg8 : FVec Ideal S1x2048x2048 .bf16)
      (ix3 0 k (pos (t.val % 2) y1 (by omega))) := fun k => by unfold pos; blk_ext [iblk4, idx4 t]
  have h2 : iblk4 V c 2 t (ix2 y0 y1) = (V c main_arg0 : FVec Ideal S2048x2048 .f32)
      (ix2 (pos (t.val / 2) y0 (by omega)) (pos (t.val % 2) y1 (by omega))) := by unfold pos; blk_ext [iblk4, idx4 t]
  refine (tile_x _ _ _ _ _).trans ((congrArg₂ (fun a b : EReal => a + b) (sum_mul_congr h0 h1) h2).trans
    ((show _ = xG (V c main_v3) (V c main_arg8) (V c main_arg0) (ix2 (pos (t.val / 2) y0 (by omega)) (pos (t.val % 2) y1 (by omega))) from rfl).trans
      (congrArg (xG (V c main_v3) (V c main_arg8) (V c main_arg0)) ?_)))
  unfold pos; blk_ext [idx4 t]

theorem arr5_2 : (dat5 V c).arrAt 2 cfg5.N = dmG (V c main_arg9) (V c main_arg8) := by
  refine (dat5 V c).arrAt_eq_of_covers 2 _ (by decide +kernel) fun t hf y => ?_
  have ht := lt5 t
  blk_simp; rw [after5_2]; frame_out
  change S1024x1024.Idx at y
  idx_vars y
  have h0 : ∀ k : Fin 2048, iblk5 V c 0 t (ix2 y0 k) = (V c main_arg9 : FVec Ideal S2048x2048 .f32)
      (ix2 (pos (t.val / 2) y0 (by omega)) k) := fun k => by unfold pos; blk_ext [iblk5, idx5 t]
  have h1 : ∀ k : Fin 2048, iblk5 V c 1 t (ix3 0 y1 k) = (V c main_arg8 : FVec Ideal S1x2048x2048 .bf16)
      (ix3 0 (pos (t.val % 2) y1 (by omega)) k) := fun k => by unfold pos; blk_ext [iblk5, idx5 t]
  refine (tile_dm _ _ _ _).trans ((sum_mul_congr h0 h1).trans
    ((show _ = dmG (V c main_arg9) (V c main_arg8) (ix2 (pos (t.val / 2) y0 (by omega)) (pos (t.val % 2) y1 (by omega))) from rfl).trans
      (congrArg (dmG (V c main_arg9) (V c main_arg8)) ?_)))
  unfold pos; blk_ext [idx5 t]

theorem arr6_2 : (dat6 V c).arrAt 2 cfg6.N = dwG (V c main_v3) (V c main_arg9) := by
  refine (dat6 V c).arrAt_eq_of_covers 2 _ (by decide +kernel) fun t hf y => ?_
  have ht := lt6 t
  blk_simp; rw [after6_2]; frame_out
  change S1x1024x1024.Idx at y
  idx_vars y
  obtain rfl := Subsingleton.elim y0 0
  have h0 : ∀ k : Fin 2048, iblk6 V c 0 t (ix2 k y1) = (V c main_v3 : FVec Ideal S2048x2048 .bf16)
      (ix2 k (pos (t.val % 2) y1 (by omega))) := fun k => by unfold pos; blk_ext [iblk6, idx6 t]
  have h1 : ∀ k : Fin 2048, iblk6 V c 1 t (ix2 k y2) = (V c main_arg9 : FVec Ideal S2048x2048 .f32)
      (ix2 k (pos (t.val / 2) y2 (by omega))) := fun k => by unfold pos; blk_ext [iblk6, idx6 t]
  refine (tile_dw _ _ _ _).trans ((sum_mul_congr h0 h1).trans
    ((show _ = dwG (V c main_v3) (V c main_arg9) (ix3 0 (pos (t.val % 2) y1 (by omega)) (pos (t.val / 2) y2 (by omega))) from rfl).trans
      (congrArg (dwG (V c main_v3) (V c main_arg9)) ?_)))
  unfold pos; blk_ext [idx6 t]

end Cert.Gate

end
-- ==== Proof.GateRef.lean ====
/-
  THE REFERENCE OF THE GATED MERGE, step by step: each step of the reference's program as a function of arrays, read at a place.
-/
module

public import proofs.«01_k».proof.Proof.Gen.Reference8Ideal.Run
public import proofs.«01_k».proof.Proof.GateVal

@[expose] public section

set_option maxRecDepth 16384

noncomputable section

namespace Cert.Gate

open Idealize.ShloMosaic Idealize.ShloMosaic.TcCoe Cert.Reference8Ideal Cert.Reference8Ideal.Gen

/-- The logistic function by the opposite. -/
theorem sg_neg (x : EReal) :
    Ideal.div (Ideal.ofBits .f32 0x3F800000#32) (Ideal.ofBits .f32 0x3F800000#32 + Ideal.exp (-x)) = sg x := by
  unfold sg; rw [Ideal.ofBits_zero_f32, zero_sub]

/-- The three mixers' outputs, stacked. -/
def ysA (o0 o1 o2 : FVec Ideal S2048x1024 .bf16) : FVec Ideal S2048x3x1024 .f32 :=
  extf .f32 (concatenate S2048x3x1024 1 [⟨S2048x1x1024, broadcastInDim S2048x1x1024 ![0, 2] bcast_S2048x1024_S2048x1x1024_0_2 o0⟩,
    ⟨S2048x1x1024, broadcastInDim S2048x1x1024 ![0, 2] bcast_S2048x1024_S2048x1x1024_0_2 o1⟩,
    ⟨S2048x1x1024, broadcastInDim S2048x1x1024 ![0, 2] bcast_S2048x1024_S2048x1x1024_0_2 o2⟩]
    concatenates_S2048x1x1024_S2048x1x1024_S2048x1x1024_S2048x3x1024_d1) bitsLt_bf16_f32

/-- A weight's columns, in a stack of one. -/
def colA (w : FVec Ideal S4x1024x512 .bf16) : FVec Ideal S1x1024x2048 .bf16 :=
  broadcastInDim S1x1024x2048 ![1, 2] bcast_S1024x2048_S1x1024x2048_1_2 (shapeCast S1024x2048
    (transpose S1024x4x512 [1, 0, 2] w transposes_S4x1024x512_S1024x4x512_1_0_2) shapeCasts_S1024x4x512_S1024x2048)

/-- The three mixers' weights, stacked. -/
def wsA (w0 w1 w2 : FVec Ideal S4x1024x512 .bf16) : FVec Ideal S3x1024x2048 .f32 :=
  extf .f32 (concatenate S3x1024x2048 0 [⟨S1x1024x2048, colA w0⟩, ⟨S1x1024x2048, colA w1⟩, ⟨S1x1024x2048, colA w2⟩]
    concatenates_S1x1024x2048_S1x1024x2048_S1x1024x2048_S3x1024x2048_d0) bitsLt_bf16_f32

/-- The projections. -/
def pA (ys : FVec Ideal S2048x3x1024 .f32) (ws : FVec Ideal S3x1024x2048 .f32) : FVec Ideal S2048x3x2048 .f32 :=
  transpose S2048x3x2048 [2, 0, 1] (Host.dotGeneral dot_S3x1024x2048_S2048x3x1024_S3x2048x2048_1_2_2_0_0_1 none ws ys)
    transposes_S3x2048x2048_S2048x3x2048_2_0_1

/-- Ones. -/
def oneA : FVec Ideal S2048x3x2048 .f32 := broadcastInDim S2048x3x2048 ![] bcast_S_S2048x3x2048 (constant S_ .f32 0x3F800000#32)

/-- The gates. -/
def sA (z : FVec Ideal S2048x13312 .f32) : FVec Ideal S2048x3x2048 .f32 :=
  Host.divf oneA (addf oneA (Host.exp (Host.negf (shapeCast S2048x3x2048
    (extractStridedSlice S2048x6144 ![0, 7168] z slices_S2048x13312_S2048x6144_0_7168) shapeCasts_S2048x6144_S2048x3x2048))))

/-- The merge. -/
def mA (s p : FVec Ideal S2048x3x2048 .f32) : FVec Ideal S2048x2048 .f32 :=
  Host.reduceAdd (mulf s p) (constant S_ .f32 0x00000000#32) reducesTo_S2048x3x2048_S2048x2048_d1 h_S_

/-- The output weight. -/
def woA (w : FVec Ideal S1x2048x2048 .bf16) : FVec Ideal S2048x2048 .f32 :=
  extf .f32 (shapeCast S2048x2048 w shapeCasts_S1x2048x2048_S2048x2048) bitsLt_bf16_f32

/-- The output projection and the residual. -/
def xA (x m w : FVec Ideal S2048x2048 .f32) : FVec Ideal S2048x2048 .f32 :=
  addf x (Host.dotGeneral dot_S2048x2048_S2048x2048_S2048x2048_1_0_0_1_n_n none m w)

/-- The output weight's gradient. -/
def dwA (g m : FVec Ideal S2048x2048 .f32) : FVec Ideal S1x2048x2048 .bf16 :=
  truncf .bf16 (broadcastInDim S1x2048x2048 ![1, 2] bcast_S2048x2048_S1x2048x2048_1_2 (transpose S2048x2048 [1, 0]
    (Host.dotGeneral dot_S2048x2048_S2048x2048_S2048x2048_0_0_1_1_n_n none g m) transposes_S2048x2048_S2048x2048_1_0)) bitsLt_bf16_f32

/-- The merge's gradient. -/
def dmA (g w : FVec Ideal S2048x2048 .f32) : FVec Ideal S2048x2048 .f32 :=
  Host.dotGeneral dot_S2048x2048_S2048x2048_S2048x2048_1_1_0_0_n_n none g w

/-- The merge's gradient, three times. -/
def d3A (d : FVec Ideal S2048x2048 .f32) : FVec Ideal S2048x3x2048 .f32 :=
  broadcastInDim S2048x3x2048 ![0, 2] bcast_S2048x2048_S2048x3x2048_0_2 d

/-- The projections' gradients. -/
def spA (d : FVec Ideal S2048x2048 .f32) (a : FVec Ideal S2048x3x2048 .f32) : FVec Ideal S2048x3x2048 .f32 := mulf a (d3A d)

/-- The gates' gradients. -/
def dgA (d : FVec Ideal S2048x2048 .f32) (p s : FVec Ideal S2048x3x2048 .f32) : FVec Ideal S2048x3x2048 .bf16 :=
  truncf .bf16 (mulf (mulf (d3A d) p) (mulf s (subf oneA s))) bitsLt_bf16_f32

/-- The weights' gradients. -/
def dbA (ys : FVec Ideal S2048x3x1024 .f32) (dp : FVec Ideal S2048x3x2048 .f32) : FVec Ideal S3x4x1024x512 .bf16 :=
  truncf .bf16 (transpose S3x4x1024x512 [0, 2, 1, 3] (shapeCast S3x1024x4x512 (transpose S3x1024x2048 [0, 2, 1]
    (Host.dotGeneral dot_S3x2048x2048_S2048x3x1024_S3x2048x1024_2_0_1_2_0_1 none
      (transpose S3x2048x2048 [1, 2, 0] dp transposes_S2048x3x2048_S3x2048x2048_1_2_0) ys)
    transposes_S3x2048x1024_S3x1024x2048_0_2_1) shapeCasts_S3x1024x2048_S3x1024x4x512)
    transposes_S3x1024x4x512_S3x4x1024x512_0_2_1_3) bitsLt_bf16_f32

/-! ## The steps at a place -/

theorem colA_apply (w : FVec Ideal S4x1024x512 .bf16) (k : Fin 1024) (d : Fin 2048) :
    colA w (ix3 0 k d) = w (ix3 ⟨d.val / 512, by omega⟩ k ⟨d.val % 512, by omega⟩) := by
  unfold colA; pointwise

theorem ysA_0 (o0 o1 o2 : FVec Ideal S2048x1024 .bf16) (i : Fin 2048) (k : Fin 1024) : ysA o0 o1 o2 (ix3 i 0 k) = o0 (ix2 i k) := by
  unfold ysA; pointwise

theorem wsA_0 (w0 w1 w2 : FVec Ideal S4x1024x512 .bf16) (k : Fin 1024) (d : Fin 2048) : wsA w0 w1 w2 (ix3 0 k d) = colA w0 (ix3 0 k d) := by
  unfold wsA; pointwise

theorem ysA_1 (o0 o1 o2 : FVec Ideal S2048x1024 .bf16) (i : Fin 2048) (k : Fin 1024) : ysA o0 o1 o2 (ix3 i 1 k) = o1 (ix2 i k) := by
  unfold ysA; pointwise

theorem wsA_1 (w0 w1 w2 : FVec Ideal S4x1024x512 .bf16) (k : Fin 1024) (d : Fin 2048) : wsA w0 w1 w2 (ix3 1 k d) = colA w1 (ix3 0 k d) := by
  unfold wsA; pointwise

theorem ysA_2 (o0 o1 o2 : FVec Ideal S2048x1024 .bf16) (i : Fin 2048) (k : Fin 1024) : ysA o0 o1 o2 (ix3 i 2 k) = o2 (ix2 i k) := by
  unfold ysA; pointwise

theorem wsA_2 (w0 w1 w2 : FVec Ideal S4x1024x512 .bf16) (k : Fin 1024) (d : Fin 2048) : wsA w0 w1 w2 (ix3 2 k d) = colA w2 (ix3 0 k d) := by
  unfold wsA; pointwise

theorem pA_apply (ys : FVec Ideal S2048x3x1024 .f32) (ws : FVec Ideal S3x1024x2048 .f32) (i : Fin 2048) (n : Fin 3) (d : Fin 2048) :
    pA ys ws (ix3 i n d) = ∑ k : Fin 1024, ws (ix3 n k d) * ys (ix3 i n k) := by
  unfold pA; pointwise

theorem pA_0 (o0 o1 o2 : FVec Ideal S2048x1024 .bf16) (w0 w1 w2 : FVec Ideal S4x1024x512 .bf16) (i d : Fin 2048) :
    pA (ysA o0 o1 o2) (wsA w0 w1 w2) (ix3 i 0 d) = pG o0 w0 (ix2 i d) :=
  (pA_apply _ _ _ _ _).trans (Finset.sum_congr rfl fun k _ => (mul_comm _ _).trans
    (congrArg₂ (fun a b : EReal => a * b) (ysA_0 _ _ _ _ _) ((wsA_0 _ _ _ _ _).trans (colA_apply _ _ _))))

theorem pA_1 (o0 o1 o2 : FVec Ideal S2048x1024 .bf16) (w0 w1 w2 : FVec Ideal S4x1024x512 .bf16) (i d : Fin 2048) :
    pA (ysA o0 o1 o2) (wsA w0 w1 w2) (ix3 i 1 d) = pG o1 w1 (ix2 i d) :=
  (pA_apply _ _ _ _ _).trans (Finset.sum_congr rfl fun k _ => (mul_comm _ _).trans
    (congrArg₂ (fun a b : EReal => a * b) (ysA_1 _ _ _ _ _) ((wsA_1 _ _ _ _ _).trans (colA_apply _ _ _))))

theorem pA_2 (o0 o1 o2 : FVec Ideal S2048x1024 .bf16) (w0 w1 w2 : FVec Ideal S4x1024x512 .bf16) (i d : Fin 2048) :
    pA (ysA o0 o1 o2) (wsA w0 w1 w2) (ix3 i 2 d) = pG o2 w2 (ix2 i d) :=
  (pA_apply _ _ _ _ _).trans (Finset.sum_congr rfl fun k _ => (mul_comm _ _).trans
    (congrArg₂ (fun a b : EReal => a * b) (ysA_2 _ _ _ _ _) ((wsA_2 _ _ _ _ _).trans (colA_apply _ _ _))))

theorem sA_apply (z : FVec Ideal S2048x13312 .f32) (i : Fin 2048) (n : Fin 3) (d : Fin 2048) :
    sA z (ix3 i n d) = sg (gate n z (ix2 i d)) := by
  rw [← sg_neg]; unfold sA gate oneA; pointwise; simp only [Nat.add_assoc]

theorem mA_apply (s p : FVec Ideal S2048x3x2048 .f32) (i d : Fin 2048) : mA s p (ix2 i d)
    = s (ix3 i 0 d) * p (ix3 i 0 d) + s (ix3 i 1 d) * p (ix3 i 1 d) + s (ix3 i 2 d) * p (ix3 i 2 d) := by
  refine Eq.trans ?_ (Fin.sum_univ_three fun n : Fin 3 => (s (ix3 i n d) * p (ix3 i n d) : EReal))
  unfold mA; pointwise

/-- The merge of the reference is the kernel's. -/
theorem mA_eq (o0 o1 o2 : FVec Ideal S2048x1024 .bf16) (w0 w1 w2 : FVec Ideal S4x1024x512 .bf16) (z : FVec Ideal S2048x13312 .f32) :
    mA (sA z) (pA (ysA o0 o1 o2) (wsA w0 w1 w2)) = mG z (pG o0 w0) (pG o1 w1) (pG o2 w2) := by
  funext y; change S2048x2048.Idx at y; idx_vars y
  rw [mA_apply, sA_apply, sA_apply, sA_apply, pA_0, pA_1, pA_2]; rfl

theorem xA_eq (x : FVec Ideal S2048x2048 .f32) (m : FVec Ideal S2048x2048 .bf16) (w : FVec Ideal S1x2048x2048 .bf16) :
    xA x m (woA w) = xG m w x := by
  funext y; change S2048x2048.Idx at y; idx_vars y
  refine Eq.trans ?_ (add_comm _ _)
  unfold xA woA; pointwise

theorem dwA_eq (g : FVec Ideal S2048x2048 .f32) (m : FVec Ideal S2048x2048 .bf16) : dwA g m = dwG m g := by
  funext y; change S1x2048x2048.Idx at y; idx_vars y
  obtain rfl := Subsingleton.elim y0 0
  refine Eq.trans ?_ (Finset.sum_congr rfl fun r _ => mul_comm _ _)
  unfold dwA; pointwise

theorem dmA_eq (g : FVec Ideal S2048x2048 .f32) (w : FVec Ideal S1x2048x2048 .bf16) : dmA g (woA w) = dmG g w := by
  funext y; change S2048x2048.Idx at y; idx_vars y
  unfold dmA woA dmG; pointwise

theorem spA_apply (d : FVec Ideal S2048x2048 .f32) (a : FVec Ideal S2048x3x2048 .f32) (i : Fin 2048) (n : Fin 3) (j : Fin 2048) :
    spA d a (ix3 i n j) = d (ix2 i j) * a (ix3 i n j) := by
  refine Eq.trans ?_ (mul_comm _ _)
  unfold spA d3A; pointwise

theorem dgA_apply (d : FVec Ideal S2048x2048 .f32) (p s : FVec Ideal S2048x3x2048 .f32) (i : Fin 2048) (n : Fin 3) (j : Fin 2048) :
    dgA d p s (ix3 i n j) = d (ix2 i j) * p (ix3 i n j) * s (ix3 i n j) * (Ideal.ofBits .f32 0x3F800000#32 - s (ix3 i n j)) := by
  refine Eq.trans ?_ (mul_assoc _ _ _).symm
  unfold dgA d3A oneA; pointwise

theorem dbA_apply (ys : FVec Ideal S2048x3x1024 .f32) (dp : FVec Ideal S2048x3x2048 .f32) (n : Fin 3) (b : Fin 4) (k : Fin 1024) (j : Fin 512) :
    dbA ys dp (ix4 n b k j) = ∑ r : Fin 2048, dp (ix3 r n ⟨b.val * 512 + j.val, by omega⟩) * ys (ix3 r n k) := by
  unfold dbA; pointwise

end Cert.Gate

end
-- ==== Proof.GateBwd.lean ====
/-
  THE GATED MERGE'S GRADIENTS: the arrays that the last four regions leave, the gradients of the gates and of the mixers'
  projections, and those of the mixers' weights.
-/
module

public import proofs.«01_k».proof.Proof.GateVal

@[expose] public section

set_option maxRecDepth 16384

noncomputable section

namespace Cert.Gate

open Idealize.ShloMosaic Idealize.ShloMosaic.TcCoe Idealize.ShloMosaic.Tactic
open Cert.Kernel8Ideal Cert.Kernel8Ideal.Gen Cert.Tiles

variable (V : Ent) (c : Dev nD)

/-! ## A point's blocks at the merge's gradients -/

/-- The place of a point's element in the whole array. -/
abbrev at7 (t : Fin cfg7.N) (r s : Fin 512) : S2048x2048.Idx :=
  ix2 (pos5 (t.val / 4) r (by have := lt7 t; omega)) (pos5 (t.val % 4) s (by omega))

theorem blk_g0 (t : Fin cfg7.N) (r s : Fin 512) : iblk7 V c 0 t (ix2 r s) = gate 0 (V c main_arg1) (at7 t r s) := by
  have ht := lt7 t
  unfold at7 pos5 gate; blk_ext [iblk7, idx7 t]

theorem blk_p0 (t : Fin cfg7.N) (r s : Fin 512) :
    iblk7 V c 3 t (ix2 r s) = (V c main_v0 : FVec Ideal S2048x2048 .f32) (at7 t r s) := by
  have ht := lt7 t
  unfold at7 pos5; blk_ext [iblk7, idx7 t]

theorem blk_g1 (t : Fin cfg7.N) (r s : Fin 512) : iblk7 V c 1 t (ix2 r s) = gate 1 (V c main_arg1) (at7 t r s) := by
  have ht := lt7 t
  unfold at7 pos5 gate; blk_ext [iblk7, idx7 t]

theorem blk_p1 (t : Fin cfg7.N) (r s : Fin 512) :
    iblk7 V c 4 t (ix2 r s) = (V c main_v1 : FVec Ideal S2048x2048 .f32) (at7 t r s) := by
  have ht := lt7 t
  unfold at7 pos5; blk_ext [iblk7, idx7 t]

theorem blk_g2 (t : Fin cfg7.N) (r s : Fin 512) : iblk7 V c 2 t (ix2 r s) = gate 2 (V c main_arg1) (at7 t r s) := by
  have ht := lt7 t
  unfold at7 pos5 gate; blk_ext [iblk7, idx7 t]

theorem blk_p2 (t : Fin cfg7.N) (r s : Fin 512) :
    iblk7 V c 5 t (ix2 r s) = (V c main_v2 : FVec Ideal S2048x2048 .f32) (at7 t r s) := by
  have ht := lt7 t
  unfold at7 pos5; blk_ext [iblk7, idx7 t]

theorem blk_d (t : Fin cfg7.N) (r s : Fin 512) :
    iblk7 V c 6 t (ix2 r s) = (V c main_v5 : FVec Ideal S2048x2048 .f32) (at7 t r s) := by
  have ht := lt7 t
  unfold at7 pos5; blk_ext [iblk7, idx7 t]

/-- The gate's gradient from the gradient, the projection and the gate. -/
abbrev dgE (d p g : EReal) : EReal := d * p * sg g * (Ideal.ofBits .f32 0x3F800000#32 - sg g)

/-! ## The gates' gradients and the projections' -/

theorem arr7_7 : (dat7 V c).arrAt 7 cfg7.N = dgG 0 (V c main_arg1) (V c main_v0) (V c main_v5) := by
  refine (dat7 V c).arrAt_eq_of_covers 7 _ (by decide +kernel) fun t hf y => ?_
  have ht := lt7 t
  blk_simp; rw [after7_7]; frame_out
  change S512x512.Idx at y
  idx_vars y
  refine (tile_dg0 _ _ _ _ _).trans ((congr (congrArg₂ dgE (blk_d V c t y0 y1) (blk_p0 V c t y0 y1)) (blk_g0 V c t y0 y1)).trans
    ((show _ = dgG 0 (V c main_arg1) (V c main_v0) (V c main_v5) (at7 t y0 y1) from rfl).trans
      (congrArg (dgG 0 (V c main_arg1) (V c main_v0) (V c main_v5)) ?_)))
  unfold at7 pos5; blk_ext [idx7 t]

theorem arr7_10 : (dat7 V c).arrAt 10 cfg7.N = dpG 0 (V c main_arg1) (V c main_v5) := by
  refine (dat7 V c).arrAt_eq_of_covers 10 _ (by decide +kernel) fun t hf y => ?_
  have ht := lt7 t
  blk_simp; rw [after7_10]; frame_out
  change S512x512.Idx at y
  idx_vars y
  refine (tile_dp0 _ _ _ _).trans ((congrArg₂ (fun a b : EReal => a * sg b) (blk_d V c t y0 y1) (blk_g0 V c t y0 y1)).trans
    ((show _ = dpG 0 (V c main_arg1) (V c main_v5) (at7 t y0 y1) from rfl).trans
      (congrArg (dpG 0 (V c main_arg1) (V c main_v5)) ?_)))
  unfold at7 pos5; blk_ext [idx7 t]

theorem arr7_8 : (dat7 V c).arrAt 8 cfg7.N = dgG 1 (V c main_arg1) (V c main_v1) (V c main_v5) := by
  refine (dat7 V c).arrAt_eq_of_covers 8 _ (by decide +kernel) fun t hf y => ?_
  have ht := lt7 t
  blk_simp; rw [after7_8]; frame_out; unfold k7_pay11; frame_out
  change S512x512.Idx at y
  idx_vars y
  refine (tile_dg1 _ _ _ _ _).trans ((congr (congrArg₂ dgE (blk_d V c t y0 y1) (blk_p1 V c t y0 y1)) (blk_g1 V c t y0 y1)).trans
    ((show _ = dgG 1 (V c main_arg1) (V c main_v1) (V c main_v5) (at7 t y0 y1) from rfl).trans
      (congrArg (dgG 1 (V c main_arg1) (V c main_v1) (V c main_v5)) ?_)))
  unfold at7 pos5; blk_ext [idx7 t]

theorem arr7_11 : (dat7 V c).arrAt 11 cfg7.N = dpG 1 (V c main_arg1) (V c main_v5) := by
  refine (dat7 V c).arrAt_eq_of_covers 11 _ (by decide +kernel) fun t hf y => ?_
  have ht := lt7 t
  blk_simp; rw [after7_11]; frame_out
  change S512x512.Idx at y
  idx_vars y
  refine (tile_dp1 _ _ _ _).trans ((congrArg₂ (fun a b : EReal => a * sg b) (blk_d V c t y0 y1) (blk_g1 V c t y0 y1)).trans
    ((show _ = dpG 1 (V c main_arg1) (V c main_v5) (at7 t y0 y1) from rfl).trans
      (congrArg (dpG 1 (V c main_arg1) (V c main_v5)) ?_)))
  unfold at7 pos5; blk_ext [idx7 t]

theorem arr7_9 : (dat7 V c).arrAt 9 cfg7.N = dgG 2 (V c main_arg1) (V c main_v2) (V c main_v5) := by
  refine (dat7 V c).arrAt_eq_of_covers 9 _ (by decide +kernel) fun t hf y => ?_
  have ht := lt7 t
  blk_simp; rw [after7_9]; frame_out; unfold k7_pay11; frame_out
  change S512x512.Idx at y
  idx_vars y
  refine (tile_dg2 _ _ _ _ _).trans ((congr (congrArg₂ dgE (blk_d V c t y0 y1) (blk_p2 V c t y0 y1)) (blk_g2 V c t y0 y1)).trans
    ((show _ = dgG 2 (V c main_arg1) (V c main_v2) (V c main_v5) (at7 t y0 y1) from rfl).trans
      (congrArg (dgG 2 (V c main_arg1) (V c main_v2) (V c main_v5)) ?_)))
  unfold at7 pos5; blk_ext [idx7 t]

theorem arr7_12 : (dat7 V c).arrAt 12 cfg7.N = dpG 2 (V c main_arg1) (V c main_v5) := by
  refine (dat7 V c).arrAt_eq_of_covers 12 _ (by decide +kernel) fun t hf y => ?_
  have ht := lt7 t
  blk_simp; rw [after7_12]; frame_out; unfold k7_pay11; frame_out
  change S512x512.Idx at y
  idx_vars y
  refine (tile_dp2 _ _ _ _).trans ((congrArg₂ (fun a b : EReal => a * sg b) (blk_d V c t y0 y1) (blk_g2 V c t y0 y1)).trans
    ((show _ = dpG 2 (V c main_arg1) (V c main_v5) (at7 t y0 y1) from rfl).trans
      (congrArg (dpG 2 (V c main_arg1) (V c main_v5)) ?_)))
  unfold at7 pos5; blk_ext [idx7 t]

/-! ## The mixers' weights -/

theorem arr8_2 : (dat8 V c).arrAt 2 cfg8.N = dbG (V c main_arg2) (V c main_v7_3) := by
  refine (dat8 V c).arrAt_eq_of_covers 2 _ (by decide +kernel) fun t hf y => ?_
  have ht := lt8 t
  blk_simp; rw [after8_2]; frame_out
  change S1x1024x512.Idx at y
  idx_vars y
  obtain rfl := Subsingleton.elim y0 0
  have h0 : ∀ k : Fin 2048, iblk8 V c 0 t (ix2 k y1) = (V c main_arg2 : FVec Ideal S2048x1024 .bf16) (ix2 k y1) :=
    fun k => by blk_ext [iblk8, idx8 t]
  have h1 : ∀ k : Fin 2048, iblk8 V c 1 t (ix2 k y2) = (V c main_v7_3 : FVec Ideal S2048x2048 .bf16)
      (ix2 k ⟨t.val * 512 + y2.val, by omega⟩) := fun k => by blk_ext [iblk8, idx8 t]
  refine (tile_db _ _ _ _).trans ((sum_mul_congr h0 h1).trans
    ((show _ = dbG (V c main_arg2) (V c main_v7_3) (ix3 ⟨t.val, ht⟩ y1 y2) from rfl).trans
      (congrArg (dbG (V c main_arg2) (V c main_v7_3)) ?_)))
  blk_ext [idx8 t]

theorem arr9_2 : (dat9 V c).arrAt 2 cfg9.N = dbG (V c main_arg3) (V c main_v7_4) := by
  refine (dat9 V c).arrAt_eq_of_covers 2 _ (by decide +kernel) fun t hf y => ?_
  have ht := lt9 t
  blk_simp; rw [after9_2]; frame_out
  change S1x1024x512.Idx at y
  idx_vars y
  obtain rfl := Subsingleton.elim y0 0
  have h0 : ∀ k : Fin 2048, iblk9 V c 0 t (ix2 k y1) = (V c main_arg3 : FVec Ideal S2048x1024 .bf16) (ix2 k y1) :=
    fun k => by blk_ext [iblk9, idx9 t]
  have h1 : ∀ k : Fin 2048, iblk9 V c 1 t (ix2 k y2) = (V c main_v7_4 : FVec Ideal S2048x2048 .bf16)
      (ix2 k ⟨t.val * 512 + y2.val, by omega⟩) := fun k => by blk_ext [iblk9, idx9 t]
  refine (tile_db _ _ _ _).trans ((sum_mul_congr h0 h1).trans
    ((show _ = dbG (V c main_arg3) (V c main_v7_4) (ix3 ⟨t.val, ht⟩ y1 y2) from rfl).trans
      (congrArg (dbG (V c main_arg3) (V c main_v7_4)) ?_)))
  blk_ext [idx9 t]

theorem arr10_2 : (dat10 V c).arrAt 2 cfg10.N = dbG (V c main_arg4) (V c main_v7_5) := by
  refine (dat10 V c).arrAt_eq_of_covers 2 _ (by decide +kernel) fun t hf y => ?_
  have ht := lt10 t
  blk_simp; rw [after10_2]; frame_out
  change S1x1024x512.Idx at y
  idx_vars y
  obtain rfl := Subsingleton.elim y0 0
  have h0 : ∀ k : Fin 2048, iblk10 V c 0 t (ix2 k y1) = (V c main_arg4 : FVec Ideal S2048x1024 .bf16) (ix2 k y1) :=
    fun k => by blk_ext [iblk10, idx10 t]
  have h1 : ∀ k : Fin 2048, iblk10 V c 1 t (ix2 k y2) = (V c main_v7_5 : FVec Ideal S2048x2048 .bf16)
      (ix2 k ⟨t.val * 512 + y2.val, by omega⟩) := fun k => by blk_ext [iblk10, idx10 t]
  refine (tile_db _ _ _ _).trans ((sum_mul_congr h0 h1).trans
    ((show _ = dbG (V c main_arg4) (V c main_v7_5) (ix3 ⟨t.val, ht⟩ y1 y2) from rfl).trans
      (congrArg (dbG (V c main_arg4) (V c main_v7_5)) ?_)))
  blk_ext [idx10 t]

end Cert.Gate

end
-- ==== Proof.GateRun.lean ====
/-
  THE RUN OF THE GATED MERGE'S ELEVEN REGIONS: what they leave, from the arguments.
-/
module

public import proofs.«01_k».proof.Proof.GateBwd

@[expose] public section

set_option maxRecDepth 16384

noncomputable section

namespace Cert.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel8Ideal Cert.Kernel8Ideal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends with the results as the regions leave them and the arguments as launched. -/
theorem run_arrays : θ_run defs (onTc (τ := τ) (main (F := Ideal))) ⟨m, fun _ => 0, ρ⟩ (fun r => ∀ c : Dev nD,
      r.2.mem ((c.tc : Thread nD τ).loc main_v4) = (dat4 (V4 m ρ) c).arrAt 3 cfg4.N
      ∧ r.2.mem ((c.tc : Thread nD τ).loc main_v6) = (dat6 (V6 m ρ) c).arrAt 2 cfg6.N
      ∧ r.2.mem ((c.tc : Thread nD τ).loc main_v7_0) = (dat7 (V7 m ρ) c).arrAt 7 cfg7.N
      ∧ r.2.mem ((c.tc : Thread nD τ).loc main_v7_1) = (dat7 (V7 m ρ) c).arrAt 8 cfg7.N
      ∧ r.2.mem ((c.tc : Thread nD τ).loc main_v7_2) = (dat7 (V7 m ρ) c).arrAt 9 cfg7.N
      ∧ r.2.mem ((c.tc : Thread nD τ).loc main_v8) = (dat8 (V8 m ρ) c).arrAt 2 cfg8.N
      ∧ r.2.mem ((c.tc : Thread nD τ).loc main_v9) = (dat9 (V9 m ρ) c).arrAt 2 cfg9.N
      ∧ r.2.mem ((c.tc : Thread nD τ).loc main_v10) = (dat10 (V10 m ρ) c).arrAt 2 cfg10.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ c =>
      ⟨(h c _ (mem_uc main_v4 (by decide))).trans ((W11_of m ρ c main_v4 (by decide)).trans ((W10_of m ρ c main_v4 (by decide)).trans ((W9_of m ρ c main_v4 (by decide)).trans ((W8_of m ρ c main_v4 (by decide)).trans ((W7_of m ρ c main_v4 (by decide)).trans ((W6_of m ρ c main_v4 (by decide)).trans (W5_arr m ρ c 3))))))),
       (h c _ (mem_uc main_v6 (by decide))).trans ((W11_of m ρ c main_v6 (by decide)).trans ((W10_of m ρ c main_v6 (by decide)).trans ((W9_of m ρ c main_v6 (by decide)).trans ((W8_of m ρ c main_v6 (by decide)).trans (W7_arr m ρ c 2))))),
       (h c _ (mem_uc main_v7_0 (by decide))).trans ((W11_of m ρ c main_v7_0 (by decide)).trans ((W10_of m ρ c main_v7_0 (by decide)).trans ((W9_of m ρ c main_v7_0 (by decide)).trans (W8_arr m ρ c 7)))),
       (h c _ (mem_uc main_v7_1 (by decide))).trans ((W11_of m ρ c main_v7_1 (by decide)).trans ((W10_of m ρ c main_v7_1 (by decide)).trans ((W9_of m ρ c main_v7_1 (by decide)).trans (W8_arr m ρ c 8)))),
       (h c _ (mem_uc main_v7_2 (by decide))).trans ((W11_of m ρ c main_v7_2 (by decide)).trans ((W10_of m ρ c main_v7_2 (by decide)).trans ((W9_of m ρ c main_v7_2 (by decide)).trans (W8_arr m ρ c 9)))),
       (h c _ (mem_uc main_v8 (by decide))).trans ((W11_of m ρ c main_v8 (by decide)).trans ((W10_of m ρ c main_v8 (by decide)).trans (W9_arr m ρ c 2))),
       (h c _ (mem_uc main_v9 (by decide))).trans ((W11_of m ρ c main_v9 (by decide)).trans (W10_arr m ρ c 2)),
       (h c _ (mem_uc main_v10 (by decide))).trans (W11_arr m ρ c 2),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)

/-! ## The arrays by the arguments -/

/-- Mixer 0's projection. -/
abbrev p0M (c : Dev nD) : FVec Ideal S2048x2048 .f32 := pG (m ((c.tc : Thread nD τ).loc main_arg2)) (m ((c.tc : Thread nD τ).loc main_arg5))
/-- Mixer 1's projection. -/
abbrev p1M (c : Dev nD) : FVec Ideal S2048x2048 .f32 := pG (m ((c.tc : Thread nD τ).loc main_arg3)) (m ((c.tc : Thread nD τ).loc main_arg6))
/-- Mixer 2's projection. -/
abbrev p2M (c : Dev nD) : FVec Ideal S2048x2048 .f32 := pG (m ((c.tc : Thread nD τ).loc main_arg4)) (m ((c.tc : Thread nD τ).loc main_arg7))
/-- The merge. -/
abbrev mM (c : Dev nD) : FVec Ideal S2048x2048 .bf16 := mG (m ((c.tc : Thread nD τ).loc main_arg1)) (p0M m c) (p1M m c) (p2M m c)
/-- The merge's gradient. -/
abbrev dmM (c : Dev nD) : FVec Ideal S2048x2048 .f32 := dmG (m ((c.tc : Thread nD τ).loc main_arg9)) (m ((c.tc : Thread nD τ).loc main_arg8))

theorem at0 (c : Dev nD) : W1 m ρ c main_v0 = p0M m c :=
  (W1_arr m ρ c 2).trans ((arr0_2 (V0 m ρ) c).trans (congrArg₂ pG rfl rfl))

theorem at1 (c : Dev nD) : W2 m ρ c main_v1 = p1M m c :=
  (W2_arr m ρ c 2).trans ((arr1_2 (V1 m ρ) c).trans (congrArg₂ pG (W1_args m ρ c main_arg3 (by decide)) (W1_args m ρ c main_arg6 (by decide))))

theorem at2 (c : Dev nD) : W3 m ρ c main_v2 = p2M m c :=
  (W3_arr m ρ c 2).trans ((arr2_2 (V2 m ρ) c).trans (congrArg₂ pG (W2_args m ρ c main_arg4 (by decide)) (W2_args m ρ c main_arg7 (by decide))))

theorem at3 (c : Dev nD) : W4 m ρ c main_v3 = mM m c :=
  (W4_arr m ρ c 6).trans ((arr3_6 (V3 m ρ) c).trans (congr (congr (congrArg₂ mG (W3_args m ρ c main_arg1 (by decide))
    ((W3_of m ρ c main_v0 (by decide)).trans ((W2_of m ρ c main_v0 (by decide)).trans (at0 m ρ c)))) ((W3_of m ρ c main_v1 (by decide)).trans (at1 m ρ c))) (at2 m ρ c)))

theorem res4 (c : Dev nD) : (dat4 (V4 m ρ) c).arrAt 3 cfg4.N = xG (mM m c) (m ((c.tc : Thread nD τ).loc main_arg8)) (m ((c.tc : Thread nD τ).loc main_arg0)) :=
  (arr4_3 (V4 m ρ) c).trans (congr (congrArg₂ xG (at3 m ρ c) (W4_args m ρ c main_arg8 (by decide))) (W4_args m ρ c main_arg0 (by decide)))

theorem at5 (c : Dev nD) : W6 m ρ c main_v5 = dmM m c :=
  (W6_arr m ρ c 2).trans ((arr5_2 (V5 m ρ) c).trans (congrArg₂ dmG (W5_args m ρ c main_arg9 (by decide)) (W5_args m ρ c main_arg8 (by decide))))

theorem res6 (c : Dev nD) : (dat6 (V6 m ρ) c).arrAt 2 cfg6.N = dwG (mM m c) (m ((c.tc : Thread nD τ).loc main_arg9)) :=
  (arr6_2 (V6 m ρ) c).trans (congrArg₂ dwG ((W6_of m ρ c main_v3 (by decide)).trans ((W5_of m ρ c main_v3 (by decide)).trans (at3 m ρ c))) (W6_args m ρ c main_arg9 (by decide)))

theorem in7 (c : Dev nD) : W7 m ρ c main_v5 = dmM m c := ((W7_of m ρ c main_v5 (by decide)).trans (at5 m ρ c))

theorem res7_0 (c : Dev nD) : (dat7 (V7 m ρ) c).arrAt 7 cfg7.N = dgG 0 (m ((c.tc : Thread nD τ).loc main_arg1)) (p0M m c) (dmM m c) :=
  (arr7_7 (V7 m ρ) c).trans (congr (congrArg₂ (dgG 0) (W7_args m ρ c main_arg1 (by decide))
    ((W7_of m ρ c main_v0 (by decide)).trans ((W6_of m ρ c main_v0 (by decide)).trans ((W5_of m ρ c main_v0 (by decide)).trans ((W4_of m ρ c main_v0 (by decide)).trans ((W3_of m ρ c main_v0 (by decide)).trans ((W2_of m ρ c main_v0 (by decide)).trans (at0 m ρ c)))))))) (in7 m ρ c))

theorem at7_0 (c : Dev nD) : W8 m ρ c main_v7_3 = dpG 0 (m ((c.tc : Thread nD τ).loc main_arg1)) (dmM m c) :=
  (W8_arr m ρ c 10).trans ((arr7_10 (V7 m ρ) c).trans (congrArg₂ (dpG 0) (W7_args m ρ c main_arg1 (by decide)) (in7 m ρ c)))

theorem res8 (c : Dev nD) : (dat8 (V8 m ρ) c).arrAt 2 cfg8.N = dbG (m ((c.tc : Thread nD τ).loc main_arg2)) (dpG 0 (m ((c.tc : Thread nD τ).loc main_arg1)) (dmM m c)) :=
  (arr8_2 (V8 m ρ) c).trans (congrArg₂ dbG (W8_args m ρ c main_arg2 (by decide)) (at7_0 m ρ c))

theorem res7_1 (c : Dev nD) : (dat7 (V7 m ρ) c).arrAt 8 cfg7.N = dgG 1 (m ((c.tc : Thread nD τ).loc main_arg1)) (p1M m c) (dmM m c) :=
  (arr7_8 (V7 m ρ) c).trans (congr (congrArg₂ (dgG 1) (W7_args m ρ c main_arg1 (by decide))
    ((W7_of m ρ c main_v1 (by decide)).trans ((W6_of m ρ c main_v1 (by decide)).trans ((W5_of m ρ c main_v1 (by decide)).trans ((W4_of m ρ c main_v1 (by decide)).trans ((W3_of m ρ c main_v1 (by decide)).trans (at1 m ρ c))))))) (in7 m ρ c))

theorem at7_1 (c : Dev nD) : W8 m ρ c main_v7_4 = dpG 1 (m ((c.tc : Thread nD τ).loc main_arg1)) (dmM m c) :=
  (W8_arr m ρ c 11).trans ((arr7_11 (V7 m ρ) c).trans (congrArg₂ (dpG 1) (W7_args m ρ c main_arg1 (by decide)) (in7 m ρ c)))

theorem res9 (c : Dev nD) : (dat9 (V9 m ρ) c).arrAt 2 cfg9.N = dbG (m ((c.tc : Thread nD τ).loc main_arg3)) (dpG 1 (m ((c.tc : Thread nD τ).loc main_arg1)) (dmM m c)) :=
  (arr9_2 (V9 m ρ) c).trans (congrArg₂ dbG (W9_args m ρ c main_arg3 (by decide)) ((W9_of m ρ c main_v7_4 (by decide)).trans (at7_1 m ρ c)))

theorem res7_2 (c : Dev nD) : (dat7 (V7 m ρ) c).arrAt 9 cfg7.N = dgG 2 (m ((c.tc : Thread nD τ).loc main_arg1)) (p2M m c) (dmM m c) :=
  (arr7_9 (V7 m ρ) c).trans (congr (congrArg₂ (dgG 2) (W7_args m ρ c main_arg1 (by decide))
    ((W7_of m ρ c main_v2 (by decide)).trans ((W6_of m ρ c main_v2 (by decide)).trans ((W5_of m ρ c main_v2 (by decide)).trans ((W4_of m ρ c main_v2 (by decide)).trans (at2 m ρ c)))))) (in7 m ρ c))

theorem at7_2 (c : Dev nD) : W8 m ρ c main_v7_5 = dpG 2 (m ((c.tc : Thread nD τ).loc main_arg1)) (dmM m c) :=
  (W8_arr m ρ c 12).trans ((arr7_12 (V7 m ρ) c).trans (congrArg₂ (dpG 2) (W7_args m ρ c main_arg1 (by decide)) (in7 m ρ c)))

theorem res10 (c : Dev nD) : (dat10 (V10 m ρ) c).arrAt 2 cfg10.N = dbG (m ((c.tc : Thread nD τ).loc main_arg4)) (dpG 2 (m ((c.tc : Thread nD τ).loc main_arg1)) (dmM m c)) :=
  (arr10_2 (V10 m ρ) c).trans (congrArg₂ dbG (W10_args m ρ c main_arg4 (by decide)) ((W10_of m ρ c main_v7_5 (by decide)).trans ((W9_of m ρ c main_v7_5 (by decide)).trans (at7_2 m ρ c))))

/-- Every run ends with the eight results, each a function of the arguments. -/
theorem run_num : θ_run defs (onTc (τ := τ) (main (F := Ideal))) ⟨m, fun _ => 0, ρ⟩ (fun r => ∀ c : Dev nD,
      r.2.mem ((c.tc : Thread nD τ).loc main_v4) = xG (mM m c) (m ((c.tc : Thread nD τ).loc main_arg8)) (m ((c.tc : Thread nD τ).loc main_arg0))
      ∧ r.2.mem ((c.tc : Thread nD τ).loc main_v6) = dwG (mM m c) (m ((c.tc : Thread nD τ).loc main_arg9))
      ∧ r.2.mem ((c.tc : Thread nD τ).loc main_v7_0) = dgG 0 (m ((c.tc : Thread nD τ).loc main_arg1)) (p0M m c) (dmM m c)
      ∧ r.2.mem ((c.tc : Thread nD τ).loc main_v7_1) = dgG 1 (m ((c.tc : Thread nD τ).loc main_arg1)) (p1M m c) (dmM m c)
      ∧ r.2.mem ((c.tc : Thread nD τ).loc main_v7_2) = dgG 2 (m ((c.tc : Thread nD τ).loc main_arg1)) (p2M m c) (dmM m c)
      ∧ r.2.mem ((c.tc : Thread nD τ).loc main_v8) = dbG (m ((c.tc : Thread nD τ).loc main_arg2)) (dpG 0 (m ((c.tc : Thread nD τ).loc main_arg1)) (dmM m c))
      ∧ r.2.mem ((c.tc : Thread nD τ).loc main_v9) = dbG (m ((c.tc : Thread nD τ).loc main_arg3)) (dpG 1 (m ((c.tc : Thread nD τ).loc main_arg1)) (dmM m c))
      ∧ r.2.mem ((c.tc : Thread nD τ).loc main_v10) = dbG (m ((c.tc : Thread nD τ).loc main_arg4)) (dpG 2 (m ((c.tc : Thread nD τ).loc main_arg1)) (dmM m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ hr c => ⟨(hr c).1.trans (res4 m ρ c), (hr c).2.1.trans (res6 m ρ c), (hr c).2.2.1.trans (res7_0 m ρ c), (hr c).2.2.2.1.trans (res7_1 m ρ c), (hr c).2.2.2.2.1.trans (res7_2 m ρ c), (hr c).2.2.2.2.2.1.trans (res8 m ρ c), (hr c).2.2.2.2.2.2.1.trans (res9 m ρ c), (hr c).2.2.2.2.2.2.2.1.trans (res10 m ρ c), (hr c).2.2.2.2.2.2.2.2⟩) (run_arrays m ρ)

end Cert.Gate

end
-- ==== Proof.GateFin.lean ====
/-
  THE VALUE CLAIM FOR THE GATED MERGE AND THE OUTPUT PROJECTION: the kernel's eight results are the reference's.
-/
module

public import proofs.«01_k».proof.Defs
public import proofs.«01_k».proof.Proof.GateRef
public import proofs.«01_k».proof.Proof.GateRun

@[expose] public section

set_option maxRecDepth 16384

noncomputable section

namespace Cert.Gate

open Idealize.ShloMosaic Idealize.ShloMosaic.TcCoe Idealize.SL.Sem

section
open Cert.Reference8Ideal Cert.Reference8Ideal.Gen

/-! ## The gates' gradients and the weights', one mixer at a time -/

theorem gate_0 (o0 o1 o2 : FVec Ideal S2048x1024 .bf16) (w0 w1 w2 : FVec Ideal S4x1024x512 .bf16) (z : FVec Ideal S2048x13312 .f32)
    (d : FVec Ideal S2048x2048 .f32) :
    shapeCast S2048x2048 (extractStridedSlice S2048x1x2048 ![0, 0, 0] (dgA d (pA (ysA o0 o1 o2) (wsA w0 w1 w2)) (sA z))
      slices_S2048x3x2048_S2048x1x2048_0_0_0) shapeCasts_S2048x1x2048_S2048x2048 = dgG 0 z (pG o0 w0) d := by
  funext y; change S2048x2048.Idx at y; idx_vars y
  refine Eq.trans (b := dgA d (pA (ysA o0 o1 o2) (wsA w0 w1 w2)) (sA z) (ix3 y0 0 y1)) (by pointwise) ?_
  rw [dgA_apply, pA_0, sA_apply]; rfl

theorem weight_0 (o0 o1 o2 : FVec Ideal S2048x1024 .bf16) (z : FVec Ideal S2048x13312 .f32) (d : FVec Ideal S2048x2048 .f32) :
    shapeCast S4x1024x512 (extractStridedSlice S1x4x1024x512 ![0, 0, 0, 0] (dbA (ysA o0 o1 o2) (spA d (sA z)))
      slices_S3x4x1024x512_S1x4x1024x512_0_0_0_0) shapeCasts_S1x4x1024x512_S4x1024x512 = dbG o0 (dpG 0 z d) := by
  funext y; change S4x1024x512.Idx at y; idx_vars y
  refine Eq.trans (b := dbA (ysA o0 o1 o2) (spA d (sA z)) (ix4 0 y0 y1 y2)) (by pointwise) ?_
  rw [dbA_apply]
  refine Finset.sum_congr rfl fun r _ => (mul_comm _ _).trans (congrArg₂ (fun a b : EReal => a * b) (ysA_0 _ _ _ _ _) ?_)
  rw [spA_apply, sA_apply]; rfl

theorem gate_1 (o0 o1 o2 : FVec Ideal S2048x1024 .bf16) (w0 w1 w2 : FVec Ideal S4x1024x512 .bf16) (z : FVec Ideal S2048x13312 .f32)
    (d : FVec Ideal S2048x2048 .f32) :
    shapeCast S2048x2048 (extractStridedSlice S2048x1x2048 ![0, 1, 0] (dgA d (pA (ysA o0 o1 o2) (wsA w0 w1 w2)) (sA z))
      slices_S2048x3x2048_S2048x1x2048_0_1_0) shapeCasts_S2048x1x2048_S2048x2048 = dgG 1 z (pG o1 w1) d := by
  funext y; change S2048x2048.Idx at y; idx_vars y
  refine Eq.trans (b := dgA d (pA (ysA o0 o1 o2) (wsA w0 w1 w2)) (sA z) (ix3 y0 1 y1)) (by pointwise) ?_
  rw [dgA_apply, pA_1, sA_apply]; rfl

theorem weight_1 (o0 o1 o2 : FVec Ideal S2048x1024 .bf16) (z : FVec Ideal S2048x13312 .f32) (d : FVec Ideal S2048x2048 .f32) :
    shapeCast S4x1024x512 (extractStridedSlice S1x4x1024x512 ![1, 0, 0, 0] (dbA (ysA o0 o1 o2) (spA d (sA z)))
      slices_S3x4x1024x512_S1x4x1024x512_1_0_0_0) shapeCasts_S1x4x1024x512_S4x1024x512 = dbG o1 (dpG 1 z d) := by
  funext y; change S4x1024x512.Idx at y; idx_vars y
  refine Eq.trans (b := dbA (ysA o0 o1 o2) (spA d (sA z)) (ix4 1 y0 y1 y2)) (by pointwise) ?_
  rw [dbA_apply]
  refine Finset.sum_congr rfl fun r _ => (mul_comm _ _).trans (congrArg₂ (fun a b : EReal => a * b) (ysA_1 _ _ _ _ _) ?_)
  rw [spA_apply, sA_apply]; rfl

theorem gate_2 (o0 o1 o2 : FVec Ideal S2048x1024 .bf16) (w0 w1 w2 : FVec Ideal S4x1024x512 .bf16) (z : FVec Ideal S2048x13312 .f32)
    (d : FVec Ideal S2048x2048 .f32) :
    shapeCast S2048x2048 (extractStridedSlice S2048x1x2048 ![0, 2, 0] (dgA d (pA (ysA o0 o1 o2) (wsA w0 w1 w2)) (sA z))
      slices_S2048x3x2048_S2048x1x2048_0_2_0) shapeCasts_S2048x1x2048_S2048x2048 = dgG 2 z (pG o2 w2) d := by
  funext y; change S2048x2048.Idx at y; idx_vars y
  refine Eq.trans (b := dgA d (pA (ysA o0 o1 o2) (wsA w0 w1 w2)) (sA z) (ix3 y0 2 y1)) (by pointwise) ?_
  rw [dgA_apply, pA_2, sA_apply]; rfl

theorem weight_2 (o0 o1 o2 : FVec Ideal S2048x1024 .bf16) (z : FVec Ideal S2048x13312 .f32) (d : FVec Ideal S2048x2048 .f32) :
    shapeCast S4x1024x512 (extractStridedSlice S1x4x1024x512 ![2, 0, 0, 0] (dbA (ysA o0 o1 o2) (spA d (sA z)))
      slices_S3x4x1024x512_S1x4x1024x512_2_0_0_0) shapeCasts_S1x4x1024x512_S4x1024x512 = dbG o2 (dpG 2 z d) := by
  funext y; change S4x1024x512.Idx at y; idx_vars y
  refine Eq.trans (b := dbA (ysA o0 o1 o2) (spA d (sA z)) (ix4 2 y0 y1 y2)) (by pointwise) ?_
  rw [dbA_apply]
  refine Finset.sum_congr rfl fun r _ => (mul_comm _ _).trans (congrArg₂ (fun a b : EReal => a * b) (ysA_2 _ _ _ _ _) ?_)
  rw [spA_apply, sA_apply]; rfl

end

set_option maxHeartbeats 4000000 in
theorem algebraic : Cert.algebraic_Kernel8Ideal_Reference8Ideal := by
  intro m g m' g' _ ha
  refine ⟨_, _, _, _, _, _, _, _, run_num m g, (θ_run _ _ _).mono (fun r h c => ⟨(h c).1.trans ?_, (h c).2.1.trans ?_, (h c).2.2.1.trans ?_,
    (h c).2.2.2.1.trans ?_, (h c).2.2.2.2.1.trans ?_, (h c).2.2.2.2.2.1.trans ?_, (h c).2.2.2.2.2.2.1.trans ?_,
    (h c).2.2.2.2.2.2.2.1.trans ?_, (h c).2.2.2.2.2.2.2.2⟩) (Cert.Reference8Ideal.Value.run m' g')⟩
  · rw [(ha c).1, (ha c).2.1, (ha c).2.2.1, (ha c).2.2.2.1, (ha c).2.2.2.2.1, (ha c).2.2.2.2.2.1, (ha c).2.2.2.2.2.2.1, (ha c).2.2.2.2.2.2.2.1, (ha c).2.2.2.2.2.2.2.2.1]
    refine (show _ = xA _ (mA (sA _) (pA (ysA _ _ _) (wsA _ _ _))) (woA _) from rfl).trans ?_
    rw [mA_eq]; exact xA_eq _ _ _
  · rw [(ha c).2.1, (ha c).2.2.1, (ha c).2.2.2.1, (ha c).2.2.2.2.1, (ha c).2.2.2.2.2.1, (ha c).2.2.2.2.2.2.1, (ha c).2.2.2.2.2.2.2.1, (ha c).2.2.2.2.2.2.2.2.2]
    refine (show _ = dwA _ (mA (sA _) (pA (ysA _ _ _) (wsA _ _ _))) from rfl).trans ?_
    rw [mA_eq]; exact dwA_eq _ _
  · rw [(ha c).2.1, (ha c).2.2.1, (ha c).2.2.2.1, (ha c).2.2.2.2.1, (ha c).2.2.2.2.2.1, (ha c).2.2.2.2.2.2.1, (ha c).2.2.2.2.2.2.2.1, (ha c).2.2.2.2.2.2.2.2.1, (ha c).2.2.2.2.2.2.2.2.2]
    refine (show _ = shapeCast _ (extractStridedSlice _ _ (dgA (dmA _ (woA _)) (pA (ysA _ _ _) (wsA _ _ _)) (sA _)) _) _ from rfl).trans ?_
    rw [dmA_eq]; exact gate_0 _ _ _ _ _ _ _ _
  · rw [(ha c).2.1, (ha c).2.2.1, (ha c).2.2.2.1, (ha c).2.2.2.2.1, (ha c).2.2.2.2.2.1, (ha c).2.2.2.2.2.2.1, (ha c).2.2.2.2.2.2.2.1, (ha c).2.2.2.2.2.2.2.2.1, (ha c).2.2.2.2.2.2.2.2.2]
    refine (show _ = shapeCast _ (extractStridedSlice _ _ (dgA (dmA _ (woA _)) (pA (ysA _ _ _) (wsA _ _ _)) (sA _)) _) _ from rfl).trans ?_
    rw [dmA_eq]; exact gate_1 _ _ _ _ _ _ _ _
  · rw [(ha c).2.1, (ha c).2.2.1, (ha c).2.2.2.1, (ha c).2.2.2.2.1, (ha c).2.2.2.2.2.1, (ha c).2.2.2.2.2.2.1, (ha c).2.2.2.2.2.2.2.1, (ha c).2.2.2.2.2.2.2.2.1, (ha c).2.2.2.2.2.2.2.2.2]
    refine (show _ = shapeCast _ (extractStridedSlice _ _ (dgA (dmA _ (woA _)) (pA (ysA _ _ _) (wsA _ _ _)) (sA _)) _) _ from rfl).trans ?_
    rw [dmA_eq]; exact gate_2 _ _ _ _ _ _ _ _
  · rw [(ha c).2.1, (ha c).2.2.1, (ha c).2.2.2.1, (ha c).2.2.2.2.1, (ha c).2.2.2.2.2.2.2.2.1, (ha c).2.2.2.2.2.2.2.2.2]
    refine (show _ = shapeCast _ (extractStridedSlice _ _ (dbA (ysA _ _ _) (spA (dmA _ (woA _)) (sA _))) _) _ from rfl).trans ?_
    rw [dmA_eq]; exact weight_0 _ _ _ _ _
  · rw [(ha c).2.1, (ha c).2.2.1, (ha c).2.2.2.1, (ha c).2.2.2.2.1, (ha c).2.2.2.2.2.2.2.2.1, (ha c).2.2.2.2.2.2.2.2.2]
    refine (show _ = shapeCast _ (extractStridedSlice _ _ (dbA (ysA _ _ _) (spA (dmA _ (woA _)) (sA _))) _) _ from rfl).trans ?_
    rw [dmA_eq]; exact weight_1 _ _ _ _ _
  · rw [(ha c).2.1, (ha c).2.2.1, (ha c).2.2.2.1, (ha c).2.2.2.2.1, (ha c).2.2.2.2.2.2.2.2.1, (ha c).2.2.2.2.2.2.2.2.2]
    refine (show _ = shapeCast _ (extractStridedSlice _ _ (dbA (ysA _ _ _) (spA (dmA _ (woA _)) (sA _))) _) _ from rfl).trans ?_
    rw [dmA_eq]; exact weight_2 _ _ _ _ _

end Cert.Gate

end
-- ==== Proof.BrVal.lean ====
/-
  THE GRADIENT OF A MIXER'S OUTPUT: a product with the mixer's weight's transpose, summed over four tiles of columns.
-/
module

public import proofs.«01_k».proof.Proof.Gen.Kernel9Ideal.Value
public import proofs.«01_k».proof.Proof.Tiles

@[expose] public section

set_option maxRecDepth 16384

noncomputable section

namespace Cert.Br

open Idealize.ShloMosaic Idealize.ShloMosaic.TcCoe Idealize.ShloMosaic.Tactic
open Cert.Kernel9Ideal Cert.Kernel9Ideal.Gen Cert.Tiles

/-- The gradient of the mixer's output: rows of `dp` against rows of `w`, whose columns come in four blocks. -/
def dyG (w : FVec Ideal S4x1024x512 .bf16) (dp : FVec Ideal S2048x2048 .bf16) : FVec Ideal S2048x1024 .bf16 :=
  fun i => ∑ n : Fin 2048, dp (ix2 (i 0) n) * w (ix3 ⟨n.val / 512, by omega⟩ (i 1) ⟨n.val % 512, by omega⟩)

/-! ## A point's tile -/

theorem tile (x0 : Vec Ideal S1024x512 .bf16) (x1 : Vec Ideal S1x1024x512 .bf16) (r s : Fin 1024) :
    k0_pay1 x0 x1 (ix2 r s) = ∑ k : Fin 512, x0 (ix2 r k) * x1 (ix3 0 s k) := by
  unfold k0_pay1; pointwise

theorem first (x0 : Vec Ideal S1024x512 .bf16) (x1 : Vec Ideal S1x1024x512 .bf16) (r s : Fin 1024) :
    k0_pay2 x0 x1 (ix2 r s) = ∑ k : Fin 512, x0 (ix2 r k) * x1 (ix3 0 s k) := by
  unfold k0_pay2; pointwise [tile]

theorem next (x0 : Vec Ideal S1024x512 .bf16) (x1 : Vec Ideal S1x1024x512 .bf16) (old : Vec Ideal S1024x1024 .f32) (r s : Fin 1024) :
    k0_pay3 x0 x1 old (ix2 r s) = old (ix2 r s) + ∑ k : Fin 512, x0 (ix2 r k) * x1 (ix3 0 s k) := by
  unfold k0_pay3; pointwise [tile]

theorem cast (x : Vec Ideal S1024x1024 .f32) (r s : Fin 1024) : k0_pay4 x (ix2 r s) = x (ix2 r s) := by
  unfold k0_pay4; pointwise

/-! ## The tiles a grid point works on -/

theorem idx : ∀ t : Fin cfg0.N, win0_0.index t = ![t.val / 4, t.val % 4]
    ∧ win0_1.index t = ![t.val % 4, 0, 0] ∧ win0_2.index t = ![t.val / 4, 0] :=
  (by decide +kernel : ∀ t : Fin grid0.N, _)

theorem lt0 (t : Fin cfg0.N) : t.val < 8 := lt_of_lt_of_eq t.isLt (show cfg0.N = 8 from N_0)

variable (m : (ℓ : Loc nD τ sig) → Buf (Elt Ideal) ℓ) (ρ : Dev nD → PrngReg) (c : Dev nD)

/-- The mixer's weight. -/
abbrev w : FVec Ideal S4x1024x512 .bf16 := V m c main_arg0
/-- The gradient of the mixer's projection. -/
abbrev dp : FVec Ideal S2048x2048 .bf16 := V m c main_arg1

/-- What point `n` adds at place `(r, s)` of its tile. -/
def part (n : Nat) (r s : Fin 1024) : EReal :=
  ∑ k : Fin 512, dp m c (ix2 (pos (n / 4 % 2) r (by omega)) (pos5 (n % 4) k (by omega))) * w m c (ix3 ⟨n % 4, by omega⟩ s k)

/-- A point's block of the projection's gradient. -/
abbrev b0 (t : Fin cfg0.N) : Vec Ideal S1024x512 .bf16 := iblk m c 0 t
/-- A point's block of the weight. -/
abbrev b1 (t : Fin cfg0.N) : Vec Ideal S1x1024x512 .bf16 := iblk m c 1 t

theorem part_eq (t : Fin cfg0.N) (r s : Fin 1024) :
    ∑ k : Fin 512, b0 m c t (ix2 r k) * b1 m c t (ix3 0 s k) = part m c t.val r s := by
  have ht := lt0 t
  refine sum_mul_congr (fun k => ?_) (fun k => ?_)
  · have e : t.val / 4 % 2 = t.val / 4 := by omega
    simp only [e]; unfold pos pos5; blk_ext [iblk, idx t]
  · blk_ext [iblk, idx t]

theorem step_A (t : Fin cfg0.N) (h : t.val % 4 = 0) (r s : Fin 1024) :
    (outsAt0 m c t.val t.isLt).2 (ix2 r s) = part m c t.val r s := by
  rw [outsAt0_A m c t h (by omega) (by omega)]; frame_out
  exact (first _ _ r s).trans (part_eq m c t r s)

theorem step_B (t : Fin cfg0.N) (h : ¬ t.val % 4 = 0) (r s : Fin 1024) :
    (outsAt0 m c t.val t.isLt).2 (ix2 r s)
      = (outsAt0 m c (t.val - 1) (Nat.lt_of_le_of_lt (Nat.sub_le _ _) t.isLt)).2 (ix2 r s) + part m c t.val r s := by
  by_cases h3 : t.val % 4 = 3
  · rw [outsAt0_C m c t h (by omega) h3]; frame_out
    exact (next _ _ _ r s).trans (congrArg₂ (fun a b : EReal => a + b) (congrFun (Memref.IsWhole.read_unread _ _) _) (part_eq m c t r s))
  · rw [outsAt0_B m c t h (by omega) h3]; frame_out
    exact (next _ _ _ r s).trans (congrArg₂ (fun a b : EReal => a + b) (congrFun (Memref.IsWhole.read_unread _ _) _) (part_eq m c t r s))

/-- At a run's last point the tile written back is the sum. -/
theorem last (t : Fin cfg0.N) (h3 : t.val % 4 = 3) (r s : Fin 1024) :
    (outsAt0 m c t.val t.isLt).1 (ix2 r s) = dyG (w m c) (dp m c) (ix2 (pos (t.val / 4 % 2) r (by omega)) s) := by
  have e : (outsAt0 m c t.val t.isLt).1 (ix2 r s) = (outsAt0 m c t.val t.isLt).2 (ix2 r s) := by
    rw [outsAt0_C m c t (by omega) (by omega) h3]; frame_out; exact cast _ _ _
  rw [e, acc_run (fun n hn => (outsAt0 m c n hn).2 (ix2 r s)) (fun n => part m c n r s)
    (fun t h => step_A m c t h r s) (fun t h => step_B m c t h r s) t (by omega)]
  refine Eq.trans ?_ (sum_tiles (n := 4) (m := 512) 2048 rfl _).symm
  refine Finset.sum_congr rfl fun a _ => ?_
  have e1 : (4 * (t.val / 4) + a.val) / 4 % 2 = t.val / 4 % 2 := by omega
  have e2 : (4 * (t.val / 4) + a.val) % 4 = a.val := by omega
  unfold part; simp only [e1, e2]
  refine Finset.sum_congr rfl fun k _ => congrArg₂ (fun a b : EReal => a * b) rfl (congrArg (w m c) ?_)
  have e4 : (a.val * 512 + k.val) / 512 = a.val := by omega
  have e5 : (a.val * 512 + k.val) % 512 = k.val := by omega
  simp only [e4, e5]; rfl

theorem arr : (dats m 0 c).arrAt 2 cfg0.N = dyG (w m c) (dp m c) := by
  refine (dats m 0 c).arrAt_eq_of_covers 2 _ (by decide +kernel) fun t hf y => ?_
  have h3 := (flush0_2 t).mp hf
  have ht := lt0 t
  blk_simp; rw [after0_2]
  change S1024x1024.Idx at y
  idx_vars y
  refine (last m c t h3 y0 y1).trans (congrArg (dyG (w m c) (dp m c)) ?_)
  have e : t.val / 4 % 2 = t.val / 4 := by omega
  simp only [e]; unfold pos; blk_ext [idx t]

end Cert.Br

end
-- ==== Proof.BrFin.lean ====
/-
  THE VALUE CLAIM FOR THE GRADIENT OF A MIXER'S OUTPUT: the kernel's array is the reference's.
-/
module

public import proofs.«01_k».proof.Defs
public import proofs.«01_k».proof.Proof.Gen.Reference9Ideal.Run
public import proofs.«01_k».proof.Proof.BrVal

@[expose] public section

set_option maxRecDepth 16384

noncomputable section

namespace Cert.Br

open Idealize.ShloMosaic Idealize.ShloMosaic.TcCoe Idealize.SL.Sem

section
open Cert.Reference9Ideal Cert.Reference9Ideal.Gen

/-- The reference's product, with the weight's four blocks of columns laid side by side. -/
theorem ref_apply (a0 : FVec Ideal S4x1024x512 .bf16) (a1 : FVec Ideal S2048x2048 .bf16) (i : Fin 2048) (j : Fin 1024) :
    truncf .bf16 (Host.dotGeneral dot_S2048x2048_S1024x2048_S2048x1024_1_1_0_0_n_n none (extf .f32 a1 bitsLt_bf16_f32) (shapeCast S1024x2048
      (transpose S1024x4x512 [1, 0, 2] (extf .f32 a0 bitsLt_bf16_f32) transposes_S4x1024x512_S1024x4x512_1_0_2) shapeCasts_S1024x4x512_S1024x2048))
      bitsLt_bf16_f32 (ix2 i j) = dyG a0 a1 (ix2 i j) := by
  unfold dyG; pointwise

end

theorem algebraic : Cert.algebraic_Kernel9Ideal_Reference9Ideal := by
  intro m g m' g' _ ha
  refine ⟨fun c => dyG (w m c) (dp m c), (θ_run _ _ _).mono (fun r h c => ⟨(h c).1.trans (arr m c), (h c).2⟩)
    (Cert.Kernel9Ideal.Value.run_blocks m g), (θ_run _ _ _).mono (fun r h c => ⟨(h c).1.trans ?_, (h c).2⟩)
    (Cert.Reference9Ideal.Value.run m' g')⟩
  rw [(ha c).1, (ha c).2]
  funext y; change (⟨2, ![2048, 1024]⟩ : Shape).Idx at y; idx_vars y
  exact ref_apply _ _ _ _

end Cert.Br

end
-- ==== Proof.Prod.lean ====
/-
  THE FOUR PRODUCTS OF A PROJECTION AND OF ITS GRADIENTS, of any sizes: by a weight, by its transpose, and the weight's own
  gradient; the weight in one block or in four blocks of 512 columns. Nothing here mentions a program.
-/
module

public import proofs.«01_k».proof.Proof.Tiles

@[expose] public section

noncomputable section

namespace Cert.Prod

open Idealize.ShloMosaic

variable {M K N : Nat} {φ ψ : FTy}

/-- Rows of `a` by columns of `w`. -/
def nn (a : FVec Ideal ⟨2, ![M, K]⟩ φ) (w : FVec Ideal ⟨3, ![1, K, N]⟩ ψ) : FVec Ideal ⟨2, ![M, N]⟩ .f32 :=
  fun i => ∑ k : Fin K, a (ix2 (i 0) k) * w (ix3 0 k (i 1))

/-- Rows of `a` by rows of `w`. -/
def nt (a : FVec Ideal ⟨2, ![M, N]⟩ φ) (w : FVec Ideal ⟨3, ![1, K, N]⟩ ψ) : FVec Ideal ⟨2, ![M, K]⟩ .f32 :=
  fun i => ∑ n : Fin N, a (ix2 (i 0) n) * w (ix3 0 (i 1) n)

/-- Columns of `a` by columns of `g`: a weight's gradient. -/
def tn (a : FVec Ideal ⟨2, ![M, K]⟩ φ) (g : FVec Ideal ⟨2, ![M, N]⟩ ψ) : FVec Ideal ⟨3, ![1, K, N]⟩ .bf16 :=
  fun i => ∑ r : Fin M, a (ix2 r (i 1)) * g (ix2 r (i 2))

/-- Rows of `a` by columns of `w`, which come in four blocks. -/
def nb (a : FVec Ideal ⟨2, ![M, K]⟩ φ) (w : FVec Ideal ⟨3, ![4, K, 512]⟩ ψ) : FVec Ideal ⟨2, ![M, 2048]⟩ .f32 :=
  fun i => ∑ k : Fin K, a (ix2 (i 0) k) *
    w (ix3 ⟨(i 1).val / 512, by have := (i 1).isLt; simp at this; omega⟩ k ⟨(i 1).val % 512, by omega⟩)

/-- Columns of `a` by columns of `g`, left in four blocks. -/
def tb (a : FVec Ideal ⟨2, ![M, K]⟩ φ) (g : FVec Ideal ⟨2, ![M, 2048]⟩ ψ) : FVec Ideal ⟨3, ![4, K, 512]⟩ .bf16 :=
  fun i => ∑ r : Fin M, a (ix2 r (i 1)) *
    g (ix2 r ⟨(i 0).val * 512 + (i 2).val, by have := (i 0).isLt; have := (i 2).isLt; simp at *; omega⟩)

/-- Rows of `a` by rows of `w`, whose columns come in four blocks. -/
def tt (a : FVec Ideal ⟨2, ![M, 2048]⟩ φ) (w : FVec Ideal ⟨3, ![4, K, 512]⟩ ψ) (σ : FTy) : FVec Ideal ⟨2, ![M, K]⟩ σ :=
  fun i => ∑ n : Fin 2048, a (ix2 (i 0) n) * w (ix3 ⟨n.val / 512, by omega⟩ (i 1) ⟨n.val % 512, by omega⟩)

end Cert.Prod

end
-- ==== Proof.XProjVal.lean ====
/-
  THE MEMORY CROSS-ATTENTION'S PROJECTIONS, with their gradients: the arrays that the eight regions leave.
-/
module

public import proofs.«01_k».proof.Proof.Gen.Kernel10Ideal.Frame
public import proofs.«01_k».proof.Proof.Prod

@[expose] public section

set_option maxRecDepth 16384

noncomputable section

namespace Cert.XProj

open Idealize.ShloMosaic Idealize.ShloMosaic.TcCoe Idealize.ShloMosaic.Tactic
open Cert.Kernel10Ideal Cert.Kernel10Ideal.Gen Cert.Tiles

/-! ## A point's tile -/

theorem tile0 (x0 : Vec Ideal S1024x2048 .bf16) (x1 : Vec Ideal S1x2048x512 .bf16) (r : Fin 1024) (s : Fin 512) :
    k0_pay1 x0 x1 (ix2 r s) = ∑ k : Fin 2048, x0 (ix2 r k) * x1 (ix3 0 k s) := by
  unfold k0_pay1; pointwise

theorem tile1 (x0 : Vec Ideal S256x2048 .bf16) (x1 : Vec Ideal S1x2048x1024 .bf16) (r : Fin 256) (s : Fin 1024) :
    k1_pay1 x0 x1 (ix2 r s) = ∑ k : Fin 2048, x0 (ix2 r k) * x1 (ix3 0 k s) := by
  unfold k1_pay1; pointwise

theorem tile2 (x0 : Vec Ideal S1024x512 .bf16) (x1 : Vec Ideal S1x512x512 .bf16) (x2 : Vec Ideal S1024x512 .f32) (r : Fin 1024) (s : Fin 512) :
    k2_pay1 x0 x1 x2 (ix2 r s) = (∑ k : Fin 512, x0 (ix2 r k) * x1 (ix3 0 k s)) + x2 (ix2 r s) := by
  unfold k2_pay1; pointwise

theorem tile3 (x0 : Vec Ideal S2048x512 .bf16) (x1 : Vec Ideal S2048x512 .f32) (r s : Fin 512) :
    k3_pay1 x0 x1 (ix3 0 r s) = ∑ k : Fin 2048, x0 (ix2 k r) * x1 (ix2 k s) := by
  unfold k3_pay1; pointwise

theorem tile4 (x0 : Vec Ideal S1024x512 .bf16) (x1 : Vec Ideal S1x1024x512 .bf16) (r s : Fin 1024) :
    k4_pay1 x0 x1 (ix2 r s) = ∑ k : Fin 512, x0 (ix2 r k) * x1 (ix3 0 s k) := by
  unfold k4_pay1; pointwise

theorem tile5 (x0 : Vec Ideal S2048x1024 .bf16) (x1 : Vec Ideal S2048x512 .bf16) (r : Fin 1024) (s : Fin 512) :
    k5_pay1 x0 x1 (ix3 0 r s) = ∑ k : Fin 2048, x0 (ix2 k r) * x1 (ix2 k s) := by
  unfold k5_pay1; pointwise

theorem tile6 (x0 : Vec Ideal S256x1024 .bf16) (x1 : Vec Ideal S1x1024x1024 .bf16) (r : Fin 256) (s : Fin 1024) :
    k6_pay1 x0 x1 (ix2 r s) = ∑ k : Fin 1024, x0 (ix2 r k) * x1 (ix3 0 s k) := by
  unfold k6_pay1; pointwise

theorem tile7 (x0 : Vec Ideal S256x1024 .bf16) (x1 : Vec Ideal S256x1024 .bf16) (r s : Fin 1024) :
    k7_pay1 x0 x1 (ix3 0 r s) = ∑ k : Fin 256, x0 (ix2 k r) * x1 (ix2 k s) := by
  unfold k7_pay1; pointwise

/-! ## The tile a grid point works on -/

theorem idx0 : ∀ t : Fin cfg0.N, win0_0.index t = ![t.val, 0]
    ∧ win0_1.index t = ![0, 0, 0]
    ∧ win0_2.index t = ![t.val, 0] :=
  (by decide +kernel : ∀ t : Fin grid0.N, _)

theorem lt0 (t : Fin cfg0.N) : t.val < 2 := lt_of_lt_of_eq t.isLt (show cfg0.N = 2 from N_0)

theorem idx1 : ∀ t : Fin cfg1.N, win1_0.index t = ![0, 0]
    ∧ win1_1.index t = ![0, 0, 0]
    ∧ win1_2.index t = ![0, 0] :=
  (by decide +kernel : ∀ t : Fin grid1.N, _)

theorem lt1 (t : Fin cfg1.N) : t.val < 1 := lt_of_lt_of_eq t.isLt (show cfg1.N = 1 from N_1)

theorem idx2 : ∀ t : Fin cfg2.N, win2_0.index t = ![t.val / 4, 0]
    ∧ win2_1.index t = ![t.val % 4, 0, 0]
    ∧ win2_2.index t = ![t.val / 4, t.val % 4]
    ∧ win2_3.index t = ![t.val / 4, t.val % 4] :=
  (by decide +kernel : ∀ t : Fin grid2.N, _)

theorem lt2 (t : Fin cfg2.N) : t.val < 8 := lt_of_lt_of_eq t.isLt (show cfg2.N = 8 from N_2)

theorem idx3 : ∀ t : Fin cfg3.N, win3_0.index t = ![0, 0]
    ∧ win3_1.index t = ![0, t.val]
    ∧ win3_2.index t = ![t.val, 0, 0] :=
  (by decide +kernel : ∀ t : Fin grid3.N, _)

theorem lt3 (t : Fin cfg3.N) : t.val < 4 := lt_of_lt_of_eq t.isLt (show cfg3.N = 4 from N_3)

theorem idx4 : ∀ t : Fin cfg4.N, win4_0.index t = ![t.val / 2, 0]
    ∧ win4_1.index t = ![0, t.val % 2, 0]
    ∧ win4_2.index t = ![t.val / 2, t.val % 2] :=
  (by decide +kernel : ∀ t : Fin grid4.N, _)

theorem lt4 (t : Fin cfg4.N) : t.val < 4 := lt_of_lt_of_eq t.isLt (show cfg4.N = 4 from N_4)

theorem idx5 : ∀ t : Fin cfg5.N, win5_0.index t = ![0, t.val]
    ∧ win5_1.index t = ![0, 0]
    ∧ win5_2.index t = ![0, t.val, 0] :=
  (by decide +kernel : ∀ t : Fin grid5.N, _)

theorem lt5 (t : Fin cfg5.N) : t.val < 2 := lt_of_lt_of_eq t.isLt (show cfg5.N = 2 from N_5)

theorem idx6 : ∀ t : Fin cfg6.N, win6_0.index t = ![0, 0]
    ∧ win6_1.index t = ![0, t.val, 0]
    ∧ win6_2.index t = ![0, t.val] :=
  (by decide +kernel : ∀ t : Fin grid6.N, _)

theorem lt6 (t : Fin cfg6.N) : t.val < 2 := lt_of_lt_of_eq t.isLt (show cfg6.N = 2 from N_6)

theorem idx7 : ∀ t : Fin cfg7.N, win7_0.index t = ![0, t.val]
    ∧ win7_1.index t = ![0, 0]
    ∧ win7_2.index t = ![0, t.val, 0] :=
  (by decide +kernel : ∀ t : Fin grid7.N, _)

theorem lt7 (t : Fin cfg7.N) : t.val < 2 := lt_of_lt_of_eq t.isLt (show cfg7.N = 2 from N_7)

/-- What the arrays hold when a region is entered. -/
abbrev Ent := (c : Dev nD) → (b : Ref sig .tc) → Buf (Elt Ideal) ((c.tc : Thread nD τ).loc b)

variable (V : Ent) (c : Dev nD)

/-! ## What a region leaves -/

/-- The array that region 0 leaves. -/
abbrev G0 : FVec Ideal S2048x512 .f32 := Prod.nn (φ := .bf16) (ψ := .bf16) (V c main_arg0 : FVec Ideal S2048x2048 .bf16) (V c main_arg2 : FVec Ideal S1x2048x512 .bf16)

theorem arr0 : (dat0 V c).arrAt 2 cfg0.N = G0 V c := by
  refine (dat0 V c).arrAt_eq_of_covers 2 _ (by decide +kernel) fun t hf y => ?_
  have ht := lt0 t
  blk_simp; rw [after0_2]; frame_out
  change S1024x512.Idx at y
  idx_vars y
  have h0 : ∀ k : Fin 2048, iblk0 V c 0 t (ix2 y0 k) = (V c main_arg0 : FVec Ideal S2048x2048 .bf16) (ix2 (pos (t.val) y0 (by omega)) k) := fun k => by unfold pos; blk_ext [iblk0, idx0 t]
  have h1 : ∀ k : Fin 2048, iblk0 V c 1 t (ix3 0 k y1) = (V c main_arg2 : FVec Ideal S1x2048x512 .bf16) (ix3 0 k y1) := fun k => by blk_ext [iblk0, idx0 t]
  refine (tile0 _ _ _ _).trans ((sum_mul_congr h0 h1).trans
    ((show _ = G0 V c (ix2 (pos (t.val) y0 (by omega)) y1) from rfl).trans (congrArg (G0 V c) ?_)))
  unfold pos; blk_ext [idx0 t]

/-- The array that region 1 leaves. -/
abbrev G1 : FVec Ideal S256x1024 .f32 := Prod.nn (φ := .bf16) (ψ := .bf16) (V c main_arg1 : FVec Ideal S256x2048 .bf16) (V c main_arg3 : FVec Ideal S1x2048x1024 .bf16)

theorem arr1 : (dat1 V c).arrAt 2 cfg1.N = G1 V c := by
  refine (dat1 V c).arrAt_eq_of_covers 2 _ (by decide +kernel) fun t hf y => ?_
  have ht := lt1 t
  blk_simp; rw [after1_2]; frame_out
  change S256x1024.Idx at y
  idx_vars y
  have h0 : ∀ k : Fin 2048, iblk1 V c 0 t (ix2 y0 k) = (V c main_arg1 : FVec Ideal S256x2048 .bf16) (ix2 y0 k) := fun k => by blk_ext [iblk1, idx1 t]
  have h1 : ∀ k : Fin 2048, iblk1 V c 1 t (ix3 0 k y1) = (V c main_arg3 : FVec Ideal S1x2048x1024 .bf16) (ix3 0 k y1) := fun k => by blk_ext [iblk1, idx1 t]
  refine (tile1 _ _ _ _).trans ((sum_mul_congr h0 h1).trans
    ((show _ = G1 V c (ix2 y0 y1) from rfl).trans (congrArg (G1 V c) ?_)))
  blk_ext [idx1 t]

/-- The array that region 2 leaves. -/
abbrev G2 : FVec Ideal S2048x2048 .f32 := fun i : S2048x2048.Idx => ((Prod.nb (φ := .bf16) (ψ := .bf16) (V c main_arg5 : FVec Ideal S2048x512 .bf16) (V c main_arg4 : FVec Ideal S4x512x512 .bf16)) i + (V c main_arg6 : FVec Ideal S2048x2048 .f32) i : EReal)

theorem arr2 : (dat2 V c).arrAt 3 cfg2.N = G2 V c := by
  refine (dat2 V c).arrAt_eq_of_covers 3 _ (by decide +kernel) fun t hf y => ?_
  have ht := lt2 t
  blk_simp; rw [after2_3]; frame_out
  change S1024x512.Idx at y
  idx_vars y
  have h0 : ∀ k : Fin 512, iblk2 V c 0 t (ix2 y0 k) = (V c main_arg5 : FVec Ideal S2048x512 .bf16) (ix2 (pos (t.val / 4) y0 (by omega)) k) := fun k => by unfold pos; blk_ext [iblk2, idx2 t]
  have h1 : ∀ k : Fin 512, iblk2 V c 1 t (ix3 0 k y1) = (V c main_arg4 : FVec Ideal S4x512x512 .bf16) (ix3 ⟨(pos5 (N := 2048) (t.val % 4) y1 (by omega)).val / 512, by unfold pos5; dsimp only; omega⟩ k ⟨(pos5 (N := 2048) (t.val % 4) y1 (by omega)).val % 512, by omega⟩) := fun k => by unfold pos5; blk_ext [iblk2, idx2 t]
  have h2 : iblk2 V c 2 t (ix2 y0 y1) = (V c main_arg6 : FVec Ideal S2048x2048 .f32) (ix2 (pos (t.val / 4) y0 (by omega)) (pos5 (N := 2048) (t.val % 4) y1 (by omega))) := by unfold pos5 pos; blk_ext [iblk2, idx2 t]
  refine (tile2 _ _ _ _ _).trans ((congrArg₂ (fun a b : EReal => a + b) (sum_mul_congr h0 h1) h2).trans
    ((show _ = G2 V c (ix2 (pos (t.val / 4) y0 (by omega)) (pos5 (N := 2048) (t.val % 4) y1 (by omega))) from rfl).trans (congrArg (G2 V c) ?_)))
  unfold pos5 pos; blk_ext [idx2 t]

/-- The array that region 3 leaves. -/
abbrev G3 : FVec Ideal S4x512x512 .bf16 := Prod.tb (φ := .bf16) (ψ := .f32) (V c main_arg5 : FVec Ideal S2048x512 .bf16) (V c main_arg9 : FVec Ideal S2048x2048 .f32)

theorem arr3 : (dat3 V c).arrAt 2 cfg3.N = G3 V c := by
  refine (dat3 V c).arrAt_eq_of_covers 2 _ (by decide +kernel) fun t hf y => ?_
  have ht := lt3 t
  blk_simp; rw [after3_2]; frame_out
  change S1x512x512.Idx at y
  idx_vars y
  obtain rfl := Subsingleton.elim y0 0
  have h0 : ∀ k : Fin 2048, iblk3 V c 0 t (ix2 k y1) = (V c main_arg5 : FVec Ideal S2048x512 .bf16) (ix2 k y1) := fun k => by blk_ext [iblk3, idx3 t]
  have h1 : ∀ k : Fin 2048, iblk3 V c 1 t (ix2 k y2) = (V c main_arg9 : FVec Ideal S2048x2048 .f32) (ix2 k ⟨t.val * 512 + y2.val, by omega⟩) := fun k => by blk_ext [iblk3, idx3 t]
  refine (tile3 _ _ _ _).trans ((sum_mul_congr h0 h1).trans
    ((show _ = G3 V c (ix3 ⟨t.val, ht⟩ y1 y2) from rfl).trans (congrArg (G3 V c) ?_)))
  blk_ext [idx3 t]

/-- The array that region 4 leaves. -/
abbrev G4 : FVec Ideal S2048x2048 .f32 := Prod.nt (φ := .bf16) (ψ := .bf16) (V c main_arg7 : FVec Ideal S2048x512 .bf16) (V c main_arg2 : FVec Ideal S1x2048x512 .bf16)

theorem arr4 : (dat4 V c).arrAt 2 cfg4.N = G4 V c := by
  refine (dat4 V c).arrAt_eq_of_covers 2 _ (by decide +kernel) fun t hf y => ?_
  have ht := lt4 t
  blk_simp; rw [after4_2]; frame_out
  change S1024x1024.Idx at y
  idx_vars y
  have h0 : ∀ k : Fin 512, iblk4 V c 0 t (ix2 y0 k) = (V c main_arg7 : FVec Ideal S2048x512 .bf16) (ix2 (pos (t.val / 2) y0 (by omega)) k) := fun k => by unfold pos; blk_ext [iblk4, idx4 t]
  have h1 : ∀ k : Fin 512, iblk4 V c 1 t (ix3 0 y1 k) = (V c main_arg2 : FVec Ideal S1x2048x512 .bf16) (ix3 0 (pos (t.val % 2) y1 (by omega)) k) := fun k => by unfold pos; blk_ext [iblk4, idx4 t]
  refine (tile4 _ _ _ _).trans ((sum_mul_congr h0 h1).trans
    ((show _ = G4 V c (ix2 (pos (t.val / 2) y0 (by omega)) (pos (t.val % 2) y1 (by omega))) from rfl).trans (congrArg (G4 V c) ?_)))
  unfold pos; blk_ext [idx4 t]

/-- The array that region 5 leaves. -/
abbrev G5 : FVec Ideal S1x2048x512 .bf16 := Prod.tn (φ := .bf16) (ψ := .bf16) (V c main_arg0 : FVec Ideal S2048x2048 .bf16) (V c main_arg7 : FVec Ideal S2048x512 .bf16)

theorem arr5 : (dat5 V c).arrAt 2 cfg5.N = G5 V c := by
  refine (dat5 V c).arrAt_eq_of_covers 2 _ (by decide +kernel) fun t hf y => ?_
  have ht := lt5 t
  blk_simp; rw [after5_2]; frame_out
  change S1x1024x512.Idx at y
  idx_vars y
  obtain rfl := Subsingleton.elim y0 0
  have h0 : ∀ k : Fin 2048, iblk5 V c 0 t (ix2 k y1) = (V c main_arg0 : FVec Ideal S2048x2048 .bf16) (ix2 k (pos (t.val) y1 (by omega))) := fun k => by unfold pos; blk_ext [iblk5, idx5 t]
  have h1 : ∀ k : Fin 2048, iblk5 V c 1 t (ix2 k y2) = (V c main_arg7 : FVec Ideal S2048x512 .bf16) (ix2 k y2) := fun k => by blk_ext [iblk5, idx5 t]
  refine (tile5 _ _ _ _).trans ((sum_mul_congr h0 h1).trans
    ((show _ = G5 V c (ix3 0 (pos (t.val) y1 (by omega)) y2) from rfl).trans (congrArg (G5 V c) ?_)))
  unfold pos; blk_ext [idx5 t]

/-- The array that region 6 leaves. -/
abbrev G6 : FVec Ideal S256x2048 .f32 := Prod.nt (φ := .bf16) (ψ := .bf16) (V c main_arg8 : FVec Ideal S256x1024 .bf16) (V c main_arg3 : FVec Ideal S1x2048x1024 .bf16)

theorem arr6 : (dat6 V c).arrAt 2 cfg6.N = G6 V c := by
  refine (dat6 V c).arrAt_eq_of_covers 2 _ (by decide +kernel) fun t hf y => ?_
  have ht := lt6 t
  blk_simp; rw [after6_2]; frame_out
  change S256x1024.Idx at y
  idx_vars y
  have h0 : ∀ k : Fin 1024, iblk6 V c 0 t (ix2 y0 k) = (V c main_arg8 : FVec Ideal S256x1024 .bf16) (ix2 y0 k) := fun k => by blk_ext [iblk6, idx6 t]
  have h1 : ∀ k : Fin 1024, iblk6 V c 1 t (ix3 0 y1 k) = (V c main_arg3 : FVec Ideal S1x2048x1024 .bf16) (ix3 0 (pos (t.val) y1 (by omega)) k) := fun k => by unfold pos; blk_ext [iblk6, idx6 t]
  refine (tile6 _ _ _ _).trans ((sum_mul_congr h0 h1).trans
    ((show _ = G6 V c (ix2 y0 (pos (t.val) y1 (by omega))) from rfl).trans (congrArg (G6 V c) ?_)))
  unfold pos; blk_ext [idx6 t]

/-- The array that region 7 leaves. -/
abbrev G7 : FVec Ideal S1x2048x1024 .bf16 := Prod.tn (φ := .bf16) (ψ := .bf16) (V c main_arg1 : FVec Ideal S256x2048 .bf16) (V c main_arg8 : FVec Ideal S256x1024 .bf16)

theorem arr7 : (dat7 V c).arrAt 2 cfg7.N = G7 V c := by
  refine (dat7 V c).arrAt_eq_of_covers 2 _ (by decide +kernel) fun t hf y => ?_
  have ht := lt7 t
  blk_simp; rw [after7_2]; frame_out
  change S1x1024x1024.Idx at y
  idx_vars y
  obtain rfl := Subsingleton.elim y0 0
  have h0 : ∀ k : Fin 256, iblk7 V c 0 t (ix2 k y1) = (V c main_arg1 : FVec Ideal S256x2048 .bf16) (ix2 k (pos (t.val) y1 (by omega))) := fun k => by unfold pos; blk_ext [iblk7, idx7 t]
  have h1 : ∀ k : Fin 256, iblk7 V c 1 t (ix2 k y2) = (V c main_arg8 : FVec Ideal S256x1024 .bf16) (ix2 k y2) := fun k => by blk_ext [iblk7, idx7 t]
  refine (tile7 _ _ _ _).trans ((sum_mul_congr h0 h1).trans
    ((show _ = G7 V c (ix3 0 (pos (t.val) y1 (by omega)) y2) from rfl).trans (congrArg (G7 V c) ?_)))
  unfold pos; blk_ext [idx7 t]

end Cert.XProj

end
-- ==== Proof.XProjRun.lean ====
/-
  THE RUN OF THE MEMORY CROSS-ATTENTION'S PROJECTIONS' EIGHT REGIONS: what they leave, from the arguments.
-/
module

public import proofs.«01_k».proof.Proof.XProjVal

@[expose] public section

set_option maxRecDepth 16384

noncomputable section

namespace Cert.XProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel10Ideal Cert.Kernel10Ideal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends with the results as the regions leave them and the arguments as launched. -/
theorem run_arrays : θ_run defs (onTc (τ := τ) (main (F := Ideal))) ⟨m, fun _ => 0, ρ⟩ (fun r => ∀ c : Dev nD,
      r.2.mem ((c.tc : Thread nD τ).loc main_v0) = (dat0 (V0 m ρ) c).arrAt 2 cfg0.N
      ∧ r.2.mem ((c.tc : Thread nD τ).loc main_v1) = (dat1 (V1 m ρ) c).arrAt 2 cfg1.N
      ∧ r.2.mem ((c.tc : Thread nD τ).loc main_v2) = (dat2 (V2 m ρ) c).arrAt 3 cfg2.N
      ∧ r.2.mem ((c.tc : Thread nD τ).loc main_v4) = (dat4 (V4 m ρ) c).arrAt 2 cfg4.N
      ∧ r.2.mem ((c.tc : Thread nD τ).loc main_v6) = (dat6 (V6 m ρ) c).arrAt 2 cfg6.N
      ∧ r.2.mem ((c.tc : Thread nD τ).loc main_v5) = (dat5 (V5 m ρ) c).arrAt 2 cfg5.N
      ∧ r.2.mem ((c.tc : Thread nD τ).loc main_v7) = (dat7 (V7 m ρ) c).arrAt 2 cfg7.N
      ∧ r.2.mem ((c.tc : Thread nD τ).loc main_v3) = (dat3 (V3 m ρ) c).arrAt 2 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c =>
      ⟨(h c _ (mem_uc main_v0 (by decide))).trans ((W8_of m ρ c main_v0 (by decide)).trans ((W7_of m ρ c main_v0 (by decide)).trans ((W6_of m ρ c main_v0 (by decide)).trans ((W5_of m ρ c main_v0 (by decide)).trans ((W4_of m ρ c main_v0 (by decide)).trans ((W3_of m ρ c main_v0 (by decide)).trans ((W2_of m ρ c main_v0 (by decide)).trans (W1_arr m ρ c 2)))))))),
       (h c _ (mem_uc main_v1 (by decide))).trans ((W8_of m ρ c main_v1 (by decide)).trans ((W7_of m ρ c main_v1 (by decide)).trans ((W6_of m ρ c main_v1 (by decide)).trans ((W5_of m ρ c main_v1 (by decide)).trans ((W4_of m ρ c main_v1 (by decide)).trans ((W3_of m ρ c main_v1 (by decide)).trans (W2_arr m ρ c 2))))))),
       (h c _ (mem_uc main_v2 (by decide))).trans ((W8_of m ρ c main_v2 (by decide)).trans ((W7_of m ρ c main_v2 (by decide)).trans ((W6_of m ρ c main_v2 (by decide)).trans ((W5_of m ρ c main_v2 (by decide)).trans ((W4_of m ρ c main_v2 (by decide)).trans (W3_arr m ρ c 3)))))),
       (h c _ (mem_uc main_v4 (by decide))).trans ((W8_of m ρ c main_v4 (by decide)).trans ((W7_of m ρ c main_v4 (by decide)).trans ((W6_of m ρ c main_v4 (by decide)).trans (W5_arr m ρ c 2)))),
       (h c _ (mem_uc main_v6 (by decide))).trans ((W8_of m ρ c main_v6 (by decide)).trans (W7_arr m ρ c 2)),
       (h c _ (mem_uc main_v5 (by decide))).trans ((W8_of m ρ c main_v5 (by decide)).trans ((W7_of m ρ c main_v5 (by decide)).trans (W6_arr m ρ c 2))),
       (h c _ (mem_uc main_v7 (by decide))).trans (W8_arr m ρ c 2),
       (h c _ (mem_uc main_v3 (by decide))).trans ((W8_of m ρ c main_v3 (by decide)).trans ((W7_of m ρ c main_v3 (by decide)).trans ((W6_of m ρ c main_v3 (by decide)).trans ((W5_of m ρ c main_v3 (by decide)).trans (W4_arr m ρ c 2))))),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

/-! ## The results by the arguments -/

theorem res0 (c : Dev nD) : (dat0 (V0 m ρ) c).arrAt 2 cfg0.N = Prod.nn (φ := .bf16) (ψ := .bf16) (m ((c.tc : Thread nD τ).loc main_arg0) : FVec Ideal S2048x2048 .bf16) (m ((c.tc : Thread nD τ).loc main_arg2) : FVec Ideal S1x2048x512 .bf16) :=
  (arr0 (V0 m ρ) c).trans (congrArg₂ (Prod.nn (φ := .bf16) (ψ := .bf16)) rfl rfl)

theorem res1 (c : Dev nD) : (dat1 (V1 m ρ) c).arrAt 2 cfg1.N = Prod.nn (φ := .bf16) (ψ := .bf16) (m ((c.tc : Thread nD τ).loc main_arg1) : FVec Ideal S256x2048 .bf16) (m ((c.tc : Thread nD τ).loc main_arg3) : FVec Ideal S1x2048x1024 .bf16) :=
  (arr1 (V1 m ρ) c).trans (congrArg₂ (Prod.nn (φ := .bf16) (ψ := .bf16)) (W1_args m ρ c main_arg1 (by decide)) (W1_args m ρ c main_arg3 (by decide)))

theorem res2 (c : Dev nD) : (dat2 (V2 m ρ) c).arrAt 3 cfg2.N = fun i : S2048x2048.Idx => ((Prod.nb (φ := .bf16) (ψ := .bf16) (m ((c.tc : Thread nD τ).loc main_arg5) : FVec Ideal S2048x512 .bf16) (m ((c.tc : Thread nD τ).loc main_arg4) : FVec Ideal S4x512x512 .bf16)) i + (m ((c.tc : Thread nD τ).loc main_arg6) : FVec Ideal S2048x2048 .f32) i : EReal) :=
  (arr2 (V2 m ρ) c).trans (congr (congrArg₂ (fun a b c => (fun i => (Prod.nb (φ := .bf16) (ψ := .bf16) a b i + c i : EReal) : FVec Ideal S2048x2048 .f32)) (W2_args m ρ c main_arg5 (by decide)) (W2_args m ρ c main_arg4 (by decide))) (W2_args m ρ c main_arg6 (by decide)))

theorem res4 (c : Dev nD) : (dat4 (V4 m ρ) c).arrAt 2 cfg4.N = Prod.nt (φ := .bf16) (ψ := .bf16) (m ((c.tc : Thread nD τ).loc main_arg7) : FVec Ideal S2048x512 .bf16) (m ((c.tc : Thread nD τ).loc main_arg2) : FVec Ideal S1x2048x512 .bf16) :=
  (arr4 (V4 m ρ) c).trans (congrArg₂ (Prod.nt (φ := .bf16) (ψ := .bf16)) (W4_args m ρ c main_arg7 (by decide)) (W4_args m ρ c main_arg2 (by decide)))

theorem res6 (c : Dev nD) : (dat6 (V6 m ρ) c).arrAt 2 cfg6.N = Prod.nt (φ := .bf16) (ψ := .bf16) (m ((c.tc : Thread nD τ).loc main_arg8) : FVec Ideal S256x1024 .bf16) (m ((c.tc : Thread nD τ).loc main_arg3) : FVec Ideal S1x2048x1024 .bf16) :=
  (arr6 (V6 m ρ) c).trans (congrArg₂ (Prod.nt (φ := .bf16) (ψ := .bf16)) (W6_args m ρ c main_arg8 (by decide)) (W6_args m ρ c main_arg3 (by decide)))

theorem res5 (c : Dev nD) : (dat5 (V5 m ρ) c).arrAt 2 cfg5.N = Prod.tn (φ := .bf16) (ψ := .bf16) (m ((c.tc : Thread nD τ).loc main_arg0) : FVec Ideal S2048x2048 .bf16) (m ((c.tc : Thread nD τ).loc main_arg7) : FVec Ideal S2048x512 .bf16) :=
  (arr5 (V5 m ρ) c).trans (congrArg₂ (Prod.tn (φ := .bf16) (ψ := .bf16)) (W5_args m ρ c main_arg0 (by decide)) (W5_args m ρ c main_arg7 (by decide)))

theorem res7 (c : Dev nD) : (dat7 (V7 m ρ) c).arrAt 2 cfg7.N = Prod.tn (φ := .bf16) (ψ := .bf16) (m ((c.tc : Thread nD τ).loc main_arg1) : FVec Ideal S256x2048 .bf16) (m ((c.tc : Thread nD τ).loc main_arg8) : FVec Ideal S256x1024 .bf16) :=
  (arr7 (V7 m ρ) c).trans (congrArg₂ (Prod.tn (φ := .bf16) (ψ := .bf16)) (W7_args m ρ c main_arg1 (by decide)) (W7_args m ρ c main_arg8 (by decide)))

theorem res3 (c : Dev nD) : (dat3 (V3 m ρ) c).arrAt 2 cfg3.N = Prod.tb (φ := .bf16) (ψ := .f32) (m ((c.tc : Thread nD τ).loc main_arg5) : FVec Ideal S2048x512 .bf16) (m ((c.tc : Thread nD τ).loc main_arg9) : FVec Ideal S2048x2048 .f32) :=
  (arr3 (V3 m ρ) c).trans (congrArg₂ (Prod.tb (φ := .bf16) (ψ := .f32)) (W3_args m ρ c main_arg5 (by decide)) (W3_args m ρ c main_arg9 (by decide)))

/-- Every run ends with the results, each a function of the arguments. -/
theorem run_num : θ_run defs (onTc (τ := τ) (main (F := Ideal))) ⟨m, fun _ => 0, ρ⟩ (fun r => ∀ c : Dev nD,
      r.2.mem ((c.tc : Thread nD τ).loc main_v0) = Prod.nn (φ := .bf16) (ψ := .bf16) (m ((c.tc : Thread nD τ).loc main_arg0) : FVec Ideal S2048x2048 .bf16) (m ((c.tc : Thread nD τ).loc main_arg2) : FVec Ideal S1x2048x512 .bf16)
      ∧ r.2.mem ((c.tc : Thread nD τ).loc main_v1) = Prod.nn (φ := .bf16) (ψ := .bf16) (m ((c.tc : Thread nD τ).loc main_arg1) : FVec Ideal S256x2048 .bf16) (m ((c.tc : Thread nD τ).loc main_arg3) : FVec Ideal S1x2048x1024 .bf16)
      ∧ r.2.mem ((c.tc : Thread nD τ).loc main_v2) = (fun i : S2048x2048.Idx => ((Prod.nb (φ := .bf16) (ψ := .bf16) (m ((c.tc : Thread nD τ).loc main_arg5) : FVec Ideal S2048x512 .bf16) (m ((c.tc : Thread nD τ).loc main_arg4) : FVec Ideal S4x512x512 .bf16)) i + (m ((c.tc : Thread nD τ).loc main_arg6) : FVec Ideal S2048x2048 .f32) i : EReal))
      ∧ r.2.mem ((c.tc : Thread nD τ).loc main_v4) = Prod.nt (φ := .bf16) (ψ := .bf16) (m ((c.tc : Thread nD τ).loc main_arg7) : FVec Ideal S2048x512 .bf16) (m ((c.tc : Thread nD τ).loc main_arg2) : FVec Ideal S1x2048x512 .bf16)
      ∧ r.2.mem ((c.tc : Thread nD τ).loc main_v6) = Prod.nt (φ := .bf16) (ψ := .bf16) (m ((c.tc : Thread nD τ).loc main_arg8) : FVec Ideal S256x1024 .bf16) (m ((c.tc : Thread nD τ).loc main_arg3) : FVec Ideal S1x2048x1024 .bf16)
      ∧ r.2.mem ((c.tc : Thread nD τ).loc main_v5) = Prod.tn (φ := .bf16) (ψ := .bf16) (m ((c.tc : Thread nD τ).loc main_arg0) : FVec Ideal S2048x2048 .bf16) (m ((c.tc : Thread nD τ).loc main_arg7) : FVec Ideal S2048x512 .bf16)
      ∧ r.2.mem ((c.tc : Thread nD τ).loc main_v7) = Prod.tn (φ := .bf16) (ψ := .bf16) (m ((c.tc : Thread nD τ).loc main_arg1) : FVec Ideal S256x2048 .bf16) (m ((c.tc : Thread nD τ).loc main_arg8) : FVec Ideal S256x1024 .bf16)
      ∧ r.2.mem ((c.tc : Thread nD τ).loc main_v3) = Prod.tb (φ := .bf16) (ψ := .f32) (m ((c.tc : Thread nD τ).loc main_arg5) : FVec Ideal S2048x512 .bf16) (m ((c.tc : Thread nD τ).loc main_arg9) : FVec Ideal S2048x2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ hr c => ⟨(hr c).1.trans (res0 m ρ c), (hr c).2.1.trans (res1 m ρ c), (hr c).2.2.1.trans (res2 m ρ c), (hr c).2.2.2.1.trans (res4 m ρ c), (hr c).2.2.2.2.1.trans (res6 m ρ c), (hr c).2.2.2.2.2.1.trans (res5 m ρ c), (hr c).2.2.2.2.2.2.1.trans (res7 m ρ c), (hr c).2.2.2.2.2.2.2.1.trans (res3 m ρ c), (hr c).2.2.2.2.2.2.2.2⟩) (run_arrays m ρ)

end Cert.XProj

end
-- ==== Proof.XProjFin.lean ====
/-
  THE VALUE CLAIM FOR THE MEMORY CROSS-ATTENTION'S PROJECTIONS: the kernel's eight results are the reference's.
-/
module

public import proofs.«01_k».proof.Defs
public import proofs.«01_k».proof.Proof.Gen.Reference10Ideal.Run
public import proofs.«01_k».proof.Proof.XProjRun

@[expose] public section

set_option maxRecDepth 16384

noncomputable section

namespace Cert.XProj

open Idealize.ShloMosaic Idealize.ShloMosaic.TcCoe Idealize.SL.Sem

section
open Cert.Reference10Ideal Cert.Reference10Ideal.Gen

/-! ## The reference's results -/

theorem ref0 (a0 : FVec Ideal S2048x2048 .bf16) (a2 : FVec Ideal S1x2048x512 .bf16) :
    Host.dotGeneral dot_S2048x2048_S2048x512_S2048x512_1_0_0_1_n_n none (extf .f32 a0 bitsLt_bf16_f32) (extf .f32 (shapeCast _ a2 shapeCasts_S1x2048x512_S2048x512) bitsLt_bf16_f32) = (Prod.nn (φ := .bf16) (ψ := .bf16) a0 a2) := by
  funext y; change S2048x512.Idx at y; idx_vars y
  unfold Prod.nn; pointwise

theorem ref1 (a1 : FVec Ideal S256x2048 .bf16) (a3 : FVec Ideal S1x2048x1024 .bf16) :
    Host.dotGeneral dot_S256x2048_S2048x1024_S256x1024_1_0_0_1_n_n none (extf .f32 a1 bitsLt_bf16_f32) (extf .f32 (shapeCast _ a3 shapeCasts_S1x2048x1024_S2048x1024) bitsLt_bf16_f32) = (Prod.nn (φ := .bf16) (ψ := .bf16) a1 a3) := by
  funext y; change S256x1024.Idx at y; idx_vars y
  unfold Prod.nn; pointwise

theorem ref2 (a4 : FVec Ideal S4x512x512 .bf16) (a5 : FVec Ideal S2048x512 .bf16) (a6 : FVec Ideal S2048x2048 .f32) :
    addf a6 (Host.dotGeneral dot_S2048x512_S512x2048_S2048x2048_1_0_0_1_n_n none (extf .f32 a5 bitsLt_bf16_f32) (shapeCast _ (transpose S512x4x512 [1, 0, 2] (extf .f32 a4 bitsLt_bf16_f32) transposes_S4x512x512_S512x4x512_1_0_2) shapeCasts_S512x4x512_S512x2048)) = (fun i : S2048x2048.Idx => ((Prod.nb (φ := .bf16) (ψ := .bf16) a5 a4) i + a6 i : EReal)) := by
  funext y; change S2048x2048.Idx at y; idx_vars y
  refine Eq.trans ?_ (add_comm _ _)
  unfold Prod.nb; pointwise

theorem ref4 (a2 : FVec Ideal S1x2048x512 .bf16) (a7 : FVec Ideal S2048x512 .bf16) :
    Host.dotGeneral dot_S2048x512_S2048x512_S2048x2048_1_1_0_0_n_n none (extf .f32 a7 bitsLt_bf16_f32) (extf .f32 (shapeCast _ a2 shapeCasts_S1x2048x512_S2048x512) bitsLt_bf16_f32) = (Prod.nt (φ := .bf16) (ψ := .bf16) a7 a2) := by
  funext y; change S2048x2048.Idx at y; idx_vars y
  unfold Prod.nt; pointwise

theorem ref6 (a3 : FVec Ideal S1x2048x1024 .bf16) (a8 : FVec Ideal S256x1024 .bf16) :
    Host.dotGeneral dot_S256x1024_S2048x1024_S256x2048_1_1_0_0_n_n none (extf .f32 a8 bitsLt_bf16_f32) (extf .f32 (shapeCast _ a3 shapeCasts_S1x2048x1024_S2048x1024) bitsLt_bf16_f32) = (Prod.nt (φ := .bf16) (ψ := .bf16) a8 a3) := by
  funext y; change S256x2048.Idx at y; idx_vars y
  unfold Prod.nt; pointwise

theorem ref5 (a0 : FVec Ideal S2048x2048 .bf16) (a7 : FVec Ideal S2048x512 .bf16) :
    truncf .bf16 (broadcastInDim S1x2048x512 ![1, 2] bcast_S2048x512_S1x2048x512_1_2 (transpose S2048x512 [1, 0] (Host.dotGeneral dot_S2048x512_S2048x2048_S512x2048_0_0_1_1_n_n none (extf .f32 a7 bitsLt_bf16_f32) (extf .f32 a0 bitsLt_bf16_f32)) transposes_S512x2048_S2048x512_1_0)) bitsLt_bf16_f32 = (Prod.tn (φ := .bf16) (ψ := .bf16) a0 a7) := by
  funext y; change S1x2048x512.Idx at y; idx_vars y
  obtain rfl := Subsingleton.elim y0 0
  refine Eq.trans ?_ (Finset.sum_congr rfl fun r _ => mul_comm _ _)
  pointwise

theorem ref7 (a1 : FVec Ideal S256x2048 .bf16) (a8 : FVec Ideal S256x1024 .bf16) :
    truncf .bf16 (broadcastInDim S1x2048x1024 ![1, 2] bcast_S2048x1024_S1x2048x1024_1_2 (transpose S2048x1024 [1, 0] (Host.dotGeneral dot_S256x1024_S256x2048_S1024x2048_0_0_1_1_n_n none (extf .f32 a8 bitsLt_bf16_f32) (extf .f32 a1 bitsLt_bf16_f32)) transposes_S1024x2048_S2048x1024_1_0)) bitsLt_bf16_f32 = (Prod.tn (φ := .bf16) (ψ := .bf16) a1 a8) := by
  funext y; change S1x2048x1024.Idx at y; idx_vars y
  obtain rfl := Subsingleton.elim y0 0
  refine Eq.trans ?_ (Finset.sum_congr rfl fun r _ => mul_comm _ _)
  pointwise

theorem ref3 (a5 : FVec Ideal S2048x512 .bf16) (a9 : FVec Ideal S2048x2048 .f32) :
    truncf .bf16 (transpose S4x512x512 [1, 0, 2] (shapeCast _ (transpose S512x2048 [1, 0] (Host.dotGeneral dot_S2048x2048_S2048x512_S2048x512_0_0_1_1_n_n none a9 (extf .f32 a5 bitsLt_bf16_f32)) transposes_S2048x512_S512x2048_1_0) shapeCasts_S512x2048_S512x4x512) transposes_S512x4x512_S4x512x512_1_0_2) bitsLt_bf16_f32 = (Prod.tb (φ := .bf16) (ψ := .f32) a5 a9) := by
  funext y; change S4x512x512.Idx at y; idx_vars y
  refine Eq.trans ?_ (Finset.sum_congr rfl fun r _ => mul_comm _ _)
  pointwise

end

set_option maxHeartbeats 4000000 in
theorem algebraic : Cert.algebraic_Kernel10Ideal_Reference10Ideal := by
  intro m g m' g' _ ha
  refine ⟨_, _, _, _, _, _, _, _, run_num m g, (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_,
    (h c).2.2.2.2.2.2.2.2⟩) (Cert.Reference10Ideal.Value.run m' g')⟩
  · rw [(ha c).1, (ha c).2.2.1]; exact ref0 _ _
  · rw [(ha c).2.1, (ha c).2.2.2.1]; exact ref1 _ _
  · rw [(ha c).2.2.2.2.1, (ha c).2.2.2.2.2.1, (ha c).2.2.2.2.2.2.1]; exact ref2 _ _ _
  · rw [(ha c).2.2.1, (ha c).2.2.2.2.2.2.2.1]; exact ref4 _ _
  · rw [(ha c).2.2.2.1, (ha c).2.2.2.2.2.2.2.2.1]; exact ref6 _ _
  · rw [(ha c).1, (ha c).2.2.2.2.2.2.2.1]; exact ref5 _ _
  · rw [(ha c).2.1, (ha c).2.2.2.2.2.2.2.2.1]; exact ref7 _ _
  · rw [(ha c).2.2.2.2.2.1, (ha c).2.2.2.2.2.2.2.2.2]; exact ref3 _ _

end Cert.XProj

end
-- ==== Proof.XoVal.lean ====
/-
  THE GRADIENT OF THE MEMORY CROSS-ATTENTION'S OUTPUT: a product with its weight's transpose, summed over four tiles of columns.
-/
module

public import proofs.«01_k».proof.Proof.Gen.Kernel11Ideal.Value
public import proofs.«01_k».proof.Proof.Prod

@[expose] public section

set_option maxRecDepth 16384

noncomputable section

namespace Cert.Xo

open Idealize.ShloMosaic Idealize.ShloMosaic.TcCoe Idealize.ShloMosaic.Tactic
open Cert.Kernel11Ideal Cert.Kernel11Ideal.Gen Cert.Tiles

/-! ## A point's tile -/

theorem tile (x0 : Vec Ideal S1024x512 .f32) (x1 : Vec Ideal S1x512x512 .bf16) (r : Fin 1024) (s : Fin 512) :
    k0_pay1 x0 x1 (ix2 r s) = ∑ k : Fin 512, x0 (ix2 r k) * x1 (ix3 0 s k) := by
  unfold k0_pay1; pointwise

theorem first (x0 : Vec Ideal S1024x512 .f32) (x1 : Vec Ideal S1x512x512 .bf16) (r : Fin 1024) (s : Fin 512) :
    k0_pay2 x0 x1 (ix2 r s) = ∑ k : Fin 512, x0 (ix2 r k) * x1 (ix3 0 s k) := by
  unfold k0_pay2; pointwise [tile]

theorem next (x0 : Vec Ideal S1024x512 .f32) (x1 : Vec Ideal S1x512x512 .bf16) (old : Vec Ideal S1024x512 .f32) (r : Fin 1024) (s : Fin 512) :
    k0_pay3 x0 x1 old (ix2 r s) = old (ix2 r s) + ∑ k : Fin 512, x0 (ix2 r k) * x1 (ix3 0 s k) := by
  unfold k0_pay3; pointwise [tile]

theorem cast (x : Vec Ideal S1024x512 .f32) (r : Fin 1024) (s : Fin 512) : k0_pay4 x (ix2 r s) = x (ix2 r s) := by
  unfold k0_pay4; pointwise

/-! ## The tiles a grid point works on -/

theorem idx : ∀ t : Fin cfg0.N, win0_0.index t = ![t.val / 4, t.val % 4]
    ∧ win0_1.index t = ![t.val % 4, 0, 0] ∧ win0_2.index t = ![t.val / 4, 0] :=
  (by decide +kernel : ∀ t : Fin grid0.N, _)

theorem lt0 (t : Fin cfg0.N) : t.val < 8 := lt_of_lt_of_eq t.isLt (show cfg0.N = 8 from N_0)

variable (m : (ℓ : Loc nD τ sig) → Buf (Elt Ideal) ℓ) (ρ : Dev nD → PrngReg) (c : Dev nD)

/-- The output projection's weight. -/
abbrev w : FVec Ideal S4x512x512 .bf16 := V m c main_arg0
/-- The gradient of what it adds to. -/
abbrev dp : FVec Ideal S2048x2048 .f32 := V m c main_arg1

/-- What point `n` adds at place `(r, s)` of its tile. -/
def part (n : Nat) (r : Fin 1024) (s : Fin 512) : EReal :=
  ∑ k : Fin 512, dp m c (ix2 (pos (n / 4 % 2) r (by omega)) (pos5 (n % 4) k (by omega))) * w m c (ix3 ⟨n % 4, by omega⟩ s k)

/-- A point's block of the output's gradient. -/
abbrev b0 (t : Fin cfg0.N) : Vec Ideal S1024x512 .f32 := iblk m c 0 t
/-- A point's block of the weight. -/
abbrev b1 (t : Fin cfg0.N) : Vec Ideal S1x512x512 .bf16 := iblk m c 1 t

theorem part_eq (t : Fin cfg0.N) (r : Fin 1024) (s : Fin 512) :
    ∑ k : Fin 512, b0 m c t (ix2 r k) * b1 m c t (ix3 0 s k) = part m c t.val r s := by
  have ht := lt0 t
  refine sum_mul_congr (fun k => ?_) (fun k => ?_)
  · have e : t.val / 4 % 2 = t.val / 4 := by omega
    simp only [e]; unfold pos pos5; blk_ext [iblk, idx t]
  · blk_ext [iblk, idx t]

theorem step_A (t : Fin cfg0.N) (h : t.val % 4 = 0) (r : Fin 1024) (s : Fin 512) :
    (outsAt0 m c t.val t.isLt).2 (ix2 r s) = part m c t.val r s := by
  rw [outsAt0_A m c t h (by omega) (by omega)]; frame_out
  exact (first _ _ r s).trans (part_eq m c t r s)

theorem step_B (t : Fin cfg0.N) (h : ¬ t.val % 4 = 0) (r : Fin 1024) (s : Fin 512) :
    (outsAt0 m c t.val t.isLt).2 (ix2 r s)
      = (outsAt0 m c (t.val - 1) (Nat.lt_of_le_of_lt (Nat.sub_le _ _) t.isLt)).2 (ix2 r s) + part m c t.val r s := by
  by_cases h3 : t.val % 4 = 3
  · rw [outsAt0_C m c t h (by omega) h3]; frame_out
    exact (next _ _ _ r s).trans (congrArg₂ (fun a b : EReal => a + b) (congrFun (Memref.IsWhole.read_unread _ _) _) (part_eq m c t r s))
  · rw [outsAt0_B m c t h (by omega) h3]; frame_out
    exact (next _ _ _ r s).trans (congrArg₂ (fun a b : EReal => a + b) (congrFun (Memref.IsWhole.read_unread _ _) _) (part_eq m c t r s))

/-- At a run's last point the tile written back is the sum. -/
theorem last (t : Fin cfg0.N) (h3 : t.val % 4 = 3) (r : Fin 1024) (s : Fin 512) :
    (outsAt0 m c t.val t.isLt).1 (ix2 r s) = Prod.tt (dp m c) (w m c) .bf16 (ix2 (pos (t.val / 4 % 2) r (by omega)) s) := by
  have e : (outsAt0 m c t.val t.isLt).1 (ix2 r s) = (outsAt0 m c t.val t.isLt).2 (ix2 r s) := by
    rw [outsAt0_C m c t (by omega) (by omega) h3]; frame_out; exact cast _ _ _
  rw [e, acc_run (fun n hn => (outsAt0 m c n hn).2 (ix2 r s)) (fun n => part m c n r s)
    (fun t h => step_A m c t h r s) (fun t h => step_B m c t h r s) t (by omega)]
  refine Eq.trans ?_ (sum_tiles (n := 4) (m := 512) 2048 rfl _).symm
  refine Finset.sum_congr rfl fun a _ => ?_
  have e1 : (4 * (t.val / 4) + a.val) / 4 % 2 = t.val / 4 % 2 := by omega
  have e2 : (4 * (t.val / 4) + a.val) % 4 = a.val := by omega
  unfold part; simp only [e1, e2]
  refine Finset.sum_congr rfl fun k _ => congrArg₂ (fun a b : EReal => a * b) rfl (congrArg (w m c) ?_)
  have e4 : (a.val * 512 + k.val) / 512 = a.val := by omega
  have e5 : (a.val * 512 + k.val) % 512 = k.val := by omega
  simp only [e4, e5]; rfl

theorem arr : (dats m 0 c).arrAt 2 cfg0.N = Prod.tt (dp m c) (w m c) .bf16 := by
  refine (dats m 0 c).arrAt_eq_of_covers 2 _ (by decide +kernel) fun t hf y => ?_
  have h3 := (flush0_2 t).mp hf
  have ht := lt0 t
  blk_simp; rw [after0_2]
  change S1024x512.Idx at y
  idx_vars y
  refine (last m c t h3 y0 y1).trans (congrArg (Prod.tt (dp m c) (w m c) .bf16) ?_)
  have e : t.val / 4 % 2 = t.val / 4 := by omega
  simp only [e]; unfold pos; blk_ext [idx t]

end Cert.Xo

end
-- ==== Proof.XoFin.lean ====
/-
  THE VALUE CLAIM FOR THE GRADIENT OF THE MEMORY CROSS-ATTENTION'S OUTPUT: the kernel's array is the reference's.
-/
module

public import proofs.«01_k».proof.Defs
public import proofs.«01_k».proof.Proof.Gen.Reference11Ideal.Run
public import proofs.«01_k».proof.Proof.XoVal

@[expose] public section

set_option maxRecDepth 16384

noncomputable section

namespace Cert.Xo

open Idealize.ShloMosaic Idealize.ShloMosaic.TcCoe Idealize.SL.Sem

section
open Cert.Reference11Ideal Cert.Reference11Ideal.Gen

/-- The reference's product, with the weight's four blocks of columns laid side by side. -/
theorem ref_apply (a0 : FVec Ideal S4x512x512 .bf16) (a1 : FVec Ideal S2048x2048 .f32) (i : Fin 2048) (j : Fin 512) :
    truncf .bf16 (Host.dotGeneral dot_S2048x2048_S512x2048_S2048x512_1_1_0_0_n_n none a1 (shapeCast S512x2048
      (transpose S512x4x512 [1, 0, 2] (extf .f32 a0 bitsLt_bf16_f32) transposes_S4x512x512_S512x4x512_1_0_2) shapeCasts_S512x4x512_S512x2048))
      bitsLt_bf16_f32 (ix2 i j) = Prod.tt a1 a0 .bf16 (ix2 i j) := by
  unfold Prod.tt; pointwise

end

theorem algebraic : Cert.algebraic_Kernel11Ideal_Reference11Ideal := by
  intro m g m' g' _ ha
  refine ⟨fun c => Prod.tt (dp m c) (w m c) .bf16, (θ_run _ _ _).mono (fun r h c => ⟨(h c).1.trans (arr m c), (h c).2⟩)
    (Cert.Kernel11Ideal.Value.run_blocks m g), (θ_run _ _ _).mono (fun r h c => ⟨(h c).1.trans ?_, (h c).2⟩)
    (Cert.Reference11Ideal.Value.run m' g')⟩
  rw [(ha c).1, (ha c).2]
  funext y; change (⟨2, ![2048, 512]⟩ : Shape).Idx at y; idx_vars y
  exact ref_apply _ _ _ _

end Cert.Xo

end
-- ==== Proof.LProjVal.lean ====
/-
  THE LATENT ATTENTION'S PROJECTIONS, with their gradients: the arrays that the five regions leave.
-/
module

public import proofs.«01_k».proof.Proof.Gen.Kernel12Ideal.Frame
public import proofs.«01_k».proof.Proof.Prod

@[expose] public section

set_option maxRecDepth 16384

noncomputable section

namespace Cert.LProj

open Idealize.ShloMosaic Idealize.ShloMosaic.TcCoe Idealize.ShloMosaic.Tactic
open Cert.Kernel12Ideal Cert.Kernel12Ideal.Gen Cert.Tiles

/-! ## A point's tile -/

theorem tile0 (x0 : Vec Ideal S1024x512 .bf16) (x1 : Vec Ideal S1x512x1024 .bf16) (r s : Fin 1024) :
    k0_pay1 x0 x1 (ix2 r s) = ∑ k : Fin 512, x0 (ix2 r k) * x1 (ix3 0 k s) := by
  unfold k0_pay1; pointwise

theorem tile1 (x0 : Vec Ideal S1024x256 .bf16) (x1 : Vec Ideal S1x256x512 .bf16) (r : Fin 1024) (s : Fin 512) :
    k1_pay1 x0 x1 (ix2 r s) = ∑ k : Fin 256, x0 (ix2 r k) * x1 (ix3 0 k s) := by
  unfold k1_pay1; pointwise

theorem tile2 (x0 : Vec Ideal S1024x2048 .bf16) (x1 : Vec Ideal S1x512x2048 .bf16) (r : Fin 1024) (s : Fin 512) :
    k2_pay1 x0 x1 (ix2 r s) = ∑ k : Fin 2048, x0 (ix2 r k) * x1 (ix3 0 s k) := by
  unfold k2_pay1; pointwise

theorem tile3 (x0 : Vec Ideal S2048x512 .bf16) (x1 : Vec Ideal S2048x1024 .bf16) (r : Fin 512) (s : Fin 1024) :
    k3_pay1 x0 x1 (ix3 0 r s) = ∑ k : Fin 2048, x0 (ix2 k r) * x1 (ix2 k s) := by
  unfold k3_pay1; pointwise

theorem tile4 (x0 : Vec Ideal S2048x256 .bf16) (x1 : Vec Ideal S2048x512 .bf16) (r : Fin 256) (s : Fin 512) :
    k4_pay1 x0 x1 (ix3 0 r s) = ∑ k : Fin 2048, x0 (ix2 k r) * x1 (ix2 k s) := by
  unfold k4_pay1; pointwise

/-! ## The tile a grid point works on -/

theorem idx0 : ∀ t : Fin cfg0.N, win0_0.index t = ![t.val / 2, 0]
    ∧ win0_1.index t = ![0, 0, t.val % 2]
    ∧ win0_2.index t = ![t.val / 2, t.val % 2] :=
  (by decide +kernel : ∀ t : Fin grid0.N, _)

theorem lt0 (t : Fin cfg0.N) : t.val < 4 := lt_of_lt_of_eq t.isLt (show cfg0.N = 4 from N_0)

theorem idx1 : ∀ t : Fin cfg1.N, win1_0.index t = ![t.val / 4, 0]
    ∧ win1_1.index t = ![t.val % 4, 0, 0]
    ∧ win1_2.index t = ![t.val / 4, t.val % 4] :=
  (by decide +kernel : ∀ t : Fin grid1.N, _)

theorem lt1 (t : Fin cfg1.N) : t.val < 8 := lt_of_lt_of_eq t.isLt (show cfg1.N = 8 from N_1)

theorem idx2 : ∀ t : Fin cfg2.N, win2_0.index t = ![t.val, 0]
    ∧ win2_1.index t = ![0, 0, 0]
    ∧ win2_2.index t = ![t.val, 0] :=
  (by decide +kernel : ∀ t : Fin grid2.N, _)

theorem lt2 (t : Fin cfg2.N) : t.val < 2 := lt_of_lt_of_eq t.isLt (show cfg2.N = 2 from N_2)

theorem idx3 : ∀ t : Fin cfg3.N, win3_0.index t = ![0, 0]
    ∧ win3_1.index t = ![0, t.val]
    ∧ win3_2.index t = ![0, 0, t.val] :=
  (by decide +kernel : ∀ t : Fin grid3.N, _)

theorem lt3 (t : Fin cfg3.N) : t.val < 2 := lt_of_lt_of_eq t.isLt (show cfg3.N = 2 from N_3)

theorem idx4 : ∀ t : Fin cfg4.N, win4_0.index t = ![0, 0]
    ∧ win4_1.index t = ![0, t.val]
    ∧ win4_2.index t = ![t.val, 0, 0] :=
  (by decide +kernel : ∀ t : Fin grid4.N, _)

theorem lt4 (t : Fin cfg4.N) : t.val < 4 := lt_of_lt_of_eq t.isLt (show cfg4.N = 4 from N_4)

/-- What the arrays hold when a region is entered. -/
abbrev Ent := (c : Dev nD) → (b : Ref sig .tc) → Buf (Elt Ideal) ((c.tc : Thread nD τ).loc b)

variable (V : Ent) (c : Dev nD)

/-! ## What a region leaves -/

/-- The array that region 0 leaves. -/
abbrev G0 : FVec Ideal S2048x2048 .f32 := Prod.nn (φ := .bf16) (ψ := .bf16) (V c main_arg0 : FVec Ideal S2048x512 .bf16) (V c main_arg2 : FVec Ideal S1x512x2048 .bf16)

theorem arr0 : (dat0 V c).arrAt 2 cfg0.N = G0 V c := by
  refine (dat0 V c).arrAt_eq_of_covers 2 _ (by decide +kernel) fun t hf y => ?_
  have ht := lt0 t
  blk_simp; rw [after0_2]; frame_out
  change S1024x1024.Idx at y
  idx_vars y
  have h0 : ∀ k : Fin 512, iblk0 V c 0 t (ix2 y0 k) = (V c main_arg0 : FVec Ideal S2048x512 .bf16) (ix2 (pos (t.val / 2) y0 (by omega)) k) := fun k => by unfold pos; blk_ext [iblk0, idx0 t]
  have h1 : ∀ k : Fin 512, iblk0 V c 1 t (ix3 0 k y1) = (V c main_arg2 : FVec Ideal S1x512x2048 .bf16) (ix3 0 k (pos (t.val % 2) y1 (by omega))) := fun k => by unfold pos; blk_ext [iblk0, idx0 t]
  refine (tile0 _ _ _ _).trans ((sum_mul_congr h0 h1).trans
    ((show _ = G0 V c (ix2 (pos (t.val / 2) y0 (by omega)) (pos (t.val % 2) y1 (by omega))) from rfl).trans (congrArg (G0 V c) ?_)))
  unfold pos; blk_ext [idx0 t]

/-- The array that region 1 leaves. -/
abbrev G1 : FVec Ideal S2048x2048 .f32 := Prod.nb (φ := .bf16) (ψ := .bf16) (V c main_arg1 : FVec Ideal S2048x256 .bf16) (V c main_arg3 : FVec Ideal S4x256x512 .bf16)

theorem arr1 : (dat1 V c).arrAt 2 cfg1.N = G1 V c := by
  refine (dat1 V c).arrAt_eq_of_covers 2 _ (by decide +kernel) fun t hf y => ?_
  have ht := lt1 t
  blk_simp; rw [after1_2]; frame_out
  change S1024x512.Idx at y
  idx_vars y
  have h0 : ∀ k : Fin 256, iblk1 V c 0 t (ix2 y0 k) = (V c main_arg1 : FVec Ideal S2048x256 .bf16) (ix2 (pos (t.val / 4) y0 (by omega)) k) := fun k => by unfold pos; blk_ext [iblk1, idx1 t]
  have h1 : ∀ k : Fin 256, iblk1 V c 1 t (ix3 0 k y1) = (V c main_arg3 : FVec Ideal S4x256x512 .bf16) (ix3 ⟨(pos5 (N := 2048) (t.val % 4) y1 (by omega)).val / 512, by unfold pos5; dsimp only; omega⟩ k ⟨(pos5 (N := 2048) (t.val % 4) y1 (by omega)).val % 512, by omega⟩) := fun k => by unfold pos5; blk_ext [iblk1, idx1 t]
  refine (tile1 _ _ _ _).trans ((sum_mul_congr h0 h1).trans
    ((show _ = G1 V c (ix2 (pos (t.val / 4) y0 (by omega)) (pos5 (N := 2048) (t.val % 4) y1 (by omega))) from rfl).trans (congrArg (G1 V c) ?_)))
  unfold pos5 pos; blk_ext [idx1 t]

/-- The array that region 2 leaves. -/
abbrev G2 : FVec Ideal S2048x512 .f32 := Prod.nt (φ := .bf16) (ψ := .bf16) (V c main_arg4 : FVec Ideal S2048x2048 .bf16) (V c main_arg2 : FVec Ideal S1x512x2048 .bf16)

theorem arr2 : (dat2 V c).arrAt 2 cfg2.N = G2 V c := by
  refine (dat2 V c).arrAt_eq_of_covers 2 _ (by decide +kernel) fun t hf y => ?_
  have ht := lt2 t
  blk_simp; rw [after2_2]; frame_out
  change S1024x512.Idx at y
  idx_vars y
  have h0 : ∀ k : Fin 2048, iblk2 V c 0 t (ix2 y0 k) = (V c main_arg4 : FVec Ideal S2048x2048 .bf16) (ix2 (pos (t.val) y0 (by omega)) k) := fun k => by unfold pos; blk_ext [iblk2, idx2 t]
  have h1 : ∀ k : Fin 2048, iblk2 V c 1 t (ix3 0 y1 k) = (V c main_arg2 : FVec Ideal S1x512x2048 .bf16) (ix3 0 y1 k) := fun k => by blk_ext [iblk2, idx2 t]
  refine (tile2 _ _ _ _).trans ((sum_mul_congr h0 h1).trans
    ((show _ = G2 V c (ix2 (pos (t.val) y0 (by omega)) y1) from rfl).trans (congrArg (G2 V c) ?_)))
  unfold pos; blk_ext [idx2 t]

/-- The array that region 3 leaves. -/
abbrev G3 : FVec Ideal S1x512x2048 .bf16 := Prod.tn (φ := .bf16) (ψ := .bf16) (V c main_arg0 : FVec Ideal S2048x512 .bf16) (V c main_arg4 : FVec Ideal S2048x2048 .bf16)

theorem arr3 : (dat3 V c).arrAt 2 cfg3.N = G3 V c := by
  refine (dat3 V c).arrAt_eq_of_covers 2 _ (by decide +kernel) fun t hf y => ?_
  have ht := lt3 t
  blk_simp; rw [after3_2]; frame_out
  change S1x512x1024.Idx at y
  idx_vars y
  obtain rfl := Subsingleton.elim y0 0
  have h0 : ∀ k : Fin 2048, iblk3 V c 0 t (ix2 k y1) = (V c main_arg0 : FVec Ideal S2048x512 .bf16) (ix2 k y1) := fun k => by blk_ext [iblk3, idx3 t]
  have h1 : ∀ k : Fin 2048, iblk3 V c 1 t (ix2 k y2) = (V c main_arg4 : FVec Ideal S2048x2048 .bf16) (ix2 k (pos (t.val) y2 (by omega))) := fun k => by unfold pos; blk_ext [iblk3, idx3 t]
  refine (tile3 _ _ _ _).trans ((sum_mul_congr h0 h1).trans
    ((show _ = G3 V c (ix3 0 y1 (pos (t.val) y2 (by omega))) from rfl).trans (congrArg (G3 V c) ?_)))
  unfold pos; blk_ext [idx3 t]

/-- The array that region 4 leaves. -/
abbrev G4 : FVec Ideal S4x256x512 .bf16 := Prod.tb (φ := .bf16) (ψ := .bf16) (V c main_arg1 : FVec Ideal S2048x256 .bf16) (V c main_arg5 : FVec Ideal S2048x2048 .bf16)

theorem arr4 : (dat4 V c).arrAt 2 cfg4.N = G4 V c := by
  refine (dat4 V c).arrAt_eq_of_covers 2 _ (by decide +kernel) fun t hf y => ?_
  have ht := lt4 t
  blk_simp; rw [after4_2]; frame_out
  change S1x256x512.Idx at y
  idx_vars y
  obtain rfl := Subsingleton.elim y0 0
  have h0 : ∀ k : Fin 2048, iblk4 V c 0 t (ix2 k y1) = (V c main_arg1 : FVec Ideal S2048x256 .bf16) (ix2 k y1) := fun k => by blk_ext [iblk4, idx4 t]
  have h1 : ∀ k : Fin 2048, iblk4 V c 1 t (ix2 k y2) = (V c main_arg5 : FVec Ideal S2048x2048 .bf16) (ix2 k ⟨t.val * 512 + y2.val, by omega⟩) := fun k => by blk_ext [iblk4, idx4 t]
  refine (tile4 _ _ _ _).trans ((sum_mul_congr h0 h1).trans
    ((show _ = G4 V c (ix3 ⟨t.val, ht⟩ y1 y2) from rfl).trans (congrArg (G4 V c) ?_)))
  blk_ext [idx4 t]

end Cert.LProj

end
-- ==== Proof.LProjRun.lean ====
/-
  THE RUN OF THE LATENT ATTENTION'S PROJECTIONS' FIVE REGIONS: what they leave, from the arguments.
-/
module

public import proofs.«01_k».proof.Proof.LProjVal

@[expose] public section

set_option maxRecDepth 16384

noncomputable section

namespace Cert.LProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel12Ideal Cert.Kernel12Ideal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends with the results as the regions leave them and the arguments as launched. -/
theorem run_arrays : θ_run defs (onTc (τ := τ) (main (F := Ideal))) ⟨m, fun _ => 0, ρ⟩ (fun r => ∀ c : Dev nD,
      r.2.mem ((c.tc : Thread nD τ).loc main_v0) = (dat0 (V0 m ρ) c).arrAt 2 cfg0.N
      ∧ r.2.mem ((c.tc : Thread nD τ).loc main_v1) = (dat1 (V1 m ρ) c).arrAt 2 cfg1.N
      ∧ r.2.mem ((c.tc : Thread nD τ).loc main_v2) = (dat2 (V2 m ρ) c).arrAt 2 cfg2.N
      ∧ r.2.mem ((c.tc : Thread nD τ).loc main_v3) = (dat3 (V3 m ρ) c).arrAt 2 cfg3.N
      ∧ r.2.mem ((c.tc : Thread nD τ).loc main_v4) = (dat4 (V4 m ρ) c).arrAt 2 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨(h c _ (mem_uc main_v0 (by decide))).trans ((W5_of m ρ c main_v0 (by decide)).trans ((W4_of m ρ c main_v0 (by decide)).trans ((W3_of m ρ c main_v0 (by decide)).trans ((W2_of m ρ c main_v0 (by decide)).trans (W1_arr m ρ c 2))))),
       (h c _ (mem_uc main_v1 (by decide))).trans ((W5_of m ρ c main_v1 (by decide)).trans ((W4_of m ρ c main_v1 (by decide)).trans ((W3_of m ρ c main_v1 (by decide)).trans (W2_arr m ρ c 2)))),
       (h c _ (mem_uc main_v2 (by decide))).trans ((W5_of m ρ c main_v2 (by decide)).trans ((W4_of m ρ c main_v2 (by decide)).trans (W3_arr m ρ c 2))),
       (h c _ (mem_uc main_v3 (by decide))).trans ((W5_of m ρ c main_v3 (by decide)).trans (W4_arr m ρ c 2)),
       (h c _ (mem_uc main_v4 (by decide))).trans (W5_arr m ρ c 2),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

/-! ## The results by the arguments -/

theorem res0 (c : Dev nD) : (dat0 (V0 m ρ) c).arrAt 2 cfg0.N = Prod.nn (φ := .bf16) (ψ := .bf16) (m ((c.tc : Thread nD τ).loc main_arg0) : FVec Ideal S2048x512 .bf16) (m ((c.tc : Thread nD τ).loc main_arg2) : FVec Ideal S1x512x2048 .bf16) :=
  (arr0 (V0 m ρ) c).trans (congrArg₂ (Prod.nn (φ := .bf16) (ψ := .bf16)) rfl rfl)

theorem res1 (c : Dev nD) : (dat1 (V1 m ρ) c).arrAt 2 cfg1.N = Prod.nb (φ := .bf16) (ψ := .bf16) (m ((c.tc : Thread nD τ).loc main_arg1) : FVec Ideal S2048x256 .bf16) (m ((c.tc : Thread nD τ).loc main_arg3) : FVec Ideal S4x256x512 .bf16) :=
  (arr1 (V1 m ρ) c).trans (congrArg₂ (Prod.nb (φ := .bf16) (ψ := .bf16)) (W1_args m ρ c main_arg1 (by decide)) (W1_args m ρ c main_arg3 (by decide)))

theorem res2 (c : Dev nD) : (dat2 (V2 m ρ) c).arrAt 2 cfg2.N = Prod.nt (φ := .bf16) (ψ := .bf16) (m ((c.tc : Thread nD τ).loc main_arg4) : FVec Ideal S2048x2048 .bf16) (m ((c.tc : Thread nD τ).loc main_arg2) : FVec Ideal S1x512x2048 .bf16) :=
  (arr2 (V2 m ρ) c).trans (congrArg₂ (Prod.nt (φ := .bf16) (ψ := .bf16)) (W2_args m ρ c main_arg4 (by decide)) (W2_args m ρ c main_arg2 (by decide)))

theorem res3 (c : Dev nD) : (dat3 (V3 m ρ) c).arrAt 2 cfg3.N = Prod.tn (φ := .bf16) (ψ := .bf16) (m ((c.tc : Thread nD τ).loc main_arg0) : FVec Ideal S2048x512 .bf16) (m ((c.tc : Thread nD τ).loc main_arg4) : FVec Ideal S2048x2048 .bf16) :=
  (arr3 (V3 m ρ) c).trans (congrArg₂ (Prod.tn (φ := .bf16) (ψ := .bf16)) (W3_args m ρ c main_arg0 (by decide)) (W3_args m ρ c main_arg4 (by decide)))

theorem res4 (c : Dev nD) : (dat4 (V4 m ρ) c).arrAt 2 cfg4.N = Prod.tb (φ := .bf16) (ψ := .bf16) (m ((c.tc : Thread nD τ).loc main_arg1) : FVec Ideal S2048x256 .bf16) (m ((c.tc : Thread nD τ).loc main_arg5) : FVec Ideal S2048x2048 .bf16) :=
  (arr4 (V4 m ρ) c).trans (congrArg₂ (Prod.tb (φ := .bf16) (ψ := .bf16)) (W4_args m ρ c main_arg1 (by decide)) (W4_args m ρ c main_arg5 (by decide)))

/-- Every run ends with the results, each a function of the arguments. -/
theorem run_num : θ_run defs (onTc (τ := τ) (main (F := Ideal))) ⟨m, fun _ => 0, ρ⟩ (fun r => ∀ c : Dev nD,
      r.2.mem ((c.tc : Thread nD τ).loc main_v0) = Prod.nn (φ := .bf16) (ψ := .bf16) (m ((c.tc : Thread nD τ).loc main_arg0) : FVec Ideal S2048x512 .bf16) (m ((c.tc : Thread nD τ).loc main_arg2) : FVec Ideal S1x512x2048 .bf16)
      ∧ r.2.mem ((c.tc : Thread nD τ).loc main_v1) = Prod.nb (φ := .bf16) (ψ := .bf16) (m ((c.tc : Thread nD τ).loc main_arg1) : FVec Ideal S2048x256 .bf16) (m ((c.tc : Thread nD τ).loc main_arg3) : FVec Ideal S4x256x512 .bf16)
      ∧ r.2.mem ((c.tc : Thread nD τ).loc main_v2) = Prod.nt (φ := .bf16) (ψ := .bf16) (m ((c.tc : Thread nD τ).loc main_arg4) : FVec Ideal S2048x2048 .bf16) (m ((c.tc : Thread nD τ).loc main_arg2) : FVec Ideal S1x512x2048 .bf16)
      ∧ r.2.mem ((c.tc : Thread nD τ).loc main_v3) = Prod.tn (φ := .bf16) (ψ := .bf16) (m ((c.tc : Thread nD τ).loc main_arg0) : FVec Ideal S2048x512 .bf16) (m ((c.tc : Thread nD τ).loc main_arg4) : FVec Ideal S2048x2048 .bf16)
      ∧ r.2.mem ((c.tc : Thread nD τ).loc main_v4) = Prod.tb (φ := .bf16) (ψ := .bf16) (m ((c.tc : Thread nD τ).loc main_arg1) : FVec Ideal S2048x256 .bf16) (m ((c.tc : Thread nD τ).loc main_arg5) : FVec Ideal S2048x2048 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ hr c => ⟨(hr c).1.trans (res0 m ρ c), (hr c).2.1.trans (res1 m ρ c), (hr c).2.2.1.trans (res2 m ρ c), (hr c).2.2.2.1.trans (res3 m ρ c), (hr c).2.2.2.2.1.trans (res4 m ρ c), (hr c).2.2.2.2.2⟩) (run_arrays m ρ)

end Cert.LProj

end
-- ==== Proof.LProjFin.lean ====
/-
  THE VALUE CLAIM FOR THE LATENT ATTENTION'S PROJECTIONS: the kernel's five results are the reference's.
-/
module

public import proofs.«01_k».proof.Defs
public import proofs.«01_k».proof.Proof.Gen.Reference12Ideal.Run
public import proofs.«01_k».proof.Proof.LProjRun

@[expose] public section

set_option maxRecDepth 16384

noncomputable section

namespace Cert.LProj

open Idealize.ShloMosaic Idealize.ShloMosaic.TcCoe Idealize.SL.Sem

section
open Cert.Reference12Ideal Cert.Reference12Ideal.Gen

/-! ## The reference's results -/

theorem ref0 (a0 : FVec Ideal S2048x512 .bf16) (a2 : FVec Ideal S1x512x2048 .bf16) :
    Host.dotGeneral dot_S2048x512_S512x2048_S2048x2048_1_0_0_1_n_n none (extf .f32 a0 bitsLt_bf16_f32) (extf .f32 (shapeCast _ a2 shapeCasts_S1x512x2048_S512x2048) bitsLt_bf16_f32) = (Prod.nn (φ := .bf16) (ψ := .bf16) a0 a2) := by
  funext y; change S2048x2048.Idx at y; idx_vars y
  unfold Prod.nn; pointwise

theorem ref1 (a1 : FVec Ideal S2048x256 .bf16) (a3 : FVec Ideal S4x256x512 .bf16) :
    Host.dotGeneral dot_S2048x256_S256x2048_S2048x2048_1_0_0_1_n_n none (extf .f32 a1 bitsLt_bf16_f32) (shapeCast _ (transpose S256x4x512 [1, 0, 2] (extf .f32 a3 bitsLt_bf16_f32) transposes_S4x256x512_S256x4x512_1_0_2) shapeCasts_S256x4x512_S256x2048) = (Prod.nb (φ := .bf16) (ψ := .bf16) a1 a3) := by
  funext y; change S2048x2048.Idx at y; idx_vars y
  unfold Prod.nb; pointwise

theorem ref2 (a2 : FVec Ideal S1x512x2048 .bf16) (a4 : FVec Ideal S2048x2048 .bf16) :
    Host.dotGeneral dot_S2048x2048_S512x2048_S2048x512_1_1_0_0_n_n none (extf .f32 a4 bitsLt_bf16_f32) (extf .f32 (shapeCast _ a2 shapeCasts_S1x512x2048_S512x2048) bitsLt_bf16_f32) = (Prod.nt (φ := .bf16) (ψ := .bf16) a4 a2) := by
  funext y; change S2048x512.Idx at y; idx_vars y
  unfold Prod.nt; pointwise

theorem ref3 (a0 : FVec Ideal S2048x512 .bf16) (a4 : FVec Ideal S2048x2048 .bf16) :
    truncf .bf16 (broadcastInDim S1x512x2048 ![1, 2] bcast_S512x2048_S1x512x2048_1_2 (transpose S512x2048 [1, 0] (Host.dotGeneral dot_S2048x2048_S2048x512_S2048x512_0_0_1_1_n_n none (extf .f32 a4 bitsLt_bf16_f32) (extf .f32 a0 bitsLt_bf16_f32)) transposes_S2048x512_S512x2048_1_0)) bitsLt_bf16_f32 = (Prod.tn (φ := .bf16) (ψ := .bf16) a0 a4) := by
  funext y; change S1x512x2048.Idx at y; idx_vars y
  obtain rfl := Subsingleton.elim y0 0
  refine Eq.trans ?_ (Finset.sum_congr rfl fun r _ => mul_comm _ _)
  pointwise

theorem ref4 (a1 : FVec Ideal S2048x256 .bf16) (a5 : FVec Ideal S2048x2048 .bf16) :
    truncf .bf16 (transpose S4x256x512 [1, 0, 2] (shapeCast _ (transpose S256x2048 [1, 0] (Host.dotGeneral dot_S2048x2048_S2048x256_S2048x256_0_0_1_1_n_n none (extf .f32 a5 bitsLt_bf16_f32) (extf .f32 a1 bitsLt_bf16_f32)) transposes_S2048x256_S256x2048_1_0) shapeCasts_S256x2048_S256x4x512) transposes_S256x4x512_S4x256x512_1_0_2) bitsLt_bf16_f32 = (Prod.tb (φ := .bf16) (ψ := .bf16) a1 a5) := by
  funext y; change S4x256x512.Idx at y; idx_vars y
  refine Eq.trans ?_ (Finset.sum_congr rfl fun r _ => mul_comm _ _)
  pointwise

end

set_option maxHeartbeats 4000000 in
theorem algebraic : Cert.algebraic_Kernel12Ideal_Reference12Ideal := by
  intro m g m' g' _ ha
  refine ⟨_, _, _, _, _, run_num m g, (θ_run _ _ _).mono (fun r h c => ⟨(h c).1.trans ?_, (h c).2.1.trans ?_, (h c).2.2.1.trans ?_, (h c).2.2.2.1.trans ?_, (h c).2.2.2.2.1.trans ?_,
    (h c).2.2.2.2.2⟩) (Cert.Reference12Ideal.Value.run m' g')⟩
  · rw [(ha c).1, (ha c).2.2.1]; exact ref0 _ _
  · rw [(ha c).2.1, (ha c).2.2.2.1]; exact ref1 _ _
  · rw [(ha c).2.2.1, (ha c).2.2.2.2.1]; exact ref2 _ _
  · rw [(ha c).1, (ha c).2.2.2.2.1]; exact ref3 _ _
  · rw [(ha c).2.1, (ha c).2.2.2.2.2]; exact ref4 _ _

end Cert.LProj

end
-- ==== Proof.UkvVal.lean ====
/-
  THE GRADIENT OF THE NORMALISED LATENT: a product with the key and value weight's transpose, summed over four tiles of columns.
-/
module

public import proofs.«01_k».proof.Proof.Gen.Kernel13Ideal.Value
public import proofs.«01_k».proof.Proof.Prod

@[expose] public section

set_option maxRecDepth 16384

noncomputable section

namespace Cert.Ukv

open Idealize.ShloMosaic Idealize.ShloMosaic.TcCoe Idealize.ShloMosaic.Tactic
open Cert.Kernel13Ideal Cert.Kernel13Ideal.Gen Cert.Tiles

/-! ## A point's tile -/

theorem tile (x0 : Vec Ideal S1024x512 .bf16) (x1 : Vec Ideal S1x256x512 .bf16) (r : Fin 1024) (s : Fin 256) :
    k0_pay1 x0 x1 (ix2 r s) = ∑ k : Fin 512, x0 (ix2 r k) * x1 (ix3 0 s k) := by
  unfold k0_pay1; pointwise

theorem first (x0 : Vec Ideal S1024x512 .bf16) (x1 : Vec Ideal S1x256x512 .bf16) (r : Fin 1024) (s : Fin 256) :
    k0_pay2 x0 x1 (ix2 r s) = ∑ k : Fin 512, x0 (ix2 r k) * x1 (ix3 0 s k) := by
  unfold k0_pay2; pointwise [tile]

theorem next (x0 : Vec Ideal S1024x512 .bf16) (x1 : Vec Ideal S1x256x512 .bf16) (old : Vec Ideal S1024x256 .f32) (r : Fin 1024) (s : Fin 256) :
    k0_pay3 x0 x1 old (ix2 r s) = old (ix2 r s) + ∑ k : Fin 512, x0 (ix2 r k) * x1 (ix3 0 s k) := by
  unfold k0_pay3; pointwise [tile]

/-! ## The tiles a grid point works on -/

theorem idx : ∀ t : Fin cfg0.N, win0_0.index t = ![t.val / 4, t.val % 4]
    ∧ win0_1.index t = ![t.val % 4, 0, 0] ∧ win0_2.index t = ![t.val / 4, 0] :=
  (by decide +kernel : ∀ t : Fin grid0.N, _)

theorem lt0 (t : Fin cfg0.N) : t.val < 8 := lt_of_lt_of_eq t.isLt (show cfg0.N = 8 from N_0)

variable (m : (ℓ : Loc nD τ sig) → Buf (Elt Ideal) ℓ) (ρ : Dev nD → PrngReg) (c : Dev nD)

/-- The weight of the keys and values. -/
abbrev w : FVec Ideal S4x256x512 .bf16 := V m c main_arg0
/-- The gradient of the keys and values. -/
abbrev dp : FVec Ideal S2048x2048 .bf16 := V m c main_arg1

/-- What point `n` adds at place `(r, s)` of its tile. -/
def part (n : Nat) (r : Fin 1024) (s : Fin 256) : EReal :=
  ∑ k : Fin 512, dp m c (ix2 (pos (n / 4 % 2) r (by omega)) (pos5 (n % 4) k (by omega))) * w m c (ix3 ⟨n % 4, by omega⟩ s k)

/-- A point's block of the gradient. -/
abbrev b0 (t : Fin cfg0.N) : Vec Ideal S1024x512 .bf16 := iblk m c 0 t
/-- A point's block of the weight. -/
abbrev b1 (t : Fin cfg0.N) : Vec Ideal S1x256x512 .bf16 := iblk m c 1 t

theorem part_eq (t : Fin cfg0.N) (r : Fin 1024) (s : Fin 256) :
    ∑ k : Fin 512, b0 m c t (ix2 r k) * b1 m c t (ix3 0 s k) = part m c t.val r s := by
  have ht := lt0 t
  refine sum_mul_congr (fun k => ?_) (fun k => ?_)
  · have e : t.val / 4 % 2 = t.val / 4 := by omega
    simp only [e]; unfold pos pos5; blk_ext [iblk, idx t]
  · blk_ext [iblk, idx t]

theorem step_A (t : Fin cfg0.N) (h : t.val % 4 = 0) (r : Fin 1024) (s : Fin 256) :
    (outsAt0 m c t.val t.isLt).2 (ix2 r s) = part m c t.val r s := by
  rw [outsAt0_A m c t h (by omega) (by omega)]; frame_out
  exact (first _ _ r s).trans (part_eq m c t r s)

theorem step_B (t : Fin cfg0.N) (h : ¬ t.val % 4 = 0) (r : Fin 1024) (s : Fin 256) :
    (outsAt0 m c t.val t.isLt).2 (ix2 r s)
      = (outsAt0 m c (t.val - 1) (Nat.lt_of_le_of_lt (Nat.sub_le _ _) t.isLt)).2 (ix2 r s) + part m c t.val r s := by
  by_cases h3 : t.val % 4 = 3
  · rw [outsAt0_C m c t h (by omega) h3]; frame_out
    exact (next _ _ _ r s).trans (congrArg₂ (fun a b : EReal => a + b) (congrFun (Memref.IsWhole.read_unread _ _) _) (part_eq m c t r s))
  · rw [outsAt0_B m c t h (by omega) h3]; frame_out
    exact (next _ _ _ r s).trans (congrArg₂ (fun a b : EReal => a + b) (congrFun (Memref.IsWhole.read_unread _ _) _) (part_eq m c t r s))

/-- At a run's last point the tile written back is the sum. -/
theorem last (t : Fin cfg0.N) (h3 : t.val % 4 = 3) (r : Fin 1024) (s : Fin 256) :
    (outsAt0 m c t.val t.isLt).1 (ix2 r s) = Prod.tt (dp m c) (w m c) .f32 (ix2 (pos (t.val / 4 % 2) r (by omega)) s) := by
  have e : (outsAt0 m c t.val t.isLt).1 (ix2 r s) = (outsAt0 m c t.val t.isLt).2 (ix2 r s) := by
    rw [outsAt0_C m c t (by omega) (by omega) h3]; frame_out
  rw [e, acc_run (fun n hn => (outsAt0 m c n hn).2 (ix2 r s)) (fun n => part m c n r s)
    (fun t h => step_A m c t h r s) (fun t h => step_B m c t h r s) t (by omega)]
  refine Eq.trans ?_ (sum_tiles (n := 4) (m := 512) 2048 rfl _).symm
  refine Finset.sum_congr rfl fun a _ => ?_
  have e1 : (4 * (t.val / 4) + a.val) / 4 % 2 = t.val / 4 % 2 := by omega
  have e2 : (4 * (t.val / 4) + a.val) % 4 = a.val := by omega
  unfold part; simp only [e1, e2]
  refine Finset.sum_congr rfl fun k _ => congrArg₂ (fun a b : EReal => a * b) rfl (congrArg (w m c) ?_)
  have e4 : (a.val * 512 + k.val) / 512 = a.val := by omega
  have e5 : (a.val * 512 + k.val) % 512 = k.val := by omega
  simp only [e4, e5]; rfl

theorem arr : (dats m 0 c).arrAt 2 cfg0.N = Prod.tt (dp m c) (w m c) .f32 := by
  refine (dats m 0 c).arrAt_eq_of_covers 2 _ (by decide +kernel) fun t hf y => ?_
  have h3 := (flush0_2 t).mp hf
  have ht := lt0 t
  blk_simp; rw [after0_2]
  change S1024x256.Idx at y
  idx_vars y
  refine (last m c t h3 y0 y1).trans (congrArg (Prod.tt (dp m c) (w m c) .f32) ?_)
  have e : t.val / 4 % 2 = t.val / 4 := by omega
  simp only [e]; unfold pos; blk_ext [idx t]

end Cert.Ukv

end
-- ==== Proof.UkvFin.lean ====
/-
  THE VALUE CLAIM FOR THE GRADIENT OF THE NORMALISED LATENT: the kernel's array is the reference's.
-/
module

public import proofs.«01_k».proof.Defs
public import proofs.«01_k».proof.Proof.Gen.Reference13Ideal.Run
public import proofs.«01_k».proof.Proof.UkvVal

@[expose] public section

set_option maxRecDepth 16384

noncomputable section

namespace Cert.Ukv

open Idealize.ShloMosaic Idealize.ShloMosaic.TcCoe Idealize.SL.Sem

section
open Cert.Reference13Ideal Cert.Reference13Ideal.Gen

/-- The reference's product, with the weight's four blocks of columns laid side by side. -/
theorem ref_apply (a0 : FVec Ideal S4x256x512 .bf16) (a1 : FVec Ideal S2048x2048 .bf16) (i : Fin 2048) (j : Fin 256) :
    (Host.dotGeneral dot_S2048x2048_S256x2048_S2048x256_1_1_0_0_n_n none (extf .f32 a1 bitsLt_bf16_f32) (shapeCast S256x2048
      (transpose S256x4x512 [1, 0, 2] (extf .f32 a0 bitsLt_bf16_f32) transposes_S4x256x512_S256x4x512_1_0_2) shapeCasts_S256x4x512_S256x2048))
      (ix2 i j) = Prod.tt a1 a0 .f32 (ix2 i j) := by
  unfold Prod.tt; pointwise

end

theorem algebraic : Cert.algebraic_Kernel13Ideal_Reference13Ideal := by
  intro m g m' g' _ ha
  refine ⟨fun c => Prod.tt (dp m c) (w m c) .f32, (θ_run _ _ _).mono (fun r h c => ⟨(h c).1.trans (arr m c), (h c).2⟩)
    (Cert.Kernel13Ideal.Value.run_blocks m g), (θ_run _ _ _).mono (fun r h c => ⟨(h c).1.trans ?_, (h c).2⟩)
    (Cert.Reference13Ideal.Value.run m' g')⟩
  rw [(ha c).1, (ha c).2]
  funext y; change (⟨2, ![2048, 256]⟩ : Shape).Idx at y; idx_vars y
  exact ref_apply _ _ _ _

end Cert.Ukv

end
-- ==== Proof.AdamVal.lean ====
/-
  THE SMALL WEIGHTS' OPTIMISER: the sixteen weights lie packed in one array of rows; the step is taken entry by entry.
-/
module

public import proofs.«01_k».proof.Proof.Gen.Kernel14Ideal.Frame
public import proofs.«01_k».proof.Proof.Tiles

@[expose] public section

set_option maxRecDepth 16384

noncomputable section

namespace Cert.Adam

open Idealize.ShloMosaic Idealize.ShloMosaic.TcCoe Idealize.ShloMosaic.Tactic
open Cert.Kernel14Ideal Cert.Kernel14Ideal.Gen Cert.Tiles

/-! ## The step of one number -/

/-- The first moment after the step. -/
def mom1 (g m : EReal) : EReal :=
  Scalar.ofBits (F := Ideal) .f32 0x3F666666#32 * m + Scalar.ofBits (F := Ideal) .f32 0x3DCCCCCD#32 * g

/-- The second moment after the step. -/
def mom2 (g v : EReal) : EReal :=
  Scalar.ofBits (F := Ideal) .f32 0x3F7FBE77#32 * v + Scalar.ofBits (F := Ideal) .f32 0x3A83126F#32 * (g * g)

/-- What the step adds to the weight. -/
def change (w g m v : EReal) : EReal :=
  Scalar.ofBits (F := Ideal) .f32 0xBA83126F#32
    * (Ideal.div (Ideal.div (mom1 g m) (Scalar.ofBits (F := Ideal) .f32 0x3F26BD02#32))
        (Ideal.sqrt (Ideal.div (mom2 g v) (Scalar.ofBits (F := Ideal) .f32 0x3C231ACC#32)) + Scalar.ofBits (F := Ideal) .f32 0x322BCC77#32)
      + Scalar.ofBits (F := Ideal) .f32 0x3C23D70A#32 * w)

/-! ## A point's tile -/

theorem tile1 (x0 : Vec Ideal S128x128 .f32) (x1 : Vec Ideal S1x128x128 .f32) (r s : Fin 128) :
    k0_pay6 x0 x1 (ix2 r s) = mom1 (x0 (ix2 r s)) (x1 (ix3 0 r s)) := by
  unfold k0_pay6 k0_pay4 mom1; pointwise

theorem tile2 (x0 : Vec Ideal S128x128 .f32) (x1 : Vec Ideal S1x128x128 .f32) (r s : Fin 128) :
    k0_pay7 x0 x1 (ix2 r s) = mom2 (x0 (ix2 r s)) (x1 (ix3 0 r s)) := by
  unfold k0_pay7 k0_pay4 mom2; pointwise

theorem tile3 (x0 : Vec Ideal S128x128 .f32) (x1 x2 x3 : Vec Ideal S1x128x128 .f32) (r s : Fin 128) :
    k0_pay1 (k0_pay8 x0 x1 x2 x3) k0_pay9 (ix3 0 r s)
      = change (x1 (ix3 0 r s)) (x0 (ix2 r s)) (x2 (ix3 0 r s)) (x3 (ix3 0 r s)) := by
  unfold k0_pay1 k0_pay8 k0_pay9 change; pointwise [tile1, tile2]

/-! ## The arrays -/

variable (m : (ℓ : Loc nD τ sig) → Buf (Elt Ideal) ℓ) (c : Dev nD)

/-- The packed weights, gradients and moments. -/
abbrev pw : FVec Ideal S1x384x128 .f32 := V m c main_v5
abbrev pg : FVec Ideal S384x128 .f32 := V m c main_v10
abbrev pm : FVec Ideal S1x384x128 .f32 := V m c main_v16
abbrev pv : FVec Ideal S1x384x128 .f32 := V m c main_v22

/-- The three packed results. -/
def new1 : FVec Ideal S1x384x128 .f32 := fun i => mom1 (pg m c (ix2 (i 1) (i 2))) (pm m c i)
def new2 : FVec Ideal S1x384x128 .f32 := fun i => mom2 (pg m c (ix2 (i 1) (i 2))) (pv m c i)
def new3 : FVec Ideal S1x384x128 .f32 := fun i => change (pw m c i) (pg m c (ix2 (i 1) (i 2))) (pm m c i) (pv m c i)

theorem idx : ∀ t : Fin cfg0.N, win0_0.index t = ![0, t.val, 0] ∧ win0_1.index t = ![0, t.val, 0] ∧ win0_2.index t = ![0, t.val, 0]
    ∧ win0_3.index t = ![t.val, 0] ∧ win0_5.index t = ![0, t.val, 0] ∧ win0_6.index t = ![0, t.val, 0] ∧ win0_7.index t = ![0, t.val, 0] :=
  (by decide +kernel : ∀ t : Fin grid0.N, _)

theorem lt0 (t : Fin cfg0.N) : t.val < 3 := lt_of_lt_of_eq t.isLt (show cfg0.N = 3 from N_0)

/-- The row of the packed array that point `t` has as its row `r`. -/
abbrev row (t : Fin cfg0.N) (r : Fin 128) : Fin 384 := ⟨t.val * 128 + r.val, by have := lt0 t; omega⟩

theorem blk0 (t : Fin cfg0.N) (r s : Fin 128) : iblk m c 0 t (ix3 0 r s) = pw m c (ix3 0 (row t r) s) := by
  unfold row; blk_ext [iblk, idx t]

theorem blk1 (t : Fin cfg0.N) (r s : Fin 128) : iblk m c 1 t (ix3 0 r s) = pm m c (ix3 0 (row t r) s) := by
  unfold row; blk_ext [iblk, idx t]

theorem blk2 (t : Fin cfg0.N) (r s : Fin 128) : iblk m c 2 t (ix3 0 r s) = pv m c (ix3 0 (row t r) s) := by
  unfold row; blk_ext [iblk, idx t]

theorem blk3 (t : Fin cfg0.N) (r s : Fin 128) : iblk m c 3 t (ix2 r s) = pg m c (ix2 (row t r) s) := by
  unfold row; blk_ext [iblk, idx t]

theorem arr6 : (dats m 0 c).arrAt 6 cfg0.N = new1 m c := by
  refine (dats m 0 c).arrAt_eq_of_covers 6 _ (by decide +kernel) fun t hf y => ?_
  blk_simp; rw [after0_6]; unfold out0_6; frame_out
  change S1x128x128.Idx at y
  idx_vars y
  refine Eq.trans (b := new1 m c (ix3 0 (row t y1) y2)) ?_ (congrArg (new1 m c) ?_)
  · refine Eq.trans (b := mom1 (iblk m c 3 t (ix2 y1 y2)) (iblk m c 1 t (ix3 0 y1 y2))) ?_ (congrArg₂ mom1 (blk3 m c t y1 y2) (blk1 m c t y1 y2))
    unfold k0_pay2; pointwise [tile1]
  · unfold row; blk_ext [idx t]

theorem arr7 : (dats m 0 c).arrAt 7 cfg0.N = new2 m c := by
  refine (dats m 0 c).arrAt_eq_of_covers 7 _ (by decide +kernel) fun t hf y => ?_
  blk_simp; rw [after0_7]; unfold out0_7; frame_out
  change S1x128x128.Idx at y
  idx_vars y
  refine Eq.trans (b := new2 m c (ix3 0 (row t y1) y2)) ?_ (congrArg (new2 m c) ?_)
  · refine Eq.trans (b := mom2 (iblk m c 3 t (ix2 y1 y2)) (iblk m c 2 t (ix3 0 y1 y2))) ?_ (congrArg₂ mom2 (blk3 m c t y1 y2) (blk2 m c t y1 y2))
    unfold k0_pay3; pointwise [tile2]
  · unfold row; blk_ext [idx t]

theorem arr5 : (dats m 0 c).arrAt 5 cfg0.N = new3 m c := by
  refine (dats m 0 c).arrAt_eq_of_covers 5 _ (by decide +kernel) fun t hf y => ?_
  blk_simp; rw [after0_5]; unfold out0_5; frame_out
  change S1x128x128.Idx at y
  idx_vars y
  have y0 : y0 = 0 := Subsingleton.elim _ _
  subst y0
  refine Eq.trans (b := new3 m c (ix3 0 (row t y1) y2)) ?_ (congrArg (new3 m c) ?_)
  · refine (tile3 _ _ _ _ y1 y2).trans ?_
    rw [blk0, blk1, blk2, blk3]; rfl
  · unfold row; blk_ext [idx t]

end Cert.Adam

end
-- ==== Proof.AdamPack.lean ====
/-
  THE PACKING: sixteen weights side by side in each layer's row, the layers one after the other, in rows of 128.
-/
module

public import proofs.«01_k».proof.Proof.Gen.Kernel14Ideal
public import proofs.«01_k».proof.Proof.Tiles

@[expose] public section

set_option maxRecDepth 16384

noncomputable section

namespace Cert.Adam

open Idealize.ShloMosaic Idealize.ShloMosaic.TcCoe Idealize.ShloMosaic.Tactic
open Cert.Kernel14Ideal Cert.Kernel14Ideal.Gen Cert.Tiles

/-- The rows of 128 that the layers' rows are laid out in. -/
def pack (x : FVec Ideal S4x12176 .f32) : FVec Ideal S384x128 .f32 :=
  shapeCast S384x128 (pad S49152 ![0] ![448] ![0] (shapeCast S48704 x shapeCasts_S4x12176_S48704) (sitofp .f32 (constantI S_ 32 0#32))
    pads_S48704_S49152_04480 h_S_) shapeCasts_S49152_S384x128

/-- The layers' rows, from the rows of 128. -/
def unpack (x : FVec Ideal S1x384x128 .f32) : FVec Ideal S4x12176 .f32 :=
  shapeCast S4x12176 (extractStridedSlice S48704 ![0] (shapeCast S49152 (shapeCast S384x128 x shapeCasts_S1x384x128_S384x128)
    shapeCasts_S384x128_S49152) slices_S49152_S48704_0) shapeCasts_S48704_S4x12176

/-- The row of 128, and the place in it, where entry `(a, b)` lies. -/
abbrev line (a : Fin 4) (b : Fin 12176) : Fin 384 := ⟨(a.val * 12176 + b.val) / 128, by omega⟩
abbrev lane (a : Fin 4) (b : Fin 12176) : Fin 128 := ⟨(a.val * 12176 + b.val) % 128, by omega⟩

theorem unpack_apply (x : FVec Ideal S1x384x128 .f32) (a : Fin 4) (b : Fin 12176) :
    unpack x (ix2 a b) = x (ix3 0 (line a b) (lane a b)) := by
  unfold unpack line lane; pointwise

theorem pack_apply (x : FVec Ideal S4x12176 .f32) (a : Fin 4) (b : Fin 12176) :
    pack x (ix2 (line a b) (lane a b)) = x (ix2 a b) := by
  unfold pack line lane; pointwise; exact dif_pos (by omega)

/-- One array for each of the sixteen weights. -/
structure Small where
  g_mix : FVec Ideal S4x2048 .f32
  g_cq : FVec Ideal S4x512 .f32
  g_ckv : FVec Ideal S4x256 .f32
  g_mla_q : FVec Ideal S4x192 .f32
  g_mla_k : FVec Ideal S4x192 .f32
  b_f : FVec Ideal S4x8 .f32
  g_fox_q : FVec Ideal S4x128 .f32
  g_fox_k : FVec Ideal S4x128 .f32
  rel_bias : FVec Ideal S4x8x257 .f32
  g_ch_q : FVec Ideal S4x128 .f32
  g_ch_k : FVec Ideal S4x128 .f32
  g_cross : FVec Ideal S4x2048 .f32
  g_mem : FVec Ideal S4x2048 .f32
  g_x_q : FVec Ideal S4x128 .f32
  g_x_k : FVec Ideal S4x128 .f32
  g_mlp : FVec Ideal S4x2048 .f32

/-- The sixteen arrays in their order, the table of biases flattened. -/
def pieces (s : Small) : List ((t : Shape) × (t.Idx → EReal)) :=
  [⟨S4x2048, s.g_mix⟩, ⟨S4x512, s.g_cq⟩, ⟨S4x256, s.g_ckv⟩, ⟨S4x192, s.g_mla_q⟩, ⟨S4x192, s.g_mla_k⟩, ⟨S4x8, s.b_f⟩, ⟨S4x128, s.g_fox_q⟩, ⟨S4x128, s.g_fox_k⟩, ⟨S4x2056, (shapeCast S4x2056 s.rel_bias shapeCasts_S4x8x257_S4x2056 : FVec Ideal S4x2056 .f32)⟩, ⟨S4x128, s.g_ch_q⟩, ⟨S4x128, s.g_ch_k⟩, ⟨S4x2048, s.g_cross⟩, ⟨S4x2048, s.g_mem⟩, ⟨S4x128, s.g_x_q⟩, ⟨S4x128, s.g_x_k⟩, ⟨S4x2048, s.g_mlp⟩]

/-- The layers' rows: the sixteen arrays side by side. -/
def lay (s : Small) : FVec Ideal S4x12176 .f32 :=
  concatenate S4x12176 1 (pieces s)
    concatenates_S4x2048_S4x512_S4x256_S4x192_S4x192_S4x8_S4x128_S4x128_S4x2056_S4x128_S4x128_S4x2048_S4x2048_S4x128_S4x128_S4x2048_S4x12176_d1

variable (s : Small)

/-- The columns each array takes. -/
def widths : List Nat := [2048, 512, 256, 192, 192, 8, 128, 128, 2056, 128, 128, 2048, 2048, 128, 128, 2048]

theorem widths_eq : ((pieces s).map (·.1)).map (fun t => if h : t.rank = S4x12176.rank then t.size ((1 : Fin S4x12176.rank).cast h.symm) else 0) = widths :=
  rfl

/-- Piece `k`, which starts at column `o`, cut out of the layers' rows. -/
theorem cut (k n o : Nat) (x : (⟨2, ![4, n]⟩ : Shape).Idx → EReal) (hk : k < 16) (hx : (pieces s)[k]'hk = ⟨⟨2, ![4, n]⟩, x⟩)
    (ho : (widths.take k).sum = o) (h : S4x12176.Slices ![0, o] ⟨2, ![4, n]⟩) :
    extractStridedSlice ⟨2, ![4, n]⟩ ![0, o] (lay s) h = x := by
  funext i
  unfold extractStridedSlice lay
  refine concatenate_apply_piece (t := S4x12176) 1 (pieces s) _ _ k hk _ x hx rfl o ?_ i (fun b hb => ?_) ?_
  · rw [List.map_take, List.map_take, widths_eq]; exact ho
  · obtain rfl : b = 0 := by
      match b, hb with
      | ⟨0, _⟩, _ => rfl
      | ⟨1, _⟩, hb => exact absurd rfl hb
    exact (Nat.zero_add _).symm
  · rfl

theorem cut_g_mix : extractStridedSlice S4x2048 ![0, 0] (lay s) slices_S4x12176_S4x2048_0_0 = s.g_mix :=
  cut s 0 2048 0 _ (by decide) rfl (by decide) _

theorem cut_g_cq : extractStridedSlice S4x512 ![0, 2048] (lay s) slices_S4x12176_S4x512_0_2048 = s.g_cq :=
  cut s 1 512 2048 _ (by decide) rfl (by decide) _

theorem cut_g_ckv : extractStridedSlice S4x256 ![0, 2560] (lay s) slices_S4x12176_S4x256_0_2560 = s.g_ckv :=
  cut s 2 256 2560 _ (by decide) rfl (by decide) _

theorem cut_g_mla_q : extractStridedSlice S4x192 ![0, 2816] (lay s) slices_S4x12176_S4x192_0_2816 = s.g_mla_q :=
  cut s 3 192 2816 _ (by decide) rfl (by decide) _

theorem cut_g_mla_k : extractStridedSlice S4x192 ![0, 3008] (lay s) slices_S4x12176_S4x192_0_3008 = s.g_mla_k :=
  cut s 4 192 3008 _ (by decide) rfl (by decide) _

theorem cut_b_f : extractStridedSlice S4x8 ![0, 3200] (lay s) slices_S4x12176_S4x8_0_3200 = s.b_f :=
  cut s 5 8 3200 _ (by decide) rfl (by decide) _

theorem cut_g_fox_q : extractStridedSlice S4x128 ![0, 3208] (lay s) slices_S4x12176_S4x128_0_3208 = s.g_fox_q :=
  cut s 6 128 3208 _ (by decide) rfl (by decide) _

theorem cut_g_fox_k : extractStridedSlice S4x128 ![0, 3336] (lay s) slices_S4x12176_S4x128_0_3336 = s.g_fox_k :=
  cut s 7 128 3336 _ (by decide) rfl (by decide) _

theorem cut_rel_bias : shapeCast S4x8x257 (extractStridedSlice S4x2056 ![0, 3464] (lay s) slices_S4x12176_S4x2056_0_3464) shapeCasts_S4x2056_S4x8x257 = s.rel_bias := by
  rw [cut s 8 2056 3464 _ (by decide) rfl (by decide)]; funext i; idx_vars i; pointwise

theorem cut_g_ch_q : extractStridedSlice S4x128 ![0, 5520] (lay s) slices_S4x12176_S4x128_0_5520 = s.g_ch_q :=
  cut s 9 128 5520 _ (by decide) rfl (by decide) _

theorem cut_g_ch_k : extractStridedSlice S4x128 ![0, 5648] (lay s) slices_S4x12176_S4x128_0_5648 = s.g_ch_k :=
  cut s 10 128 5648 _ (by decide) rfl (by decide) _

theorem cut_g_cross : extractStridedSlice S4x2048 ![0, 5776] (lay s) slices_S4x12176_S4x2048_0_5776 = s.g_cross :=
  cut s 11 2048 5776 _ (by decide) rfl (by decide) _

theorem cut_g_mem : extractStridedSlice S4x2048 ![0, 7824] (lay s) slices_S4x12176_S4x2048_0_7824 = s.g_mem :=
  cut s 12 2048 7824 _ (by decide) rfl (by decide) _

theorem cut_g_x_q : extractStridedSlice S4x128 ![0, 9872] (lay s) slices_S4x12176_S4x128_0_9872 = s.g_x_q :=
  cut s 13 128 9872 _ (by decide) rfl (by decide) _

theorem cut_g_x_k : extractStridedSlice S4x128 ![0, 10000] (lay s) slices_S4x12176_S4x128_0_10000 = s.g_x_k :=
  cut s 14 128 10000 _ (by decide) rfl (by decide) _

theorem cut_g_mlp : extractStridedSlice S4x2048 ![0, 10128] (lay s) slices_S4x12176_S4x2048_0_10128 = s.g_mlp :=
  cut s 15 2048 10128 _ (by decide) rfl (by decide) _

/-! ## Arrays entry by entry -/

/-- The sixteen arrays of the layers' rows. -/
def split (x : FVec Ideal S4x12176 .f32) : Small :=
  ⟨extractStridedSlice S4x2048 ![0, 0] x slices_S4x12176_S4x2048_0_0,
    extractStridedSlice S4x512 ![0, 2048] x slices_S4x12176_S4x512_0_2048,
    extractStridedSlice S4x256 ![0, 2560] x slices_S4x12176_S4x256_0_2560,
    extractStridedSlice S4x192 ![0, 2816] x slices_S4x12176_S4x192_0_2816,
    extractStridedSlice S4x192 ![0, 3008] x slices_S4x12176_S4x192_0_3008,
    extractStridedSlice S4x8 ![0, 3200] x slices_S4x12176_S4x8_0_3200,
    extractStridedSlice S4x128 ![0, 3208] x slices_S4x12176_S4x128_0_3208,
    extractStridedSlice S4x128 ![0, 3336] x slices_S4x12176_S4x128_0_3336,
    shapeCast S4x8x257 (extractStridedSlice S4x2056 ![0, 3464] x slices_S4x12176_S4x2056_0_3464) shapeCasts_S4x2056_S4x8x257,
    extractStridedSlice S4x128 ![0, 5520] x slices_S4x12176_S4x128_0_5520,
    extractStridedSlice S4x128 ![0, 5648] x slices_S4x12176_S4x128_0_5648,
    extractStridedSlice S4x2048 ![0, 5776] x slices_S4x12176_S4x2048_0_5776,
    extractStridedSlice S4x2048 ![0, 7824] x slices_S4x12176_S4x2048_0_7824,
    extractStridedSlice S4x128 ![0, 9872] x slices_S4x12176_S4x128_0_9872,
    extractStridedSlice S4x128 ![0, 10000] x slices_S4x12176_S4x128_0_10000,
    extractStridedSlice S4x2048 ![0, 10128] x slices_S4x12176_S4x2048_0_10128⟩

theorem split_lay : split (lay s) = s := by
  unfold split
  rw [cut_g_mix, cut_g_cq, cut_g_ckv, cut_g_mla_q, cut_g_mla_k, cut_b_f, cut_g_fox_q, cut_g_fox_k, cut_rel_bias, cut_g_ch_q, cut_g_ch_k, cut_g_cross, cut_g_mem, cut_g_x_q, cut_g_x_k, cut_g_mlp]

/-- A function of two numbers at every entry, and one of four. -/
def map2 (f : EReal → EReal → EReal) (a b : Small) : Small :=
  ⟨fun i => f (a.g_mix i) (b.g_mix i), fun i => f (a.g_cq i) (b.g_cq i), fun i => f (a.g_ckv i) (b.g_ckv i), fun i => f (a.g_mla_q i) (b.g_mla_q i), fun i => f (a.g_mla_k i) (b.g_mla_k i), fun i => f (a.b_f i) (b.b_f i), fun i => f (a.g_fox_q i) (b.g_fox_q i), fun i => f (a.g_fox_k i) (b.g_fox_k i), fun i => f (a.rel_bias i) (b.rel_bias i), fun i => f (a.g_ch_q i) (b.g_ch_q i), fun i => f (a.g_ch_k i) (b.g_ch_k i), fun i => f (a.g_cross i) (b.g_cross i), fun i => f (a.g_mem i) (b.g_mem i), fun i => f (a.g_x_q i) (b.g_x_q i), fun i => f (a.g_x_k i) (b.g_x_k i), fun i => f (a.g_mlp i) (b.g_mlp i)⟩
def map4 (f : EReal → EReal → EReal → EReal → EReal) (a b c d : Small) : Small :=
  ⟨fun i => f (a.g_mix i) (b.g_mix i) (c.g_mix i) (d.g_mix i), fun i => f (a.g_cq i) (b.g_cq i) (c.g_cq i) (d.g_cq i), fun i => f (a.g_ckv i) (b.g_ckv i) (c.g_ckv i) (d.g_ckv i), fun i => f (a.g_mla_q i) (b.g_mla_q i) (c.g_mla_q i) (d.g_mla_q i), fun i => f (a.g_mla_k i) (b.g_mla_k i) (c.g_mla_k i) (d.g_mla_k i), fun i => f (a.b_f i) (b.b_f i) (c.b_f i) (d.b_f i), fun i => f (a.g_fox_q i) (b.g_fox_q i) (c.g_fox_q i) (d.g_fox_q i), fun i => f (a.g_fox_k i) (b.g_fox_k i) (c.g_fox_k i) (d.g_fox_k i), fun i => f (a.rel_bias i) (b.rel_bias i) (c.rel_bias i) (d.rel_bias i), fun i => f (a.g_ch_q i) (b.g_ch_q i) (c.g_ch_q i) (d.g_ch_q i), fun i => f (a.g_ch_k i) (b.g_ch_k i) (c.g_ch_k i) (d.g_ch_k i), fun i => f (a.g_cross i) (b.g_cross i) (c.g_cross i) (d.g_cross i), fun i => f (a.g_mem i) (b.g_mem i) (c.g_mem i) (d.g_mem i), fun i => f (a.g_x_q i) (b.g_x_q i) (c.g_x_q i) (d.g_x_q i), fun i => f (a.g_x_k i) (b.g_x_k i) (c.g_x_k i) (d.g_x_k i), fun i => f (a.g_mlp i) (b.g_mlp i) (c.g_mlp i) (d.g_mlp i)⟩

theorem split_map2 (f : EReal → EReal → EReal) (a b : Small) : split (fun i => f (lay a i) (lay b i)) = map2 f a b :=
  (show _ = map2 f (split (lay a)) (split (lay b)) from rfl).trans (congrArg₂ (map2 f) (split_lay a) (split_lay b))

theorem split_map4 (f : EReal → EReal → EReal → EReal → EReal) (a b c d : Small) :
    split (fun i => f (lay a i) (lay b i) (lay c i) (lay d i)) = map4 f a b c d := by
  refine (show _ = map4 f (split (lay a)) (split (lay b)) (split (lay c)) (split (lay d)) from rfl).trans ?_
  rw [split_lay, split_lay, split_lay, split_lay]

end Cert.Adam
-- ==== Proof.AdamRun.lean ====
/-
  THE RUN AROUND THE OPTIMISER'S CALL: the sixteen arrays are packed before it and cut out again after it.
-/
module

public import Idealize.ShloMosaic.Lib.StableHlo.RunRead
public import proofs.«01_k».proof.Proof.AdamVal
public import proofs.«01_k».proof.Proof.AdamPack

@[expose] public section

set_option maxRecDepth 16384

noncomputable section

namespace Cert.Adam

open Idealize.ShloMosaic Idealize.ShloMosaic.TcCoe Idealize.ShloMosaic.Tactic
open Cert.Kernel14Ideal Cert.Kernel14Ideal.Gen Cert.Tiles

/-! ## After the call -/

section
variable (W : Valuation τ sig (Elt Ideal))

/-- The sixteen arrays cut out of output 1. -/
def tail1 : Small := ⟨StableHlo.after hostOps1 W (Proc.devRef .tc main_v28), StableHlo.after hostOps1 W (Proc.devRef .tc main_v29), StableHlo.after hostOps1 W (Proc.devRef .tc main_v30), StableHlo.after hostOps1 W (Proc.devRef .tc main_v31), StableHlo.after hostOps1 W (Proc.devRef .tc main_v32), StableHlo.after hostOps1 W (Proc.devRef .tc main_v33), StableHlo.after hostOps1 W (Proc.devRef .tc main_v34), StableHlo.after hostOps1 W (Proc.devRef .tc main_v35), StableHlo.after hostOps1 W (Proc.devRef .tc main_v37), StableHlo.after hostOps1 W (Proc.devRef .tc main_v38), StableHlo.after hostOps1 W (Proc.devRef .tc main_v39), StableHlo.after hostOps1 W (Proc.devRef .tc main_v40), StableHlo.after hostOps1 W (Proc.devRef .tc main_v41), StableHlo.after hostOps1 W (Proc.devRef .tc main_v42), StableHlo.after hostOps1 W (Proc.devRef .tc main_v43), StableHlo.after hostOps1 W (Proc.devRef .tc main_v44)⟩

set_option maxHeartbeats 2000000 in
theorem tail1_eq : tail1 W = split (unpack (W (Proc.devRef .tc main_v23_1))) := by
  unfold tail1; after_reads_simp; rfl

/-- The sixteen arrays cut out of output 2. -/
def tail2 : Small := ⟨StableHlo.after hostOps1 W (Proc.devRef .tc main_v52), StableHlo.after hostOps1 W (Proc.devRef .tc main_v53), StableHlo.after hostOps1 W (Proc.devRef .tc main_v54), StableHlo.after hostOps1 W (Proc.devRef .tc main_v55), StableHlo.after hostOps1 W (Proc.devRef .tc main_v56), StableHlo.after hostOps1 W (Proc.devRef .tc main_v57), StableHlo.after hostOps1 W (Proc.devRef .tc main_v58), StableHlo.after hostOps1 W (Proc.devRef .tc main_v59), StableHlo.after hostOps1 W (Proc.devRef .tc main_v61), StableHlo.after hostOps1 W (Proc.devRef .tc main_v62), StableHlo.after hostOps1 W (Proc.devRef .tc main_v63), StableHlo.after hostOps1 W (Proc.devRef .tc main_v64), StableHlo.after hostOps1 W (Proc.devRef .tc main_v65), StableHlo.after hostOps1 W (Proc.devRef .tc main_v66), StableHlo.after hostOps1 W (Proc.devRef .tc main_v67), StableHlo.after hostOps1 W (Proc.devRef .tc main_v68)⟩

set_option maxHeartbeats 2000000 in
theorem tail2_eq : tail2 W = split (unpack (W (Proc.devRef .tc main_v23_2))) := by
  unfold tail2; after_reads_simp; rfl

/-- The sixteen arrays cut out of output 3. -/
def tail3 : Small := ⟨StableHlo.after hostOps1 W (Proc.devRef .tc main_v76), StableHlo.after hostOps1 W (Proc.devRef .tc main_v77), StableHlo.after hostOps1 W (Proc.devRef .tc main_v78), StableHlo.after hostOps1 W (Proc.devRef .tc main_v79), StableHlo.after hostOps1 W (Proc.devRef .tc main_v80), StableHlo.after hostOps1 W (Proc.devRef .tc main_v81), StableHlo.after hostOps1 W (Proc.devRef .tc main_v82), StableHlo.after hostOps1 W (Proc.devRef .tc main_v83), StableHlo.after hostOps1 W (Proc.devRef .tc main_v85), StableHlo.after hostOps1 W (Proc.devRef .tc main_v86), StableHlo.after hostOps1 W (Proc.devRef .tc main_v87), StableHlo.after hostOps1 W (Proc.devRef .tc main_v88), StableHlo.after hostOps1 W (Proc.devRef .tc main_v89), StableHlo.after hostOps1 W (Proc.devRef .tc main_v90), StableHlo.after hostOps1 W (Proc.devRef .tc main_v91), StableHlo.after hostOps1 W (Proc.devRef .tc main_v92)⟩

set_option maxHeartbeats 2000000 in
theorem tail3_eq : tail3 W = split (unpack (W (Proc.devRef .tc main_v23_3))) := by
  unfold tail3; after_reads_simp; rfl

end

variable (m : (ι : Loc nD τ sig) → Buf (Elt Ideal) ι) (c : Dev nD)

/-! ## Before the call -/

/-- The weights. -/
def weights : Small :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15)⟩

/-- Their summed gradients. -/
def grads : Small :=
  ⟨m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21), m ((c : Thread nD τ).loc main_arg22), m ((c : Thread nD τ).loc main_arg23), m ((c : Thread nD τ).loc main_arg24), m ((c : Thread nD τ).loc main_arg25), m ((c : Thread nD τ).loc main_arg26), m ((c : Thread nD τ).loc main_arg27), m ((c : Thread nD τ).loc main_arg28), m ((c : Thread nD τ).loc main_arg29), m ((c : Thread nD τ).loc main_arg30), m ((c : Thread nD τ).loc main_arg31)⟩

/-- The first moments. -/
def first : Small :=
  ⟨m ((c : Thread nD τ).loc main_arg32), m ((c : Thread nD τ).loc main_arg33), m ((c : Thread nD τ).loc main_arg34), m ((c : Thread nD τ).loc main_arg35), m ((c : Thread nD τ).loc main_arg36), m ((c : Thread nD τ).loc main_arg37), m ((c : Thread nD τ).loc main_arg38), m ((c : Thread nD τ).loc main_arg39), m ((c : Thread nD τ).loc main_arg40), m ((c : Thread nD τ).loc main_arg41), m ((c : Thread nD τ).loc main_arg42), m ((c : Thread nD τ).loc main_arg43), m ((c : Thread nD τ).loc main_arg44), m ((c : Thread nD τ).loc main_arg45), m ((c : Thread nD τ).loc main_arg46), m ((c : Thread nD τ).loc main_arg47)⟩

/-- The second moments. -/
def second : Small :=
  ⟨m ((c : Thread nD τ).loc main_arg48), m ((c : Thread nD τ).loc main_arg49), m ((c : Thread nD τ).loc main_arg50), m ((c : Thread nD τ).loc main_arg51), m ((c : Thread nD τ).loc main_arg52), m ((c : Thread nD τ).loc main_arg53), m ((c : Thread nD τ).loc main_arg54), m ((c : Thread nD τ).loc main_arg55), m ((c : Thread nD τ).loc main_arg56), m ((c : Thread nD τ).loc main_arg57), m ((c : Thread nD τ).loc main_arg58), m ((c : Thread nD τ).loc main_arg59), m ((c : Thread nD τ).loc main_arg60), m ((c : Thread nD τ).loc main_arg61), m ((c : Thread nD τ).loc main_arg62), m ((c : Thread nD τ).loc main_arg63)⟩

theorem entry_weights : pw m c = (broadcastInDim S1x384x128 ![1, 2] bcast_S384x128_S1x384x128_1_2 (pack (lay (weights m c))) : FVec Ideal S1x384x128 .f32) := by
  unfold pw; entry_read; rfl

theorem entry_grads : pg m c = pack (lay (grads m c)) := by
  unfold pg; entry_read; rfl

theorem entry_first : pm m c = (broadcastInDim S1x384x128 ![1, 2] bcast_S384x128_S1x384x128_1_2 (pack (lay (first m c))) : FVec Ideal S1x384x128 .f32) := by
  unfold pm; entry_read; rfl

theorem entry_second : pv m c = (broadcastInDim S1x384x128 ![1, 2] bcast_S384x128_S1x384x128_1_2 (pack (lay (second m c))) : FVec Ideal S1x384x128 .f32) := by
  unfold pv; entry_read; rfl

/-! ## The packed step, unpacked -/

theorem at_row (x : FVec Ideal S384x128 .f32) (r : Fin 384) (l : Fin 128) :
    (broadcastInDim S1x384x128 ![1, 2] bcast_S384x128_S1x384x128_1_2 x : FVec Ideal S1x384x128 .f32) (ix3 0 r l) = x (ix2 r l) := by
  pointwise

theorem at_weights (a : Fin 4) (b : Fin 12176) : pw m c (ix3 0 (line a b) (lane a b)) = lay (weights m c) (ix2 a b) := by
  rw [entry_weights]; exact (at_row _ _ _).trans (pack_apply _ a b)

theorem at_grads (a : Fin 4) (b : Fin 12176) : pg m c (ix2 (line a b) (lane a b)) = lay (grads m c) (ix2 a b) := by
  rw [entry_grads, pack_apply]

theorem at_first (a : Fin 4) (b : Fin 12176) : pm m c (ix3 0 (line a b) (lane a b)) = lay (first m c) (ix2 a b) := by
  rw [entry_first]; exact (at_row _ _ _).trans (pack_apply _ a b)

theorem at_second (a : Fin 4) (b : Fin 12176) : pv m c (ix3 0 (line a b) (lane a b)) = lay (second m c) (ix2 a b) := by
  rw [entry_second]; exact (at_row _ _ _).trans (pack_apply _ a b)

theorem unpack_new1 : unpack (new1 m c) = fun i => mom1 (lay (grads m c) i) (lay (first m c) i) := by
  funext i; change S4x12176.Idx at i; idx_vars i
  rw [unpack_apply]; exact congrArg₂ mom1 (at_grads m c _ _) (at_first m c _ _)

theorem unpack_new2 : unpack (new2 m c) = fun i => mom2 (lay (grads m c) i) (lay (second m c) i) := by
  funext i; change S4x12176.Idx at i; idx_vars i
  rw [unpack_apply]; exact congrArg₂ mom2 (at_grads m c _ _) (at_second m c _ _)

theorem unpack_new3 : unpack (new3 m c)
    = fun i => change (lay (weights m c) i) (lay (grads m c) i) (lay (first m c) i) (lay (second m c) i) := by
  funext i; change S4x12176.Idx at i; idx_vars i
  rw [unpack_apply]
  exact congr (congr (congrArg₂ change (at_weights m c _ _) (at_grads m c _ _)) (at_first m c _ _)) (at_second m c _ _)

/-! ## The results -/

/-- What the host's operations after the call find. -/
abbrev found : Valuation τ sig (Elt Ideal) := Pipeline.withArrays spec0 c (V0 m c) fun w => (dats m 0 c).arrAt w cfg0.N

theorem found1 : found m c (Proc.devRef .tc main_v23_1) = new3 m c :=
  (Pipeline.withArrays_arr spec0 (by decide) c (V0 m c) _ 5).trans (arr5 m c)

theorem result1 : tail1 (found m c) = map4 change (weights m c) (grads m c) (first m c) (second m c) := by
  rw [tail1_eq, found1, unpack_new3, split_map4]

theorem found2 : found m c (Proc.devRef .tc main_v23_2) = new1 m c :=
  (Pipeline.withArrays_arr spec0 (by decide) c (V0 m c) _ 6).trans (arr6 m c)

theorem result2 : tail2 (found m c) = map2 mom1 (grads m c) (first m c) := by
  rw [tail2_eq, found2, unpack_new1, split_map2]

theorem found3 : found m c (Proc.devRef .tc main_v23_3) = new2 m c :=
  (Pipeline.withArrays_arr spec0 (by decide) c (V0 m c) _ 7).trans (arr7 m c)

theorem result3 : tail3 (found m c) = map2 mom2 (grads m c) (second m c) := by
  rw [tail3_eq, found3, unpack_new2, split_map2]

end Cert.Adam

end
-- ==== Proof.AdamFin.lean ====
/-
  THE VALUE CLAIM FOR THE SMALL WEIGHTS' OPTIMISER: the forty-eight arrays of the kernel are the reference's.
-/
module

public import proofs.«01_k».proof.Defs
public import proofs.«01_k».proof.Proof.Gen.Reference14Ideal.Run
public import proofs.«01_k».proof.Proof.AdamRun

@[expose] public section

set_option maxRecDepth 16384

noncomputable section

namespace Cert.Adam

open Idealize.ShloMosaic Idealize.ShloMosaic.TcCoe Idealize.SL.Sem

/-! ## The reference's step of one array, of any shape -/

section
variable {S : Shape} (h : Cert.Reference14Ideal.S_.BroadcastsInDim S (![] : Fin 0 → Fin S.rank)) (w g m v : FVec Ideal S .f32)

/-- One number at every entry. -/
abbrev all (b : BitVec 32) : FVec Ideal S .f32 := broadcastInDim S ![] h (constant Cert.Reference14Ideal.S_ .f32 b)

theorem step1 : addf (mulf (all h 0x3F666666#32) m) (mulf (all h 0x3DCCCCCD#32) g) = fun i => mom1 (g i) (m i) := rfl

theorem step2 : addf (mulf (all h 0x3F7FBE77#32) v) (mulf (all h 0x3A83126F#32) (mulf g g)) = fun i => mom2 (g i) (v i) := rfl

theorem step3 : mulf (all h 0xBA83126F#32) (addf (Host.divf (Host.divf (addf (mulf (all h 0x3F666666#32) m) (mulf (all h 0x3DCCCCCD#32) g))
      (all h 0x3F26BD02#32)) (addf (Host.sqrt (Host.divf (addf (mulf (all h 0x3F7FBE77#32) v) (mulf (all h 0x3A83126F#32) (mulf g g)))
      (all h 0x3C231ACC#32))) (all h 0x322BCC77#32))) (mulf (all h 0x3C23D70A#32) w)) = fun i => change (w i) (g i) (m i) (v i) := rfl

end

/-! ## The reference's arguments -/

section
open Cert.Reference14Ideal

variable (m : (ι : Loc nD τ sig) → Buf (Elt Ideal) ι) (c : Dev nD)

def ref_weights : Small :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15)⟩

def ref_grads : Small :=
  ⟨m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21), m ((c : Thread nD τ).loc main_arg22), m ((c : Thread nD τ).loc main_arg23), m ((c : Thread nD τ).loc main_arg24), m ((c : Thread nD τ).loc main_arg25), m ((c : Thread nD τ).loc main_arg26), m ((c : Thread nD τ).loc main_arg27), m ((c : Thread nD τ).loc main_arg28), m ((c : Thread nD τ).loc main_arg29), m ((c : Thread nD τ).loc main_arg30), m ((c : Thread nD τ).loc main_arg31)⟩

def ref_first : Small :=
  ⟨m ((c : Thread nD τ).loc main_arg32), m ((c : Thread nD τ).loc main_arg33), m ((c : Thread nD τ).loc main_arg34), m ((c : Thread nD τ).loc main_arg35), m ((c : Thread nD τ).loc main_arg36), m ((c : Thread nD τ).loc main_arg37), m ((c : Thread nD τ).loc main_arg38), m ((c : Thread nD τ).loc main_arg39), m ((c : Thread nD τ).loc main_arg40), m ((c : Thread nD τ).loc main_arg41), m ((c : Thread nD τ).loc main_arg42), m ((c : Thread nD τ).loc main_arg43), m ((c : Thread nD τ).loc main_arg44), m ((c : Thread nD τ).loc main_arg45), m ((c : Thread nD τ).loc main_arg46), m ((c : Thread nD τ).loc main_arg47)⟩

def ref_second : Small :=
  ⟨m ((c : Thread nD τ).loc main_arg48), m ((c : Thread nD τ).loc main_arg49), m ((c : Thread nD τ).loc main_arg50), m ((c : Thread nD τ).loc main_arg51), m ((c : Thread nD τ).loc main_arg52), m ((c : Thread nD τ).loc main_arg53), m ((c : Thread nD τ).loc main_arg54), m ((c : Thread nD τ).loc main_arg55), m ((c : Thread nD τ).loc main_arg56), m ((c : Thread nD τ).loc main_arg57), m ((c : Thread nD τ).loc main_arg58), m ((c : Thread nD τ).loc main_arg59), m ((c : Thread nD τ).loc main_arg60), m ((c : Thread nD τ).loc main_arg61), m ((c : Thread nD τ).loc main_arg62), m ((c : Thread nD τ).loc main_arg63)⟩

end

set_option maxHeartbeats 4000000 in
theorem algebraic : Cert.algebraic_Kernel14Ideal_Reference14Ideal := by
  intro m g m' g' _ ha
  have e : ∀ c, ref_weights m' c = weights m c ∧ ref_grads m' c = grads m c ∧ ref_first m' c = first m c ∧ ref_second m' c = second m c := by
    intro c
    obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63⟩ := ha c
    unfold ref_weights ref_grads ref_first ref_second weights grads first second
    exact ⟨by rw [h0, h1, h2, h3, h4, h5, h6, h7, h8, h9, h10, h11, h12, h13, h14, h15], by rw [h16, h17, h18, h19, h20, h21, h22, h23, h24, h25, h26, h27, h28, h29, h30, h31], by rw [h32, h33, h34, h35, h36, h37, h38, h39, h40, h41, h42, h43, h44, h45, h46, h47], by rw [h48, h49, h50, h51, h52, h53, h54, h55, h56, h57, h58, h59, h60, h61, h62, h63]⟩
  have e1 : ∀ c, map2 mom1 (ref_grads m' c) (ref_first m' c) = map2 mom1 (grads m c) (first m c) := fun c => by
    rw [(e c).2.1, (e c).2.2.1]
  have e2 : ∀ c, map2 mom2 (ref_grads m' c) (ref_second m' c) = map2 mom2 (grads m c) (second m c) := fun c => by
    rw [(e c).2.1, (e c).2.2.2]
  have e3 : ∀ c, map4 change (ref_weights m' c) (ref_grads m' c) (ref_first m' c) (ref_second m' c)
      = map4 change (weights m c) (grads m c) (first m c) (second m c) := fun c => by
    rw [(e c).1, (e c).2.1, (e c).2.2.1, (e c).2.2.2]
  refine ⟨fun c => (map4 change (weights m c) (grads m c) (first m c) (second m c)).g_mix,
    fun c => (map4 change (weights m c) (grads m c) (first m c) (second m c)).g_cq,
    fun c => (map4 change (weights m c) (grads m c) (first m c) (second m c)).g_ckv,
    fun c => (map4 change (weights m c) (grads m c) (first m c) (second m c)).g_mla_q,
    fun c => (map4 change (weights m c) (grads m c) (first m c) (second m c)).g_mla_k,
    fun c => (map4 change (weights m c) (grads m c) (first m c) (second m c)).b_f,
    fun c => (map4 change (weights m c) (grads m c) (first m c) (second m c)).g_fox_q,
    fun c => (map4 change (weights m c) (grads m c) (first m c) (second m c)).g_fox_k,
    fun c => (map4 change (weights m c) (grads m c) (first m c) (second m c)).rel_bias,
    fun c => (map4 change (weights m c) (grads m c) (first m c) (second m c)).g_ch_q,
    fun c => (map4 change (weights m c) (grads m c) (first m c) (second m c)).g_ch_k,
    fun c => (map4 change (weights m c) (grads m c) (first m c) (second m c)).g_cross,
    fun c => (map4 change (weights m c) (grads m c) (first m c) (second m c)).g_mem,
    fun c => (map4 change (weights m c) (grads m c) (first m c) (second m c)).g_x_q,
    fun c => (map4 change (weights m c) (grads m c) (first m c) (second m c)).g_x_k,
    fun c => (map4 change (weights m c) (grads m c) (first m c) (second m c)).g_mlp,
    fun c => (map2 mom1 (grads m c) (first m c)).g_mix,
    fun c => (map2 mom1 (grads m c) (first m c)).g_cq,
    fun c => (map2 mom1 (grads m c) (first m c)).g_ckv,
    fun c => (map2 mom1 (grads m c) (first m c)).g_mla_q,
    fun c => (map2 mom1 (grads m c) (first m c)).g_mla_k,
    fun c => (map2 mom1 (grads m c) (first m c)).b_f,
    fun c => (map2 mom1 (grads m c) (first m c)).g_fox_q,
    fun c => (map2 mom1 (grads m c) (first m c)).g_fox_k,
    fun c => (map2 mom1 (grads m c) (first m c)).rel_bias,
    fun c => (map2 mom1 (grads m c) (first m c)).g_ch_q,
    fun c => (map2 mom1 (grads m c) (first m c)).g_ch_k,
    fun c => (map2 mom1 (grads m c) (first m c)).g_cross,
    fun c => (map2 mom1 (grads m c) (first m c)).g_mem,
    fun c => (map2 mom1 (grads m c) (first m c)).g_x_q,
    fun c => (map2 mom1 (grads m c) (first m c)).g_x_k,
    fun c => (map2 mom1 (grads m c) (first m c)).g_mlp,
    fun c => (map2 mom2 (grads m c) (second m c)).g_mix,
    fun c => (map2 mom2 (grads m c) (second m c)).g_cq,
    fun c => (map2 mom2 (grads m c) (second m c)).g_ckv,
    fun c => (map2 mom2 (grads m c) (second m c)).g_mla_q,
    fun c => (map2 mom2 (grads m c) (second m c)).g_mla_k,
    fun c => (map2 mom2 (grads m c) (second m c)).b_f,
    fun c => (map2 mom2 (grads m c) (second m c)).g_fox_q,
    fun c => (map2 mom2 (grads m c) (second m c)).g_fox_k,
    fun c => (map2 mom2 (grads m c) (second m c)).rel_bias,
    fun c => (map2 mom2 (grads m c) (second m c)).g_ch_q,
    fun c => (map2 mom2 (grads m c) (second m c)).g_ch_k,
    fun c => (map2 mom2 (grads m c) (second m c)).g_cross,
    fun c => (map2 mom2 (grads m c) (second m c)).g_mem,
    fun c => (map2 mom2 (grads m c) (second m c)).g_x_q,
    fun c => (map2 mom2 (grads m c) (second m c)).g_x_k,
    fun c => (map2 mom2 (grads m c) (second m c)).g_mlp,
    (θ_run _ _ _).mono (fun r h c => ?_)
      (θ_run_and (Cert.Kernel14Ideal.Gen.run_main m g) (Cert.Kernel14Ideal.Gen.unchanged m g)),
    (θ_run _ _ _).mono (fun r h c => ?_) (Cert.Reference14Ideal.Value.run m' g')⟩
  · exact ⟨((h.1 c).2 Cert.Kernel14Ideal.main_v28 (Pipeline.mem_restRefs_of _ (by decide) (by decide))).trans (congrArg Small.g_mix (result1 m c)),
      ((h.1 c).2 Cert.Kernel14Ideal.main_v29 (Pipeline.mem_restRefs_of _ (by decide) (by decide))).trans (congrArg Small.g_cq (result1 m c)),
      ((h.1 c).2 Cert.Kernel14Ideal.main_v30 (Pipeline.mem_restRefs_of _ (by decide) (by decide))).trans (congrArg Small.g_ckv (result1 m c)),
      ((h.1 c).2 Cert.Kernel14Ideal.main_v31 (Pipeline.mem_restRefs_of _ (by decide) (by decide))).trans (congrArg Small.g_mla_q (result1 m c)),
      ((h.1 c).2 Cert.Kernel14Ideal.main_v32 (Pipeline.mem_restRefs_of _ (by decide) (by decide))).trans (congrArg Small.g_mla_k (result1 m c)),
      ((h.1 c).2 Cert.Kernel14Ideal.main_v33 (Pipeline.mem_restRefs_of _ (by decide) (by decide))).trans (congrArg Small.b_f (result1 m c)),
      ((h.1 c).2 Cert.Kernel14Ideal.main_v34 (Pipeline.mem_restRefs_of _ (by decide) (by decide))).trans (congrArg Small.g_fox_q (result1 m c)),
      ((h.1 c).2 Cert.Kernel14Ideal.main_v35 (Pipeline.mem_restRefs_of _ (by decide) (by decide))).trans (congrArg Small.g_fox_k (result1 m c)),
      ((h.1 c).2 Cert.Kernel14Ideal.main_v37 (Pipeline.mem_restRefs_of _ (by decide) (by decide))).trans (congrArg Small.rel_bias (result1 m c)),
      ((h.1 c).2 Cert.Kernel14Ideal.main_v38 (Pipeline.mem_restRefs_of _ (by decide) (by decide))).trans (congrArg Small.g_ch_q (result1 m c)),
      ((h.1 c).2 Cert.Kernel14Ideal.main_v39 (Pipeline.mem_restRefs_of _ (by decide) (by decide))).trans (congrArg Small.g_ch_k (result1 m c)),
      ((h.1 c).2 Cert.Kernel14Ideal.main_v40 (Pipeline.mem_restRefs_of _ (by decide) (by decide))).trans (congrArg Small.g_cross (result1 m c)),
      ((h.1 c).2 Cert.Kernel14Ideal.main_v41 (Pipeline.mem_restRefs_of _ (by decide) (by decide))).trans (congrArg Small.g_mem (result1 m c)),
      ((h.1 c).2 Cert.Kernel14Ideal.main_v42 (Pipeline.mem_restRefs_of _ (by decide) (by decide))).trans (congrArg Small.g_x_q (result1 m c)),
      ((h.1 c).2 Cert.Kernel14Ideal.main_v43 (Pipeline.mem_restRefs_of _ (by decide) (by decide))).trans (congrArg Small.g_x_k (result1 m c)),
      ((h.1 c).2 Cert.Kernel14Ideal.main_v44 (Pipeline.mem_restRefs_of _ (by decide) (by decide))).trans (congrArg Small.g_mlp (result1 m c)),
      ((h.1 c).2 Cert.Kernel14Ideal.main_v52 (Pipeline.mem_restRefs_of _ (by decide) (by decide))).trans (congrArg Small.g_mix (result2 m c)),
      ((h.1 c).2 Cert.Kernel14Ideal.main_v53 (Pipeline.mem_restRefs_of _ (by decide) (by decide))).trans (congrArg Small.g_cq (result2 m c)),
      ((h.1 c).2 Cert.Kernel14Ideal.main_v54 (Pipeline.mem_restRefs_of _ (by decide) (by decide))).trans (congrArg Small.g_ckv (result2 m c)),
      ((h.1 c).2 Cert.Kernel14Ideal.main_v55 (Pipeline.mem_restRefs_of _ (by decide) (by decide))).trans (congrArg Small.g_mla_q (result2 m c)),
      ((h.1 c).2 Cert.Kernel14Ideal.main_v56 (Pipeline.mem_restRefs_of _ (by decide) (by decide))).trans (congrArg Small.g_mla_k (result2 m c)),
      ((h.1 c).2 Cert.Kernel14Ideal.main_v57 (Pipeline.mem_restRefs_of _ (by decide) (by decide))).trans (congrArg Small.b_f (result2 m c)),
      ((h.1 c).2 Cert.Kernel14Ideal.main_v58 (Pipeline.mem_restRefs_of _ (by decide) (by decide))).trans (congrArg Small.g_fox_q (result2 m c)),
      ((h.1 c).2 Cert.Kernel14Ideal.main_v59 (Pipeline.mem_restRefs_of _ (by decide) (by decide))).trans (congrArg Small.g_fox_k (result2 m c)),
      ((h.1 c).2 Cert.Kernel14Ideal.main_v61 (Pipeline.mem_restRefs_of _ (by decide) (by decide))).trans (congrArg Small.rel_bias (result2 m c)),
      ((h.1 c).2 Cert.Kernel14Ideal.main_v62 (Pipeline.mem_restRefs_of _ (by decide) (by decide))).trans (congrArg Small.g_ch_q (result2 m c)),
      ((h.1 c).2 Cert.Kernel14Ideal.main_v63 (Pipeline.mem_restRefs_of _ (by decide) (by decide))).trans (congrArg Small.g_ch_k (result2 m c)),
      ((h.1 c).2 Cert.Kernel14Ideal.main_v64 (Pipeline.mem_restRefs_of _ (by decide) (by decide))).trans (congrArg Small.g_cross (result2 m c)),
      ((h.1 c).2 Cert.Kernel14Ideal.main_v65 (Pipeline.mem_restRefs_of _ (by decide) (by decide))).trans (congrArg Small.g_mem (result2 m c)),
      ((h.1 c).2 Cert.Kernel14Ideal.main_v66 (Pipeline.mem_restRefs_of _ (by decide) (by decide))).trans (congrArg Small.g_x_q (result2 m c)),
      ((h.1 c).2 Cert.Kernel14Ideal.main_v67 (Pipeline.mem_restRefs_of _ (by decide) (by decide))).trans (congrArg Small.g_x_k (result2 m c)),
      ((h.1 c).2 Cert.Kernel14Ideal.main_v68 (Pipeline.mem_restRefs_of _ (by decide) (by decide))).trans (congrArg Small.g_mlp (result2 m c)),
      ((h.1 c).2 Cert.Kernel14Ideal.main_v76 (Pipeline.mem_restRefs_of _ (by decide) (by decide))).trans (congrArg Small.g_mix (result3 m c)),
      ((h.1 c).2 Cert.Kernel14Ideal.main_v77 (Pipeline.mem_restRefs_of _ (by decide) (by decide))).trans (congrArg Small.g_cq (result3 m c)),
      ((h.1 c).2 Cert.Kernel14Ideal.main_v78 (Pipeline.mem_restRefs_of _ (by decide) (by decide))).trans (congrArg Small.g_ckv (result3 m c)),
      ((h.1 c).2 Cert.Kernel14Ideal.main_v79 (Pipeline.mem_restRefs_of _ (by decide) (by decide))).trans (congrArg Small.g_mla_q (result3 m c)),
      ((h.1 c).2 Cert.Kernel14Ideal.main_v80 (Pipeline.mem_restRefs_of _ (by decide) (by decide))).trans (congrArg Small.g_mla_k (result3 m c)),
      ((h.1 c).2 Cert.Kernel14Ideal.main_v81 (Pipeline.mem_restRefs_of _ (by decide) (by decide))).trans (congrArg Small.b_f (result3 m c)),
      ((h.1 c).2 Cert.Kernel14Ideal.main_v82 (Pipeline.mem_restRefs_of _ (by decide) (by decide))).trans (congrArg Small.g_fox_q (result3 m c)),
      ((h.1 c).2 Cert.Kernel14Ideal.main_v83 (Pipeline.mem_restRefs_of _ (by decide) (by decide))).trans (congrArg Small.g_fox_k (result3 m c)),
      ((h.1 c).2 Cert.Kernel14Ideal.main_v85 (Pipeline.mem_restRefs_of _ (by decide) (by decide))).trans (congrArg Small.rel_bias (result3 m c)),
      ((h.1 c).2 Cert.Kernel14Ideal.main_v86 (Pipeline.mem_restRefs_of _ (by decide) (by decide))).trans (congrArg Small.g_ch_q (result3 m c)),
      ((h.1 c).2 Cert.Kernel14Ideal.main_v87 (Pipeline.mem_restRefs_of _ (by decide) (by decide))).trans (congrArg Small.g_ch_k (result3 m c)),
      ((h.1 c).2 Cert.Kernel14Ideal.main_v88 (Pipeline.mem_restRefs_of _ (by decide) (by decide))).trans (congrArg Small.g_cross (result3 m c)),
      ((h.1 c).2 Cert.Kernel14Ideal.main_v89 (Pipeline.mem_restRefs_of _ (by decide) (by decide))).trans (congrArg Small.g_mem (result3 m c)),
      ((h.1 c).2 Cert.Kernel14Ideal.main_v90 (Pipeline.mem_restRefs_of _ (by decide) (by decide))).trans (congrArg Small.g_x_q (result3 m c)),
      ((h.1 c).2 Cert.Kernel14Ideal.main_v91 (Pipeline.mem_restRefs_of _ (by decide) (by decide))).trans (congrArg Small.g_x_k (result3 m c)),
      ((h.1 c).2 Cert.Kernel14Ideal.main_v92 (Pipeline.mem_restRefs_of _ (by decide) (by decide))).trans (congrArg Small.g_mlp (result3 m c)), h.2 c⟩
  obtain ⟨r0, r1, r2, r3, r4, r5, r6, r7, r8, r9, r10, r11, r12, r13, r14, r15, r16, r17, r18, r19, r20, r21, r22, r23, r24, r25, r26, r27, r28, r29, r30, r31, r32, r33, r34, r35, r36, r37, r38, r39, r40, r41, r42, r43, r44, r45, r46, r47, kept⟩ := h c
  exact ⟨r0.trans ((step3 _ _ _ _ _).trans (congrArg Small.g_mix (e3 c))),
    r1.trans ((step3 _ _ _ _ _).trans (congrArg Small.g_cq (e3 c))),
    r2.trans ((step3 _ _ _ _ _).trans (congrArg Small.g_ckv (e3 c))),
    r3.trans ((step3 _ _ _ _ _).trans (congrArg Small.g_mla_q (e3 c))),
    r4.trans ((step3 _ _ _ _ _).trans (congrArg Small.g_mla_k (e3 c))),
    r5.trans ((step3 _ _ _ _ _).trans (congrArg Small.b_f (e3 c))),
    r6.trans ((step3 _ _ _ _ _).trans (congrArg Small.g_fox_q (e3 c))),
    r7.trans ((step3 _ _ _ _ _).trans (congrArg Small.g_fox_k (e3 c))),
    r8.trans ((step3 _ _ _ _ _).trans (congrArg Small.rel_bias (e3 c))),
    r9.trans ((step3 _ _ _ _ _).trans (congrArg Small.g_ch_q (e3 c))),
    r10.trans ((step3 _ _ _ _ _).trans (congrArg Small.g_ch_k (e3 c))),
    r11.trans ((step3 _ _ _ _ _).trans (congrArg Small.g_cross (e3 c))),
    r12.trans ((step3 _ _ _ _ _).trans (congrArg Small.g_mem (e3 c))),
    r13.trans ((step3 _ _ _ _ _).trans (congrArg Small.g_x_q (e3 c))),
    r14.trans ((step3 _ _ _ _ _).trans (congrArg Small.g_x_k (e3 c))),
    r15.trans ((step3 _ _ _ _ _).trans (congrArg Small.g_mlp (e3 c))),
    r16.trans ((step1 _ _ _).trans (congrArg Small.g_mix (e1 c))),
    r17.trans ((step1 _ _ _).trans (congrArg Small.g_cq (e1 c))),
    r18.trans ((step1 _ _ _).trans (congrArg Small.g_ckv (e1 c))),
    r19.trans ((step1 _ _ _).trans (congrArg Small.g_mla_q (e1 c))),
    r20.trans ((step1 _ _ _).trans (congrArg Small.g_mla_k (e1 c))),
    r21.trans ((step1 _ _ _).trans (congrArg Small.b_f (e1 c))),
    r22.trans ((step1 _ _ _).trans (congrArg Small.g_fox_q (e1 c))),
    r23.trans ((step1 _ _ _).trans (congrArg Small.g_fox_k (e1 c))),
    r24.trans ((step1 _ _ _).trans (congrArg Small.rel_bias (e1 c))),
    r25.trans ((step1 _ _ _).trans (congrArg Small.g_ch_q (e1 c))),
    r26.trans ((step1 _ _ _).trans (congrArg Small.g_ch_k (e1 c))),
    r27.trans ((step1 _ _ _).trans (congrArg Small.g_cross (e1 c))),
    r28.trans ((step1 _ _ _).trans (congrArg Small.g_mem (e1 c))),
    r29.trans ((step1 _ _ _).trans (congrArg Small.g_x_q (e1 c))),
    r30.trans ((step1 _ _ _).trans (congrArg Small.g_x_k (e1 c))),
    r31.trans ((step1 _ _ _).trans (congrArg Small.g_mlp (e1 c))),
    r32.trans ((step2 _ _ _).trans (congrArg Small.g_mix (e2 c))),
    r33.trans ((step2 _ _ _).trans (congrArg Small.g_cq (e2 c))),
    r34.trans ((step2 _ _ _).trans (congrArg Small.g_ckv (e2 c))),
    r35.trans ((step2 _ _ _).trans (congrArg Small.g_mla_q (e2 c))),
    r36.trans ((step2 _ _ _).trans (congrArg Small.g_mla_k (e2 c))),
    r37.trans ((step2 _ _ _).trans (congrArg Small.b_f (e2 c))),
    r38.trans ((step2 _ _ _).trans (congrArg Small.g_fox_q (e2 c))),
    r39.trans ((step2 _ _ _).trans (congrArg Small.g_fox_k (e2 c))),
    r40.trans ((step2 _ _ _).trans (congrArg Small.rel_bias (e2 c))),
    r41.trans ((step2 _ _ _).trans (congrArg Small.g_ch_q (e2 c))),
    r42.trans ((step2 _ _ _).trans (congrArg Small.g_ch_k (e2 c))),
    r43.trans ((step2 _ _ _).trans (congrArg Small.g_cross (e2 c))),
    r44.trans ((step2 _ _ _).trans (congrArg Small.g_mem (e2 c))),
    r45.trans ((step2 _ _ _).trans (congrArg Small.g_x_q (e2 c))),
    r46.trans ((step2 _ _ _).trans (congrArg Small.g_x_k (e2 c))),
    r47.trans ((step2 _ _ _).trans (congrArg Small.g_mlp (e2 c))), kept⟩

end Cert.Adam

end
-- ==== Proof.lean ====
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel4Ideal.Value
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel5Ideal.Value
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel7Ideal.Value
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel9Ideal.Value
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel11Ideal.Value
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Kernel13Ideal.Value
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Pre_finite2
public import proofs.«01_k».proof.Proof.CrossFin
public import proofs.«01_k».proof.Proof.MlpFin
public import proofs.«01_k».proof.Proof.HmFin
public import proofs.«01_k».proof.Proof.MixFin
public import proofs.«01_k».proof.Proof.InFin
public import proofs.«01_k».proof.Proof.InDxFin
public import proofs.«01_k».proof.Proof.GateFin
public import proofs.«01_k».proof.Proof.BrFin
public import proofs.«01_k».proof.Proof.XProjFin
public import proofs.«01_k».proof.Proof.XoFin
public import proofs.«01_k».proof.Proof.LProjFin
public import proofs.«01_k».proof.Proof.UkvFin
public import proofs.«01_k».proof.Proof.AdamFin
public import Idealize.ShloMosaic.Adequacy
public import Idealize.ShloMosaic.Init

@[expose] public section

noncomputable section

namespace Cert.Proof

open Idealize.ShloMosaic Idealize.SL.Sem

/-- Reference 2 has no semaphore, and its run leaves its arguments. -/
theorem frame_reference2 : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

/-- Reference 3 has no semaphore, and its run leaves its arguments. -/
theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- Reference 4 has no semaphore, and its run leaves its arguments. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Reference 5 has no semaphore, and its run leaves its arguments. -/
theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Reference 6 has no semaphore, and its run leaves its arguments. -/
theorem frame_reference6 : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- Reference 7 has no semaphore, and its run leaves its arguments. -/
theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- Reference 8 has no semaphore, and its run leaves its arguments. -/
theorem frame_reference8 : Cert.quiescent_Reference8Ideal := fun m ρ _ =>
  (θ_run Cert.Reference8Ideal.defs _ _).mono (fun r h => ⟨fun c => (h c).2.2.2.2.2.2.2.2, sem_eq_zero_of_no_sems (by decide) r.2⟩)
    (Cert.Reference8Ideal.Value.run (F := Ideal) m ρ)

/-- Reference 9 has no semaphore, and its run leaves its arguments. -/
theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- Reference 10 has no semaphore, and its run leaves its arguments. -/
theorem frame_reference10 : Cert.quiescent_Reference10Ideal := fun m ρ _ =>
  (θ_run Cert.Reference10Ideal.defs _ _).mono (fun r h => ⟨fun c => (h c).2.2.2.2.2.2.2.2, sem_eq_zero_of_no_sems (by decide) r.2⟩)
    (Cert.Reference10Ideal.Value.run (F := Ideal) m ρ)

/-- Reference 11 has no semaphore, and its run leaves its arguments. -/
theorem frame_reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- Reference 12 has no semaphore, and its run leaves its arguments. -/
theorem frame_reference12 : Cert.quiescent_Reference12Ideal := fun m ρ _ =>
  (θ_run Cert.Reference12Ideal.defs _ _).mono (fun r h => ⟨fun c => (h c).2.2.2.2.2, sem_eq_zero_of_no_sems (by decide) r.2⟩)
    (Cert.Reference12Ideal.Value.run (F := Ideal) m ρ)

/-- Reference 13 has no semaphore, and its run leaves its arguments. -/
theorem frame_reference13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- Reference 14 has no semaphore, and its run leaves its arguments. -/
theorem frame_reference14 : Cert.quiescent_Reference14Ideal := fun m ρ _ =>
  (θ_run Cert.Reference14Ideal.defs _ _).mono (fun r h => ⟨fun c => (h c).2.2.2.2.2.2.2.2.2.2.2.2.2.2.2.2.2.2.2.2.2.2.2.2.2.2.2.2.2.2.2.2.2.2.2.2.2.2.2.2.2.2.2.2.2.2.2.2, sem_eq_zero_of_no_sems (by decide) r.2⟩)
    (Cert.Reference14Ideal.Value.run (F := Ideal) m ρ)

/-- The certificate: the frames are the generated ones, the value claims are those of the calls' modules. -/
theorem claim : Cert.Claim := ⟨Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Pre_finite2.Gen.facts,
  fun m ρ _ => Cert.Kernel2.Gen.frame m ρ,
  fun m ρ _ => Cert.Kernel2Ideal.Gen.frame m ρ,
  fun m ρ _ => Cert.Kernel2Ideal.Gen.frame m ρ,
  frame_reference2,
  fun m ρ _ => frame_reference2 m ρ trivial,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  fun m ρ _ => Cert.Kernel6.Gen.frame m ρ,
  fun m ρ _ => Cert.Kernel6Ideal.Gen.frame m ρ,
  frame_reference6,
  fun m ρ _ => Cert.Kernel7.Gen.frame m ρ,
  fun m ρ _ => Cert.Kernel7Ideal.Gen.frame m ρ,
  frame_reference7,
  fun m ρ _ => Cert.Kernel8.Gen.frame m ρ,
  fun m ρ _ => Cert.Kernel8Ideal.Gen.frame m ρ,
  frame_reference8,
  fun m ρ _ => Cert.Kernel9.Gen.frame m ρ,
  fun m ρ _ => Cert.Kernel9Ideal.Gen.frame m ρ,
  frame_reference9,
  fun m ρ _ => Cert.Kernel10.Gen.frame m ρ,
  fun m ρ _ => Cert.Kernel10Ideal.Gen.frame m ρ,
  frame_reference10,
  fun m ρ _ => Cert.Kernel11.Gen.frame m ρ,
  fun m ρ _ => Cert.Kernel11Ideal.Gen.frame m ρ,
  frame_reference11,
  fun m ρ _ => Cert.Kernel12.Gen.frame m ρ,
  fun m ρ _ => Cert.Kernel12Ideal.Gen.frame m ρ,
  frame_reference12,
  fun m ρ _ => Cert.Kernel13.Gen.frame m ρ,
  fun m ρ _ => Cert.Kernel13Ideal.Gen.frame m ρ,
  frame_reference13,
  fun m ρ _ => Cert.Kernel14.Gen.frame m ρ,
  fun m ρ _ => Cert.Kernel14Ideal.Gen.frame m ρ,
  frame_reference14,
  trivial,
  Cert.Cross.algebraic,
  trivial,
  Cert.Mlp.algebraic,
  trivial,
  Cert.Hm.algebraic,
  trivial,
  Cert.Mix.algebraic,
  trivial,
  Cert.InProj.algebraic,
  trivial,
  Cert.InDx.algebraic,
  trivial,
  Cert.Gate.algebraic,
  trivial,
  Cert.Br.algebraic,
  trivial,
  Cert.XProj.algebraic,
  trivial,
  Cert.Xo.algebraic,
  trivial,
  Cert.LProj.algebraic,
  trivial,
  Cert.Ukv.algebraic,
  trivial,
  Cert.Adam.algebraic⟩

end Cert.Proof

end
